-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def preserves_Kernel_KernelIdeal : Prop :=
  True

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v17)) (v1 : (c : Dev Cert.Kernel2Ideal.nD) → Buf (Elt Ideal) ((c.tc : Thread Cert.Kernel2Ideal.nD Cert.Kernel2Ideal.τ).loc Cert.Kernel2Ideal.main_v19)) (v2 : (c : Dev Cert.Kernel2Ideal.nD) → Buf (Elt Ideal) ((c.tc : Thread Cert.Kernel2Ideal.nD Cert.Kernel2Ideal.τ).loc Cert.Kernel2Ideal.main_v20)) (v3 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_v19) = v1 c
          ∧ r.2.mem ((c.tc : Thread Cert.Kernel2Ideal.nD Cert.Kernel2Ideal.τ).loc Cert.Kernel2Ideal.main_v20) = v2 c
          ∧ r.2.mem ((c.tc : Thread Cert.Kernel2Ideal.nD Cert.Kernel2Ideal.τ).loc Cert.Kernel2Ideal.main_v21) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v29) = v2 c
          ∧ r.2.mem ((c.tc : Thread Cert.Reference2Ideal.nD Cert.Reference2Ideal.τ).loc Cert.Reference2Ideal.main_v17) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)) (v1 : (c : Dev Cert.Kernel4Ideal.nD) → Buf (Elt Ideal) ((c.tc : Thread Cert.Kernel4Ideal.nD Cert.Kernel4Ideal.τ).loc Cert.Kernel4Ideal.main_v7)) (v2 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_v7) = v1 c
          ∧ r.2.mem ((c.tc : Thread Cert.Kernel4Ideal.nD Cert.Kernel4Ideal.τ).loc Cert.Kernel4Ideal.main_v8) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_v3) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)) (v1 : (c : Dev Cert.Kernel5Ideal.nD) → Buf (Elt Ideal) ((c.tc : Thread Cert.Kernel5Ideal.nD Cert.Kernel5Ideal.τ).loc Cert.Kernel5Ideal.main_v5)) (v2 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_v5) = v1 c
          ∧ r.2.mem ((c.tc : Thread Cert.Kernel5Ideal.nD Cert.Kernel5Ideal.τ).loc Cert.Kernel5Ideal.main_v6) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v3) = v1 c
          ∧ r.2.mem ((c.tc : Thread Cert.Reference5Ideal.nD Cert.Reference5Ideal.τ).loc Cert.Reference5Ideal.main_v6) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v9_2)) (v3 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v9_2) = v2 c
          ∧ r.2.mem ((c.tc : Thread Cert.Kernel8Ideal.nD Cert.Kernel8Ideal.τ).loc Cert.Kernel8Ideal.main_v10) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_v0) = v1 c
          ∧ r.2.mem ((c.tc : Thread Cert.Reference8Ideal.nD Cert.Reference8Ideal.τ).loc Cert.Reference8Ideal.main_v1) = v2 c
          ∧ r.2.mem ((c.tc : Thread Cert.Reference8Ideal.nD Cert.Reference8Ideal.τ).loc Cert.Reference8Ideal.main_v15) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v35) = v0 c
          ∧ r.2.mem ((c.tc : Thread Cert.Reference12Ideal.nD Cert.Reference12Ideal.τ).loc Cert.Reference12Ideal.main_v18) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)) (v4 : (c : Dev Cert.Kernel13Ideal.nD) → Buf (Elt Ideal) ((c.tc : Thread Cert.Kernel13Ideal.nD Cert.Kernel13Ideal.τ).loc Cert.Kernel13Ideal.main_v0_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_v0_4) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v48) = v0 c
          ∧ r.2.mem ((c.tc : Thread Cert.Reference13Ideal.nD Cert.Reference13Ideal.τ).loc Cert.Reference13Ideal.main_v32) = v1 c
          ∧ r.2.mem ((c.tc : Thread Cert.Reference13Ideal.nD Cert.Reference13Ideal.τ).loc Cert.Reference13Ideal.main_v62) = v2 c
          ∧ r.2.mem ((c.tc : Thread Cert.Reference13Ideal.nD Cert.Reference13Ideal.τ).loc Cert.Reference13Ideal.main_v63) = v3 c
          ∧ r.2.mem ((c.tc : Thread Cert.Reference13Ideal.nD Cert.Reference13Ideal.τ).loc Cert.Reference13Ideal.main_v64) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v11) = v0 c
          ∧ r.2.mem ((c.tc : Thread Cert.Reference14Ideal.nD Cert.Reference14Ideal.τ).loc Cert.Reference14Ideal.main_v35) = v1 c
          ∧ r.2.mem ((c.tc : Thread Cert.Reference14Ideal.nD Cert.Reference14Ideal.τ).loc Cert.Reference14Ideal.main_v16) = v2 c
          ∧ r.2.mem ((c.tc : Thread Cert.Reference14Ideal.nD Cert.Reference14Ideal.τ).loc Cert.Reference14Ideal.main_v22) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v11) = v0 c
          ∧ r.2.mem ((c.tc : Thread Cert.Reference15Ideal.nD Cert.Reference15Ideal.τ).loc Cert.Reference15Ideal.main_v35) = v1 c
          ∧ r.2.mem ((c.tc : Thread Cert.Reference15Ideal.nD Cert.Reference15Ideal.τ).loc Cert.Reference15Ideal.main_v16) = v2 c
          ∧ r.2.mem ((c.tc : Thread Cert.Reference15Ideal.nD Cert.Reference15Ideal.τ).loc Cert.Reference15Ideal.main_v22) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v11) = v0 c
          ∧ r.2.mem ((c.tc : Thread Cert.Reference16Ideal.nD Cert.Reference16Ideal.τ).loc Cert.Reference16Ideal.main_v35) = v1 c
          ∧ r.2.mem ((c.tc : Thread Cert.Reference16Ideal.nD Cert.Reference16Ideal.τ).loc Cert.Reference16Ideal.main_v16) = v2 c
          ∧ r.2.mem ((c.tc : Thread Cert.Reference16Ideal.nD Cert.Reference16Ideal.τ).loc Cert.Reference16Ideal.main_v22) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v34) = v0 c
          ∧ r.2.mem ((c.tc : Thread Cert.Reference17Ideal.nD Cert.Reference17Ideal.τ).loc Cert.Reference17Ideal.main_v36) = v1 c
          ∧ r.2.mem ((c.tc : Thread Cert.Reference17Ideal.nD Cert.Reference17Ideal.τ).loc Cert.Reference17Ideal.main_v17) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

class Facts : Prop where
  bcast_S_S2048x2048 : S_.BroadcastsInDim S2048x2048 (![] : Fin 0 → Fin S2048x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn {F : FTy → Type} [FloatOps F] (main_arg0 : FVec F S2048x2048 .f32) (main_arg1 : FVec F S2048x5632 .f32) (main_arg2 : FVec F S2048x5632 .f32) (main_arg3 : FVec F S5632x2048 .f32) (main_arg4 : FVec F S2048x2048 .f32) : IVec S2048x2048 1 × IVec S2048x5632 1 × IVec S2048x5632 1 × IVec S5632x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x5632 .f32 := Host.absf main_arg1
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  let main_v6 : FVec F S2048x5632 .f32 := Host.absf main_arg2
  let main_cst_1 : FVec F S_ .f32 := constant S_ .f32 0x7F800000#32
  let main_v7 : FVec F S2048x5632 .f32 := broadcastInDim S2048x5632 ![] bcast_S_S2048x5632 main_cst_1
  let main_v8 : IVec S2048x5632 1 := cmpf .olt main_v6 main_v7
  let main_v9 : FVec F S5632x2048 .f32 := Host.absf main_arg3
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_v12 : FVec F S2048x2048 .f32 := Host.absf main_arg4
  let main_cst_3 : FVec F S_ .f32 := constant S_ .f32 0x7F800000#32
  let main_v13 : FVec F S2048x2048 .f32 := broadcastInDim S2048x2048 ![] bcast_S_S2048x2048 main_cst_3
  let main_v14 : IVec S2048x2048 1 := cmpf .olt main_v12 main_v13
  (main_v2, main_v5, main_v8, main_v11, main_v14)
-- ==== Kernel.lean ====
abbrev S2048x7168 : Shape := ⟨2, ![2048, 7168]⟩
abbrev S2048x16 : Shape := ⟨2, ![2048, 16]⟩
abbrev S16x512 : Shape := ⟨2, ![16, 512]⟩
abbrev S1x512 : Shape := ⟨2, ![1, 512]⟩
abbrev S2048x2048 : Shape := ⟨2, ![2048, 2048]⟩
abbrev S_ : Shape := ⟨0, ![]⟩
abbrev S2048x128 : Shape := ⟨2, ![2048, 128]⟩
abbrev S128x512 : Shape := ⟨2, ![128, 512]⟩
abbrev S4x32x128x256 : Shape := ⟨4, ![4, 32, 128, 256]⟩
abbrev S128x256 : Shape := ⟨2, ![128, 256]⟩
abbrev S2048x256 : Shape := ⟨2, ![2048, 256]⟩
abbrev S2048x512 : Shape := ⟨2, ![2048, 512]⟩
abbrev S1x256 : Shape := ⟨2, ![1, 256]⟩
abbrev S2x32x128x256 : Shape := ⟨4, ![2, 32, 128, 256]⟩
abbrev S64x64 : Shape := ⟨2, ![64, 64]⟩
abbrev S64x128 : Shape := ⟨2, ![64, 128]⟩
abbrev S128x128 : Shape := ⟨2, ![128, 128]⟩
abbrev S1x128 : Shape := ⟨2, ![1, 128]⟩
abbrev S128 : Shape := ⟨1, ![128]⟩
abbrev S64x256 : Shape := ⟨2, ![64, 256]⟩
abbrev S1x1x128x256 : Shape := ⟨4, ![1, 1, 128, 256]⟩
abbrev S2048x1024 : Shape := ⟨2, ![2048, 1024]⟩
abbrev S4x2048x128 : Shape := ⟨3, ![4, 2048, 128]⟩
abbrev S2x2048x128 : Shape := ⟨3, ![2, 2048, 128]⟩
abbrev S2x128x256 : Shape := ⟨3, ![2, 128, 256]⟩
abbrev S8x256 : Shape := ⟨2, ![8, 256]⟩
abbrev S1x128x256 : Shape := ⟨3, ![1, 128, 256]⟩
abbrev S8x128 : Shape := ⟨2, ![8, 128]⟩
abbrev S1x64x128 : Shape := ⟨3, ![1, 64, 128]⟩

abbrev nBuf : Space → Nat
  | .hbm => 20
  | .vmem => 37
  | .smem => 0
  | _ => 0

abbrev bufTy : (tb : Table) → Fin (tcTables nBuf tb) → BufTy
  | .hbm, ⟨0, _⟩ => ⟨S2048x7168, .f32⟩
  | .hbm, ⟨1, _⟩ => ⟨S2048x16, .f32⟩
  | .hbm, ⟨2, _⟩ => ⟨S16x512, .f32⟩
  | .hbm, ⟨3, _⟩ => ⟨S1x512, .f32⟩
  | .hbm, ⟨4, _⟩ => ⟨S2048x2048, .f32⟩
  | .hbm, ⟨5, _⟩ => ⟨S2048x2048, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S_, .i32⟩
  | .hbm, ⟨10, _⟩ => ⟨S_, .f32⟩
  | .hbm, ⟨11, _⟩ => ⟨S128x512, .f32⟩
  | .hbm, ⟨12, _⟩ => ⟨S2048x2048, .f32⟩
  | .hbm, ⟨13, _⟩ => ⟨S4x32x128x256, .f32⟩
  | .hbm, ⟨14, _⟩ => ⟨S2048x512, .bf16⟩
  | .hbm, ⟨15, _⟩ => ⟨S2048x512, .bf16⟩
  | .hbm, ⟨16, _⟩ => ⟨S2048x1024, .bf16⟩
  | .hbm, ⟨17, _⟩ => ⟨S4x2048x128, .f32⟩
  | .hbm, ⟨18, _⟩ => ⟨S128x512, .f32⟩
  | .hbm, ⟨19, _⟩ => ⟨S1x512, .f32⟩
  | .local _ .vmem, ⟨0, _⟩ => ⟨S128x256, .f32⟩
  | .local _ .vmem, ⟨1, _⟩ => ⟨S128x256, .f32⟩
  | .local _ .vmem, ⟨2, _⟩ => ⟨S2048x256, .f32⟩
  | .local _ .vmem, ⟨3, _⟩ => ⟨S2048x256, .f32⟩
  | .local _ .vmem, ⟨4, _⟩ => ⟨S2048x512, .f32⟩
  | .local _ .vmem, ⟨5, _⟩ => ⟨S2048x128, .f32⟩
  | .local _ .vmem, ⟨6, _⟩ => ⟨S1x256, .f32⟩
  | .local _ .vmem, ⟨7, _⟩ => ⟨S1x256, .f32⟩
  | .local _ .vmem, ⟨8, _⟩ => ⟨S2048x512, .f32⟩
  | .local _ .vmem, ⟨9, _⟩ => ⟨S2048x512, .f32⟩
  | .local _ .vmem, ⟨10, _⟩ => ⟨S2x32x128x256, .f32⟩
  | .local _ .vmem, ⟨11, _⟩ => ⟨S2x32x128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S2048x256, .f32⟩
  | .local _ .vmem, ⟨17, _⟩ => ⟨S2048x256, .f32⟩
  | .local _ .vmem, ⟨18, _⟩ => ⟨S2048x512, .f32⟩
  | .local _ .vmem, ⟨19, _⟩ => ⟨S2048x128, .f32⟩
  | .local _ .vmem, ⟨20, _⟩ => ⟨S2048x512, .f32⟩
  | .local _ .vmem, ⟨21, _⟩ => ⟨S2x32x128x256, .f32⟩
  | .local _ .vmem, ⟨22, _⟩ => ⟨S1x256, .f32⟩
  | .local _ .vmem, ⟨23, _⟩ => ⟨S1x256, .f32⟩
  | .local _ .vmem, ⟨24, _⟩ => ⟨S2048x256, .bf16⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S2048x512, .bf16⟩
  | .local _ .vmem, ⟨29, _⟩ => ⟨S2048x512, .bf16⟩
  | .local _ .vmem, ⟨30, _⟩ => ⟨S2x2048x128, .f32⟩
  | .local _ .vmem, ⟨31, _⟩ => ⟨S2x2048x128, .f32⟩
  | .local _ .vmem, ⟨32, _⟩ => ⟨S128x256, .f32⟩
  | .local _ .vmem, ⟨33, _⟩ => ⟨S128x256, .f32⟩
  | .local _ .vmem, ⟨34, _⟩ => ⟨S1x256, .f32⟩
  | .local _ .vmem, ⟨35, _⟩ => ⟨S1x256, .f32⟩
  | .local _ .vmem, ⟨36, _⟩ => ⟨S2x128x256, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev main_v3_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc1_stg13_1 : Ref sig .tc := ⟨.vmem, 35, rfl⟩
abbrev cc1_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc1_sem11_0 : DmaSem sig := 28
abbrev cc1_sem11_1 : DmaSem sig := 29
abbrev cc1_sem12_0 : DmaSem sig := 30
abbrev cc1_sem12_1 : DmaSem sig := 31
abbrev cc1_sem13_0 : DmaSem sig := 32
abbrev cc1_sem13_1 : DmaSem sig := 33

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c32_i32 : BitVec 32 := 32#32
  let v17 : BitVec 32 := Scalar.addi c0_i32 c32_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c64_i32 : BitVec 32 := 64#32
  let v18 : BitVec 32 := Scalar.muli arg12 c64_i32
  v18
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32 : BitVec 32 := 64#32
  let v18 : BitVec 32 := Scalar.muli arg12 c64_i32
  let v19 : BitVec 32 := v18
  let v20 : Index := Scalar.indexCast v19
  let c0_9 : Index := 0#32
  ![v20.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32 : BitVec 32 := 64#32
  let v18 : BitVec 32 := Scalar.muli arg12 c64_i32
  let v19 : BitVec 32 := v18
  let v45 : Index := Scalar.indexCast v19
  let c0_17 : Index := 0#32
  ![v45.toNat, 0]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32 : BitVec 32 := 64#32
  let v18 : BitVec 32 := Scalar.muli arg12 c64_i32
  let v19 : BitVec 32 := v18
  let v60 : Index := Scalar.indexCast v19
  let c0_21 : Index := 0#32
  ![v60.toNat, 0]
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32 : BitVec 32 := 64#32
  let v18 : BitVec 32 := Scalar.muli arg12 c64_i32
  let v19 : BitVec 32 := v18
  let v88 : Index := Scalar.indexCast v19
  let c128 : Index := 128#32
  ![v88.toNat, 128]
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32 : BitVec 32 := 64#32
  let v18 : BitVec 32 := Scalar.muli arg12 c64_i32
  let v19 : BitVec 32 := v18
  let v103 : Index := Scalar.indexCast v19
  let c256 : Index := 256#32
  ![v103.toNat, 256]
def k0_off6 (k0_t1 : Fin k0_t1_loop.trips) : Fin 4 → Nat :=
  let c0_48 : Index := 0#32
  let c0_i32 : BitVec 32 := 0#32
  let c1_i32 : BitVec 32 := 1#32
  let arg12 : BitVec 32 := Scf.iv c0_i32 c1_i32 k0_t1
  let v135 : Index := Scalar.indexCast arg12
  let c0_49 : Index := 0#32
  let c0_50 : Index := 0#32
  ![0, v135.toNat, 0, 0]
def k0_off7 (k0_t1 : Fin k0_t1_loop.trips) : Fin 4 → Nat :=
  let c1 : Index := 1#32
  let c0_i32 : BitVec 32 := 0#32
  let c1_i32 : BitVec 32 := 1#32
  let arg12 : BitVec 32 := Scf.iv c0_i32 c1_i32 k0_t1
  let v152 : Index := Scalar.indexCast arg12
  let c0_54 : Index := 0#32
  let c0_55 : Index := 0#32
  ![1, v152.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c18_i32 : BitVec 32 := 18#32
  let v0 : BitVec 32 := Scalar.addi c18_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x32x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

@[reducible] def k1_t1_loop : Scf.Loop 32 :=
  let c0_i32 : BitVec 32 := 0#32
  let c32_i32 : BitVec 32 := 32#32
  let v24 : BitVec 32 := Scalar.addi c0_i32 c32_i32
  let c1_i32 : BitVec 32 := 1#32
  ⟨c0_i32, v24, c1_i32⟩
def k1_mult1 (k1_t1 : Fin k1_t1_loop.trips) : BitVec 32 :=
  let c31_i32 : BitVec 32 := 31#32
  let c0_i32 : BitVec 32 := 0#32
  let c1_i32 : BitVec 32 := 1#32
  let arg16 : BitVec 32 := Scf.iv c0_i32 c1_i32 k1_t1
  let v25 : BitVec 32 := Scalar.subi c31_i32 arg16
  let c64_i32 : BitVec 32 := 64#32
  let v26 : BitVec 32 := Scalar.muli v25 c64_i32
  v26
def k1_off1 (k1_t1 : Fin k1_t1_loop.trips) : Fin 2 → Nat :=
  let c31_i32 : BitVec 32 := 31#32
  let c0_i32 : BitVec 32 := 0#32
  let c1_i32 : BitVec 32 := 1#32
  let arg16 : BitVec 32 := Scf.iv c0_i32 c1_i32 k1_t1
  let v25 : BitVec 32 := Scalar.subi c31_i32 arg16
  let c64_i32 : BitVec 32 := 64#32
  let v26 : BitVec 32 := Scalar.muli v25 c64_i32
  let v27 : BitVec 32 := v26
  let v28 : Index := Scalar.indexCast v27
  let c0_14 : Index := 0#32
  ![v28.toNat, 0]
def k1_off2 (k1_t1 : Fin k1_t1_loop.trips) : Fin 2 → Nat :=
  let c31_i32 : BitVec 32 := 31#32
  let c0_i32 : BitVec 32 := 0#32
  let c1_i32 : BitVec 32 := 1#32
  let arg16 : BitVec 32 := Scf.iv c0_i32 c1_i32 k1_t1
  let v25 : BitVec 32 := Scalar.subi c31_i32 arg16
  let c64_i32 : BitVec 32 := 64#32
  let v26 : BitVec 32 := Scalar.muli v25 c64_i32
  let v27 : BitVec 32 := v26
  let v56 : Index := Scalar.indexCast v27
  let c0_23 : Index := 0#32
  ![v56.toNat, 0]
def k1_off3 (k1_t1 : Fin k1_t1_loop.trips) : Fin 2 → Nat :=
  let c31_i32 : BitVec 32 := 31#32
  let c0_i32 : BitVec 32 := 0#32
  let c1_i32 : BitVec 32 := 1#32
  let arg16 : BitVec 32 := Scf.iv c0_i32 c1_i32 k1_t1
  let v25 : BitVec 32 := Scalar.subi c31_i32 arg16
  let c64_i32 : BitVec 32 := 64#32
  let v26 : BitVec 32 := Scalar.muli v25 c64_i32
  let v27 : BitVec 32 := v26
  let v71 : Index := Scalar.indexCast v27
  let c0_27 : Index := 0#32
  ![v71.toNat, 0]
def k1_off4 (k1_t1 : Fin k1_t1_loop.trips) : Fin 2 → Nat :=
  let c31_i32 : BitVec 32 := 31#32
  let c0_i32 : BitVec 32 := 0#32
  let c1_i32 : BitVec 32 := 1#32
  let arg16 : BitVec 32 := Scf.iv c0_i32 c1_i32 k1_t1
  let v25 : BitVec 32 := Scalar.subi c31_i32 arg16
  let c64_i32 : BitVec 32 := 64#32
  let v26 : BitVec 32 := Scalar.muli v25 c64_i32
  let v27 : BitVec 32 := v26
  let v99 : Index := Scalar.indexCast v27
  let c128 : Index := 128#32
  ![v99.toNat, 128]
def k1_off5 (k1_t1 : Fin k1_t1_loop.trips) : Fin 2 → Nat :=
  let c31_i32 : BitVec 32 := 31#32
  let c0_i32 : BitVec 32 := 0#32
  let c1_i32 : BitVec 32 := 1#32
  let arg16 : BitVec 32 := Scf.iv c0_i32 c1_i32 k1_t1
  let v25 : BitVec 32 := Scalar.subi c31_i32 arg16
  let c64_i32 : BitVec 32 := 64#32
  let v26 : BitVec 32 := Scalar.muli v25 c64_i32
  let v27 : BitVec 32 := v26
  let v114 : Index := Scalar.indexCast v27
  let c256 : Index := 256#32
  ![v114.toNat, 256]
def k1_off6 (k1_t1 : Fin k1_t1_loop.trips) : Fin 4 → Nat :=
  let c0_39 : Index := 0#32
  let c31_i32 : BitVec 32 := 31#32
  let c0_i32 : BitVec 32 := 0#32
  let c1_i32 : BitVec 32 := 1#32
  let arg16 : BitVec 32 := Scf.iv c0_i32 c1_i32 k1_t1
  let v25 : BitVec 32 := Scalar.subi c31_i32 arg16
  let v117 : Index := Scalar.indexCast v25
  let c0_40 : Index := 0#32
  let c0_41 : Index := 0#32
  ![0, v117.toNat, 0, 0]
def k1_off7 (k1_t1 : Fin k1_t1_loop.trips) : Fin 4 → Nat :=
  let c1 : Index := 1#32
  let c31_i32 : BitVec 32 := 31#32
  let c0_i32 : BitVec 32 := 0#32
  let c1_i32 : BitVec 32 := 1#32
  let arg16 : BitVec 32 := Scf.iv c0_i32 c1_i32 k1_t1
  let v25 : BitVec 32 := Scalar.subi c31_i32 arg16
  let v120 : Index := Scalar.indexCast v25
  let c0_42 : Index := 0#32
  let c0_43 : Index := 0#32
  ![1, v120.toNat, 0, 0]
def k1_off8 (k1_t1 : Fin k1_t1_loop.trips) : Fin 3 → Nat :=
  let c0_116 : Index := 0#32
  let c31_i32 : BitVec 32 := 31#32
  let c0_i32 : BitVec 32 := 0#32
  let c1_i32 : BitVec 32 := 1#32
  let arg16 : BitVec 32 := Scf.iv c0_i32 c1_i32 k1_t1
  let v25 : BitVec 32 := Scalar.subi c31_i32 arg16
  let c64_i32 : BitVec 32 := 64#32
  let v26 : BitVec 32 := Scalar.muli v25 c64_i32
  let v27 : BitVec 32 := v26
  let v329 : Index := Scalar.indexCast v27
  let c0_117 : Index := 0#32
  ![0, v329.toNat, 0]
def k1_off9 (k1_t1 : Fin k1_t1_loop.trips) : Fin 3 → Nat :=
  let c1_127 : Index := 1#32
  let c31_i32 : BitVec 32 := 31#32
  let c0_i32 : BitVec 32 := 0#32
  let c1_i32 : BitVec 32 := 1#32
  let arg16 : BitVec 32 := Scf.iv c0_i32 c1_i32 k1_t1
  let v25 : BitVec 32 := Scalar.subi c31_i32 arg16
  let c64_i32 : BitVec 32 := 64#32
  let v26 : BitVec 32 := Scalar.muli v25 c64_i32
  let v27 : BitVec 32 := v26
  let v343 : Index := Scalar.indexCast v27
  let c0_128 : Index := 0#32
  ![1, v343.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c18_i32 : BitVec 32 := 18#32
  let v0 : BitVec 32 := Scalar.addi c18_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S2048x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S2048x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S2048x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S2x32x128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2048x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2048x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2x2048x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S128x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== Kernel2.lean ====
abbrev S2048x2048 : Shape := ⟨2, ![2048, 2048]⟩
abbrev S2048x5632 : Shape := ⟨2, ![2048, 5632]⟩
abbrev S5632x2048 : Shape := ⟨2, ![5632, 2048]⟩
abbrev S8x704x2048 : Shape := ⟨3, ![8, 704, 2048]⟩
abbrev S_ : Shape := ⟨0, ![]⟩
abbrev S8x768x2048 : Shape := ⟨3, ![8, 768, 2048]⟩
abbrev S1x8x768x2048 : Shape := ⟨4, ![1, 8, 768, 2048]⟩
abbrev S1x1x6144x2048 : Shape := ⟨4, ![1, 1, 6144, 2048]⟩
abbrev S2048x6144 : Shape := ⟨2, ![2048, 6144]⟩
abbrev S1024x2048 : Shape := ⟨2, ![1024, 2048]⟩
abbrev S1x1x768x2048 : Shape := ⟨4, ![1, 1, 768, 2048]⟩
abbrev S1024x768 : Shape := ⟨2, ![1024, 768]⟩
abbrev S768x2048 : Shape := ⟨2, ![768, 2048]⟩
abbrev S1x6144x2048 : Shape := ⟨3, ![1, 6144, 2048]⟩
abbrev S2048x1024 : Shape := ⟨2, ![2048, 1024]⟩
abbrev S1x1024x1024 : Shape := ⟨3, ![1, 1024, 1024]⟩
abbrev S1024x1024 : Shape := ⟨2, ![1024, 1024]⟩
abbrev S1x1x1024x2048 : Shape := ⟨4, ![1, 1, 1024, 2048]⟩
abbrev S2048x768 : Shape := ⟨2, ![2048, 768]⟩
abbrev S1x768x1024 : Shape := ⟨3, ![1, 768, 1024]⟩
abbrev S768x1024 : Shape := ⟨2, ![768, 1024]⟩
abbrev S512x6144 : Shape := ⟨2, ![512, 6144]⟩
abbrev S1x8x768x512 : Shape := ⟨4, ![1, 8, 768, 512]⟩
abbrev S512x512 : Shape := ⟨2, ![512, 512]⟩
abbrev S8x768x512 : Shape := ⟨3, ![8, 768, 512]⟩
abbrev S6144x512 : Shape := ⟨2, ![6144, 512]⟩

abbrev nBuf : Space → Nat
  | .hbm => 36
  | .vmem => 50
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S5632x2048, .f32⟩
  | .hbm, ⟨8, _⟩ => ⟨S5632x2048, .bf16⟩
  | .hbm, ⟨9, _⟩ => ⟨S8x704x2048, .bf16⟩
  | .hbm, ⟨10, _⟩ => ⟨S_, .i32⟩
  | .hbm, ⟨11, _⟩ => ⟨S_, .bf16⟩
  | .hbm, ⟨12, _⟩ => ⟨S8x768x2048, .bf16⟩
  | .hbm, ⟨13, _⟩ => ⟨S1x8x768x2048, .bf16⟩
  | .hbm, ⟨14, _⟩ => ⟨S5632x2048, .f32⟩
  | .hbm, ⟨15, _⟩ => ⟨S5632x2048, .bf16⟩
  | .hbm, ⟨16, _⟩ => ⟨S8x704x2048, .bf16⟩
  | .hbm, ⟨17, _⟩ => ⟨S_, .i32⟩
  | .hbm, ⟨18, _⟩ => ⟨S_, .bf16⟩
  | .hbm, ⟨19, _⟩ => ⟨S8x768x2048, .bf16⟩
  | .hbm, ⟨20, _⟩ => ⟨S1x8x768x2048, .bf16⟩
  | .hbm, ⟨21, _⟩ => ⟨S5632x2048, .bf16⟩
  | .hbm, ⟨22, _⟩ => ⟨S8x704x2048, .bf16⟩
  | .hbm, ⟨23, _⟩ => ⟨S_, .i32⟩
  | .hbm, ⟨24, _⟩ => ⟨S_, .bf16⟩
  | .hbm, ⟨25, _⟩ => ⟨S8x768x2048, .bf16⟩
  | .hbm, ⟨26, _⟩ => ⟨S1x1x6144x2048, .bf16⟩
  | .hbm, ⟨27, _⟩ => ⟨S2048x6144, .bf16⟩
  | .hbm, ⟨28, _⟩ => ⟨S2048x6144, .bf16⟩
  | .hbm, ⟨29, _⟩ => ⟨S2048x6144, .bf16⟩
  | .hbm, ⟨30, _⟩ => ⟨S1x6144x2048, .bf16⟩
  | .hbm, ⟨31, _⟩ => ⟨S2048x6144, .bf16⟩
  | .hbm, ⟨32, _⟩ => ⟨S2048x6144, .bf16⟩
  | .hbm, ⟨33, _⟩ => ⟨S8x768x2048, .bf16⟩
  | .hbm, ⟨34, _⟩ => ⟨S8x768x2048, .bf16⟩
  | .hbm, ⟨35, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x768x2048, .bf16⟩
  | .local _ .vmem, ⟨3, _⟩ => ⟨S1x1x768x2048, .bf16⟩
  | .local _ .vmem, ⟨4, _⟩ => ⟨S1x1x768x2048, .bf16⟩
  | .local _ .vmem, ⟨5, _⟩ => ⟨S1x1x768x2048, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1024x2048, .bf16⟩
  | .local _ .vmem, ⟨19, _⟩ => ⟨S1024x2048, .bf16⟩
  | .local _ .vmem, ⟨20, _⟩ => ⟨S1x1x1024x2048, .bf16⟩
  | .local _ .vmem, ⟨21, _⟩ => ⟨S1x1x1024x2048, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S2048x768, .bf16⟩
  | .local _ .vmem, ⟨31, _⟩ => ⟨S2048x768, .bf16⟩
  | .local _ .vmem, ⟨32, _⟩ => ⟨S2048x1024, .bf16⟩
  | .local _ .vmem, ⟨33, _⟩ => ⟨S2048x1024, .bf16⟩
  | .local _ .vmem, ⟨34, _⟩ => ⟨S1x768x1024, .bf16⟩
  | .local _ .vmem, ⟨35, _⟩ => ⟨S1x768x1024, .bf16⟩
  | .local _ .vmem, ⟨36, _⟩ => ⟨S2048x768, .bf16⟩
  | .local _ .vmem, ⟨37, _⟩ => ⟨S2048x768, .bf16⟩
  | .local _ .vmem, ⟨38, _⟩ => ⟨S2048x1024, .bf16⟩
  | .local _ .vmem, ⟨39, _⟩ => ⟨S2048x1024, .bf16⟩
  | .local _ .vmem, ⟨40, _⟩ => ⟨S1x768x1024, .bf16⟩
  | .local _ .vmem, ⟨41, _⟩ => ⟨S1x768x1024, .bf16⟩
  | .local _ .vmem, ⟨42, _⟩ => ⟨S512x6144, .bf16⟩
  | .local _ .vmem, ⟨43, _⟩ => ⟨S1x8x768x512, .bf16⟩
  | .local _ .vmem, ⟨44, _⟩ => ⟨S1x8x768x512, .bf16⟩
  | .local _ .vmem, ⟨45, _⟩ => ⟨S1x8x768x512, .bf16⟩
  | .local _ .vmem, ⟨46, _⟩ => ⟨S1x8x768x512, .bf16⟩
  | .local _ .vmem, ⟨47, _⟩ => ⟨S512x6144, .bf16⟩
  | .local _ .vmem, ⟨48, _⟩ => ⟨S512x512, .f32⟩
  | .local _ .vmem, ⟨49, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_call2_v0 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc5_stg0_0 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc5_sem0_0 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem4_1 : DmaSem sig := 49

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, v26.toNat, c0_i32_12.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, v26.toNat, c0_i32_12.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![6, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![2, 6], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1x1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨3, ![8, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage3_0 : Fin 2 → Memref sig .tc .vmem S2048x768 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, false]

abbrev stage3_2 : Fin 2 → Memref sig .tc .vmem S1x768x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![8, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage4_0 : Fin 2 → Memref sig .tc .vmem S2048x768 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, false]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, false]

abbrev stage4_2 : Fin 2 → Memref sig .tc .vmem S1x768x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨2, ![4, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc5_transform_2 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S512x6144 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S1x8x768x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x8x768x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 1 → Memref sig .tc .vmem S512x6144 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true, false]

abbrev stage5_4 : Fin 2 → Memref sig .tc .vmem S512x512 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]
-- ==== Reference2Ideal.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩
abbrev S8x704x2048 : Shape := ⟨3, ![8, 704, 2048]⟩
abbrev S8x768x2048 : Shape := ⟨3, ![8, 768, 2048]⟩
abbrev S1x6144x2048 : Shape := ⟨3, ![1, 6144, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x2048, .f32⟩
  | .hbm, ⟨22, _⟩ => ⟨S2048x5632, .f32⟩
  | .hbm, ⟨23, _⟩ => ⟨S5632x2048, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S5632x2048, .f32⟩
  | .hbm, ⟨28, _⟩ => ⟨S2048x5632, .f32⟩
  | .hbm, ⟨29, _⟩ => ⟨S2048x2048, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S5632x2048, .f32⟩
  | .hbm, ⟨35, _⟩ => ⟨S2048x5632, .f32⟩
  | .hbm, ⟨36, _⟩ => ⟨S2048x2048, .f32⟩
  | .hbm, ⟨37, _⟩ => ⟨S2048x2048, .f32⟩
  | .hbm, ⟨38, _⟩ => ⟨S8x704x2048, .f32⟩
  | .hbm, ⟨39, _⟩ => ⟨S_, .i32⟩
  | .hbm, ⟨40, _⟩ => ⟨S_, .f32⟩
  | .hbm, ⟨41, _⟩ => ⟨S8x768x2048, .f32⟩
  | .hbm, ⟨42, _⟩ => ⟨S8x768x2048, .bf16⟩
  | .hbm, ⟨43, _⟩ => ⟨S1x6144x2048, .bf16⟩
  | .hbm, ⟨44, _⟩ => ⟨S5632x2048, .f32⟩
  | .hbm, ⟨45, _⟩ => ⟨S8x704x2048, .f32⟩
  | .hbm, ⟨46, _⟩ => ⟨S_, .i32⟩
  | .hbm, ⟨47, _⟩ => ⟨S_, .f32⟩
  | .hbm, ⟨48, _⟩ => ⟨S8x768x2048, .f32⟩
  | .hbm, ⟨49, _⟩ => ⟨S8x768x2048, .bf16⟩
  | .hbm, ⟨50, _⟩ => ⟨S5632x2048, .f32⟩
  | .hbm, ⟨51, _⟩ => ⟨S8x704x2048, .f32⟩
  | .hbm, ⟨52, _⟩ => ⟨S_, .i32⟩
  | .hbm, ⟨53, _⟩ => ⟨S_, .f32⟩
  | .hbm, ⟨54, _⟩ => ⟨S8x768x2048, .f32⟩
  | .hbm, ⟨55, _⟩ => ⟨S8x768x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_call2_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_0 : Ref sig .tc := ⟨.hbm, 46, rfl⟩
abbrev main_call3_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_1 : Ref sig .tc := ⟨.hbm, 52, rfl⟩
abbrev main_call4_v0 : Ref sig .tc := ⟨.hbm, 53, rfl⟩
abbrev main_v28 : Ref sig .tc := ⟨.hbm, 54, rfl⟩
abbrev main_v29 : Ref sig .tc := ⟨.hbm, 55, rfl⟩

abbrev nD : Nat := 1
abbrev τ : Topo := Topo.v7x

variable {F : FTy → Type} [FloatOps F]
-- ==== Kernel3.lean ====
abbrev S2048x2048 : Shape := ⟨2, ![2048, 2048]⟩
abbrev S2048x7184 : Shape := ⟨2, ![2048, 7184]⟩
abbrev S7184x2048 : Shape := ⟨2, ![7184, 2048]⟩
abbrev S1x1x7184x2048 : Shape := ⟨4, ![1, 1, 7184, 2048]⟩
abbrev S2048x7168 : Shape := ⟨2, ![2048, 7168]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x7184, .f32⟩
  | .hbm, ⟨2, _⟩ => ⟨S2048x2048, .bf16⟩
  | .hbm, ⟨3, _⟩ => ⟨S7184x2048, .f32⟩
  | .hbm, ⟨4, _⟩ => ⟨S7184x2048, .bf16⟩
  | .hbm, ⟨5, _⟩ => ⟨S1x1x7184x2048, .bf16⟩
  | .hbm, ⟨6, _⟩ => ⟨S2048x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2048 : Shape := ⟨2, ![2048, 2048]⟩
abbrev S2048x7184 : Shape := ⟨2, ![2048, 7184]⟩
abbrev S2048x7168 : Shape := ⟨2, ![2048, 7168]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x7184, .f32⟩
  | .hbm, ⟨2, _⟩ => ⟨S2048x7168, .f32⟩
  | .hbm, ⟨3, _⟩ => ⟨S2048x7168, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S2048x2048 : Shape := ⟨2, ![2048, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S1x8x2048x768 : Shape := ⟨4, ![1, 8, 2048, 768]⟩
abbrev S1024x2048 : Shape := ⟨2, ![1024, 2048]⟩
abbrev S1x1x2048x768 : Shape := ⟨4, ![1, 1, 2048, 768]⟩
abbrev S1024x768 : Shape := ⟨2, ![1024, 768]⟩
abbrev S2048x768 : Shape := ⟨2, ![2048, 768]⟩
abbrev S2048x1024 : Shape := ⟨2, ![2048, 1024]⟩
abbrev S1x1024x768 : Shape := ⟨3, ![1, 1024, 768]⟩
abbrev S512x6144 : Shape := ⟨2, ![512, 6144]⟩
abbrev S1x8x512x768 : Shape := ⟨4, ![1, 8, 512, 768]⟩
abbrev S512x512 : Shape := ⟨2, ![512, 512]⟩
abbrev S512x768 : Shape := ⟨2, ![512, 768]⟩
abbrev S1x1x512x768 : Shape := ⟨4, ![1, 1, 512, 768]⟩

abbrev nBuf : Space → Nat
  | .hbm => 12
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S2048x6144, .f32⟩
  | .hbm, ⟨3, _⟩ => ⟨S2048x2048, .bf16⟩
  | .hbm, ⟨4, _⟩ => ⟨S2048x6144, .bf16⟩
  | .hbm, ⟨5, _⟩ => ⟨S2048x6144, .bf16⟩
  | .hbm, ⟨6, _⟩ => ⟨S2048x8x768, .bf16⟩
  | .hbm, ⟨7, _⟩ => ⟨S8x2048x768, .bf16⟩
  | .hbm, ⟨8, _⟩ => ⟨S1x8x2048x768, .bf16⟩
  | .hbm, ⟨9, _⟩ => ⟨S2048x6144, .bf16⟩
  | .hbm, ⟨10, _⟩ => ⟨S8x2048x768, .bf16⟩
  | .hbm, ⟨11, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S1024x768, .bf16⟩
  | .local _ .vmem, ⟨5, _⟩ => ⟨S1024x768, .bf16⟩
  | .local _ .vmem, ⟨6, _⟩ => ⟨S2048x1024, .bf16⟩
  | .local _ .vmem, ⟨7, _⟩ => ⟨S2048x1024, .bf16⟩
  | .local _ .vmem, ⟨8, _⟩ => ⟨S2048x768, .bf16⟩
  | .local _ .vmem, ⟨9, _⟩ => ⟨S2048x768, .bf16⟩
  | .local _ .vmem, ⟨10, _⟩ => ⟨S1x1024x768, .bf16⟩
  | .local _ .vmem, ⟨11, _⟩ => ⟨S1x1024x768, .bf16⟩
  | .local _ .vmem, ⟨12, _⟩ => ⟨S512x6144, .bf16⟩
  | .local _ .vmem, ⟨13, _⟩ => ⟨S512x6144, .bf16⟩
  | .local _ .vmem, ⟨14, _⟩ => ⟨S1x8x512x768, .bf16⟩
  | .local _ .vmem, ⟨15, _⟩ => ⟨S1x8x512x768, .bf16⟩
  | .local _ .vmem, ⟨16, _⟩ => ⟨S512x512, .f32⟩
  | .local _ .vmem, ⟨17, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1x1024x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x6144 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x8x512x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference4Ideal.lean ====
abbrev S2048x2048 : Shape := ⟨2, ![2048, 2048]⟩
abbrev S2048x6144 : Shape := ⟨2, ![2048, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S2048x6144, .f32⟩
  | .hbm, ⟨3, _⟩ => ⟨S2048x6144, .f32⟩
  | .hbm, ⟨4, _⟩ => ⟨S6144x2048, .f32⟩
  | .hbm, ⟨5, _⟩ => ⟨S2048x6144, .f32⟩
  | .hbm, ⟨6, _⟩ => ⟨S2048x2048, .f32⟩
  | .hbm, ⟨7, _⟩ => ⟨S2048x8x768, .f32⟩
  | .hbm, ⟨8, _⟩ => ⟨S8x2048x768, .f32⟩
  | .hbm, ⟨9, _⟩ => ⟨S2048x6144, .bf16⟩
  | .hbm, ⟨10, _⟩ => ⟨S8x2048x768, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S2048x2048 : Shape := ⟨2, ![2048, 2048]⟩
abbrev S1x1x2048x2048 : Shape := ⟨4, ![1, 1, 2048, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩
abbrev S1024x2048 : Shape := ⟨2, ![1024, 2048]⟩
abbrev S1x1x1024x2048 : Shape := ⟨4, ![1, 1, 1024, 2048]⟩

abbrev nBuf : Space → Nat
  | .hbm => 10
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S1x1x2048x2048, .bf16⟩
  | .hbm, ⟨7, _⟩ => ⟨S1x2048x2048, .bf16⟩
  | .hbm, ⟨8, _⟩ => ⟨S2048x2048, .f32⟩
  | .hbm, ⟨9, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x1x1024x2048, .bf16⟩
  | .local _ .vmem, ⟨9, _⟩ => ⟨S1x1x1024x2048, .bf16⟩
  | .local _ .vmem, ⟨10, _⟩ => ⟨S1024x1024, .f32⟩
  | .local _ .vmem, ⟨11, _⟩ => ⟨S1024x1024, .f32⟩
  | .local _ .vmem, ⟨12, _⟩ => ⟨S1024x2048, .bf16⟩
  | .local _ .vmem, ⟨13, _⟩ => ⟨S1024x2048, .bf16⟩
  | .local _ .vmem, ⟨14, _⟩ => ⟨S1x1x1024x2048, .bf16⟩
  | .local _ .vmem, ⟨15, _⟩ => ⟨S1x1x1024x2048, .bf16⟩
  | .local _ .vmem, ⟨16, _⟩ => ⟨S1024x1024, .bf16⟩
  | .local _ .vmem, ⟨17, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1x1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1x1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference5Ideal.lean ====
abbrev S2048x2048 : Shape := ⟨2, ![2048, 2048]⟩
abbrev S1x2048x2048 : Shape := ⟨3, ![1, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S1x2048x2048, .f32⟩
  | .hbm, ⟨8, _⟩ => ⟨S1x2048x2048, .bf16⟩
  | .hbm, ⟨9, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x2048 : Shape := ⟨2, ![2048, 2048]⟩
abbrev S2048x7184 : Shape := ⟨2, ![2048, 7184]⟩
abbrev S2048x7168 : Shape := ⟨2, ![2048, 7168]⟩
abbrev S1x7184x2048 : Shape := ⟨3, ![1, 7184, 2048]⟩
abbrev S2048x1024 : Shape := ⟨2, ![2048, 1024]⟩
abbrev S1x1024x1024 : Shape := ⟨3, ![1, 1024, 1024]⟩
abbrev S1024x1024 : Shape := ⟨2, ![1024, 1024]⟩
abbrev S1x7168x2048 : Shape := ⟨3, ![1, 7168, 2048]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x7184, .f32⟩
  | .hbm, ⟨2, _⟩ => ⟨S2048x7168, .f32⟩
  | .hbm, ⟨3, _⟩ => ⟨S2048x7168, .bf16⟩
  | .hbm, ⟨4, _⟩ => ⟨S2048x2048, .bf16⟩
  | .hbm, ⟨5, _⟩ => ⟨S1x7184x2048, .bf16⟩
  | .hbm, ⟨6, _⟩ => ⟨S1x7168x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S2048x7184 : Shape := ⟨2, ![2048, 7184]⟩
abbrev S2048x7168 : Shape := ⟨2, ![2048, 7168]⟩
abbrev S7168x2048 : Shape := ⟨2, ![7168, 2048]⟩
abbrev S1x7168x2048 : Shape := ⟨3, ![1, 7168, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x7184, .f32⟩
  | .hbm, ⟨2, _⟩ => ⟨S2048x7168, .f32⟩
  | .hbm, ⟨3, _⟩ => ⟨S2048x7168, .f32⟩
  | .hbm, ⟨4, _⟩ => ⟨S2048x7168, .f32⟩
  | .hbm, ⟨5, _⟩ => ⟨S7168x2048, .f32⟩
  | .hbm, ⟨6, _⟩ => ⟨S2048x7168, .f32⟩
  | .hbm, ⟨7, _⟩ => ⟨S2048x2048, .f32⟩
  | .hbm, ⟨8, _⟩ => ⟨S7168x2048, .f32⟩
  | .hbm, ⟨9, _⟩ => ⟨S1x7168x2048, .f32⟩
  | .hbm, ⟨10, _⟩ => ⟨S1x7168x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S2048x2048 : Shape := ⟨2, ![2048, 2048]⟩
abbrev S2048x7184 : Shape := ⟨2, ![2048, 7184]⟩
abbrev S2048x7168 : Shape := ⟨2, ![2048, 7168]⟩
abbrev S7184x2048 : Shape := ⟨2, ![7184, 2048]⟩
abbrev S1x1x7184x2048 : Shape := ⟨4, ![1, 1, 7184, 2048]⟩
abbrev S512x7168 : Shape := ⟨2, ![512, 7168]⟩
abbrev S1x1x7168x512 : Shape := ⟨4, ![1, 1, 7168, 512]⟩
abbrev S512x512 : Shape := ⟨2, ![512, 512]⟩
abbrev S1x7168x512 : Shape := ⟨3, ![1, 7168, 512]⟩
abbrev S7168x512 : Shape := ⟨2, ![7168, 512]⟩

abbrev nBuf : Space → Nat
  | .hbm => 8
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x7184, .f32⟩
  | .hbm, ⟨2, _⟩ => ⟨S2048x7168, .f32⟩
  | .hbm, ⟨3, _⟩ => ⟨S2048x7168, .bf16⟩
  | .hbm, ⟨4, _⟩ => ⟨S7184x2048, .f32⟩
  | .hbm, ⟨5, _⟩ => ⟨S7184x2048, .bf16⟩
  | .hbm, ⟨6, _⟩ => ⟨S1x1x7184x2048, .bf16⟩
  | .hbm, ⟨7, _⟩ => ⟨S2048x2048, .f32⟩
  | .local _ .vmem, ⟨0, _⟩ => ⟨S512x7168, .bf16⟩
  | .local _ .vmem, ⟨1, _⟩ => ⟨S512x7168, .bf16⟩
  | .local _ .vmem, ⟨2, _⟩ => ⟨S1x1x7168x512, .bf16⟩
  | .local _ .vmem, ⟨3, _⟩ => ⟨S1x1x7168x512, .bf16⟩
  | .local _ .vmem, ⟨4, _⟩ => ⟨S512x512, .f32⟩
  | .local _ .vmem, ⟨5, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x7168x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x2048 : Shape := ⟨2, ![2048, 2048]⟩
abbrev S2048x7184 : Shape := ⟨2, ![2048, 7184]⟩
abbrev S2048x7168 : Shape := ⟨2, ![2048, 7168]⟩
abbrev S7168x2048 : Shape := ⟨2, ![7168, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x7184, .f32⟩
  | .hbm, ⟨2, _⟩ => ⟨S2048x7168, .f32⟩
  | .hbm, ⟨3, _⟩ => ⟨S2048x7168, .f32⟩
  | .hbm, ⟨4, _⟩ => ⟨S2048x7168, .f32⟩
  | .hbm, ⟨5, _⟩ => ⟨S7168x2048, .f32⟩
  | .hbm, ⟨6, _⟩ => ⟨S2048x7168, .f32⟩
  | .hbm, ⟨7, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x2048 : Shape := ⟨2, ![2048, 2048]⟩
abbrev S2048x256 : Shape := ⟨2, ![2048, 256]⟩
abbrev S256x2048 : Shape := ⟨2, ![256, 2048]⟩
abbrev S1x1x2048x2048 : Shape := ⟨4, ![1, 1, 2048, 2048]⟩
abbrev S256x8x256 : Shape := ⟨3, ![256, 8, 256]⟩
abbrev S8x256x256 : Shape := ⟨3, ![8, 256, 256]⟩
abbrev S1x8x256x256 : Shape := ⟨4, ![1, 8, 256, 256]⟩
abbrev S512x2048 : Shape := ⟨2, ![512, 2048]⟩
abbrev S1x1x2048x1024 : Shape := ⟨4, ![1, 1, 2048, 1024]⟩
abbrev S512x256 : Shape := ⟨2, ![512, 256]⟩
abbrev S1x4x256x256 : Shape := ⟨4, ![1, 4, 256, 256]⟩
abbrev S512x1024 : Shape := ⟨2, ![512, 1024]⟩
abbrev S2048x1024 : Shape := ⟨2, ![2048, 1024]⟩
abbrev S1x1x256x256 : Shape := ⟨4, ![1, 1, 256, 256]⟩
abbrev S256x256 : Shape := ⟨2, ![256, 256]⟩
abbrev S1x256x256 : Shape := ⟨3, ![1, 256, 256]⟩

abbrev nBuf : Space → Nat
  | .hbm => 19
  | .vmem => 21
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x256, .f32⟩
  | .hbm, ⟨3, _⟩ => ⟨S256x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x256, .bf16⟩
  | .hbm, ⟨8, _⟩ => ⟨S2048x2048, .bf16⟩
  | .hbm, ⟨9, _⟩ => ⟨S2048x2048, .bf16⟩
  | .hbm, ⟨10, _⟩ => ⟨S1x1x2048x2048, .bf16⟩
  | .hbm, ⟨11, _⟩ => ⟨S256x2048, .bf16⟩
  | .hbm, ⟨12, _⟩ => ⟨S256x8x256, .bf16⟩
  | .hbm, ⟨13, _⟩ => ⟨S8x256x256, .bf16⟩
  | .hbm, ⟨14, _⟩ => ⟨S1x8x256x256, .bf16⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S8x256x256, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S512x256, .bf16⟩
  | .local _ .vmem, ⟨5, _⟩ => ⟨S512x256, .bf16⟩
  | .local _ .vmem, ⟨6, _⟩ => ⟨S1x4x256x256, .bf16⟩
  | .local _ .vmem, ⟨7, _⟩ => ⟨S1x4x256x256, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S1x256x256, .bf16⟩
  | .local _ .vmem, ⟨20, _⟩ => ⟨S1x256x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem1_1 : DmaSem sig := 18
abbrev cc1_sem2_0 : DmaSem sig := 19
abbrev cc1_sem2_1 : DmaSem sig := 20

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨3, ![1, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage1_0 : Fin 1 → Memref sig .tc .vmem S2048x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, false]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1x256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference8Ideal.lean ====
abbrev S2048x2048 : Shape := ⟨2, ![2048, 2048]⟩
abbrev S2048x256 : Shape := ⟨2, ![2048, 256]⟩
abbrev S256x2048 : Shape := ⟨2, ![256, 2048]⟩
abbrev S256x8x256 : Shape := ⟨3, ![256, 8, 256]⟩
abbrev S8x256x256 : Shape := ⟨3, ![8, 256, 256]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x256, .f32⟩
  | .hbm, ⟨3, _⟩ => ⟨S256x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x256, .f32⟩
  | .hbm, ⟨9, _⟩ => ⟨S256x2048, .f32⟩
  | .hbm, ⟨10, _⟩ => ⟨S2048x256, .f32⟩
  | .hbm, ⟨11, _⟩ => ⟨S256x8x256, .f32⟩
  | .hbm, ⟨12, _⟩ => ⟨S8x256x256, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S8x256x256, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel9.lean ====
abbrev S2048x2048 : Shape := ⟨2, ![2048, 2048]⟩
abbrev S1x2048 : Shape := ⟨2, ![1, 2048]⟩
abbrev S1x1x2048x2048 : Shape := ⟨4, ![1, 1, 2048, 2048]⟩
abbrev S512x1024 : Shape := ⟨2, ![512, 1024]⟩
abbrev S1x1x1024x2048 : Shape := ⟨4, ![1, 1, 1024, 2048]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .bf16⟩
  | .hbm, ⟨5, _⟩ => ⟨S2048x2048, .bf16⟩
  | .hbm, ⟨6, _⟩ => ⟨S1x1x2048x2048, .bf16⟩
  | .hbm, ⟨7, _⟩ => ⟨S2048x2048, .f32⟩
  | .hbm, ⟨8, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32 : BitVec 32 := 0#32
  let v5 : BitVec 1 := Scalar.cmpi .eq arg1 c0_i32
  let v_true : BitVec 1 := 1#1
  let v8 : BitVec 1 := Scalar.xori v5 v_true
  let v9 : BitVec 32 := Scalar.extui v8
  let c0_i32_6 : BitVec 32 := 0#32
  let v10 : BitVec 1 := Scalar.cmpi .ne v9 c0_i32_6
  v10

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference9Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel10.lean ====
abbrev S2048x5632 : Shape := ⟨2, ![2048, 5632]⟩
abbrev S5632x2048 : Shape := ⟨2, ![5632, 2048]⟩
abbrev S2048x2048 : Shape := ⟨2, ![2048, 2048]⟩
abbrev S1x2048 : Shape := ⟨2, ![1, 2048]⟩
abbrev S2048x8x704 : Shape := ⟨3, ![2048, 8, 704]⟩
abbrev S_ : Shape := ⟨0, ![]⟩
abbrev S2048x8x768 : Shape := ⟨3, ![2048, 8, 768]⟩
abbrev S2048x6144 : Shape := ⟨2, ![2048, 6144]⟩
abbrev S8x704x2048 : Shape := ⟨3, ![8, 704, 2048]⟩
abbrev S8x768x2048 : Shape := ⟨3, ![8, 768, 2048]⟩
abbrev S1x1x6144x2048 : Shape := ⟨4, ![1, 1, 6144, 2048]⟩
abbrev S512x1024 : Shape := ⟨2, ![512, 1024]⟩
abbrev S1x1x1024x2048 : Shape := ⟨4, ![1, 1, 1024, 2048]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 18
  | .vmem => 11
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S1x2048, .f32⟩
  | .hbm, ⟨4, _⟩ => ⟨S2048x5632, .bf16⟩
  | .hbm, ⟨5, _⟩ => ⟨S2048x8x704, .bf16⟩
  | .hbm, ⟨6, _⟩ => ⟨S_, .i32⟩
  | .hbm, ⟨7, _⟩ => ⟨S_, .bf16⟩
  | .hbm, ⟨8, _⟩ => ⟨S2048x8x768, .bf16⟩
  | .hbm, ⟨9, _⟩ => ⟨S2048x6144, .bf16⟩
  | .hbm, ⟨10, _⟩ => ⟨S5632x2048, .bf16⟩
  | .hbm, ⟨11, _⟩ => ⟨S8x704x2048, .bf16⟩
  | .hbm, ⟨12, _⟩ => ⟨S_, .i32⟩
  | .hbm, ⟨13, _⟩ => ⟨S_, .bf16⟩
  | .hbm, ⟨14, _⟩ => ⟨S8x768x2048, .bf16⟩
  | .hbm, ⟨15, _⟩ => ⟨S1x1x6144x2048, .bf16⟩
  | .hbm, ⟨16, _⟩ => ⟨S2048x2048, .f32⟩
  | .hbm, ⟨17, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 6], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32 : BitVec 32 := 0#32
  let v5 : BitVec 1 := Scalar.cmpi .eq arg1 c0_i32
  let v_true : BitVec 1 := 1#1
  let v8 : BitVec 1 := Scalar.xori v5 v_true
  let v9 : BitVec 32 := Scalar.extui v8
  let c0_i32_6 : BitVec 32 := 0#32
  let v10 : BitVec 1 := Scalar.cmpi .ne v9 c0_i32_6
  v10

def k0_cond3 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference10Ideal.lean ====
abbrev S2048x5632 : Shape := ⟨2, ![2048, 5632]⟩
abbrev S5632x2048 : Shape := ⟨2, ![5632, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel11.lean ====
abbrev S1x25088 : Shape := ⟨2, ![1, 25088]⟩
abbrev S8x25088 : Shape := ⟨2, ![8, 25088]⟩

abbrev nBuf : Space → Nat
  | .hbm => 8
  | .vmem => 8
  | .smem => 0
  | _ => 0

abbrev bufTy : (tb : Table) → Fin (tcTables nBuf tb) → BufTy
  | .hbm, ⟨0, _⟩ => ⟨S1x25088, .f32⟩
  | .hbm, ⟨1, _⟩ => ⟨S1x25088, .f32⟩
  | .hbm, ⟨2, _⟩ => ⟨S1x25088, .f32⟩
  | .hbm, ⟨3, _⟩ => ⟨S8x25088, .f32⟩
  | .hbm, ⟨4, _⟩ => ⟨S1x25088, .f32⟩
  | .hbm, ⟨5, _⟩ => ⟨S1x25088, .f32⟩
  | .hbm, ⟨6, _⟩ => ⟨S1x25088, .f32⟩
  | .hbm, ⟨7, _⟩ => ⟨S1x25088, .f32⟩
  | .local _ .vmem, ⟨0, _⟩ => ⟨S1x25088, .f32⟩
  | .local _ .vmem, ⟨1, _⟩ => ⟨S1x25088, .f32⟩
  | .local _ .vmem, ⟨2, _⟩ => ⟨S1x25088, .f32⟩
  | .local _ .vmem, ⟨3, _⟩ => ⟨S8x25088, .f32⟩
  | .local _ .vmem, ⟨4, _⟩ => ⟨S1x25088, .f32⟩
  | .local _ .vmem, ⟨5, _⟩ => ⟨S1x25088, .f32⟩
  | .local _ .vmem, ⟨6, _⟩ => ⟨S1x25088, .f32⟩
  | .local _ .vmem, ⟨7, _⟩ => ⟨S1x25088, .f32⟩
  | _, _ => ⟨S1x25088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x25088 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x25088 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x25088 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x25088 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x25088 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x25088 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x25088 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x25088 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference11Ideal.lean ====
abbrev S1x25088 : Shape := ⟨2, ![1, 25088]⟩
abbrev S8x25088 : Shape := ⟨2, ![8, 25088]⟩
abbrev S_ : Shape := ⟨0, ![]⟩
abbrev S25088 : Shape := ⟨1, ![25088]⟩

abbrev nBuf : Space → Nat
  | .hbm => 40
  | .vmem => 0
  | .smem => 0
  | _ => 0

abbrev bufTy : (tb : Table) → Fin (tcTables nBuf tb) → BufTy
  | .hbm, ⟨0, _⟩ => ⟨S1x25088, .f32⟩
  | .hbm, ⟨1, _⟩ => ⟨S1x25088, .f32⟩
  | .hbm, ⟨2, _⟩ => ⟨S1x25088, .f32⟩
  | .hbm, ⟨3, _⟩ => ⟨S8x25088, .f32⟩
  | .hbm, ⟨4, _⟩ => ⟨S_, .f32⟩
  | .hbm, ⟨5, _⟩ => ⟨S25088, .f32⟩
  | .hbm, ⟨6, _⟩ => ⟨S1x25088, .f32⟩
  | .hbm, ⟨7, _⟩ => ⟨S_, .f32⟩
  | .hbm, ⟨8, _⟩ => ⟨S1x25088, .f32⟩
  | .hbm, ⟨9, _⟩ => ⟨S1x25088, .f32⟩
  | .hbm, ⟨10, _⟩ => ⟨S_, .f32⟩
  | .hbm, ⟨11, _⟩ => ⟨S1x25088, .f32⟩
  | .hbm, ⟨12, _⟩ => ⟨S1x25088, .f32⟩
  | .hbm, ⟨13, _⟩ => ⟨S1x25088, .f32⟩
  | .hbm, ⟨14, _⟩ => ⟨S_, .f32⟩
  | .hbm, ⟨15, _⟩ => ⟨S1x25088, .f32⟩
  | .hbm, ⟨16, _⟩ => ⟨S1x25088, .f32⟩
  | .hbm, ⟨17, _⟩ => ⟨S1x25088, .f32⟩
  | .hbm, ⟨18, _⟩ => ⟨S_, .f32⟩
  | .hbm, ⟨19, _⟩ => ⟨S1x25088, .f32⟩
  | .hbm, ⟨20, _⟩ => ⟨S1x25088, .f32⟩
  | .hbm, ⟨21, _⟩ => ⟨S1x25088, .f32⟩
  | .hbm, ⟨22, _⟩ => ⟨S_, .f32⟩
  | .hbm, ⟨23, _⟩ => ⟨S1x25088, .f32⟩
  | .hbm, ⟨24, _⟩ => ⟨S1x25088, .f32⟩
  | .hbm, ⟨25, _⟩ => ⟨S_, .f32⟩
  | .hbm, ⟨26, _⟩ => ⟨S1x25088, .f32⟩
  | .hbm, ⟨27, _⟩ => ⟨S1x25088, .f32⟩
  | .hbm, ⟨28, _⟩ => ⟨S1x25088, .f32⟩
  | .hbm, ⟨29, _⟩ => ⟨S_, .f32⟩
  | .hbm, ⟨30, _⟩ => ⟨S1x25088, .f32⟩
  | .hbm, ⟨31, _⟩ => ⟨S1x25088, .f32⟩
  | .hbm, ⟨32, _⟩ => ⟨S1x25088, .f32⟩
  | .hbm, ⟨33, _⟩ => ⟨S_, .f32⟩
  | .hbm, ⟨34, _⟩ => ⟨S1x25088, .f32⟩
  | .hbm, ⟨35, _⟩ => ⟨S1x25088, .f32⟩
  | .hbm, ⟨36, _⟩ => ⟨S1x25088, .f32⟩
  | .hbm, ⟨37, _⟩ => ⟨S_, .f32⟩
  | .hbm, ⟨38, _⟩ => ⟨S1x25088, .f32⟩
  | .hbm, ⟨39, _⟩ => ⟨S1x25088, .f32⟩
  | _, _ => ⟨S1x25088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v37 : BitVec 32 := Scalar.extui v35
  let c0_i32_16 : BitVec 32 := 0#32
  let v38 : BitVec 1 := Scalar.cmpi .ne v37 c0_i32_16
  v38

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v39 : BitVec 1 := Scalar.xori v35 v_true
  let v40 : BitVec 32 := Scalar.extui v39
  let c0_i32_17 : BitVec 32 := 0#32
  let v41 : BitVec 1 := Scalar.cmpi .ne v40 c0_i32_17
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel13.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩
abbrev S1x1 : Shape := ⟨2, ![1, 1]⟩

abbrev nBuf : Space → Nat
  | .hbm => 10
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x2048, .f32⟩
  | .hbm, ⟨7, _⟩ => ⟨S1x128, .f32⟩
  | .hbm, ⟨8, _⟩ => ⟨S2048x2048, .bf16⟩
  | .hbm, ⟨9, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x128, .f32⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v72 : BitVec 1 := Scalar.cmpi .eq arg0 c0_i32
  let v74 : BitVec 32 := Scalar.extui v72
  let c0_i32_28 : BitVec 32 := 0#32
  let v75 : BitVec 1 := Scalar.cmpi .ne v74 c0_i32_28
  v75

def k0_cond2 (i : grid0.Coords) : BitVec 1 :=
  let arg0 : BitVec 32 := BitVec.ofNat 32 (i 0).val
  let c0_i32 : BitVec 32 := 0#32
  let v72 : BitVec 1 := Scalar.cmpi .eq arg0 c0_i32
  let v_true : BitVec 1 := 1#1
  let v76 : BitVec 1 := Scalar.xori v72 v_true
  let v77 : BitVec 32 := Scalar.extui v76
  let c0_i32_29 : BitVec 32 := 0#32
  let v78 : BitVec 1 := Scalar.cmpi .ne v77 c0_i32_29
  v78

def k0_cond3 (i : grid0.Coords) : BitVec 1 :=
  let arg0 : BitVec 32 := BitVec.ofNat 32 (i 0).val
  let c0_i32 : BitVec 32 := 0#32
  let v72 : BitVec 1 := Scalar.cmpi .eq arg0 c0_i32
  let v79 : BitVec 32 := Scalar.extui v72
  let c0_i32_30 : BitVec 32 := 0#32
  let v80 : BitVec 1 := Scalar.cmpi .ne v79 c0_i32_30
  v80

def k0_cond4 (i : grid0.Coords) : BitVec 1 :=
  let arg0 : BitVec 32 := BitVec.ofNat 32 (i 0).val
  let c0_i32 : BitVec 32 := 0#32
  let v72 : BitVec 1 := Scalar.cmpi .eq arg0 c0_i32
  let true_31 : BitVec 1 := 1#1
  let v81 : BitVec 1 := Scalar.xori v72 true_31
  let v82 : BitVec 32 := Scalar.extui v81
  let c0_i32_32 : BitVec 32 := 0#32
  let v83 : BitVec 1 := Scalar.cmpi .ne v82 c0_i32_32
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference13Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S1x128, .f32⟩
  | .hbm, ⟨87, _⟩ => ⟨S2048x2048, .bf16⟩
  | .hbm, ⟨88, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_cst_8 : Ref sig .tc := ⟨.hbm, 38, rfl⟩
abbrev main_cst_9 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_cst_16 : Ref sig .tc := ⟨.hbm, 75, rfl⟩
abbrev main_v53 : Ref sig .tc := ⟨.hbm, 76, rfl⟩
abbrev main_v54 : Ref sig .tc := ⟨.hbm, 77, rfl⟩
abbrev main_cst_17 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== Kernel14.lean ====
abbrev S1x2048x768 : Shape := ⟨3, ![1, 2048, 768]⟩
abbrev S4x2048x768 : Shape := ⟨3, ![4, 2048, 768]⟩
abbrev S8x2048x768 : Shape := ⟨3, ![8, 2048, 768]⟩
abbrev S1x256x768 : Shape := ⟨3, ![1, 256, 768]⟩
abbrev S4x256x768 : Shape := ⟨3, ![4, 256, 768]⟩
abbrev S256x768 : Shape := ⟨2, ![256, 768]⟩

abbrev nBuf : Space → Nat
  | .hbm => 10
  | .vmem => 20
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S4x2048x768, .bf16⟩
  | .hbm, ⟨4, _⟩ => ⟨S8x2048x768, .bf16⟩
  | .hbm, ⟨5, _⟩ => ⟨S4x2048x768, .bf16⟩
  | .hbm, ⟨6, _⟩ => ⟨S1x2048x768, .f32⟩
  | .hbm, ⟨7, _⟩ => ⟨S1x2048x768, .f32⟩
  | .hbm, ⟨8, _⟩ => ⟨S1x2048x768, .f32⟩
  | .hbm, ⟨9, _⟩ => ⟨S1x2048x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S4x256x768, .bf16⟩
  | .local _ .vmem, ⟨7, _⟩ => ⟨S4x256x768, .bf16⟩
  | .local _ .vmem, ⟨8, _⟩ => ⟨S1x256x768, .bf16⟩
  | .local _ .vmem, ⟨9, _⟩ => ⟨S1x256x768, .bf16⟩
  | .local _ .vmem, ⟨10, _⟩ => ⟨S1x256x768, .bf16⟩
  | .local _ .vmem, ⟨11, _⟩ => ⟨S1x256x768, .bf16⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .vmem, ⟨18, _⟩ => ⟨S1x256x768, .f32⟩
  | .local _ .vmem, ⟨19, _⟩ => ⟨S1x256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference14Ideal.lean ====
abbrev S1x2048x768 : Shape := ⟨3, ![1, 2048, 768]⟩
abbrev S4x2048x768 : Shape := ⟨3, ![4, 2048, 768]⟩
abbrev S8x2048x768 : Shape := ⟨3, ![8, 2048, 768]⟩
abbrev S2048x768 : Shape := ⟨2, ![2048, 768]⟩
abbrev S3x2048x768 : Shape := ⟨3, ![3, 2048, 768]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S4x2048x768, .bf16⟩
  | .hbm, ⟨4, _⟩ => ⟨S8x2048x768, .bf16⟩
  | .hbm, ⟨5, _⟩ => ⟨S4x2048x768, .bf16⟩
  | .hbm, ⟨6, _⟩ => ⟨S1x2048x768, .bf16⟩
  | .hbm, ⟨7, _⟩ => ⟨S2048x768, .bf16⟩
  | .hbm, ⟨8, _⟩ => ⟨S2048x768, .f32⟩
  | .hbm, ⟨9, _⟩ => ⟨S1x2048x768, .bf16⟩
  | .hbm, ⟨10, _⟩ => ⟨S2048x768, .bf16⟩
  | .hbm, ⟨11, _⟩ => ⟨S2048x768, .f32⟩
  | .hbm, ⟨12, _⟩ => ⟨S2048x768, .f32⟩
  | .hbm, ⟨13, _⟩ => ⟨S3x2048x768, .bf16⟩
  | .hbm, ⟨14, _⟩ => ⟨S3x2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S1x2048x768, .f32⟩
  | .hbm, ⟨19, _⟩ => ⟨S_, .f32⟩
  | .hbm, ⟨20, _⟩ => ⟨S1x2048x768, .f32⟩
  | .hbm, ⟨21, _⟩ => ⟨S1x2048x768, .f32⟩
  | .hbm, ⟨22, _⟩ => ⟨S_, .f32⟩
  | .hbm, ⟨23, _⟩ => ⟨S1x2048x768, .f32⟩
  | .hbm, ⟨24, _⟩ => ⟨S1x2048x768, .f32⟩
  | .hbm, ⟨25, _⟩ => ⟨S1x2048x768, .f32⟩
  | .hbm, ⟨26, _⟩ => ⟨S_, .f32⟩
  | .hbm, ⟨27, _⟩ => ⟨S1x2048x768, .f32⟩
  | .hbm, ⟨28, _⟩ => ⟨S1x2048x768, .f32⟩
  | .hbm, ⟨29, _⟩ => ⟨S1x2048x768, .f32⟩
  | .hbm, ⟨30, _⟩ => ⟨S_, .f32⟩
  | .hbm, ⟨31, _⟩ => ⟨S1x2048x768, .f32⟩
  | .hbm, ⟨32, _⟩ => ⟨S1x2048x768, .f32⟩
  | .hbm, ⟨33, _⟩ => ⟨S1x2048x768, .f32⟩
  | .hbm, ⟨34, _⟩ => ⟨S_, .f32⟩
  | .hbm, ⟨35, _⟩ => ⟨S1x2048x768, .f32⟩
  | .hbm, ⟨36, _⟩ => ⟨S1x2048x768, .f32⟩
  | .hbm, ⟨37, _⟩ => ⟨S_, .f32⟩
  | .hbm, ⟨38, _⟩ => ⟨S1x2048x768, .f32⟩
  | .hbm, ⟨39, _⟩ => ⟨S1x2048x768, .f32⟩
  | .hbm, ⟨40, _⟩ => ⟨S1x2048x768, .f32⟩
  | .hbm, ⟨41, _⟩ => ⟨S_, .f32⟩
  | .hbm, ⟨42, _⟩ => ⟨S1x2048x768, .f32⟩
  | .hbm, ⟨43, _⟩ => ⟨S1x2048x768, .f32⟩
  | .hbm, ⟨44, _⟩ => ⟨S1x2048x768, .f32⟩
  | .hbm, ⟨45, _⟩ => ⟨S_, .f32⟩
  | .hbm, ⟨46, _⟩ => ⟨S1x2048x768, .f32⟩
  | .hbm, ⟨47, _⟩ => ⟨S1x2048x768, .f32⟩
  | .hbm, ⟨48, _⟩ => ⟨S1x2048x768, .f32⟩
  | .hbm, ⟨49, _⟩ => ⟨S_, .f32⟩
  | .hbm, ⟨50, _⟩ => ⟨S1x2048x768, .f32⟩
  | .hbm, ⟨51, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Kernel15.lean ====
abbrev S1x256x2048 : Shape := ⟨3, ![1, 256, 2048]⟩
abbrev S4x256x2048 : Shape := ⟨3, ![4, 256, 2048]⟩
abbrev S8x256x2048 : Shape := ⟨3, ![8, 256, 2048]⟩
abbrev S256x2048 : Shape := ⟨2, ![256, 2048]⟩

abbrev nBuf : Space → Nat
  | .hbm => 10
  | .vmem => 10
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S4x256x2048, .bf16⟩
  | .hbm, ⟨4, _⟩ => ⟨S8x256x2048, .bf16⟩
  | .hbm, ⟨5, _⟩ => ⟨S4x256x2048, .bf16⟩
  | .hbm, ⟨6, _⟩ => ⟨S1x256x2048, .f32⟩
  | .hbm, ⟨7, _⟩ => ⟨S1x256x2048, .f32⟩
  | .hbm, ⟨8, _⟩ => ⟨S1x256x2048, .f32⟩
  | .hbm, ⟨9, _⟩ => ⟨S1x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S4x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference15Ideal.lean ====
abbrev S1x256x2048 : Shape := ⟨3, ![1, 256, 2048]⟩
abbrev S4x256x2048 : Shape := ⟨3, ![4, 256, 2048]⟩
abbrev S8x256x2048 : Shape := ⟨3, ![8, 256, 2048]⟩
abbrev S256x2048 : Shape := ⟨2, ![256, 2048]⟩
abbrev S3x256x2048 : Shape := ⟨3, ![3, 256, 2048]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S4x256x2048, .bf16⟩
  | .hbm, ⟨4, _⟩ => ⟨S8x256x2048, .bf16⟩
  | .hbm, ⟨5, _⟩ => ⟨S4x256x2048, .bf16⟩
  | .hbm, ⟨6, _⟩ => ⟨S1x256x2048, .bf16⟩
  | .hbm, ⟨7, _⟩ => ⟨S256x2048, .bf16⟩
  | .hbm, ⟨8, _⟩ => ⟨S256x2048, .f32⟩
  | .hbm, ⟨9, _⟩ => ⟨S1x256x2048, .bf16⟩
  | .hbm, ⟨10, _⟩ => ⟨S256x2048, .bf16⟩
  | .hbm, ⟨11, _⟩ => ⟨S256x2048, .f32⟩
  | .hbm, ⟨12, _⟩ => ⟨S256x2048, .f32⟩
  | .hbm, ⟨13, _⟩ => ⟨S3x256x2048, .bf16⟩
  | .hbm, ⟨14, _⟩ => ⟨S3x256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S1x256x2048, .f32⟩
  | .hbm, ⟨19, _⟩ => ⟨S_, .f32⟩
  | .hbm, ⟨20, _⟩ => ⟨S1x256x2048, .f32⟩
  | .hbm, ⟨21, _⟩ => ⟨S1x256x2048, .f32⟩
  | .hbm, ⟨22, _⟩ => ⟨S_, .f32⟩
  | .hbm, ⟨23, _⟩ => ⟨S1x256x2048, .f32⟩
  | .hbm, ⟨24, _⟩ => ⟨S1x256x2048, .f32⟩
  | .hbm, ⟨25, _⟩ => ⟨S1x256x2048, .f32⟩
  | .hbm, ⟨26, _⟩ => ⟨S_, .f32⟩
  | .hbm, ⟨27, _⟩ => ⟨S1x256x2048, .f32⟩
  | .hbm, ⟨28, _⟩ => ⟨S1x256x2048, .f32⟩
  | .hbm, ⟨29, _⟩ => ⟨S1x256x2048, .f32⟩
  | .hbm, ⟨30, _⟩ => ⟨S_, .f32⟩
  | .hbm, ⟨31, _⟩ => ⟨S1x256x2048, .f32⟩
  | .hbm, ⟨32, _⟩ => ⟨S1x256x2048, .f32⟩
  | .hbm, ⟨33, _⟩ => ⟨S1x256x2048, .f32⟩
  | .hbm, ⟨34, _⟩ => ⟨S_, .f32⟩
  | .hbm, ⟨35, _⟩ => ⟨S1x256x2048, .f32⟩
  | .hbm, ⟨36, _⟩ => ⟨S1x256x2048, .f32⟩
  | .hbm, ⟨37, _⟩ => ⟨S_, .f32⟩
  | .hbm, ⟨38, _⟩ => ⟨S1x256x2048, .f32⟩
  | .hbm, ⟨39, _⟩ => ⟨S1x256x2048, .f32⟩
  | .hbm, ⟨40, _⟩ => ⟨S1x256x2048, .f32⟩
  | .hbm, ⟨41, _⟩ => ⟨S_, .f32⟩
  | .hbm, ⟨42, _⟩ => ⟨S1x256x2048, .f32⟩
  | .hbm, ⟨43, _⟩ => ⟨S1x256x2048, .f32⟩
  | .hbm, ⟨44, _⟩ => ⟨S1x256x2048, .f32⟩
  | .hbm, ⟨45, _⟩ => ⟨S_, .f32⟩
  | .hbm, ⟨46, _⟩ => ⟨S1x256x2048, .f32⟩
  | .hbm, ⟨47, _⟩ => ⟨S1x256x2048, .f32⟩
  | .hbm, ⟨48, _⟩ => ⟨S1x256x2048, .f32⟩
  | .hbm, ⟨49, _⟩ => ⟨S_, .f32⟩
  | .hbm, ⟨50, _⟩ => ⟨S1x256x2048, .f32⟩
  | .hbm, ⟨51, _⟩ => ⟨S1x256x2048, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Kernel16.lean ====
abbrev S898x1x2048 : Shape := ⟨3, ![898, 1, 2048]⟩
abbrev S4x898x2048 : Shape := ⟨3, ![4, 898, 2048]⟩
abbrev S8x898x2048 : Shape := ⟨3, ![8, 898, 2048]⟩
abbrev S898x1x256 : Shape := ⟨3, ![898, 1, 256]⟩
abbrev S4x898x256 : Shape := ⟨3, ![4, 898, 256]⟩
abbrev S1x898x256 : Shape := ⟨3, ![1, 898, 256]⟩
abbrev S898x256 : Shape := ⟨2, ![898, 256]⟩

abbrev nBuf : Space → Nat
  | .hbm => 10
  | .vmem => 20
  | .smem => 0
  | _ => 0

abbrev bufTy : (tb : Table) → Fin (tcTables nBuf tb) → BufTy
  | .hbm, ⟨0, _⟩ => ⟨S898x1x2048, .f32⟩
  | .hbm, ⟨1, _⟩ => ⟨S898x1x2048, .f32⟩
  | .hbm, ⟨2, _⟩ => ⟨S898x1x2048, .f32⟩
  | .hbm, ⟨3, _⟩ => ⟨S4x898x2048, .bf16⟩
  | .hbm, ⟨4, _⟩ => ⟨S8x898x2048, .bf16⟩
  | .hbm, ⟨5, _⟩ => ⟨S4x898x2048, .bf16⟩
  | .hbm, ⟨6, _⟩ => ⟨S898x1x2048, .f32⟩
  | .hbm, ⟨7, _⟩ => ⟨S898x1x2048, .f32⟩
  | .hbm, ⟨8, _⟩ => ⟨S898x1x2048, .f32⟩
  | .hbm, ⟨9, _⟩ => ⟨S898x1x2048, .f32⟩
  | .local _ .vmem, ⟨0, _⟩ => ⟨S898x1x256, .f32⟩
  | .local _ .vmem, ⟨1, _⟩ => ⟨S898x1x256, .f32⟩
  | .local _ .vmem, ⟨2, _⟩ => ⟨S898x1x256, .f32⟩
  | .local _ .vmem, ⟨3, _⟩ => ⟨S898x1x256, .f32⟩
  | .local _ .vmem, ⟨4, _⟩ => ⟨S898x1x256, .f32⟩
  | .local _ .vmem, ⟨5, _⟩ => ⟨S898x1x256, .f32⟩
  | .local _ .vmem, ⟨6, _⟩ => ⟨S4x898x256, .bf16⟩
  | .local _ .vmem, ⟨7, _⟩ => ⟨S4x898x256, .bf16⟩
  | .local _ .vmem, ⟨8, _⟩ => ⟨S1x898x256, .bf16⟩
  | .local _ .vmem, ⟨9, _⟩ => ⟨S1x898x256, .bf16⟩
  | .local _ .vmem, ⟨10, _⟩ => ⟨S1x898x256, .bf16⟩
  | .local _ .vmem, ⟨11, _⟩ => ⟨S1x898x256, .bf16⟩
  | .local _ .vmem, ⟨12, _⟩ => ⟨S898x1x256, .f32⟩
  | .local _ .vmem, ⟨13, _⟩ => ⟨S898x1x256, .f32⟩
  | .local _ .vmem, ⟨14, _⟩ => ⟨S898x1x256, .f32⟩
  | .local _ .vmem, ⟨15, _⟩ => ⟨S898x1x256, .f32⟩
  | .local _ .vmem, ⟨16, _⟩ => ⟨S898x1x256, .f32⟩
  | .local _ .vmem, ⟨17, _⟩ => ⟨S898x1x256, .f32⟩
  | .local _ .vmem, ⟨18, _⟩ => ⟨S898x1x256, .f32⟩
  | .local _ .vmem, ⟨19, _⟩ => ⟨S898x1x256, .f32⟩
  | _, _ => ⟨S898x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S898x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S898x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S898x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x898x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x898x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x898x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S898x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S898x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S898x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S898x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference16Ideal.lean ====
abbrev S898x1x2048 : Shape := ⟨3, ![898, 1, 2048]⟩
abbrev S4x898x2048 : Shape := ⟨3, ![4, 898, 2048]⟩
abbrev S8x898x2048 : Shape := ⟨3, ![8, 898, 2048]⟩
abbrev S1x898x2048 : Shape := ⟨3, ![1, 898, 2048]⟩
abbrev S898x2048 : Shape := ⟨2, ![898, 2048]⟩
abbrev S3x898x2048 : Shape := ⟨3, ![3, 898, 2048]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S898x1x2048, .f32⟩
  | .hbm, ⟨1, _⟩ => ⟨S898x1x2048, .f32⟩
  | .hbm, ⟨2, _⟩ => ⟨S898x1x2048, .f32⟩
  | .hbm, ⟨3, _⟩ => ⟨S4x898x2048, .bf16⟩
  | .hbm, ⟨4, _⟩ => ⟨S8x898x2048, .bf16⟩
  | .hbm, ⟨5, _⟩ => ⟨S4x898x2048, .bf16⟩
  | .hbm, ⟨6, _⟩ => ⟨S1x898x2048, .bf16⟩
  | .hbm, ⟨7, _⟩ => ⟨S898x2048, .bf16⟩
  | .hbm, ⟨8, _⟩ => ⟨S898x2048, .f32⟩
  | .hbm, ⟨9, _⟩ => ⟨S1x898x2048, .bf16⟩
  | .hbm, ⟨10, _⟩ => ⟨S898x2048, .bf16⟩
  | .hbm, ⟨11, _⟩ => ⟨S898x2048, .f32⟩
  | .hbm, ⟨12, _⟩ => ⟨S898x2048, .f32⟩
  | .hbm, ⟨13, _⟩ => ⟨S3x898x2048, .bf16⟩
  | .hbm, ⟨14, _⟩ => ⟨S3x898x2048, .f32⟩
  | .hbm, ⟨15, _⟩ => ⟨S_, .f32⟩
  | .hbm, ⟨16, _⟩ => ⟨S898x2048, .f32⟩
  | .hbm, ⟨17, _⟩ => ⟨S898x2048, .f32⟩
  | .hbm, ⟨18, _⟩ => ⟨S898x1x2048, .f32⟩
  | .hbm, ⟨19, _⟩ => ⟨S_, .f32⟩
  | .hbm, ⟨20, _⟩ => ⟨S898x1x2048, .f32⟩
  | .hbm, ⟨21, _⟩ => ⟨S898x1x2048, .f32⟩
  | .hbm, ⟨22, _⟩ => ⟨S_, .f32⟩
  | .hbm, ⟨23, _⟩ => ⟨S898x1x2048, .f32⟩
  | .hbm, ⟨24, _⟩ => ⟨S898x1x2048, .f32⟩
  | .hbm, ⟨25, _⟩ => ⟨S898x1x2048, .f32⟩
  | .hbm, ⟨26, _⟩ => ⟨S_, .f32⟩
  | .hbm, ⟨27, _⟩ => ⟨S898x1x2048, .f32⟩
  | .hbm, ⟨28, _⟩ => ⟨S898x1x2048, .f32⟩
  | .hbm, ⟨29, _⟩ => ⟨S898x1x2048, .f32⟩
  | .hbm, ⟨30, _⟩ => ⟨S_, .f32⟩
  | .hbm, ⟨31, _⟩ => ⟨S898x1x2048, .f32⟩
  | .hbm, ⟨32, _⟩ => ⟨S898x1x2048, .f32⟩
  | .hbm, ⟨33, _⟩ => ⟨S898x1x2048, .f32⟩
  | .hbm, ⟨34, _⟩ => ⟨S_, .f32⟩
  | .hbm, ⟨35, _⟩ => ⟨S898x1x2048, .f32⟩
  | .hbm, ⟨36, _⟩ => ⟨S898x1x2048, .f32⟩
  | .hbm, ⟨37, _⟩ => ⟨S_, .f32⟩
  | .hbm, ⟨38, _⟩ => ⟨S898x1x2048, .f32⟩
  | .hbm, ⟨39, _⟩ => ⟨S898x1x2048, .f32⟩
  | .hbm, ⟨40, _⟩ => ⟨S898x1x2048, .f32⟩
  | .hbm, ⟨41, _⟩ => ⟨S_, .f32⟩
  | .hbm, ⟨42, _⟩ => ⟨S898x1x2048, .f32⟩
  | .hbm, ⟨43, _⟩ => ⟨S898x1x2048, .f32⟩
  | .hbm, ⟨44, _⟩ => ⟨S898x1x2048, .f32⟩
  | .hbm, ⟨45, _⟩ => ⟨S_, .f32⟩
  | .hbm, ⟨46, _⟩ => ⟨S898x1x2048, .f32⟩
  | .hbm, ⟨47, _⟩ => ⟨S898x1x2048, .f32⟩
  | .hbm, ⟨48, _⟩ => ⟨S898x1x2048, .f32⟩
  | .hbm, ⟨49, _⟩ => ⟨S_, .f32⟩
  | .hbm, ⟨50, _⟩ => ⟨S898x1x2048, .f32⟩
  | .hbm, ⟨51, _⟩ => ⟨S898x1x2048, .f32⟩
  | _, _ => ⟨S898x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Kernel17.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v37 : BitVec 32 := Scalar.extui v33
  let c0_i32_16 : BitVec 32 := 0#32
  let v38 : BitVec 1 := Scalar.cmpi .ne v37 c0_i32_16
  v38

def k0_cond2 (i : grid0.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v39 : BitVec 1 := Scalar.xori v33 v_true
  let v40 : BitVec 32 := Scalar.extui v39
  let c0_i32_17 : BitVec 32 := 0#32
  let v41 : BitVec 1 := Scalar.cmpi .ne v40 c0_i32_17
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference17Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.GLA.Step.lean ====
/- One trip of the backward chunk loop, on plain vectors: what it computes from a chunk's rows of the inputs and from the
   carried gradient of the state, and what it leaves in each array it writes. -/
module

public import proofs.«01_k».proof.Proof.Gen.KernelIdeal.Skeleton
public import Idealize.ShloMosaic.Lib.VecWindow

@[expose] public section

noncomputable section

namespace Cert.KernelIdeal.GLA

open Idealize.ShloMosaic Idealize.SL.Sem Cert.KernelIdeal.Gen

variable {F : FTy → Type} [FloatOps F]

/-- The value `v30` of one chunk, from the chunk's own rows. -/
def b_v30 (g : Vec F S64x128 .f32) : FVec F S64x128 .f32 :=
  k1_pay10 g

/-- The value `v39` of one chunk, from the chunk's own rows. -/
def b_v39 (v2 : FVec F S128x256 .bf16) (v3 : Vec F S1x256 .f32) (g : Vec F S64x128 .f32) : FVec F S64x128 .f32 :=
  k1_pay11 v2 v3 g

/-- The value `v52` of one chunk, from the chunk's own rows. -/
def b_v52 (v2 : FVec F S128x256 .bf16) (v3 : Vec F S1x256 .f32) (g : Vec F S64x128 .f32) : FVec F S64x128 .f32 :=
  k1_pay13 v2 v3 (k1_pay3 (F := F)) g

/-- The value `v54` of one chunk, from the chunk's own rows. -/
def b_v54 (v2 : FVec F S128x256 .bf16) (v3 : Vec F S1x256 .f32) (g : Vec F S64x128 .f32) : FVec F S1x128 .f32 :=
  k1_pay14 v2 v3 g

/-- The value `v55` of one chunk, from the chunk's own rows. -/
def b_v55 (v2 : FVec F S128x256 .bf16) (v3 : Vec F S1x256 .f32) (g : Vec F S64x128 .f32) : FVec F S64x128 .f32 :=
  k1_pay15 v2 v3 (k1_pay3 (F := F)) g

/-- The value `v62` of one chunk, from the chunk's own rows. -/
def b_v62 (v2 : FVec F S128x256 .bf16) (v3 : Vec F S1x256 .f32) (g : Vec F S64x128 .f32) (q : Vec F S64x128 .f32) : FVec F S64x128 .f32 :=
  k1_pay16 v2 v3 (k1_pay3 (F := F)) g q

/-- The value `v66` of one chunk, from the chunk's own rows. -/
def b_v66 (v2 : FVec F S128x256 .bf16) (v3 : Vec F S1x256 .f32) (g : Vec F S64x128 .f32) (k : Vec F S64x128 .f32) : FVec F S64x128 .f32 :=
  k1_pay17 v2 v3 (k1_pay3 (F := F)) g k

/-- The value `v68` of one chunk, from the chunk's own rows. -/
def b_v68 (v2 : FVec F S128x256 .bf16) (v3 : Vec F S1x256 .f32) (g : Vec F S64x128 .f32) : FVec F S64x128 .f32 :=
  k1_pay18 v2 v3 (k1_pay3 (F := F)) g

/-- The value `v70` of one chunk, from the chunk's own rows. -/
def b_v70 (v2 : FVec F S128x256 .bf16) (v3 : Vec F S1x256 .f32) (g : Vec F S64x128 .f32) (k : Vec F S64x128 .f32) : FVec F S64x128 .f32 :=
  k1_pay19 k (b_v68 v2 v3 g)

/-- The value `v73` of one chunk, from the chunk's own rows. -/
def b_v73 (v : Vec F S64x256 .f32) : FVec F S64x256 .bf16 :=
  k1_pay20 v

/-- The value `v119` of one chunk, from the chunk's own rows. -/
def b_v119 (S : Vec F S1x1x128x256 .f32) : FVec F S128x256 .f32 :=
  k1_pay30 S

/-- The value `v124` of one chunk, from the chunk's own rows. -/
def b_v124 (T : Vec F S1x128x256 .f32) : FVec F S128x256 .f32 :=
  k1_pay32 T

/-- The value `v129` of one chunk, from the chunk's own rows. -/
def b_v129 (d : Vec F S64x256 .f32) : FVec F S64x256 .bf16 :=
  k1_pay34 d

/-- The value `v145` of one chunk, from the chunk's own rows. -/
def b_v145 (v : Vec F S64x256 .f32) (d : Vec F S64x256 .f32) : FVec F S64x64 .f32 :=
  k1_pay36 k1_pay2 (b_v73 v) d

/-- The value `v150` of one chunk, from the chunk's own rows. -/
def b_v150 (v2 : FVec F S128x256 .bf16) (v3 : Vec F S1x256 .f32) (g : Vec F S64x128 .f32) (q : Vec F S64x128 .f32) (k : Vec F S64x128 .f32) (d : Vec F S64x256 .f32) : FVec F S64x256 .f32 :=
  k1_pay38 k1_pay2 (b_v62 v2 v3 g q) (b_v66 v2 v3 g k) d

/-- The value `v161` of one chunk, from the chunk's own rows. -/
def b_v161 (v2 : FVec F S128x256 .bf16) (v3 : Vec F S1x256 .f32) (g : Vec F S64x128 .f32) (k : Vec F S64x128 .f32) (v : Vec F S64x256 .f32) (d : Vec F S64x256 .f32) : FVec F S64x128 .f32 :=
  k1_pay42 (b_v66 v2 v3 g k) (b_v145 v d)

/-- The value `v166` of one chunk, from the chunk's own rows. -/
def b_v166 (d : Vec F S64x256 .f32) (S : Vec F S1x1x128x256 .f32) : FVec F S64x128 .f32 :=
  k1_pay44 (b_v119 S) (b_v129 d)

/-- The value `v171` of one chunk, from the chunk's own rows. -/
def b_v171 (v2 : FVec F S128x256 .bf16) (v3 : Vec F S1x256 .f32) (g : Vec F S64x128 .f32) (q : Vec F S64x128 .f32) (v : Vec F S64x256 .f32) (d : Vec F S64x256 .f32) : FVec F S64x128 .f32 :=
  k1_pay46 (b_v62 v2 v3 g q) (b_v145 v d)

/-- The value `v176` of one chunk, from the chunk's own rows. -/
def b_v176 (v : Vec F S64x256 .f32) (T : Vec F S1x128x256 .f32) : FVec F S64x128 .f32 :=
  k1_pay48 (b_v73 v) (b_v124 T)

/-- The value `v180` of one chunk, from the chunk's own rows. -/
def b_v180 (v2 : FVec F S128x256 .bf16) (v3 : Vec F S1x256 .f32) (g : Vec F S64x128 .f32) (q : Vec F S64x128 .f32) (d : Vec F S64x256 .f32) : FVec F S128x256 .f32 :=
  k1_pay50 (b_v62 v2 v3 g q) (b_v129 d)

/-- The value `v184` of one chunk, from the chunk's own rows. -/
def b_v184 (S : Vec F S1x1x128x256 .f32) (T : Vec F S1x128x256 .f32) : FVec F S8x128 .f32 :=
  k1_pay52 (k1_pay6 (F := F)) (b_v119 S) (b_v124 T)

/-- The value `v194` of one chunk, from the chunk's own rows. -/
def b_v194 (v2 : FVec F S128x256 .bf16) (v3 : Vec F S1x256 .f32) (g : Vec F S64x128 .f32) : FVec F S128x128 .f32 :=
  k1_pay55 (b_v54 v2 v3 g)

/-- The value `dv0` of one chunk, from the chunk's own rows. -/
def b_dv0 (v2 : FVec F S128x256 .bf16) (v3 : Vec F S1x256 .f32) (g : Vec F S64x128 .f32) (q : Vec F S64x128 .f32) (k : Vec F S64x128 .f32) (d : Vec F S64x256 .f32) (T : Vec F S1x128x256 .f32) : FVec F S64x256 .bf16 :=
  k1_pay54 (b_v70 v2 v3 g k) (b_v124 T) (b_v150 v2 v3 g q k d)

/-- The value `dS0` of one chunk, from the chunk's own rows. -/
def b_dS0 (v2 : FVec F S128x256 .bf16) (v3 : Vec F S1x256 .f32) (g : Vec F S64x128 .f32) (q : Vec F S64x128 .f32) (d : Vec F S64x256 .f32) (T : Vec F S1x128x256 .f32) : FVec F S1x128x256 .f32 :=
  k1_pay56 (b_v124 T) (b_v180 v2 v3 g q d) (b_v194 v2 v3 g)

/-- The value `dq0` of one chunk, from the chunk's own rows. -/
def b_dq0 (v2 : FVec F S128x256 .bf16) (v3 : Vec F S1x256 .f32) (g : Vec F S64x128 .f32) (k : Vec F S64x128 .f32) (v : Vec F S64x256 .f32) (d : Vec F S64x256 .f32) (S : Vec F S1x1x128x256 .f32) : FVec F S64x128 .bf16 :=
  k1_pay58 (b_v55 v2 v3 g) (b_v161 v2 v3 g k v d) (b_v166 d S)

/-- The value `dk0` of one chunk, from the chunk's own rows. -/
def b_dk0 (v2 : FVec F S128x256 .bf16) (v3 : Vec F S1x256 .f32) (g : Vec F S64x128 .f32) (q : Vec F S64x128 .f32) (v : Vec F S64x256 .f32) (d : Vec F S64x256 .f32) (T : Vec F S1x128x256 .f32) : FVec F S64x128 .bf16 :=
  k1_pay59 (b_v52 v2 v3 g) (b_v54 v2 v3 g) (b_v171 v2 v3 g q v d) (b_v176 v T)

/-- The value `v238` of one chunk, from the chunk's own rows. -/
def b_v238 (v2 : FVec F S128x256 .bf16) (v3 : Vec F S1x256 .f32) (g : Vec F S64x128 .f32) (q : Vec F S64x128 .f32) (k : Vec F S64x128 .f32) (v : Vec F S64x256 .f32) (d : Vec F S64x256 .f32) (S : Vec F S1x1x128x256 .f32) (T : Vec F S1x128x256 .f32) : FVec F S64x128 .f32 :=
  k1_pay60 k1_pay5 (b_v54 v2 v3 g) (b_v62 v2 v3 g q) (b_v66 v2 v3 g k) (b_v70 v2 v3 g k) (b_v161 v2 v3 g k v d) (b_v166 d S) (b_v171 v2 v3 g q v d) (b_v176 v T) (b_v184 S T)

/-- The value `v304` of one chunk, from the chunk's own rows. -/
def b_v304 (v2 : FVec F S128x256 .bf16) (v3 : Vec F S1x256 .f32) (g : Vec F S64x128 .f32) (q : Vec F S64x128 .f32) (k : Vec F S64x128 .f32) (v : Vec F S64x256 .f32) (d : Vec F S64x256 .f32) (S : Vec F S1x1x128x256 .f32) (T : Vec F S1x128x256 .f32) : FVec F S64x128 .f32 :=
  k1_pay69 (k1_pay4 (F := F)) (b_v39 v2 v3 g) (b_v238 v2 v3 g q k v d S T)

/-- The value `v319` of one chunk, from the chunk's own rows. -/
def b_v319 (v2 : FVec F S128x256 .bf16) (v3 : Vec F S1x256 .f32) (g : Vec F S64x128 .f32) (q : Vec F S64x128 .f32) (k : Vec F S64x128 .f32) (v : Vec F S64x256 .f32) (d : Vec F S64x256 .f32) (S : Vec F S1x1x128x256 .f32) (T : Vec F S1x128x256 .f32) : FVec F S64x128 .f32 :=
  k1_pay71 v2 (k1_pay4 (F := F)) (b_v39 v2 v3 g) (b_v238 v2 v3 g q k v d S T)

/-- The value `dglr0` of one chunk, from the chunk's own rows. -/
def b_dglr0 (v2 : FVec F S128x256 .bf16) (v3 : Vec F S1x256 .f32) (g : Vec F S64x128 .f32) (q : Vec F S64x128 .f32) (k : Vec F S64x128 .f32) (v : Vec F S64x256 .f32) (d : Vec F S64x256 .f32) (S : Vec F S1x1x128x256 .f32) (T : Vec F S1x128x256 .f32) : FVec F S1x64x128 .f32 :=
  k1_pay75 (b_v319 v2 v3 g q k v d S T)

/-- The value `v325` of one chunk, from the chunk's own rows. -/
def b_v325 (v2 : FVec F S128x256 .bf16) (v3 : Vec F S1x256 .f32) (g : Vec F S64x128 .f32) (q : Vec F S64x128 .f32) (k : Vec F S64x128 .f32) (v : Vec F S64x256 .f32) (d : Vec F S64x256 .f32) (S : Vec F S1x1x128x256 .f32) (T : Vec F S1x128x256 .f32) : FVec F S128x128 .f32 :=
  k1_pay73 (k1_pay4 (F := F)) (b_v30 g) (b_v39 v2 v3 g) (b_v238 v2 v3 g q k v d S T)

/-- The value `v82` of one chunk, from the chunk's own rows. -/
def b_v82 (v2 : FVec F S128x256 .bf16) (v3 : Vec F S1x256 .f32) (g : Vec F S64x128 .f32) : FVec F S64x128 .f32 :=
  k1_pay21 v2 v3 g

/-- The value `v95` of one chunk, from the chunk's own rows. -/
def b_v95 (v2 : FVec F S128x256 .bf16) (v3 : Vec F S1x256 .f32) (g : Vec F S64x128 .f32) : FVec F S64x128 .f32 :=
  k1_pay23 v2 v3 (k1_pay3 (F := F)) g

/-- The value `v97` of one chunk, from the chunk's own rows. -/
def b_v97 (v2 : FVec F S128x256 .bf16) (v3 : Vec F S1x256 .f32) (g : Vec F S64x128 .f32) : FVec F S1x128 .f32 :=
  k1_pay24 v2 v3 g

/-- The value `v98` of one chunk, from the chunk's own rows. -/
def b_v98 (v2 : FVec F S128x256 .bf16) (v3 : Vec F S1x256 .f32) (g : Vec F S64x128 .f32) : FVec F S64x128 .f32 :=
  k1_pay25 v2 v3 (k1_pay3 (F := F)) g

/-- The value `v105` of one chunk, from the chunk's own rows. -/
def b_v105 (v2 : FVec F S128x256 .bf16) (v3 : Vec F S1x256 .f32) (g : Vec F S64x128 .f32) (q : Vec F S64x128 .f32) : FVec F S64x128 .f32 :=
  k1_pay26 v2 v3 (k1_pay3 (F := F)) g q

/-- The value `v109` of one chunk, from the chunk's own rows. -/
def b_v109 (v2 : FVec F S128x256 .bf16) (v3 : Vec F S1x256 .f32) (g : Vec F S64x128 .f32) (k : Vec F S64x128 .f32) : FVec F S64x128 .f32 :=
  k1_pay27 v2 v3 (k1_pay3 (F := F)) g k

/-- The value `v113` of one chunk, from the chunk's own rows. -/
def b_v113 (v2 : FVec F S128x256 .bf16) (v3 : Vec F S1x256 .f32) (g : Vec F S64x128 .f32) (k : Vec F S64x128 .f32) : FVec F S64x128 .f32 :=
  k1_pay28 v2 v3 (k1_pay3 (F := F)) g k

/-- The value `v116` of one chunk, from the chunk's own rows. -/
def b_v116 (v : Vec F S64x256 .f32) : FVec F S64x256 .bf16 :=
  k1_pay29 v

/-- The value `v122` of one chunk, from the chunk's own rows. -/
def b_v122 (S : Vec F S1x1x128x256 .f32) : FVec F S128x256 .f32 :=
  k1_pay31 S

/-- The value `v126` of one chunk, from the chunk's own rows. -/
def b_v126 (T : Vec F S1x128x256 .f32) : FVec F S128x256 .f32 :=
  k1_pay33 T

/-- The value `v132` of one chunk, from the chunk's own rows. -/
def b_v132 (d : Vec F S64x256 .f32) : FVec F S64x256 .bf16 :=
  k1_pay35 d

/-- The value `v148` of one chunk, from the chunk's own rows. -/
def b_v148 (v : Vec F S64x256 .f32) (d : Vec F S64x256 .f32) : FVec F S64x64 .f32 :=
  k1_pay37 k1_pay2 v d

/-- The value `v151` of one chunk, from the chunk's own rows. -/
def b_v151 (v2 : FVec F S128x256 .bf16) (v3 : Vec F S1x256 .f32) (g : Vec F S64x128 .f32) (q : Vec F S64x128 .f32) (k : Vec F S64x128 .f32) : FVec F S64x64 .bf16 :=
  k1_pay39 k1_pay2 (b_v105 v2 v3 g q) (b_v109 v2 v3 g k)

/-- The value `v152` of one chunk, from the chunk's own rows. -/
def b_v152 (v2 : FVec F S128x256 .bf16) (v3 : Vec F S1x256 .f32) (g : Vec F S64x128 .f32) (q : Vec F S64x128 .f32) (k : Vec F S64x128 .f32) (d : Vec F S64x256 .f32) : FVec F S64x256 .f32 :=
  k1_pay40 (b_v132 d) (b_v151 v2 v3 g q k)

/-- The value `v158` of one chunk, from the chunk's own rows. -/
def b_v158 (v2 : FVec F S128x256 .bf16) (v3 : Vec F S1x256 .f32) (g : Vec F S64x128 .f32) (k : Vec F S64x128 .f32) (T : Vec F S1x128x256 .f32) : FVec F S64x256 .f32 :=
  k1_pay41 (b_v113 v2 v3 g k) (b_v126 T)

/-- The value `v164` of one chunk, from the chunk's own rows. -/
def b_v164 (v2 : FVec F S128x256 .bf16) (v3 : Vec F S1x256 .f32) (g : Vec F S64x128 .f32) (k : Vec F S64x128 .f32) (v : Vec F S64x256 .f32) (d : Vec F S64x256 .f32) : FVec F S64x128 .f32 :=
  k1_pay43 (b_v109 v2 v3 g k) (b_v148 v d)

/-- The value `v168` of one chunk, from the chunk's own rows. -/
def b_v168 (d : Vec F S64x256 .f32) (S : Vec F S1x1x128x256 .f32) : FVec F S64x128 .f32 :=
  k1_pay45 (b_v122 S) (b_v132 d)

/-- The value `v174` of one chunk, from the chunk's own rows. -/
def b_v174 (v2 : FVec F S128x256 .bf16) (v3 : Vec F S1x256 .f32) (g : Vec F S64x128 .f32) (q : Vec F S64x128 .f32) (v : Vec F S64x256 .f32) (d : Vec F S64x256 .f32) : FVec F S64x128 .f32 :=
  k1_pay47 (b_v105 v2 v3 g q) (b_v148 v d)

/-- The value `v178` of one chunk, from the chunk's own rows. -/
def b_v178 (v : Vec F S64x256 .f32) (T : Vec F S1x128x256 .f32) : FVec F S64x128 .f32 :=
  k1_pay49 (b_v116 v) (b_v126 T)

/-- The value `v182` of one chunk, from the chunk's own rows. -/
def b_v182 (v2 : FVec F S128x256 .bf16) (v3 : Vec F S1x256 .f32) (g : Vec F S64x128 .f32) (q : Vec F S64x128 .f32) (d : Vec F S64x256 .f32) : FVec F S128x256 .f32 :=
  k1_pay51 (b_v105 v2 v3 g q) (b_v132 d)

/-- The value `v186` of one chunk, from the chunk's own rows. -/
def b_v186 (S : Vec F S1x1x128x256 .f32) (T : Vec F S1x128x256 .f32) : FVec F S8x128 .f32 :=
  k1_pay53 (k1_pay6 (F := F)) (b_v122 S) (b_v126 T)

/-- The value `dv1` of one chunk, from the chunk's own rows. -/
def b_dv1 (v2 : FVec F S128x256 .bf16) (v3 : Vec F S1x256 .f32) (g : Vec F S64x128 .f32) (q : Vec F S64x128 .f32) (k : Vec F S64x128 .f32) (d : Vec F S64x256 .f32) (T : Vec F S1x128x256 .f32) : FVec F S64x256 .bf16 :=
  k1_pay61 (b_v152 v2 v3 g q k d) (b_v158 v2 v3 g k T)

/-- The value `dS1` of one chunk, from the chunk's own rows. -/
def b_dS1 (v2 : FVec F S128x256 .bf16) (v3 : Vec F S1x256 .f32) (g : Vec F S64x128 .f32) (q : Vec F S64x128 .f32) (d : Vec F S64x256 .f32) (T : Vec F S1x128x256 .f32) : FVec F S1x128x256 .f32 :=
  k1_pay62 (b_v97 v2 v3 g) (b_v126 T) (b_v182 v2 v3 g q d)

/-- The value `dq1` of one chunk, from the chunk's own rows. -/
def b_dq1 (v2 : FVec F S128x256 .bf16) (v3 : Vec F S1x256 .f32) (g : Vec F S64x128 .f32) (k : Vec F S64x128 .f32) (v : Vec F S64x256 .f32) (d : Vec F S64x256 .f32) (S : Vec F S1x1x128x256 .f32) : FVec F S64x128 .bf16 :=
  k1_pay64 (b_v98 v2 v3 g) (b_v164 v2 v3 g k v d) (b_v168 d S)

/-- The value `dk1` of one chunk, from the chunk's own rows. -/
def b_dk1 (v2 : FVec F S128x256 .bf16) (v3 : Vec F S1x256 .f32) (g : Vec F S64x128 .f32) (q : Vec F S64x128 .f32) (v : Vec F S64x256 .f32) (d : Vec F S64x256 .f32) (T : Vec F S1x128x256 .f32) : FVec F S64x128 .bf16 :=
  k1_pay65 (b_v95 v2 v3 g) (b_v97 v2 v3 g) (b_v174 v2 v3 g q v d) (b_v178 v T)

/-- The value `v281` of one chunk, from the chunk's own rows. -/
def b_v281 (v2 : FVec F S128x256 .bf16) (v3 : Vec F S1x256 .f32) (g : Vec F S64x128 .f32) (k : Vec F S64x128 .f32) (v : Vec F S64x256 .f32) (S : Vec F S1x1x128x256 .f32) (T : Vec F S1x128x256 .f32) : FVec F S1x128 .f32 :=
  k1_pay67 (b_v97 v2 v3 g) (b_v113 v2 v3 g k) (b_v178 v T) (b_v186 S T)

/-- The value `v285` of one chunk, from the chunk's own rows. -/
def b_v285 (v2 : FVec F S128x256 .bf16) (v3 : Vec F S1x256 .f32) (g : Vec F S64x128 .f32) (q : Vec F S64x128 .f32) (k : Vec F S64x128 .f32) (v : Vec F S64x256 .f32) (d : Vec F S64x256 .f32) (S : Vec F S1x1x128x256 .f32) (T : Vec F S1x128x256 .f32) : FVec F S64x128 .f32 :=
  k1_pay68 (b_v105 v2 v3 g q) (b_v109 v2 v3 g k) (b_v113 v2 v3 g k) (b_v164 v2 v3 g k v d) (b_v168 d S) (b_v174 v2 v3 g q v d) (b_v178 v T)

/-- The value `v316` of one chunk, from the chunk's own rows. -/
def b_v316 (v2 : FVec F S128x256 .bf16) (v3 : Vec F S1x256 .f32) (g : Vec F S64x128 .f32) (q : Vec F S64x128 .f32) (k : Vec F S64x128 .f32) (v : Vec F S64x256 .f32) (d : Vec F S64x256 .f32) (S : Vec F S1x1x128x256 .f32) (T : Vec F S1x128x256 .f32) : FVec F S64x128 .f32 :=
  k1_pay70 (k1_pay4 (F := F)) k1_pay5 (b_v82 v2 v3 g) (b_v281 v2 v3 g k v S T) (b_v285 v2 v3 g q k v d S T)

/-- The value `v322` of one chunk, from the chunk's own rows. -/
def b_v322 (v2 : FVec F S128x256 .bf16) (v3 : Vec F S1x256 .f32) (g : Vec F S64x128 .f32) (q : Vec F S64x128 .f32) (k : Vec F S64x128 .f32) (v : Vec F S64x256 .f32) (d : Vec F S64x256 .f32) (S : Vec F S1x1x128x256 .f32) (T : Vec F S1x128x256 .f32) : FVec F S64x128 .f32 :=
  k1_pay72 v2 (k1_pay4 (F := F)) k1_pay5 (b_v82 v2 v3 g) (b_v281 v2 v3 g k v S T) (b_v285 v2 v3 g q k v d S T)

/-- The value `dglr1` of one chunk, from the chunk's own rows. -/
def b_dglr1 (v2 : FVec F S128x256 .bf16) (v3 : Vec F S1x256 .f32) (g : Vec F S64x128 .f32) (q : Vec F S64x128 .f32) (k : Vec F S64x128 .f32) (v : Vec F S64x256 .f32) (d : Vec F S64x256 .f32) (S : Vec F S1x1x128x256 .f32) (T : Vec F S1x128x256 .f32) : FVec F S1x64x128 .f32 :=
  k1_pay78 (b_v322 v2 v3 g q k v d S T)

/-- The value `v328` of one chunk, from the chunk's own rows. -/
def b_v328 (v2 : FVec F S128x256 .bf16) (v3 : Vec F S1x256 .f32) (g : Vec F S64x128 .f32) (q : Vec F S64x128 .f32) (k : Vec F S64x128 .f32) (v : Vec F S64x256 .f32) (d : Vec F S64x256 .f32) (S : Vec F S1x1x128x256 .f32) (T : Vec F S1x128x256 .f32) : FVec F S128x128 .f32 :=
  k1_pay74 (k1_pay4 (F := F)) k1_pay5 (b_v30 g) (b_v82 v2 v3 g) (b_v281 v2 v3 g k v S T) (b_v285 v2 v3 g q k v d S T)

/-- What one block of the backward call reads: the gate's weights and bias, the rows of queries, keys, values, gate inputs and
    output gradients, and the states that entered each chunk. -/
structure BIn (F : FTy → Type) [FloatOps F] where
  gu : Vec F S128x256 .f32
  q : Vec F S2048x256 .f32
  k : Vec F S2048x256 .f32
  v : Vec F S2048x512 .f32
  g : Vec F S2048x128 .f32
  d : Vec F S2048x512 .f32
  S : Vec F S2x32x128x256 .f32
  gb : Vec F S1x256 .f32

/-- What one block of the backward call writes. -/
structure BSt (F : FTy → Type) [FloatOps F] where
  dq : Vec F S2048x256 .bf16
  dk : Vec F S2048x256 .bf16
  dv : Vec F S2048x512 .bf16
  dg : Vec F S2x2048x128 .f32
  du : Vec F S128x256 .f32
  db : Vec F S1x256 .f32
  dS : Vec F S2x128x256 .f32

variable (I : BIn F) (k : Fin k1_t1_loop.trips) (s : Vec F S2x128x256 .f32)

/-- The chunk's window of `g`. -/
def wG : Vec F S64x128 .f32 := VecWindow.window I.g (k1_off1 k) S64x128.size (k1_off1_inb k)
/-- The chunk's window of `q`. -/
def wQ0 : Vec F S64x128 .f32 := VecWindow.window I.q (k1_off2 k) S64x128.size (k1_off2_inb k)
/-- The chunk's window of `q`. -/
def wQ1 : Vec F S64x128 .f32 := VecWindow.window I.q (k1_off4 k) S64x128.size (k1_off4_inb k)
/-- The chunk's window of `k`. -/
def wK0 : Vec F S64x128 .f32 := VecWindow.window I.k (k1_off2 k) S64x128.size (k1_off2_inb k)
/-- The chunk's window of `k`. -/
def wK1 : Vec F S64x128 .f32 := VecWindow.window I.k (k1_off4 k) S64x128.size (k1_off4_inb k)
/-- The chunk's window of `v`. -/
def wV0 : Vec F S64x256 .f32 := VecWindow.window I.v (k1_off3 k) S64x256.size (k1_off3_inb k)
/-- The chunk's window of `v`. -/
def wV1 : Vec F S64x256 .f32 := VecWindow.window I.v (k1_off5 k) S64x256.size (k1_off5_inb k)
/-- The chunk's window of `d`. -/
def wD0 : Vec F S64x256 .f32 := VecWindow.window I.d (k1_off3 k) S64x256.size (k1_off3_inb k)
/-- The chunk's window of `d`. -/
def wD1 : Vec F S64x256 .f32 := VecWindow.window I.d (k1_off5 k) S64x256.size (k1_off5_inb k)
/-- The chunk's window of `S`. -/
def wS0 : Vec F S1x1x128x256 .f32 := VecWindow.window I.S (k1_off6 k) S1x1x128x256.size (k1_off6_inb k)
/-- The chunk's window of `S`. -/
def wS1 : Vec F S1x1x128x256 .f32 := VecWindow.window I.S (k1_off7 k) S1x1x128x256.size (k1_off7_inb k)
/-- Head 0's half of the carried gradient. -/
def wT0 : Vec F S1x128x256 .f32 := VecWindow.window s ![0, 0, 0] S1x128x256.size inb_S2x128x256_S1x128x256_0_0_0
/-- Head 1's half of the carried gradient. -/
def wT1 : Vec F S1x128x256 .f32 := VecWindow.window s ![1, 0, 0] S1x128x256.size inb_S2x128x256_S1x128x256_1_0_0
/-- Head 0's piece of `dv` in this trip. -/
def p_dv0 : Vec F S64x256 .bf16 := (b_dv0 (k1_pay1 I.gu) I.gb (wG I k) (wQ0 I k) (wK0 I k) (wD0 I k) (wT0 s))
/-- Head 1's piece of `dv` in this trip. -/
def p_dv1 : Vec F S64x256 .bf16 := (b_dv1 (k1_pay1 I.gu) I.gb (wG I k) (wQ1 I k) (wK1 I k) (wD1 I k) (wT1 s))
/-- Head 0's piece of `dS` in this trip. -/
def p_dS0 : Vec F S1x128x256 .f32 := (b_dS0 (k1_pay1 I.gu) I.gb (wG I k) (wQ0 I k) (wD0 I k) (wT0 s))
/-- Head 1's piece of `dS` in this trip. -/
def p_dS1 : Vec F S1x128x256 .f32 := (b_dS1 (k1_pay1 I.gu) I.gb (wG I k) (wQ1 I k) (wD1 I k) (wT1 s))
/-- Head 0's piece of `dq` in this trip. -/
def p_dq0 : Vec F S64x128 .bf16 := (b_dq0 (k1_pay1 I.gu) I.gb (wG I k) (wK0 I k) (wV0 I k) (wD0 I k) (wS0 I k))
/-- Head 1's piece of `dq` in this trip. -/
def p_dq1 : Vec F S64x128 .bf16 := (b_dq1 (k1_pay1 I.gu) I.gb (wG I k) (wK1 I k) (wV1 I k) (wD1 I k) (wS1 I k))
/-- Head 0's piece of `dk` in this trip. -/
def p_dk0 : Vec F S64x128 .bf16 := (b_dk0 (k1_pay1 I.gu) I.gb (wG I k) (wQ0 I k) (wV0 I k) (wD0 I k) (wT0 s))
/-- Head 1's piece of `dk` in this trip. -/
def p_dk1 : Vec F S64x128 .bf16 := (b_dk1 (k1_pay1 I.gu) I.gb (wG I k) (wQ1 I k) (wV1 I k) (wD1 I k) (wT1 s))
/-- Head 0's piece of `dglr` in this trip. -/
def p_dglr0 : Vec F S1x64x128 .f32 := (b_dglr0 (k1_pay1 I.gu) I.gb (wG I k) (wQ0 I k) (wK0 I k) (wV0 I k) (wD0 I k) (wS0 I k) (wT0 s))
/-- Head 1's piece of `dglr` in this trip. -/
def p_dglr1 : Vec F S1x64x128 .f32 := (b_dglr1 (k1_pay1 I.gu) I.gb (wG I k) (wQ1 I k) (wK1 I k) (wV1 I k) (wD1 I k) (wS1 I k) (wT1 s))
/-- Head 0's addend of the weight gradient in this trip. -/
def p_du0 : Vec F S128x128 .f32 := (b_v325 (k1_pay1 I.gu) I.gb (wG I k) (wQ0 I k) (wK0 I k) (wV0 I k) (wD0 I k) (wS0 I k) (wT0 s))
/-- Head 0's gate gradient in this trip, of which the bias gradient is the column sum. -/
def p_dz0 : Vec F S64x128 .f32 := (b_v304 (k1_pay1 I.gu) I.gb (wG I k) (wQ0 I k) (wK0 I k) (wV0 I k) (wD0 I k) (wS0 I k) (wT0 s))
/-- Head 1's addend of the weight gradient in this trip. -/
def p_du1 : Vec F S128x128 .f32 := (b_v328 (k1_pay1 I.gu) I.gb (wG I k) (wQ1 I k) (wK1 I k) (wV1 I k) (wD1 I k) (wS1 I k) (wT1 s))
/-- Head 1's gate gradient in this trip, of which the bias gradient is the column sum. -/
def p_dz1 : Vec F S64x128 .f32 := (b_v316 (k1_pay1 I.gu) I.gb (wG I k) (wQ1 I k) (wK1 I k) (wV1 I k) (wD1 I k) (wS1 I k) (wT1 s))

/-- The carried gradient after the trip. -/
def stepS : Vec F S2x128x256 .f32 :=
  VecWindow.put (VecWindow.put s ![0, 0, 0] S1x128x256.size (p_dS0 I k s)) ![1, 0, 0] S1x128x256.size (p_dS1 I k s)

/-- The weight gradient after head 0's addition. -/
def stepU0 (u : Vec F S128x256 .f32) : Vec F S128x256 .f32 :=
  VecWindow.put u ![0, 0] S128x128.size (k1_pay76 (p_du0 I k s) (VecWindow.window u ![0, 0] S128x128.size inb_S128x256_S128x128_0_0))

/-- The weight gradient after the trip. -/
def stepU (u : Vec F S128x256 .f32) : Vec F S128x256 .f32 :=
  VecWindow.put (stepU0 I k s u) ![0, 128] S128x128.size (k1_pay79 (p_du1 I k s) (VecWindow.window u ![0, 128] S128x128.size inb_S128x256_S128x128_0_128))

/-- The bias gradient after head 0's addition. -/
def stepB0 (u : Vec F S1x256 .f32) : Vec F S1x256 .f32 :=
  VecWindow.put u ![0, 0] S1x128.size (k1_pay77 (p_dz0 I k s) (VecWindow.window u ![0, 0] S1x128.size inb_S1x256_S1x128_0_0))

/-- The bias gradient after the trip. -/
def stepB (u : Vec F S1x256 .f32) : Vec F S1x256 .f32 :=
  VecWindow.put (stepB0 I k s u) ![0, 128] S1x128.size (k1_pay80 (p_dz1 I k s) (VecWindow.window u ![0, 128] S1x128.size inb_S1x256_S1x128_0_128))

/-- What one trip leaves in each array it writes. -/
def step (t : BSt F) : BSt F where
  dq := VecWindow.put (VecWindow.put t.dq (k1_off2 k) S64x128.size (p_dq0 I k)) (k1_off4 k) S64x128.size (p_dq1 I k)
  dk := VecWindow.put (VecWindow.put t.dk (k1_off2 k) S64x128.size (p_dk0 I k t.dS)) (k1_off4 k) S64x128.size (p_dk1 I k t.dS)
  dv := VecWindow.put (VecWindow.put t.dv (k1_off3 k) S64x256.size (p_dv0 I k t.dS)) (k1_off5 k) S64x256.size (p_dv1 I k t.dS)
  dg := VecWindow.put (VecWindow.put t.dg (k1_off8 k) S1x64x128.size (p_dglr0 I k t.dS)) (k1_off9 k) S1x64x128.size (p_dglr1 I k t.dS)
  du := stepU I k t.dS t.du
  db := stepB I k t.dS t.db
  dS := stepS I k t.dS

/-- What the first `n` trips leave, from `t`. -/
def after (t : BSt F) : ℕ → BSt F
  | 0 => t
  | n + 1 => if h : n < k1_t1_loop.trips then step I ⟨n, h⟩ (after t n) else after t n

theorem after_succ (t : BSt F) (k : Fin k1_t1_loop.trips) : after I t (k.val + 1) = step I k (after I t k.val) := by
  rw [after]; exact dif_pos k.isLt

end Cert.KernelIdeal.GLA

end
-- ==== Proof.GLA.FwdStep.lean ====
/- One trip of the forward chunk loop, on plain vectors. -/
module

public import proofs.«01_k».proof.Proof.Gen.KernelIdeal.Skeleton
public import Idealize.ShloMosaic.Lib.VecWindow

@[expose] public section

set_option maxRecDepth 8192
set_option maxHeartbeats 4000000

noncomputable section

namespace Cert.KernelIdeal.GLA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- What one block of the forward call reads. -/
structure FIn (F : FTy → Type) [FloatOps F] where
  gu : Vec F S128x256 .f32
  q : Vec F S2048x256 .f32
  k : Vec F S2048x256 .f32
  v : Vec F S2048x512 .f32
  g : Vec F S2048x128 .f32
  gb : Vec F S1x256 .f32

/-- What one block of the forward call writes: the outputs, the states that entered each chunk, and the two carried states. -/
structure FSt (F : FTy → Type) [FloatOps F] where
  o : Vec F S2048x512 .f32
  S : Vec F S2x32x128x256 .f32
  s0 : Vec F S128x256 .f32
  s1 : Vec F S128x256 .f32

/-- Head 0's carried state after a chunk, from the chunk's own rows. -/
def f_s0 (v2 : FVec F S128x256 .bf16) (v3 : Vec F S1x256 .f32) (g k : Vec F S64x128 .f32) (v : Vec F S64x256 .f32) (s : Vec F S128x256 .f32) : Vec F S128x256 .f32 :=
  k0_pay6 (k0_pay30 (k0_pay12 v2 v3 g) (k0_pay15 v2 v3 (k0_pay3 (F := F)) g k) (k0_pay16 v) s)

/-- Head 1's carried state after a chunk, from the chunk's own rows. -/
def f_s1 (v2 : FVec F S128x256 .bf16) (v3 : Vec F S1x256 .f32) (g k : Vec F S64x128 .f32) (v : Vec F S64x256 .f32) (s : Vec F S128x256 .f32) : Vec F S128x256 .f32 :=
  k0_pay9 (k0_pay19 v2 v3 g) s (k0_pay27 (k0_pay22 v2 v3 (k0_pay3 (F := F)) g k) (k0_pay23 v))

/-- Head 0's output of a chunk. -/
def f_o0 (v2 : FVec F S128x256 .bf16) (v3 : Vec F S1x256 .f32) (g q k : Vec F S64x128 .f32) (v : Vec F S64x256 .f32) (s : Vec F S128x256 .f32) : Vec F S64x256 .f32 :=
  k0_pay28 k0_pay2 (k0_pay13 v2 v3 (k0_pay3 (F := F)) g q) (k0_pay16 v) (k0_pay24 (k0_pay13 v2 v3 (k0_pay3 (F := F)) g q) (k0_pay14 v2 v3 (k0_pay3 (F := F)) g k)) s

/-- Head 1's output of a chunk. -/
def f_o1 (v2 : FVec F S128x256 .bf16) (v3 : Vec F S1x256 .f32) (g q k : Vec F S64x128 .f32) (v : Vec F S64x256 .f32) (s : Vec F S128x256 .f32) : Vec F S64x256 .f32 :=
  k0_pay7 (k0_pay25 k0_pay2 (k0_pay20 v2 v3 (k0_pay3 (F := F)) g q) (k0_pay21 v2 v3 (k0_pay3 (F := F)) g k) (k0_pay23 v)) (k0_pay26 (k0_pay20 v2 v3 (k0_pay3 (F := F)) g q) s)

variable (I : FIn F) (k : Fin k0_t1_loop.trips)

/-- The chunk's window of `g`. -/
def fG : Vec F S64x128 .f32 := VecWindow.window I.g (k0_off1 k) S64x128.size (k0_off1_inb k)
/-- The chunk's window of `q`. -/
def fQ0 : Vec F S64x128 .f32 := VecWindow.window I.q (k0_off2 k) S64x128.size (k0_off2_inb k)
/-- The chunk's window of `q`. -/
def fQ1 : Vec F S64x128 .f32 := VecWindow.window I.q (k0_off4 k) S64x128.size (k0_off4_inb k)
/-- The chunk's window of `k`. -/
def fK0 : Vec F S64x128 .f32 := VecWindow.window I.k (k0_off2 k) S64x128.size (k0_off2_inb k)
/-- The chunk's window of `k`. -/
def fK1 : Vec F S64x128 .f32 := VecWindow.window I.k (k0_off4 k) S64x128.size (k0_off4_inb k)
/-- The chunk's window of `v`. -/
def fV0 : Vec F S64x256 .f32 := VecWindow.window I.v (k0_off3 k) S64x256.size (k0_off3_inb k)
/-- The chunk's window of `v`. -/
def fV1 : Vec F S64x256 .f32 := VecWindow.window I.v (k0_off5 k) S64x256.size (k0_off5_inb k)

/-- The whole window of a carried state. -/
def wW (x : Vec F S128x256 .f32) : Vec F S128x256 .f32 := VecWindow.window x ![0, 0] S128x256.size inb_S128x256_S128x256_0_0

/-- It is the state. -/
theorem wW_eq (x : Vec F S128x256 .f32) : wW x = x := by
  funext y
  exact congrArg x (funext fun a => Fin.ext (by
    show (![0, 0] : Fin 2 → ℕ) a + 1 * (y a).val = (y a).val
    have h0 : (![0, 0] : Fin 2 → ℕ) a = 0 := by revert a; decide
    omega))

/-- What one trip leaves in each array it writes. -/
def fstep (t : FSt F) : FSt F where
  o := VecWindow.put (VecWindow.put t.o (k0_off3 k) S64x256.size (f_o0 (k0_pay1 I.gu) I.gb (fG I k) (fQ0 I k) (fK0 I k) (fV0 I k) (wW t.s0))) (k0_off5 k) S64x256.size
    (f_o1 (k0_pay1 I.gu) I.gb (fG I k) (fQ1 I k) (fK1 I k) (fV1 I k) (wW t.s1))
  S := VecWindow.put (VecWindow.put t.S (k0_off6 k) S1x1x128x256.size (k0_pay29 (wW t.s0))) (k0_off7 k) S1x1x128x256.size (k0_pay8 (wW t.s1))
  s0 := f_s0 (k0_pay1 I.gu) I.gb (fG I k) (fK0 I k) (fV0 I k) (wW t.s0)
  s1 := f_s1 (k0_pay1 I.gu) I.gb (fG I k) (fK1 I k) (fV1 I k) (wW t.s1)

/-- What the first `n` trips leave, from `t`. -/
def fafter (t : FSt F) : ℕ → FSt F
  | 0 => t
  | n + 1 => if h : n < k0_t1_loop.trips then fstep I ⟨n, h⟩ (fafter t n) else fafter t n

theorem fafter_succ (t : FSt F) (k : Fin k0_t1_loop.trips) : fafter I t (k.val + 1) = fstep I k (fafter I t k.val) := by
  rw [fafter]; exact dif_pos k.isLt

end Cert.KernelIdeal.GLA

end
-- ==== Proof.GLA.Pieces.lean ====
/- What the two chunk loops leave, read window by window: a vector written by two puts a trip, all of whose windows lie apart,
   holds in each window what its own trip put there, whatever it held at first. -/
module

public import proofs.«01_k».proof.Proof.GLA.Step
public import proofs.«01_k».proof.Proof.GLA.FwdStep

@[expose] public section

noncomputable section

namespace Cert.KernelIdeal.GLA

open Idealize.ShloMosaic Idealize.SL.Sem Cert.KernelIdeal.Gen

/-- Two rectangles of one size lie apart on some axis. -/
def Apart {r : ℕ} (off off' size : Fin r → ℕ) : Prop := ∃ a, off a + size a ≤ off' a ∨ off' a + size a ≤ off a

theorem window_put_apart {α : Type} {s : Shape} (x : s.Idx → α) (off off' size : Fin s.rank → ℕ) (inb : ∀ a, off a + size a ≤ s.size a)
    (w : ((a : Fin s.rank) → Fin (size a)) → α) (h : Apart off off' size) :
    VecWindow.window (VecWindow.put x off' size w) off size inb = VecWindow.window x off size inb := by
  obtain ⟨a, ha⟩ := h
  exact VecWindow.window_put_of_disjoint x off' size off size inb w a ha

/-- Two puts a trip, at windows all apart: after `n` trips each window of an earlier trip holds that trip's payload. -/
theorem windows_of_puts {α : Type} {s : Shape} {N : ℕ} (x : ℕ → s.Idx → α) (offA offB : Fin N → Fin s.rank → ℕ) (size : Fin s.rank → ℕ)
    (inbA : ∀ k a, offA k a + size a ≤ s.size a) (inbB : ∀ k a, offB k a + size a ≤ s.size a)
    (pA pB : Fin N → ((a : Fin s.rank) → Fin (size a)) → α)
    (hs : ∀ k : Fin N, x (k.val + 1) = VecWindow.put (VecWindow.put (x k.val) (offA k) size (pA k)) (offB k) size (pB k))
    (hAB : ∀ k k', Apart (offA k) (offB k') size) (hBA : ∀ k k', Apart (offB k) (offA k') size)
    (hAA : ∀ k k', k ≠ k' → Apart (offA k) (offA k') size) (hBB : ∀ k k', k ≠ k' → Apart (offB k) (offB k') size) :
    ∀ n, n ≤ N → ∀ k : Fin N, k.val < n →
      VecWindow.window (x n) (offA k) size (inbA k) = pA k ∧ VecWindow.window (x n) (offB k) size (inbB k) = pB k := by
  intro n
  induction n with
  | zero => intro _ k hk; omega
  | succ n ih =>
    intro hn k hk
    have e := hs ⟨n, hn⟩
    simp only at e
    rw [e]
    by_cases hkn : k = ⟨n, hn⟩
    · subst hkn
      constructor
      · rw [window_put_apart _ _ _ _ _ _ (hAB _ _), VecWindow.window_put_same]
      · rw [VecWindow.window_put_same]
    · have hlt : k.val < n := by
        have : k.val ≠ n := fun h => hkn (Fin.ext h)
        omega
      obtain ⟨h1, h2⟩ := ih (by omega) k hlt
      constructor
      · rw [window_put_apart _ _ _ _ _ _ (hAB _ _), window_put_apart _ _ _ _ _ _ (hAA _ _ hkn), h1]
      · rw [window_put_apart _ _ _ _ _ _ (hBB _ _ hkn), window_put_apart _ _ _ _ _ _ (hBA _ _), h2]

/-- Two vectors that agree in windows that cover the shape are equal. -/
theorem ext_of_windows {α : Type} {s : Shape} {N : ℕ} (x x' : s.Idx → α) (offA offB : Fin N → Fin s.rank → ℕ) (size : Fin s.rank → ℕ)
    (inbA : ∀ k a, offA k a + size a ≤ s.size a) (inbB : ∀ k a, offB k a + size a ≤ s.size a)
    (hA : ∀ k, VecWindow.window x (offA k) size (inbA k) = VecWindow.window x' (offA k) size (inbA k))
    (hB : ∀ k, VecWindow.window x (offB k) size (inbB k) = VecWindow.window x' (offB k) size (inbB k))
    (cover : ∀ y : s.Idx, ∃ k, (∀ a, offA k a ≤ (y a).val ∧ (y a).val < offA k a + size a) ∨ (∀ a, offB k a ≤ (y a).val ∧ (y a).val < offB k a + size a)) :
    x = x' := by
  have key : ∀ (off : Fin s.rank → ℕ) (inb : ∀ a, off a + size a ≤ s.size a) (y : s.Idx), (∀ a, off a ≤ (y a).val ∧ (y a).val < off a + size a) →
      VecWindow.window x off size inb = VecWindow.window x' off size inb → x y = x' y := by
    intro off inb y h e
    have e' := congrFun e (fun a => ⟨(y a).val - off a, by have := h a; show (y a).val - off a < size a; omega⟩)
    have hy : (Rect.unit off size inb).emb (fun a => ⟨(y a).val - off a, by have := h a; show (y a).val - off a < size a; omega⟩) = y :=
      funext fun a => Fin.ext (by
        show off a + 1 * ((y a).val - off a) = (y a).val
        have := h a; omega)
    unfold VecWindow.window at e'
    rwa [hy] at e'
  funext y
  obtain ⟨k, h | h⟩ := cover y
  · exact key _ _ y h (hA k)
  · exact key _ _ y h (hB k)

end Cert.KernelIdeal.GLA

end
-- ==== Proof.GLA.Outs.lean ====
/- What the two calls leave: every window of an output holds its own trip's payload, so the outputs do not depend on what the
   arrays held at first. -/
module

public import proofs.«01_k».proof.Proof.GLA.Pieces

@[expose] public section

noncomputable section

namespace Cert.KernelIdeal.GLA

open Idealize.ShloMosaic Idealize.SL.Sem Cert.KernelIdeal.Gen

variable {F : FTy → Type} [FloatOps F]

theorem trips0 : k0_t1_loop.trips = 32 := by decide +kernel
theorem trips1 : k1_t1_loop.trips = 32 := by decide +kernel
theorem lt0 (k : Fin k0_t1_loop.trips) : k.val < 32 := lt_of_lt_of_eq k.isLt trips0
theorem lt1 (k : Fin k1_t1_loop.trips) : k.val < 32 := lt_of_lt_of_eq k.isLt trips1

theorem BSt.ext' {t t' : BSt F} (h1 : t.dq = t'.dq) (h2 : t.dk = t'.dk) (h3 : t.dv = t'.dv) (h4 : t.dg = t'.dg) (h5 : t.du = t'.du)
    (h6 : t.db = t'.db) (h7 : t.dS = t'.dS) : t = t' := by
  obtain ⟨⟩ := t; obtain ⟨⟩ := t'; simp only at *; subst h1 h2 h3 h4 h5 h6 h7; rfl

theorem apart1n_ab (k k' : Fin k1_t1_loop.trips) : Apart (k1_off2 k) (k1_off4 k') S64x128.size := by
  have hk := lt1 k; have hk' := lt1 k'
  refine ⟨1, ?_⟩
  rw [k1_off2_eq, k1_off4_eq]
  show (_ : ℕ) + (128 : ℕ) ≤ _ ∨ (_ : ℕ) + (128 : ℕ) ≤ _
  simp
  try omega

theorem apart1n_ba (k k' : Fin k1_t1_loop.trips) : Apart (k1_off4 k) (k1_off2 k') S64x128.size := by
  have hk := lt1 k; have hk' := lt1 k'
  refine ⟨1, ?_⟩
  rw [k1_off4_eq, k1_off2_eq]
  show (_ : ℕ) + (128 : ℕ) ≤ _ ∨ (_ : ℕ) + (128 : ℕ) ≤ _
  simp
  try omega

theorem apart1n_aa (k k' : Fin k1_t1_loop.trips) (h : k ≠ k') : Apart (k1_off2 k) (k1_off2 k') S64x128.size := by
  have hk := lt1 k; have hk' := lt1 k'
  have hne : k.val ≠ k'.val := fun e => h (Fin.ext e)
  refine ⟨0, ?_⟩
  rw [k1_off2_eq, k1_off2_eq]
  show (_ : ℕ) + (64 : ℕ) ≤ _ ∨ (_ : ℕ) + (64 : ℕ) ≤ _
  simp
  try omega

theorem apart1n_bb (k k' : Fin k1_t1_loop.trips) (h : k ≠ k') : Apart (k1_off4 k) (k1_off4 k') S64x128.size := by
  have hk := lt1 k; have hk' := lt1 k'
  have hne : k.val ≠ k'.val := fun e => h (Fin.ext e)
  refine ⟨0, ?_⟩
  rw [k1_off4_eq, k1_off4_eq]
  show (_ : ℕ) + (64 : ℕ) ≤ _ ∨ (_ : ℕ) + (64 : ℕ) ≤ _
  simp
  try omega

theorem cover1n (y : S2048x256.Idx) : ∃ k : Fin k1_t1_loop.trips, (∀ a, k1_off2 k a ≤ (y a).val ∧ (y a).val < k1_off2 k a + S64x128.size a)
    ∨ (∀ a, k1_off4 k a ≤ (y a).val ∧ (y a).val < k1_off4 k a + S64x128.size a) := by
  have h0 : (y 0).val < 2048 := (y 0).isLt
  have h1 : (y 1).val < 256 := (y 1).isLt
  have hlt : 31 - (y 0).val / 64 < k1_t1_loop.trips := by rw [trips1]; omega
  refine ⟨⟨31 - (y 0).val / 64, hlt⟩, ?_⟩
  by_cases hc : (y 1).val < 128
  · left; rw [k1_off2_eq]; intro a
    match a with
    | ⟨0, _⟩ => show 1984 - 64 * (31 - (y 0).val / 64) ≤ (y 0).val ∧ (y 0).val < 1984 - 64 * (31 - (y 0).val / 64) + 64; omega
    | ⟨1, _⟩ => show 0 ≤ (y 1).val ∧ (y 1).val < 0 + 128; omega
  · right; rw [k1_off4_eq]; intro a
    match a with
    | ⟨0, _⟩ => show 1984 - 64 * (31 - (y 0).val / 64) ≤ (y 0).val ∧ (y 0).val < 1984 - 64 * (31 - (y 0).val / 64) + 64; omega
    | ⟨1, _⟩ => show 128 ≤ (y 1).val ∧ (y 1).val < 128 + 128; omega

theorem apart1w_ab (k k' : Fin k1_t1_loop.trips) : Apart (k1_off3 k) (k1_off5 k') S64x256.size := by
  have hk := lt1 k; have hk' := lt1 k'
  refine ⟨1, ?_⟩
  rw [k1_off3_eq, k1_off5_eq]
  show (_ : ℕ) + (256 : ℕ) ≤ _ ∨ (_ : ℕ) + (256 : ℕ) ≤ _
  simp
  try omega

theorem apart1w_ba (k k' : Fin k1_t1_loop.trips) : Apart (k1_off5 k) (k1_off3 k') S64x256.size := by
  have hk := lt1 k; have hk' := lt1 k'
  refine ⟨1, ?_⟩
  rw [k1_off5_eq, k1_off3_eq]
  show (_ : ℕ) + (256 : ℕ) ≤ _ ∨ (_ : ℕ) + (256 : ℕ) ≤ _
  simp
  try omega

theorem apart1w_aa (k k' : Fin k1_t1_loop.trips) (h : k ≠ k') : Apart (k1_off3 k) (k1_off3 k') S64x256.size := by
  have hk := lt1 k; have hk' := lt1 k'
  have hne : k.val ≠ k'.val := fun e => h (Fin.ext e)
  refine ⟨0, ?_⟩
  rw [k1_off3_eq, k1_off3_eq]
  show (_ : ℕ) + (64 : ℕ) ≤ _ ∨ (_ : ℕ) + (64 : ℕ) ≤ _
  simp
  try omega

theorem apart1w_bb (k k' : Fin k1_t1_loop.trips) (h : k ≠ k') : Apart (k1_off5 k) (k1_off5 k') S64x256.size := by
  have hk := lt1 k; have hk' := lt1 k'
  have hne : k.val ≠ k'.val := fun e => h (Fin.ext e)
  refine ⟨0, ?_⟩
  rw [k1_off5_eq, k1_off5_eq]
  show (_ : ℕ) + (64 : ℕ) ≤ _ ∨ (_ : ℕ) + (64 : ℕ) ≤ _
  simp
  try omega

theorem cover1w (y : S2048x512.Idx) : ∃ k : Fin k1_t1_loop.trips, (∀ a, k1_off3 k a ≤ (y a).val ∧ (y a).val < k1_off3 k a + S64x256.size a)
    ∨ (∀ a, k1_off5 k a ≤ (y a).val ∧ (y a).val < k1_off5 k a + S64x256.size a) := by
  have h0 : (y 0).val < 2048 := (y 0).isLt
  have h1 : (y 1).val < 512 := (y 1).isLt
  have hlt : 31 - (y 0).val / 64 < k1_t1_loop.trips := by rw [trips1]; omega
  refine ⟨⟨31 - (y 0).val / 64, hlt⟩, ?_⟩
  by_cases hc : (y 1).val < 256
  · left; rw [k1_off3_eq]; intro a
    match a with
    | ⟨0, _⟩ => show 1984 - 64 * (31 - (y 0).val / 64) ≤ (y 0).val ∧ (y 0).val < 1984 - 64 * (31 - (y 0).val / 64) + 64; omega
    | ⟨1, _⟩ => show 0 ≤ (y 1).val ∧ (y 1).val < 0 + 256; omega
  · right; rw [k1_off5_eq]; intro a
    match a with
    | ⟨0, _⟩ => show 1984 - 64 * (31 - (y 0).val / 64) ≤ (y 0).val ∧ (y 0).val < 1984 - 64 * (31 - (y 0).val / 64) + 64; omega
    | ⟨1, _⟩ => show 256 ≤ (y 1).val ∧ (y 1).val < 256 + 256; omega

theorem apart1g_ab (k k' : Fin k1_t1_loop.trips) : Apart (k1_off8 k) (k1_off9 k') S1x64x128.size := by
  have hk := lt1 k; have hk' := lt1 k'
  refine ⟨0, ?_⟩
  rw [k1_off8_eq, k1_off9_eq]
  show (_ : ℕ) + (1 : ℕ) ≤ _ ∨ (_ : ℕ) + (1 : ℕ) ≤ _
  simp
  try omega

theorem apart1g_ba (k k' : Fin k1_t1_loop.trips) : Apart (k1_off9 k) (k1_off8 k') S1x64x128.size := by
  have hk := lt1 k; have hk' := lt1 k'
  refine ⟨0, ?_⟩
  rw [k1_off9_eq, k1_off8_eq]
  show (_ : ℕ) + (1 : ℕ) ≤ _ ∨ (_ : ℕ) + (1 : ℕ) ≤ _
  simp
  try omega

theorem apart1g_aa (k k' : Fin k1_t1_loop.trips) (h : k ≠ k') : Apart (k1_off8 k) (k1_off8 k') S1x64x128.size := by
  have hk := lt1 k; have hk' := lt1 k'
  have hne : k.val ≠ k'.val := fun e => h (Fin.ext e)
  refine ⟨1, ?_⟩
  rw [k1_off8_eq, k1_off8_eq]
  show (_ : ℕ) + (64 : ℕ) ≤ _ ∨ (_ : ℕ) + (64 : ℕ) ≤ _
  simp
  try omega

theorem apart1g_bb (k k' : Fin k1_t1_loop.trips) (h : k ≠ k') : Apart (k1_off9 k) (k1_off9 k') S1x64x128.size := by
  have hk := lt1 k; have hk' := lt1 k'
  have hne : k.val ≠ k'.val := fun e => h (Fin.ext e)
  refine ⟨1, ?_⟩
  rw [k1_off9_eq, k1_off9_eq]
  show (_ : ℕ) + (64 : ℕ) ≤ _ ∨ (_ : ℕ) + (64 : ℕ) ≤ _
  simp
  try omega

theorem cover1g (y : S2x2048x128.Idx) : ∃ k : Fin k1_t1_loop.trips, (∀ a, k1_off8 k a ≤ (y a).val ∧ (y a).val < k1_off8 k a + S1x64x128.size a)
    ∨ (∀ a, k1_off9 k a ≤ (y a).val ∧ (y a).val < k1_off9 k a + S1x64x128.size a) := by
  have h0 : (y 0).val < 2 := (y 0).isLt
  have h1 : (y 1).val < 2048 := (y 1).isLt
  have h2 : (y 2).val < 128 := (y 2).isLt
  have hlt : 31 - (y 1).val / 64 < k1_t1_loop.trips := by rw [trips1]; omega
  refine ⟨⟨31 - (y 1).val / 64, hlt⟩, ?_⟩
  by_cases hc : (y 0).val < 1
  · left; rw [k1_off8_eq]; intro a
    match a with
    | ⟨0, _⟩ => show 0 ≤ (y 0).val ∧ (y 0).val < 0 + 1; omega
    | ⟨1, _⟩ => show 1984 - 64 * (31 - (y 1).val / 64) ≤ (y 1).val ∧ (y 1).val < 1984 - 64 * (31 - (y 1).val / 64) + 64; omega
    | ⟨2, _⟩ => show 0 ≤ (y 2).val ∧ (y 2).val < 0 + 128; omega
  · right; rw [k1_off9_eq]; intro a
    match a with
    | ⟨0, _⟩ => show 1 ≤ (y 0).val ∧ (y 0).val < 1 + 1; omega
    | ⟨1, _⟩ => show 1984 - 64 * (31 - (y 1).val / 64) ≤ (y 1).val ∧ (y 1).val < 1984 - 64 * (31 - (y 1).val / 64) + 64; omega
    | ⟨2, _⟩ => show 0 ≤ (y 2).val ∧ (y 2).val < 0 + 128; omega

theorem apart0w_ab (k k' : Fin k0_t1_loop.trips) : Apart (k0_off3 k) (k0_off5 k') S64x256.size := by
  have hk := lt0 k; have hk' := lt0 k'
  refine ⟨1, ?_⟩
  rw [k0_off3_eq, k0_off5_eq]
  show (_ : ℕ) + (256 : ℕ) ≤ _ ∨ (_ : ℕ) + (256 : ℕ) ≤ _
  simp
  try omega

theorem apart0w_ba (k k' : Fin k0_t1_loop.trips) : Apart (k0_off5 k) (k0_off3 k') S64x256.size := by
  have hk := lt0 k; have hk' := lt0 k'
  refine ⟨1, ?_⟩
  rw [k0_off5_eq, k0_off3_eq]
  show (_ : ℕ) + (256 : ℕ) ≤ _ ∨ (_ : ℕ) + (256 : ℕ) ≤ _
  simp
  try omega

theorem apart0w_aa (k k' : Fin k0_t1_loop.trips) (h : k ≠ k') : Apart (k0_off3 k) (k0_off3 k') S64x256.size := by
  have hk := lt0 k; have hk' := lt0 k'
  have hne : k.val ≠ k'.val := fun e => h (Fin.ext e)
  refine ⟨0, ?_⟩
  rw [k0_off3_eq, k0_off3_eq]
  show (_ : ℕ) + (64 : ℕ) ≤ _ ∨ (_ : ℕ) + (64 : ℕ) ≤ _
  simp
  try omega

theorem apart0w_bb (k k' : Fin k0_t1_loop.trips) (h : k ≠ k') : Apart (k0_off5 k) (k0_off5 k') S64x256.size := by
  have hk := lt0 k; have hk' := lt0 k'
  have hne : k.val ≠ k'.val := fun e => h (Fin.ext e)
  refine ⟨0, ?_⟩
  rw [k0_off5_eq, k0_off5_eq]
  show (_ : ℕ) + (64 : ℕ) ≤ _ ∨ (_ : ℕ) + (64 : ℕ) ≤ _
  simp
  try omega

theorem cover0w (y : S2048x512.Idx) : ∃ k : Fin k0_t1_loop.trips, (∀ a, k0_off3 k a ≤ (y a).val ∧ (y a).val < k0_off3 k a + S64x256.size a)
    ∨ (∀ a, k0_off5 k a ≤ (y a).val ∧ (y a).val < k0_off5 k a + S64x256.size a) := by
  have h0 : (y 0).val < 2048 := (y 0).isLt
  have h1 : (y 1).val < 512 := (y 1).isLt
  have hlt : (y 0).val / 64 < k0_t1_loop.trips := by rw [trips0]; omega
  refine ⟨⟨(y 0).val / 64, hlt⟩, ?_⟩
  by_cases hc : (y 1).val < 256
  · left; rw [k0_off3_eq]; intro a
    match a with
    | ⟨0, _⟩ => show 64 * ((y 0).val / 64) ≤ (y 0).val ∧ (y 0).val < 64 * ((y 0).val / 64) + 64; omega
    | ⟨1, _⟩ => show 0 ≤ (y 1).val ∧ (y 1).val < 0 + 256; omega
  · right; rw [k0_off5_eq]; intro a
    match a with
    | ⟨0, _⟩ => show 64 * ((y 0).val / 64) ≤ (y 0).val ∧ (y 0).val < 64 * ((y 0).val / 64) + 64; omega
    | ⟨1, _⟩ => show 256 ≤ (y 1).val ∧ (y 1).val < 256 + 256; omega

theorem apart0s_ab (k k' : Fin k0_t1_loop.trips) : Apart (k0_off6 k) (k0_off7 k') S1x1x128x256.size := by
  have hk := lt0 k; have hk' := lt0 k'
  refine ⟨0, ?_⟩
  rw [k0_off6_eq, k0_off7_eq]
  show (_ : ℕ) + (1 : ℕ) ≤ _ ∨ (_ : ℕ) + (1 : ℕ) ≤ _
  simp
  try omega

theorem apart0s_ba (k k' : Fin k0_t1_loop.trips) : Apart (k0_off7 k) (k0_off6 k') S1x1x128x256.size := by
  have hk := lt0 k; have hk' := lt0 k'
  refine ⟨0, ?_⟩
  rw [k0_off7_eq, k0_off6_eq]
  show (_ : ℕ) + (1 : ℕ) ≤ _ ∨ (_ : ℕ) + (1 : ℕ) ≤ _
  simp
  try omega

theorem apart0s_aa (k k' : Fin k0_t1_loop.trips) (h : k ≠ k') : Apart (k0_off6 k) (k0_off6 k') S1x1x128x256.size := by
  have hk := lt0 k; have hk' := lt0 k'
  have hne : k.val ≠ k'.val := fun e => h (Fin.ext e)
  refine ⟨1, ?_⟩
  rw [k0_off6_eq, k0_off6_eq]
  show (_ : ℕ) + (1 : ℕ) ≤ _ ∨ (_ : ℕ) + (1 : ℕ) ≤ _
  simp
  try omega

theorem apart0s_bb (k k' : Fin k0_t1_loop.trips) (h : k ≠ k') : Apart (k0_off7 k) (k0_off7 k') S1x1x128x256.size := by
  have hk := lt0 k; have hk' := lt0 k'
  have hne : k.val ≠ k'.val := fun e => h (Fin.ext e)
  refine ⟨1, ?_⟩
  rw [k0_off7_eq, k0_off7_eq]
  show (_ : ℕ) + (1 : ℕ) ≤ _ ∨ (_ : ℕ) + (1 : ℕ) ≤ _
  simp
  try omega

theorem cover0s (y : S2x32x128x256.Idx) : ∃ k : Fin k0_t1_loop.trips, (∀ a, k0_off6 k a ≤ (y a).val ∧ (y a).val < k0_off6 k a + S1x1x128x256.size a)
    ∨ (∀ a, k0_off7 k a ≤ (y a).val ∧ (y a).val < k0_off7 k a + S1x1x128x256.size a) := by
  have h0 : (y 0).val < 2 := (y 0).isLt
  have h1 : (y 1).val < 32 := (y 1).isLt
  have h2 : (y 2).val < 128 := (y 2).isLt
  have h3 : (y 3).val < 256 := (y 3).isLt
  have hlt : (y 1).val / 1 < k0_t1_loop.trips := by rw [trips0]; omega
  refine ⟨⟨(y 1).val / 1, hlt⟩, ?_⟩
  by_cases hc : (y 0).val < 1
  · left; rw [k0_off6_eq]; intro a
    match a with
    | ⟨0, _⟩ => show 0 ≤ (y 0).val ∧ (y 0).val < 0 + 1; omega
    | ⟨1, _⟩ => show (y 1).val / 1 ≤ (y 1).val ∧ (y 1).val < (y 1).val / 1 + 1; omega
    | ⟨2, _⟩ => show 0 ≤ (y 2).val ∧ (y 2).val < 0 + 128; omega
    | ⟨3, _⟩ => show 0 ≤ (y 3).val ∧ (y 3).val < 0 + 256; omega
  · right; rw [k0_off7_eq]; intro a
    match a with
    | ⟨0, _⟩ => show 1 ≤ (y 0).val ∧ (y 0).val < 1 + 1; omega
    | ⟨1, _⟩ => show (y 1).val / 1 ≤ (y 1).val ∧ (y 1).val < (y 1).val / 1 + 1; omega
    | ⟨2, _⟩ => show 0 ≤ (y 2).val ∧ (y 2).val < 0 + 128; omega
    | ⟨3, _⟩ => show 0 ≤ (y 3).val ∧ (y 3).val < 0 + 256; omega

/-! ## The carried quantities do not see the outputs -/

theorem after_carry (I : BIn F) (t t' : BSt F) (hu : t.du = t'.du) (hb : t.db = t'.db) (hS : t.dS = t'.dS) :
    ∀ n, (after I t n).du = (after I t' n).du ∧ (after I t n).db = (after I t' n).db ∧ (after I t n).dS = (after I t' n).dS
  | 0 => ⟨hu, hb, hS⟩
  | n + 1 => by
    obtain ⟨h1, h2, h3⟩ := after_carry I t t' hu hb hS n
    rw [after, after]
    by_cases h : n < k1_t1_loop.trips
    · rw [dif_pos h, dif_pos h]
      exact ⟨by show stepU _ _ _ _ = stepU _ _ _ _; rw [h1, h3], by show stepB _ _ _ _ = stepB _ _ _ _; rw [h2, h3],
        by show stepS _ _ _ = stepS _ _ _; rw [h3]⟩
    · rw [dif_neg h, dif_neg h]; exact ⟨h1, h2, h3⟩

theorem fafter_carry (I : FIn F) (t t' : FSt F) (h0 : t.s0 = t'.s0) (h1 : t.s1 = t'.s1) :
    ∀ n, (fafter I t n).s0 = (fafter I t' n).s0 ∧ (fafter I t n).s1 = (fafter I t' n).s1
  | 0 => ⟨h0, h1⟩
  | n + 1 => by
    obtain ⟨h2, h3⟩ := fafter_carry I t t' h0 h1 n
    rw [fafter, fafter]
    by_cases h : n < k0_t1_loop.trips
    · rw [dif_pos h, dif_pos h]
      exact ⟨by show f_s0 _ _ _ _ _ (wW _) = f_s0 _ _ _ _ _ (wW _); rw [h2], by show f_s1 _ _ _ _ _ (wW _) = f_s1 _ _ _ _ _ (wW _); rw [h3]⟩
    · rw [dif_neg h, dif_neg h]; exact ⟨h2, h3⟩

/-! ## Each output's windows -/

theorem win_dq (I : BIn F) (t : BSt F) (k : Fin k1_t1_loop.trips) :
    VecWindow.window (after I t 32).dq (k1_off2 k) S64x128.size (k1_off2_inb k) = p_dq0 I k
      ∧ VecWindow.window (after I t 32).dq (k1_off4 k) S64x128.size (k1_off4_inb k) = p_dq1 I k :=
  windows_of_puts (fun n => (after I t n).dq) k1_off2 k1_off4 S64x128.size k1_off2_inb k1_off4_inb
    (fun k => p_dq0 I k) (fun k => p_dq1 I k)
    (fun k => congrArg BSt.dq (after_succ I t k)) apart1n_ab apart1n_ba apart1n_aa apart1n_bb 32 trips1.ge k (lt1 k)

theorem eq_dq (I : BIn F) (t : BSt F) (x : Vec F S2048x256 .bf16) (h : ∀ k : Fin k1_t1_loop.trips,
      VecWindow.window x (k1_off2 k) S64x128.size (k1_off2_inb k) = p_dq0 I k
      ∧ VecWindow.window x (k1_off4 k) S64x128.size (k1_off4_inb k) = p_dq1 I k) :
    (after I t 32).dq = x :=
  ext_of_windows _ _ k1_off2 k1_off4 S64x128.size k1_off2_inb k1_off4_inb (fun k => (win_dq I t k).1.trans (h k).1.symm)
    (fun k => (win_dq I t k).2.trans (h k).2.symm) cover1n

theorem win_dk (I : BIn F) (t : BSt F) (k : Fin k1_t1_loop.trips) :
    VecWindow.window (after I t 32).dk (k1_off2 k) S64x128.size (k1_off2_inb k) = p_dk0 I k (after I t k.val).dS
      ∧ VecWindow.window (after I t 32).dk (k1_off4 k) S64x128.size (k1_off4_inb k) = p_dk1 I k (after I t k.val).dS :=
  windows_of_puts (fun n => (after I t n).dk) k1_off2 k1_off4 S64x128.size k1_off2_inb k1_off4_inb
    (fun k => p_dk0 I k (after I t k.val).dS) (fun k => p_dk1 I k (after I t k.val).dS)
    (fun k => congrArg BSt.dk (after_succ I t k)) apart1n_ab apart1n_ba apart1n_aa apart1n_bb 32 trips1.ge k (lt1 k)

theorem eq_dk (I : BIn F) (t : BSt F) (x : Vec F S2048x256 .bf16) (h : ∀ k : Fin k1_t1_loop.trips,
      VecWindow.window x (k1_off2 k) S64x128.size (k1_off2_inb k) = p_dk0 I k (after I t k.val).dS
      ∧ VecWindow.window x (k1_off4 k) S64x128.size (k1_off4_inb k) = p_dk1 I k (after I t k.val).dS) :
    (after I t 32).dk = x :=
  ext_of_windows _ _ k1_off2 k1_off4 S64x128.size k1_off2_inb k1_off4_inb (fun k => (win_dk I t k).1.trans (h k).1.symm)
    (fun k => (win_dk I t k).2.trans (h k).2.symm) cover1n

theorem win_dv (I : BIn F) (t : BSt F) (k : Fin k1_t1_loop.trips) :
    VecWindow.window (after I t 32).dv (k1_off3 k) S64x256.size (k1_off3_inb k) = p_dv0 I k (after I t k.val).dS
      ∧ VecWindow.window (after I t 32).dv (k1_off5 k) S64x256.size (k1_off5_inb k) = p_dv1 I k (after I t k.val).dS :=
  windows_of_puts (fun n => (after I t n).dv) k1_off3 k1_off5 S64x256.size k1_off3_inb k1_off5_inb
    (fun k => p_dv0 I k (after I t k.val).dS) (fun k => p_dv1 I k (after I t k.val).dS)
    (fun k => congrArg BSt.dv (after_succ I t k)) apart1w_ab apart1w_ba apart1w_aa apart1w_bb 32 trips1.ge k (lt1 k)

theorem eq_dv (I : BIn F) (t : BSt F) (x : Vec F S2048x512 .bf16) (h : ∀ k : Fin k1_t1_loop.trips,
      VecWindow.window x (k1_off3 k) S64x256.size (k1_off3_inb k) = p_dv0 I k (after I t k.val).dS
      ∧ VecWindow.window x (k1_off5 k) S64x256.size (k1_off5_inb k) = p_dv1 I k (after I t k.val).dS) :
    (after I t 32).dv = x :=
  ext_of_windows _ _ k1_off3 k1_off5 S64x256.size k1_off3_inb k1_off5_inb (fun k => (win_dv I t k).1.trans (h k).1.symm)
    (fun k => (win_dv I t k).2.trans (h k).2.symm) cover1w

theorem win_dg (I : BIn F) (t : BSt F) (k : Fin k1_t1_loop.trips) :
    VecWindow.window (after I t 32).dg (k1_off8 k) S1x64x128.size (k1_off8_inb k) = p_dglr0 I k (after I t k.val).dS
      ∧ VecWindow.window (after I t 32).dg (k1_off9 k) S1x64x128.size (k1_off9_inb k) = p_dglr1 I k (after I t k.val).dS :=
  windows_of_puts (fun n => (after I t n).dg) k1_off8 k1_off9 S1x64x128.size k1_off8_inb k1_off9_inb
    (fun k => p_dglr0 I k (after I t k.val).dS) (fun k => p_dglr1 I k (after I t k.val).dS)
    (fun k => congrArg BSt.dg (after_succ I t k)) apart1g_ab apart1g_ba apart1g_aa apart1g_bb 32 trips1.ge k (lt1 k)

theorem eq_dg (I : BIn F) (t : BSt F) (x : Vec F S2x2048x128 .f32) (h : ∀ k : Fin k1_t1_loop.trips,
      VecWindow.window x (k1_off8 k) S1x64x128.size (k1_off8_inb k) = p_dglr0 I k (after I t k.val).dS
      ∧ VecWindow.window x (k1_off9 k) S1x64x128.size (k1_off9_inb k) = p_dglr1 I k (after I t k.val).dS) :
    (after I t 32).dg = x :=
  ext_of_windows _ _ k1_off8 k1_off9 S1x64x128.size k1_off8_inb k1_off9_inb (fun k => (win_dg I t k).1.trans (h k).1.symm)
    (fun k => (win_dg I t k).2.trans (h k).2.symm) cover1g

theorem win_o (I : FIn F) (t : FSt F) (k : Fin k0_t1_loop.trips) :
    VecWindow.window (fafter I t 32).o (k0_off3 k) S64x256.size (k0_off3_inb k) = f_o0 (k0_pay1 I.gu) I.gb (fG I k) (fQ0 I k) (fK0 I k) (fV0 I k) (wW (fafter I t k.val).s0)
      ∧ VecWindow.window (fafter I t 32).o (k0_off5 k) S64x256.size (k0_off5_inb k) = f_o1 (k0_pay1 I.gu) I.gb (fG I k) (fQ1 I k) (fK1 I k) (fV1 I k) (wW (fafter I t k.val).s1) :=
  windows_of_puts (fun n => (fafter I t n).o) k0_off3 k0_off5 S64x256.size k0_off3_inb k0_off5_inb
    (fun k => f_o0 (k0_pay1 I.gu) I.gb (fG I k) (fQ0 I k) (fK0 I k) (fV0 I k) (wW (fafter I t k.val).s0)) (fun k => f_o1 (k0_pay1 I.gu) I.gb (fG I k) (fQ1 I k) (fK1 I k) (fV1 I k) (wW (fafter I t k.val).s1))
    (fun k => congrArg FSt.o (fafter_succ I t k)) apart0w_ab apart0w_ba apart0w_aa apart0w_bb 32 trips0.ge k (lt0 k)

theorem eq_o (I : FIn F) (t : FSt F) (x : Vec F S2048x512 .f32) (h : ∀ k : Fin k0_t1_loop.trips,
      VecWindow.window x (k0_off3 k) S64x256.size (k0_off3_inb k) = f_o0 (k0_pay1 I.gu) I.gb (fG I k) (fQ0 I k) (fK0 I k) (fV0 I k) (wW (fafter I t k.val).s0)
      ∧ VecWindow.window x (k0_off5 k) S64x256.size (k0_off5_inb k) = f_o1 (k0_pay1 I.gu) I.gb (fG I k) (fQ1 I k) (fK1 I k) (fV1 I k) (wW (fafter I t k.val).s1)) :
    (fafter I t 32).o = x :=
  ext_of_windows _ _ k0_off3 k0_off5 S64x256.size k0_off3_inb k0_off5_inb (fun k => (win_o I t k).1.trans (h k).1.symm)
    (fun k => (win_o I t k).2.trans (h k).2.symm) cover0w

theorem win_S (I : FIn F) (t : FSt F) (k : Fin k0_t1_loop.trips) :
    VecWindow.window (fafter I t 32).S (k0_off6 k) S1x1x128x256.size (k0_off6_inb k) = k0_pay29 (wW (fafter I t k.val).s0)
      ∧ VecWindow.window (fafter I t 32).S (k0_off7 k) S1x1x128x256.size (k0_off7_inb k) = k0_pay8 (wW (fafter I t k.val).s1) :=
  windows_of_puts (fun n => (fafter I t n).S) k0_off6 k0_off7 S1x1x128x256.size k0_off6_inb k0_off7_inb
    (fun k => k0_pay29 (wW (fafter I t k.val).s0)) (fun k => k0_pay8 (wW (fafter I t k.val).s1))
    (fun k => congrArg FSt.S (fafter_succ I t k)) apart0s_ab apart0s_ba apart0s_aa apart0s_bb 32 trips0.ge k (lt0 k)

theorem eq_S (I : FIn F) (t : FSt F) (x : Vec F S2x32x128x256 .f32) (h : ∀ k : Fin k0_t1_loop.trips,
      VecWindow.window x (k0_off6 k) S1x1x128x256.size (k0_off6_inb k) = k0_pay29 (wW (fafter I t k.val).s0)
      ∧ VecWindow.window x (k0_off7 k) S1x1x128x256.size (k0_off7_inb k) = k0_pay8 (wW (fafter I t k.val).s1)) :
    (fafter I t 32).S = x :=
  ext_of_windows _ _ k0_off6 k0_off7 S1x1x128x256.size k0_off6_inb k0_off7_inb (fun k => (win_S I t k).1.trans (h k).1.symm)
    (fun k => (win_S I t k).2.trans (h k).2.symm) cover0s

/-- What the outputs are, whatever the arrays held at first: two starts with the same carried quantities end alike. -/
theorem after_eq (I : BIn F) (t t' : BSt F) (hu : t.du = t'.du) (hb : t.db = t'.db) (hS : t.dS = t'.dS) : after I t 32 = after I t' 32 := by
  have e : ∀ n, (after I t' n).dS = (after I t n).dS := fun n => (after_carry I t t' hu hb hS n).2.2.symm
  refine BSt.ext' (eq_dq I t _ fun k => win_dq I t' k) (eq_dk I t _ fun k => ?_) (eq_dv I t _ fun k => ?_) (eq_dg I t _ fun k => ?_)
    (after_carry I t t' hu hb hS 32).1 (after_carry I t t' hu hb hS 32).2.1 (after_carry I t t' hu hb hS 32).2.2
  · rw [← e k.val]; exact win_dk I t' k
  · rw [← e k.val]; exact win_dv I t' k
  · rw [← e k.val]; exact win_dg I t' k

theorem FSt.ext' {t t' : FSt F} (h1 : t.o = t'.o) (h2 : t.S = t'.S) (h3 : t.s0 = t'.s0) (h4 : t.s1 = t'.s1) : t = t' := by
  obtain ⟨⟩ := t; obtain ⟨⟩ := t'; simp only at *; subst h1 h2 h3 h4; rfl

theorem fafter_eq (I : FIn F) (t t' : FSt F) (h0 : t.s0 = t'.s0) (h1 : t.s1 = t'.s1) : fafter I t 32 = fafter I t' 32 := by
  have e : ∀ n, (fafter I t' n).s0 = (fafter I t n).s0 ∧ (fafter I t' n).s1 = (fafter I t n).s1 := fun n =>
    ⟨(fafter_carry I t t' h0 h1 n).1.symm, (fafter_carry I t t' h0 h1 n).2.symm⟩
  refine FSt.ext' (eq_o I t _ fun k => ?_) (eq_S I t _ fun k => ?_) (e 32).1.symm (e 32).2.symm
  · rw [← (e k.val).1, ← (e k.val).2]; exact win_o I t' k
  · rw [← (e k.val).1, ← (e k.val).2]; exact win_S I t' k

end Cert.KernelIdeal.GLA

end
-- ==== Proof.GLA.BwdLoop.lean ====
/- The backward call's chunk loop, run once over a symbolic trip: a trip takes the arrays it writes from `t` to `step I k t`. -/
module

public import proofs.«01_k».proof.Proof.Gen.KernelIdeal.Loops
public import proofs.«01_k».proof.Proof.GLA.Step

@[expose] public section

set_option maxRecDepth 8192
set_option maxHeartbeats 4000000

noncomputable section

namespace Cert.KernelIdeal.GLA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- A load of a rectangle of the representative of `x` reads the window of `x`. -/
theorem readAt_rep_win {κ : Kind} {sp : Space} {s : Shape} {e : EltTy} (v : View sig κ sp s e) (x : s.Idx → Elt F e)
    {off size : Fin s.rank → ℕ} (inb : ∀ a, off a + size a ≤ s.size a) :
    v.readAt (Elt F) (Rect.unit off size inb).toLoadRect (v.rep x) = VecWindow.window x off size inb :=
  View.readAt_rep_unit v x inb rfl inb

/-- A load of a rectangle of any contents reads the window of what the view reads. -/
theorem readAt_win {κ : Kind} {sp : Space} {s : Shape} {e : EltTy} (v : View sig κ sp s e) (f : v.ty.Contents (Elt F))
    {off size : Fin s.rank → ℕ} (inb : ∀ a, off a + size a ≤ s.size a) :
    v.readAt (Elt F) (Rect.unit off size inb).toLoadRect f = VecWindow.window (v.read (Elt F) f) off size inb :=
  View.readAt_unit v f inb rfl inb

/-- After one store over the representative of `x`, a view reads `x` with the store's window put. -/
theorem read_rep_put {κ : Kind} {sp : Space} {s : Shape} {e : EltTy} (v : View sig κ sp s e) (x : s.Idx → Elt F e)
    {off size : Fin s.rank → ℕ} (inb : ∀ a, off a + size a ≤ s.size a) (w : (Rect.unit off size inb).shape.Idx → Elt F e) :
    v.read (Elt F) (v.writes (Elt F) (v.rep x) [⟨Rect.unit off size inb, w⟩]) = VecWindow.put x off size w :=
  View.read_writes_rep_unit v x inb w rfl

/-- The arrays the loop touches, its inputs at `I` and its outputs at `t`. -/
abbrev Held (c : Dev nD) (arg2 : Memref sig .tc .vmem S2048x256 .f32) (arg3 : Memref sig .tc .vmem S2048x256 .f32) (arg4 : Memref sig .tc .vmem S2048x512 .f32) (arg5 : Memref sig .tc .vmem S2048x128 .f32) (arg6 : Memref sig .tc .vmem S2048x512 .f32) (arg7 : Memref sig .tc .vmem S2x32x128x256 .f32) (arg9 : Memref sig .tc .vmem S2048x256 .bf16) (arg10 : Memref sig .tc .vmem S2048x256 .bf16) (arg11 : Memref sig .tc .vmem S2048x512 .bf16) (arg12 : Memref sig .tc .vmem S2x2048x128 .f32) (arg13 : Memref sig .tc .vmem S128x256 .f32) (arg14 : Memref sig .tc .vmem S1x256 .f32) (arg15 : Memref sig .tc .vmem S2x128x256 .f32) (I : BIn F) (t : BSt F) : sProp 𝕄G :=
  iprop((arg2.view.loc (c : Thread nD τ) ↦[arg2.view.set]{fullShare} arg2.view.rep I.q) ∗ (arg3.view.loc (c : Thread nD τ) ↦[arg3.view.set]{fullShare} arg3.view.rep I.k) ∗ (arg4.view.loc (c : Thread nD τ) ↦[arg4.view.set]{fullShare} arg4.view.rep I.v) ∗ (arg5.view.loc (c : Thread nD τ) ↦[arg5.view.set]{fullShare} arg5.view.rep I.g) ∗ (arg6.view.loc (c : Thread nD τ) ↦[arg6.view.set]{fullShare} arg6.view.rep I.d) ∗ (arg7.view.loc (c : Thread nD τ) ↦[arg7.view.set]{fullShare} arg7.view.rep I.S) ∗ (arg9.view.loc (c : Thread nD τ) ↦[arg9.view.set]{fullShare} arg9.view.rep t.dq) ∗ (arg10.view.loc (c : Thread nD τ) ↦[arg10.view.set]{fullShare} arg10.view.rep t.dk) ∗ (arg11.view.loc (c : Thread nD τ) ↦[arg11.view.set]{fullShare} arg11.view.rep t.dv) ∗ (arg12.view.loc (c : Thread nD τ) ↦[arg12.view.set]{fullShare} arg12.view.rep t.dg) ∗ (arg13.view.loc (c : Thread nD τ) ↦[arg13.view.set]{fullShare} arg13.view.rep t.du) ∗ (arg14.view.loc (c : Thread nD τ) ↦[arg14.view.set]{fullShare} arg14.view.rep t.db) ∗ (arg15.view.loc (c : Thread nD τ) ↦[arg15.view.set]{fullShare} arg15.view.rep t.dS))

section

variable (𝒱 : Variants) (c : Dev nD) (bd : Option 𝒱.V) (i : grid1.Coords) (arg1 : Memref sig .tc .vmem S128x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2x32x128x256 .f32) (harg7 : arg7.IsWhole) (arg8 : Memref sig .tc .vmem S1x256 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x512 .bf16) (harg11 : arg11.IsWhole) (arg12 : Memref sig .tc .vmem S2x2048x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S2x128x256 .f32) (harg15 : arg15.IsWhole) (I : BIn F)

set_option maxHeartbeats 16000000 in
/-- One trip. -/
theorem trip (k : Fin k1_t1_loop.trips) (t : BSt F) (E : Set ℕ) :
    Held c arg2 arg3 arg4 arg5 arg6 arg7 arg9 arg10 arg11 arg12 arg13 arg14 arg15 I t
      ⊢ wp frame (wpE (defs₀ (F := F)) 𝒱 (c : Thread nD τ) bd) E (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 I.gu I.gb k PUnit.unit)
          (fun _ => Held c arg2 arg3 arg4 arg5 arg6 arg7 arg9 arg10 arg11 arg12 arg13 arg14 arg15 I (step I k t)) := by
  have hk : k.val < 32 := Nat.lt_of_lt_of_le k.isLt k1_t1_abs.2.1
  unfold k1_t1_body
  iintro ⟨HR2, HR3, HR4, HR5, HR6, HR7, HW9, HW10, HW11, HW12, HW13, HW14, HW15⟩
  sl_exec
  sl_step
  isplitl [HR2]; · iexact HR2
  isplitl [HR3]; · iexact HR3
  isplitl [HR4]; · iexact HR4
  isplitl [HR5]; · iexact HR5
  isplitl [HR6]; · iexact HR6
  isplitl [HR7]; · iexact HR7
  isplitl [HW9]
  · iapply (pointsTo_rep_of_read (c : Thread nD τ) arg9 _ fullShare _ ?_) $$ HW9
    rw [View.read_writes_cons_put _ _ _ _ _ rfl, View.read_writes_rep_unit _ _ _ _ rfl]
    sl_unfold_run_names
    simp only [readAt_rep_win, readAt_win, View.read_rep, read_rep_put]
    rfl
  isplitl [HW10]
  · iapply (pointsTo_rep_of_read (c : Thread nD τ) arg10 _ fullShare _ ?_) $$ HW10
    rw [View.read_writes_cons_put _ _ _ _ _ rfl, View.read_writes_rep_unit _ _ _ _ rfl]
    sl_unfold_run_names
    simp only [readAt_rep_win, readAt_win, View.read_rep, read_rep_put]
    rfl
  isplitl [HW11]
  · iapply (pointsTo_rep_of_read (c : Thread nD τ) arg11 _ fullShare _ ?_) $$ HW11
    rw [View.read_writes_cons_put _ _ _ _ _ rfl, View.read_writes_rep_unit _ _ _ _ rfl]
    sl_unfold_run_names
    simp only [readAt_rep_win, readAt_win, View.read_rep, read_rep_put]
    rfl
  isplitl [HW12]
  · iapply (pointsTo_rep_of_read (c : Thread nD τ) arg12 _ fullShare _ ?_) $$ HW12
    rw [View.read_writes_cons_put _ _ _ _ _ rfl, View.read_writes_rep_unit _ _ _ _ rfl]
    sl_unfold_run_names
    simp only [readAt_rep_win, readAt_win, View.read_rep, read_rep_put]
    rfl
  isplitl [HW13]
  · iapply (pointsTo_rep_of_read (c : Thread nD τ) arg13 _ fullShare _ ?_) $$ HW13
    rw [View.read_writes_cons_put _ _ _ _ _ rfl, View.read_writes_rep_unit _ _ _ _ rfl]
    sl_unfold_run_names
    simp only [readAt_rep_win, readAt_win, View.read_rep, read_rep_put]
    rfl
  isplitl [HW14]
  · iapply (pointsTo_rep_of_read (c : Thread nD τ) arg14 _ fullShare _ ?_) $$ HW14
    rw [View.read_writes_cons_put _ _ _ _ _ rfl, View.read_writes_rep_unit _ _ _ _ rfl]
    sl_unfold_run_names
    simp only [readAt_rep_win, readAt_win, View.read_rep, read_rep_put]
    rfl
  iapply (pointsTo_rep_of_read (c : Thread nD τ) arg15 _ fullShare _ ?_) $$ HW15
  rw [View.read_writes_cons_put _ _ _ _ _ rfl, View.read_writes_rep_unit _ _ _ _ rfl]
  sl_unfold_run_names
  simp only [readAt_rep_win, readAt_win, View.read_rep, read_rep_put]
  rfl

end

end Cert.KernelIdeal.GLA

end
-- ==== Proof.GLA.FwdLoop.lean ====
/- The forward call's chunk loop, run once over a symbolic trip. -/
module

public import proofs.«01_k».proof.Proof.GLA.BwdLoop
public import proofs.«01_k».proof.Proof.GLA.FwdStep

@[expose] public section

set_option maxRecDepth 8192
set_option maxHeartbeats 4000000

noncomputable section

namespace Cert.KernelIdeal.GLA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- The arrays the loop touches, its inputs at `I` and its outputs at `t`. -/
abbrev FHeld (c : Dev nD) (arg2 : Memref sig .tc .vmem S2048x256 .f32) (arg3 : Memref sig .tc .vmem S2048x256 .f32) (arg4 : Memref sig .tc .vmem S2048x512 .f32) (arg5 : Memref sig .tc .vmem S2048x128 .f32) (arg8 : Memref sig .tc .vmem S2048x512 .f32) (arg9 : Memref sig .tc .vmem S2x32x128x256 .f32) (arg10 : Memref sig .tc .vmem S128x256 .f32) (arg11 : Memref sig .tc .vmem S128x256 .f32) (I : FIn F) (t : FSt F) : sProp 𝕄G :=
  iprop((arg2.view.loc (c : Thread nD τ) ↦[arg2.view.set]{fullShare} arg2.view.rep I.q) ∗ (arg3.view.loc (c : Thread nD τ) ↦[arg3.view.set]{fullShare} arg3.view.rep I.k) ∗ (arg4.view.loc (c : Thread nD τ) ↦[arg4.view.set]{fullShare} arg4.view.rep I.v) ∗ (arg5.view.loc (c : Thread nD τ) ↦[arg5.view.set]{fullShare} arg5.view.rep I.g) ∗ (arg8.view.loc (c : Thread nD τ) ↦[arg8.view.set]{fullShare} arg8.view.rep t.o) ∗ (arg9.view.loc (c : Thread nD τ) ↦[arg9.view.set]{fullShare} arg9.view.rep t.S) ∗ (arg10.view.loc (c : Thread nD τ) ↦[arg10.view.set]{fullShare} arg10.view.rep t.s0) ∗ (arg11.view.loc (c : Thread nD τ) ↦[arg11.view.set]{fullShare} arg11.view.rep t.s1))

section

variable (𝒱 : Variants) (c : Dev nD) (bd : Option 𝒱.V) (i : grid0.Coords) (arg1 : Memref sig .tc .vmem S128x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S1x256 .f32) (harg6 : arg6.IsWhole) (arg7 : Memref sig .tc .hbm S2048x2048 .f32) (harg7 : arg7.IsWhole) (arg8 : Memref sig .tc .vmem S2048x512 .f32) (harg8 : arg8.IsWhole) (arg9 : Memref sig .tc .vmem S2x32x128x256 .f32) (harg9 : arg9.IsWhole) (arg10 : Memref sig .tc .vmem S128x256 .f32) (harg10 : arg10.IsWhole) (arg11 : Memref sig .tc .vmem S128x256 .f32) (harg11 : arg11.IsWhole) (I : FIn F)

set_option maxHeartbeats 16000000 in
/-- One trip. -/
theorem ftrip (k : Fin k0_t1_loop.trips) (t : FSt F) (E : Set ℕ) :
    FHeld c arg2 arg3 arg4 arg5 arg8 arg9 arg10 arg11 I t
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 I.gu I.gb k PUnit.unit)
          (fun _ => FHeld c arg2 arg3 arg4 arg5 arg8 arg9 arg10 arg11 I (fstep I k t)) := by
  have hk : k.val < 32 := Nat.lt_of_lt_of_le k.isLt k0_t1_abs.2.1
  unfold k0_t1_body
  iintro ⟨HR2, HR3, HR4, HR5, HW8, HW9, HW10, HW11⟩
  sl_exec
  sl_step
  isplitl [HR2]; · iexact HR2
  isplitl [HR3]; · iexact HR3
  isplitl [HR4]; · iexact HR4
  isplitl [HR5]; · iexact HR5
  isplitl [HW8]
  · iapply (pointsTo_rep_of_read (c : Thread nD τ) arg8 _ fullShare _ ?_) $$ HW8
    rw [View.read_writes_cons_put _ _ _ _ _ rfl, View.read_writes_rep_unit _ _ _ _ rfl]
    sl_unfold_run_names
    simp only [readAt_rep_win]
    rfl
  isplitl [HW9]
  · iapply (pointsTo_rep_of_read (c : Thread nD τ) arg9 _ fullShare _ ?_) $$ HW9
    rw [View.read_writes_cons_put _ _ _ _ _ rfl, View.read_writes_rep_unit _ _ _ _ rfl]
    sl_unfold_run_names
    simp only [readAt_rep_win]
    rfl
  isplitl [HW10]
  · iapply (pointsTo_rep_of_read (c : Thread nD τ) arg10 _ fullShare _ ?_) $$ HW10
    sl_unfold_run_names
    rw [View.read_writes_full]
    simp only [readAt_rep_win]
    rfl
  iapply (pointsTo_rep_of_read (c : Thread nD τ) arg11 _ fullShare _ ?_) $$ HW11
  sl_unfold_run_names
  rw [View.read_writes_full]
  simp only [readAt_rep_win]
  rfl

/-- What the body's first stores leave: the two carried states at zero. -/
@[reducible] def fstart (t : FSt F) : FSt F := { t with s0 := k0_pay4, s1 := k0_pay5 }

set_option maxHeartbeats 16000000 in
/-- The body's triple. -/
theorem bodyF (t : FSt F) (E : Set ℕ) (K : PUnit → sProp 𝕄G) :
    iprop(owns (c : Thread nD τ) arg1 fullShare I.gu ∗ owns (c : Thread nD τ) arg2 fullShare I.q ∗ owns (c : Thread nD τ) arg3 fullShare I.k ∗ owns (c : Thread nD τ) arg4 fullShare I.v ∗ owns (c : Thread nD τ) arg5 fullShare I.g ∗ owns (c : Thread nD τ) arg6 fullShare I.gb ∗ owns (c : Thread nD τ) arg8 fullShare t.o ∗ owns (c : Thread nD τ) arg9 fullShare t.S ∗ owns (c : Thread nD τ) arg10 fullShare t.s0 ∗ owns (c : Thread nD τ) arg11 fullShare t.s1
        ∗ (iprop(owns (c : Thread nD τ) arg1 fullShare I.gu ∗ owns (c : Thread nD τ) arg2 fullShare I.q ∗ owns (c : Thread nD τ) arg3 fullShare I.k ∗ owns (c : Thread nD τ) arg4 fullShare I.v ∗ owns (c : Thread nD τ) arg5 fullShare I.g ∗ owns (c : Thread nD τ) arg6 fullShare I.gb ∗ owns (c : Thread nD τ) arg8 fullShare (fafter I (fstart t) 32).o ∗ owns (c : Thread nD τ) arg9 fullShare (fafter I (fstart t) 32).S ∗ owns (c : Thread nD τ) arg10 fullShare (fafter I (fstart t) 32).s0 ∗ owns (c : Thread nD τ) arg11 fullShare (fafter I (fstart t) 32).s1) -∗ K PUnit.unit))
      ⊢ wp frame (wpE (defs₀ (F := F)) 𝒱 (c : Thread nD τ) bd) E (cc0_gla_fwd (F := F) i arg1 harg1 arg2 harg2 arg3 harg3 arg4 harg4 arg5 harg5 arg6 harg6 arg7 harg7 arg8 harg8 arg9 harg9 arg10 harg10 arg11 harg11) K := by
  simp only [cc0_gla_fwd_eq_skeleton]; unfold cc0_gla_fwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f8, %hf8, H8⟩, ⟨%f9, %hf9, H9⟩, ⟨%f10, %hf10, H10⟩, ⟨%f11, %hf11, H11⟩, Hk⟩
  ihave G1 := (pointsTo_rep_of_read (c : Thread nD τ) arg1 f1 fullShare I.gu hf1) $$ H1
  ihave G2 := (pointsTo_rep_of_read (c : Thread nD τ) arg2 f2 fullShare I.q hf2) $$ H2
  ihave G3 := (pointsTo_rep_of_read (c : Thread nD τ) arg3 f3 fullShare I.k hf3) $$ H3
  ihave G4 := (pointsTo_rep_of_read (c : Thread nD τ) arg4 f4 fullShare I.v hf4) $$ H4
  ihave G5 := (pointsTo_rep_of_read (c : Thread nD τ) arg5 f5 fullShare I.g hf5) $$ H5
  ihave G6 := (pointsTo_rep_of_read (c : Thread nD τ) arg6 f6 fullShare I.gb hf6) $$ H6
  ihave G8 := (pointsTo_rep_of_read (c : Thread nD τ) arg8 f8 fullShare t.o hf8) $$ H8
  ihave G9 := (pointsTo_rep_of_read (c : Thread nD τ) arg9 f9 fullShare t.S hf9) $$ H9
  generalize hB : k0_t1_body (F := F) i arg1 harg1 arg2 harg2 arg3 harg3 arg4 harg4 arg5 harg5 arg6 harg6 arg7 harg7 arg8 harg8 arg9 harg9 arg10 harg10 arg11 harg11 = B
  sl_exec
  subst hB
  sl_unfold_run_names
  ihave G10 := (pointsTo_rep_of_read (c : Thread nD τ) arg10 _ fullShare (k0_pay4 (F := F)) (View.read_writes_full _ _ _ _ _)) $$ H10
  ihave G11 := (pointsTo_rep_of_read (c : Thread nD τ) arg11 _ fullShare (k0_pay5 (F := F)) (View.read_writes_full _ _ _ _ _)) $$ H11
  rw [View.readAt_rep_full, View.readAt_rep_full]
  sl_for (fun n _ => FHeld c arg2 arg3 arg4 arg5 arg8 arg9 arg10 arg11 I (fafter I (fstart t) n)) $$ [G2 G3 G4 G5 G8 G9 G10 G11]
  · intro k acc; cases acc
    show _ ⊢ wp _ _ _ _ (fun _ => FHeld c arg2 arg3 arg4 arg5 arg8 arg9 arg10 arg11 I (fafter I (fstart t) (k.val + 1)))
    rw [fafter_succ]
    exact ftrip 𝒱 c bd i arg1 harg1 arg2 harg2 arg3 harg3 arg4 harg4 arg5 harg5 arg6 harg6 arg7 harg7 arg8 harg8 arg9 harg9 arg10 harg10 arg11 harg11 I k (fafter I (fstart t) k.val) E
  · isplitl [G2]; · iexact G2
    isplitl [G3]; · iexact G3
    isplitl [G4]; · iexact G4
    isplitl [G5]; · iexact G5
    isplitl [G8]; · iexact G8
    isplitl [G9]; · iexact G9
    isplitl [G10]; · iexact G10
    iexact G11
  iintro %acc ⟨G2, G3, G4, G5, G8, G9, G10, G11⟩
  sl_exec
  sl_step
  iapply Hk
  isplitl [G1]
  · iexists _; isplitr; swap; · iexact G1
    ipureintro; exact View.read_rep _ _
  isplitl [G2]
  · iexists _; isplitr; swap; · iexact G2
    ipureintro; exact View.read_rep _ _
  isplitl [G3]
  · iexists _; isplitr; swap; · iexact G3
    ipureintro; exact View.read_rep _ _
  isplitl [G4]
  · iexists _; isplitr; swap; · iexact G4
    ipureintro; exact View.read_rep _ _
  isplitl [G5]
  · iexists _; isplitr; swap; · iexact G5
    ipureintro; exact View.read_rep _ _
  isplitl [G6]
  · iexists _; isplitr; swap; · iexact G6
    ipureintro; exact View.read_rep _ _
  isplitl [G8]
  · iexists _; isplitr; swap; · iexact G8
    ipureintro; exact View.read_rep _ _
  isplitl [G9]
  · iexists _; isplitr; swap; · iexact G9
    ipureintro; exact View.read_rep _ _
  isplitl [G10]
  · iexists _; isplitr; swap; · iexact G10
    ipureintro; exact View.read_rep _ _
  iexists _; isplitr; swap; · iexact G11
  ipureintro; exact View.read_rep _ _

end

end Cert.KernelIdeal.GLA

end
-- ==== Proof.GLA.Region0.lean ====
/- The forward call at one grid point: its windows, its proof data and its body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.GLA.Outs
public import proofs.«01_k».proof.Proof.GLA.FwdLoop

@[expose] public section

set_option maxRecDepth 16384

noncomputable section

namespace Cert.KernelIdeal.GLA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S128x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x32x128x256 .f32 := win0_7.stage (cfg0.slots t 7)
abbrev hs0_7 (t : Fin cfg0.N) : (ms0_7 t).IsWhole := hstage0_7 ((cfg0.slots t 7).cast nbuf0_7)

abbrev scM0_0 : Memref sig .tc .vmem S128x256 .f32 := Memref.whole cc0_scratch0
abbrev scM0_1 : Memref sig .tc .vmem S128x256 .f32 := Memref.whole cc0_scratch1

theorem scopedRest0_flat (c : Dev nD) :
    (Pipeline.scopedRest spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ Pipeline.scopedRestBut spec0 c [cc0_scratch0, cc0_scratch1]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest0_split, assoc]

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Pipeline.scopedRestBut spec0 c [cc0_scratch0, cc0_scratch1]) ∗ (∃ r, prngReg c r)) := by
  unfold Pipeline.ΦA; rw [scopedRest0_flat]; simp only [scM0_0, scM0_1, owns_whole]; try rfl

/-- Contents to start from: no one reads them. -/
def zero0 : FSt F := ⟨(fun _ => FloatOps.ofBits .f32 0), (fun _ => FloatOps.ofBits .f32 0), k0_pay4, k0_pay5⟩

/-- What the block of point `t` reads. -/
def rin0 (c : Dev nD) (t : Fin cfg0.N) : FIn F where
  gu := iblk0 V c 0 t
  q := iblk0 V c 1 t
  k := iblk0 V c 2 t
  v := iblk0 V c 3 t
  g := iblk0 V c 4 t
  gb := iblk0 V c 5 t

/-- What the body leaves in the outputs' blocks at point `t`. -/
def rout0 (c : Dev nD) (t : Fin cfg0.N) : FSt F := fafter (rin0 V c t) zero0 32

/-- The pipeline's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (rout0 V c t).o
    | ⟨7, _⟩ => (rout0 V c t).S
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (rout0 V c t).o := by dsimp only [dat0]
theorem after0_7 (c : Dev nD) (t : Fin cfg0.N) : (dat0 V c).after 7 t = (rout0 V c t).S := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  rw [show (dat0 V c).Φ t.castSucc = Pipeline.ΦA spec0 c from rfl, PhiA0_eq]
  iintro ⟨⟨⟨⟨%x0, HS0⟩, ⟨%x1, HS1⟩, HR2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have ho : fafter (rin0 V c t) (fstart ⟨(dat0 V c).before 6 t d6, (dat0 V c).before 7 t d7, x0, x1⟩) 32 = rout0 V c t := fafter_eq (rin0 V c t) _ zero0 rfl rfl
  rw [← ho]
  iapply (bodyF Variants.none c none (grid0.coords t) _ _ _ _ _ _ _ _ _ _ _ _ _ _ _ _ _ _ _ _ _ _ (rin0 V c t) ⟨(dat0 V c).before 6 t d6, (dat0 V c).before 7 t d7, x0, x1⟩ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 HR2 Hg]
  · isplitl [HS0 HS1 HR2]
    · isplitl [HS0]; · iexists _; iexact HS0
      isplitl [HS1]; · iexists _; iexact HS1
      iexact HR2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.GLA

end
-- ==== Proof.GLA.BwdBody.lean ====
/- The whole body of the backward call: the two accumulators and the carried gradient are cleared and the chunk loop is run. -/
module

public import proofs.«01_k».proof.Proof.GLA.BwdLoop

@[expose] public section

set_option maxRecDepth 8192
set_option maxHeartbeats 4000000

noncomputable section

namespace Cert.KernelIdeal.GLA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- What the body's first stores leave: the two accumulators and the carried gradient at zero. -/
@[reducible] def start (t : BSt F) : BSt F := { t with du := k1_pay8, db := k1_pay9, dS := k1_pay7 }

section

variable (𝒱 : Variants) (c : Dev nD) (bd : Option 𝒱.V) (i : grid1.Coords) (arg1 : Memref sig .tc .vmem S128x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x512 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2x32x128x256 .f32) (harg7 : arg7.IsWhole) (arg8 : Memref sig .tc .vmem S1x256 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x512 .bf16) (harg11 : arg11.IsWhole) (arg12 : Memref sig .tc .vmem S2x2048x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S2x128x256 .f32) (harg15 : arg15.IsWhole) (I : BIn F)

set_option maxHeartbeats 16000000 in
/-- The body's triple. -/
theorem bodyB (t : BSt F) (E : Set ℕ) (K : PUnit → sProp 𝕄G) :
    iprop(owns (c : Thread nD τ) arg1 fullShare I.gu ∗ owns (c : Thread nD τ) arg2 fullShare I.q ∗ owns (c : Thread nD τ) arg3 fullShare I.k ∗ owns (c : Thread nD τ) arg4 fullShare I.v ∗ owns (c : Thread nD τ) arg5 fullShare I.g ∗ owns (c : Thread nD τ) arg6 fullShare I.d ∗ owns (c : Thread nD τ) arg7 fullShare I.S ∗ owns (c : Thread nD τ) arg8 fullShare I.gb ∗ owns (c : Thread nD τ) arg9 fullShare t.dq ∗ owns (c : Thread nD τ) arg10 fullShare t.dk ∗ owns (c : Thread nD τ) arg11 fullShare t.dv ∗ owns (c : Thread nD τ) arg12 fullShare t.dg ∗ owns (c : Thread nD τ) arg13 fullShare t.du ∗ owns (c : Thread nD τ) arg14 fullShare t.db ∗ owns (c : Thread nD τ) arg15 fullShare t.dS
        ∗ (iprop(owns (c : Thread nD τ) arg1 fullShare I.gu ∗ owns (c : Thread nD τ) arg2 fullShare I.q ∗ owns (c : Thread nD τ) arg3 fullShare I.k ∗ owns (c : Thread nD τ) arg4 fullShare I.v ∗ owns (c : Thread nD τ) arg5 fullShare I.g ∗ owns (c : Thread nD τ) arg6 fullShare I.d ∗ owns (c : Thread nD τ) arg7 fullShare I.S ∗ owns (c : Thread nD τ) arg8 fullShare I.gb ∗ owns (c : Thread nD τ) arg9 fullShare (after I (start t) 32).dq ∗ owns (c : Thread nD τ) arg10 fullShare (after I (start t) 32).dk ∗ owns (c : Thread nD τ) arg11 fullShare (after I (start t) 32).dv ∗ owns (c : Thread nD τ) arg12 fullShare (after I (start t) 32).dg ∗ owns (c : Thread nD τ) arg13 fullShare (after I (start t) 32).du ∗ owns (c : Thread nD τ) arg14 fullShare (after I (start t) 32).db ∗ owns (c : Thread nD τ) arg15 fullShare (after I (start t) 32).dS) -∗ K PUnit.unit))
      ⊢ wp frame (wpE (defs₀ (F := F)) 𝒱 (c : Thread nD τ) bd) E (cc1_gla (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_gla_eq_skeleton]; unfold cc1_gla_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  ihave G1 := (pointsTo_rep_of_read (c : Thread nD τ) arg1 f1 fullShare I.gu hf1) $$ H1
  ihave G2 := (pointsTo_rep_of_read (c : Thread nD τ) arg2 f2 fullShare I.q hf2) $$ H2
  ihave G3 := (pointsTo_rep_of_read (c : Thread nD τ) arg3 f3 fullShare I.k hf3) $$ H3
  ihave G4 := (pointsTo_rep_of_read (c : Thread nD τ) arg4 f4 fullShare I.v hf4) $$ H4
  ihave G5 := (pointsTo_rep_of_read (c : Thread nD τ) arg5 f5 fullShare I.g hf5) $$ H5
  ihave G6 := (pointsTo_rep_of_read (c : Thread nD τ) arg6 f6 fullShare I.d hf6) $$ H6
  ihave G7 := (pointsTo_rep_of_read (c : Thread nD τ) arg7 f7 fullShare I.S hf7) $$ H7
  ihave G8 := (pointsTo_rep_of_read (c : Thread nD τ) arg8 f8 fullShare I.gb hf8) $$ H8
  ihave G9 := (pointsTo_rep_of_read (c : Thread nD τ) arg9 f9 fullShare t.dq hf9) $$ H9
  ihave G10 := (pointsTo_rep_of_read (c : Thread nD τ) arg10 f10 fullShare t.dk hf10) $$ H10
  ihave G11 := (pointsTo_rep_of_read (c : Thread nD τ) arg11 f11 fullShare t.dv hf11) $$ H11
  ihave G12 := (pointsTo_rep_of_read (c : Thread nD τ) arg12 f12 fullShare t.dg hf12) $$ H12
  sl_exec
  sl_unfold_run_names
  ihave G13 := (pointsTo_rep_of_read (c : Thread nD τ) arg13 _ fullShare (k1_pay8 (F := F)) (View.read_writes_full _ _ _ _ _)) $$ H13
  ihave G14 := (pointsTo_rep_of_read (c : Thread nD τ) arg14 _ fullShare (k1_pay9 (F := F)) (View.read_writes_full _ _ _ _ _)) $$ H14
  ihave G15 := (pointsTo_rep_of_read (c : Thread nD τ) arg15 _ fullShare (k1_pay7 (F := F)) (View.read_writes_full _ _ _ _ _)) $$ H15
  rw [View.readAt_rep_full, View.readAt_rep_full]
  sl_for (fun n _ => Held c arg2 arg3 arg4 arg5 arg6 arg7 arg9 arg10 arg11 arg12 arg13 arg14 arg15 I (after I (start t) n)) $$ [G2 G3 G4 G5 G6 G7 G9 G10 G11 G12 G13 G14 G15]
  · intro k acc; cases acc
    show _ ⊢ wp _ _ _ _ (fun _ => Held c arg2 arg3 arg4 arg5 arg6 arg7 arg9 arg10 arg11 arg12 arg13 arg14 arg15 I (after I (start t) (k.val + 1)))
    rw [after_succ]
    exact trip 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 I k (after I (start t) k.val) E
  · isplitl [G2]; · iexact G2
    isplitl [G3]; · iexact G3
    isplitl [G4]; · iexact G4
    isplitl [G5]; · iexact G5
    isplitl [G6]; · iexact G6
    isplitl [G7]; · iexact G7
    isplitl [G9]; · iexact G9
    isplitl [G10]; · iexact G10
    isplitl [G11]; · iexact G11
    isplitl [G12]; · iexact G12
    isplitl [G13]; · iexact G13
    isplitl [G14]; · iexact G14
    iexact G15
  iintro %acc ⟨G2, G3, G4, G5, G6, G7, G9, G10, G11, G12, G13, G14, G15⟩
  sl_exec
  sl_step
  iapply Hk
  isplitl [G1]
  · iexists _; isplitr; swap; · iexact G1
    ipureintro; exact View.read_rep _ _
  isplitl [G2]
  · iexists _; isplitr; swap; · iexact G2
    ipureintro; exact View.read_rep _ _
  isplitl [G3]
  · iexists _; isplitr; swap; · iexact G3
    ipureintro; exact View.read_rep _ _
  isplitl [G4]
  · iexists _; isplitr; swap; · iexact G4
    ipureintro; exact View.read_rep _ _
  isplitl [G5]
  · iexists _; isplitr; swap; · iexact G5
    ipureintro; exact View.read_rep _ _
  isplitl [G6]
  · iexists _; isplitr; swap; · iexact G6
    ipureintro; exact View.read_rep _ _
  isplitl [G7]
  · iexists _; isplitr; swap; · iexact G7
    ipureintro; exact View.read_rep _ _
  isplitl [G8]
  · iexists _; isplitr; swap; · iexact G8
    ipureintro; exact View.read_rep _ _
  isplitl [G9]
  · iexists _; isplitr; swap; · iexact G9
    ipureintro; exact View.read_rep _ _
  isplitl [G10]
  · iexists _; isplitr; swap; · iexact G10
    ipureintro; exact View.read_rep _ _
  isplitl [G11]
  · iexists _; isplitr; swap; · iexact G11
    ipureintro; exact View.read_rep _ _
  isplitl [G12]
  · iexists _; isplitr; swap; · iexact G12
    ipureintro; exact View.read_rep _ _
  isplitl [G13]
  · iexists _; isplitr; swap; · iexact G13
    ipureintro; exact View.read_rep _ _
  isplitl [G14]
  · iexists _; isplitr; swap; · iexact G14
    ipureintro; exact View.read_rep _ _
  iexists _; isplitr; swap; · iexact G15
  ipureintro; exact View.read_rep _ _

end

end Cert.KernelIdeal.GLA

end
-- ==== Proof.GLA.Region1.lean ====
/- The backward call at one grid point: its windows, its proof data and its body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.GLA.Outs
public import proofs.«01_k».proof.Proof.GLA.BwdBody

@[expose] public section

set_option maxRecDepth 16384

noncomputable section

namespace Cert.KernelIdeal.GLA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S128x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2x32x128x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x256 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S2048x256 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S2048x512 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S2x2048x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S128x256 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x256 .f32 := win1_13.stage (cfg1.slots t 13)
abbrev hs1_13 (t : Fin cfg1.N) : (ms1_13 t).IsWhole := hstage1_13 ((cfg1.slots t 13).cast nbuf1_13)

abbrev scM1_0 : Memref sig .tc .vmem S2x128x256 .f32 := Memref.whole cc1_scratch0

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d)) ∗ (∃ r, prngReg c r)) := by
  unfold Pipeline.ΦA; rw [scopedRest1_eq]; simp only [scM1_0, owns_whole]; try rfl

/-- Contents to start from: no one reads the outputs'. -/
def zero1 : BSt F := ⟨(fun _ => FloatOps.ofBits .bf16 0), (fun _ => FloatOps.ofBits .bf16 0), (fun _ => FloatOps.ofBits .bf16 0), (fun _ => FloatOps.ofBits .f32 0), k1_pay8, k1_pay9, k1_pay7⟩

/-- What the block of point `t` reads. -/
def rin1 (c : Dev nD) (t : Fin cfg1.N) : BIn F where
  gu := iblk1 V c 0 t
  q := iblk1 V c 1 t
  k := iblk1 V c 2 t
  v := iblk1 V c 3 t
  g := iblk1 V c 4 t
  d := iblk1 V c 5 t
  S := iblk1 V c 6 t
  gb := iblk1 V c 7 t

/-- What the body leaves in the outputs' blocks at point `t`. -/
def rout1 (c : Dev nD) (t : Fin cfg1.N) : BSt F := after (rin1 V c t) zero1 32

/-- The pipeline's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (rout1 V c t).dq
    | ⟨9, _⟩ => (rout1 V c t).dk
    | ⟨10, _⟩ => (rout1 V c t).dv
    | ⟨11, _⟩ => (rout1 V c t).dg
    | ⟨12, _⟩ => (rout1 V c t).du
    | ⟨13, _⟩ => (rout1 V c t).db
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (rout1 V c t).dq := by dsimp only [dat1]
theorem after1_9 (c : Dev nD) (t : Fin cfg1.N) : (dat1 V c).after 9 t = (rout1 V c t).dk := by dsimp only [dat1]
theorem after1_10 (c : Dev nD) (t : Fin cfg1.N) : (dat1 V c).after 10 t = (rout1 V c t).dv := by dsimp only [dat1]
theorem after1_11 (c : Dev nD) (t : Fin cfg1.N) : (dat1 V c).after 11 t = (rout1 V c t).dg := by dsimp only [dat1]
theorem after1_12 (c : Dev nD) (t : Fin cfg1.N) : (dat1 V c).after 12 t = (rout1 V c t).du := by dsimp only [dat1]
theorem after1_13 (c : Dev nD) (t : Fin cfg1.N) : (dat1 V c).after 13 t = (rout1 V c t).db := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  rw [show (dat1 V c).Φ t.castSucc = Pipeline.ΦA spec1 c from rfl, PhiA1_eq]
  iintro ⟨⟨⟨HQ0, HQ1, HQ2, HQ3, HQ4, HQ5, HQ6, HQ7, HQ8, HQ9, HQ10, HQ11, HQ12, HQ13, ⟨%x0, HS0⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have ho : after (rin1 V c t) (start ⟨(dat1 V c).before 8 t d8, (dat1 V c).before 9 t d9, (dat1 V c).before 10 t d10, (dat1 V c).before 11 t d11, (dat1 V c).before 12 t d12, (dat1 V c).before 13 t d13, x0⟩) 32 = rout1 V c t := after_eq (rin1 V c t) _ zero1 rfl rfl rfl
  rw [← ho]
  iapply (bodyB Variants.none c none (grid1.coords t) _ _ _ _ _ _ _ _ _ _ _ _ _ _ _ _ _ _ _ _ _ _ _ _ _ _ _ _ _ _ (rin1 V c t) ⟨(dat1 V c).before 8 t d8, (dat1 V c).before 9 t d9, (dat1 V c).before 10 t d10, (dat1 V c).before 11 t d11, (dat1 V c).before 12 t d12, (dat1 V c).before 13 t d13, x0⟩ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  iintro ⟨H0, H1, H2, H3, H4, H5, H6, H7, H8, H9, H10, H11, H12, H13, HS0⟩
  isplitl [HS0 Hg HQ0 HQ1 HQ2 HQ3 HQ4 HQ5 HQ6 HQ7 HQ8 HQ9 HQ10 HQ11 HQ12 HQ13]
  · isplitl [HS0 HQ0 HQ1 HQ2 HQ3 HQ4 HQ5 HQ6 HQ7 HQ8 HQ9 HQ10 HQ11 HQ12 HQ13]
    · isplitl [HQ0]; · iexact HQ0
      isplitl [HQ1]; · iexact HQ1
      isplitl [HQ2]; · iexact HQ2
      isplitl [HQ3]; · iexact HQ3
      isplitl [HQ4]; · iexact HQ4
      isplitl [HQ5]; · iexact HQ5
      isplitl [HQ6]; · iexact HQ6
      isplitl [HQ7]; · iexact HQ7
      isplitl [HQ8]; · iexact HQ8
      isplitl [HQ9]; · iexact HQ9
      isplitl [HQ10]; · iexact HQ10
      isplitl [HQ11]; · iexact HQ11
      isplitl [HQ12]; · iexact HQ12
      isplitl [HQ13]; · iexact HQ13
      iexists _; iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.GLA

end
-- ==== Proof.GLA.Run.lean ====
/- The run of the program: its host stretches and its two calls, from the launch to the return. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.GLA.Region0
public import proofs.«01_k».proof.Proof.GLA.Region1

@[expose] public section

set_option maxRecDepth 16384

noncomputable section

namespace Cert.KernelIdeal.GLA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5]

theorem hostOps0_fresh : (hostOps0 : List (HloOp τ sig (Elt F))).Forall fun op => op.fresh = ∅ := by
  simp only [List.Forall]; repeat' constructor
abbrev hostOps0_W : List (Ref sig .tc) := [main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_v0]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_c_0]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps0_3_fresh : (hostOps0_3 : List (HloOp τ sig (Elt F))).Forall fun op => op.fresh = ∅ := by
  simp only [List.Forall]; repeat' constructor
abbrev hostOps0_3_W : List (Ref sig .tc) := [main_call1_v0, main_v1]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_args : ∀ a ∈ argRefs, a ∉ hostOps0_3_W := ListAll.forall_mem_of_all_decide (by decide +kernel)

theorem hostOps0_4_fresh : (hostOps0_4 : List (HloOp τ sig (Elt F))).Forall fun op => op.fresh = ∅ := by
  simp only [List.Forall]; repeat' constructor
abbrev hostOps0_4_W : List (Ref sig .tc) := [main_v2_0]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_args : ∀ a ∈ argRefs, a ∉ hostOps0_4_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
abbrev V5 : (c : Dev nD) → (b : Ref sig .tc) → Buf (Elt F) ((c : Thread nD τ).loc b) := fun c b => W5 m ρ c b
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact (dat0 (V5 m ρ) c).withArrays_arrAt launch₀0.sharedIn _ (A_eq0 (V5 m ρ) c) w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((dat0 (V5 m ρ) c).arrAt_in w (h w rfl) _).trans (A_eq0 (V5 m ρ) c w))
  · exact W6_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn0 a ha)).trans (W5_args m ρ c a ha)
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact (dat1 (V6 m ρ) c).withArrays_arrAt launch₀1.sharedIn _ (A_eq1 (V6 m ρ) c) w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
theorem W7_of (c : Dev nD) (r : Ref sig .tc) (h : ∀ w : Fin cfg1.W, Pipeline.arrRef spec1 w = r → (cfg1.win w).isOut = false) :
    W7 m ρ c (Proc.devRef .tc r) = W6 m ρ c (Proc.devRef .tc r) := by
  by_cases hw : ∃ w : Fin cfg1.W, Pipeline.arrRef spec1 w = r
  · obtain ⟨w, rfl⟩ := hw
    exact (W7_arr m ρ c w).trans (((dat1 (V6 m ρ) c).arrAt_in w (h w rfl) _).trans (A_eq1 (V6 m ρ) c w))
  · exact W7_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn1 a ha)).trans (W6_args m ρ c a ha)
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V6 m ρ c) (A_eq1 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The run: every argument ends as launched, the results end at what the second call's pipeline leaves, every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ ∀ b ∈ Pipeline.ucRefs τ sig, r.2.mem ((c : Thread nD τ).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨(h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c), h c⟩), funext fun g => hz g (.inr (no_unscoped g.2))⟩)

end Cert.KernelIdeal.GLA

end
-- ==== Proof.GLA.Frames.lean ====
/- The two frame claims of the kernel, both from the one run. -/
module

public import proofs.«01_k».proof.Defs
public import proofs.«01_k».proof.Proof.Gen.Kernel
public import proofs.«01_k».proof.Proof.Gen.KernelIdeal
public import proofs.«01_k».proof.Proof.GLA.Run

@[expose] public section

noncomputable section

namespace Cert.KernelIdeal.GLA

open Idealize.ShloMosaic Idealize.SL.Sem Cert.KernelIdeal.Gen

theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1, (h.1 c).2.2.2.2.2.1⟩, h.2⟩) (run_main (F := Ideal) m ρ)

theorem cc0_same : @Cert.Kernel.cc0_gla_fwd Bits _ _ = @cc0_gla_fwd Bits _ _ := rfl
theorem cc1_same : @Cert.Kernel.cc1_gla Bits _ _ = @cc1_gla Bits _ _ := rfl
theorem pcfgs_same : Cert.Kernel.pcfgs (F := Bits) = pcfgs (F := Bits) := rfl

set_option maxHeartbeats 4000000 in
/-- The two programs' body tables run the same bodies. -/
theorem defs₀_same : Cert.Kernel.defs₀ (F := Bits) = defs₀ (F := Bits) := by
  unfold Cert.Kernel.defs₀ defs₀
  refine congrArg Defs.onTc (funext fun l => funext fun a => ?_)
  match l, a with
  | 0, (t, s) =>
    dsimp only
    rw [cc0_same]
    rfl
  | 1, (t, s) =>
    dsimp only
    rw [cc1_same]
    rfl

theorem defs_same : Cert.Kernel.defs (F := Bits) = defs (F := Bits) :=
  congrArg (Pipeline.defs (pcfgs (F := Bits))) defs₀_same

theorem frame_kernel : Cert.quiescent_Kernel := fun m ρ _ => by
  have h0 := run_main (F := Bits) m ρ
  have h1 : θ_run Cert.KernelIdeal.defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := (θ_run Cert.KernelIdeal.defs _ _).mono
    (fun _ h => ⟨fun c => ⟨(h.1 c).1, (h.1 c).2.1, (h.1 c).2.2.1, (h.1 c).2.2.2.1, (h.1 c).2.2.2.2.1, (h.1 c).2.2.2.2.2.1⟩, h.2⟩) h0
  rw [defs_same]
  exact h1

end Cert.KernelIdeal.GLA

end
-- ==== Proof.FFN.Reference.lean ====
module

public import proofs.«01_k».proof.Proof.Gen.Reference2Ideal.Run
public import Idealize.ShloMosaic.Lib.Pointwise

/-! The reference's four results, element by element over the arguments. -/

@[expose] public section

set_option maxRecDepth 16384

noncomputable section

namespace Cert.Reference2Ideal.FFN

open Idealize.ShloMosaic Idealize.ShloMosaic.TcCoe Idealize.SL.Sem
open Cert.Reference2Ideal Cert.Reference2Ideal.Gen

variable (A0 : FVec Ideal S2048x2048 .f32) (A1 A2 : FVec Ideal S2048x5632 .f32) (A3 : FVec Ideal S5632x2048 .f32) (A4 : FVec Ideal S2048x2048 .f32)

/-- Result `v21` of the reference. -/
def T_v21 : FVec Ideal S1x6144x2048 .bf16 :=
  shapeCast _ (truncf .bf16 (pad S8x768x2048 ![0, 0, 0] ![0, 64, 0] ![0, 0, 0] (shapeCast _ (transpose S5632x2048 [1, 0] (Host.dotGeneral dot_S2048x2048_S2048x5632_S2048x5632_0_0_1_1_n_n none A4 (mulf (mulf (Host.dotGeneral dot_S2048x2048_S2048x5632_S2048x5632_1_0_0_1_n_n none A0 A1) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (Host.dotGeneral dot_S2048x2048_S2048x5632_S2048x5632_1_0_0_1_n_n none A0 A1)))))) (Host.dotGeneral dot_S2048x2048_S2048x5632_S2048x5632_1_0_0_1_n_n none A0 A2))) transposes_S2048x5632_S5632x2048_1_0) shapeCasts_S5632x2048_S8x704x2048) (sitofp .f32 (constantI S_ 32 0#32)) pads_S8x704x2048_S8x768x2048_000_0640_000 h_S_) bitsLt_bf16_f32) shapeCasts_S8x768x2048_S1x6144x2048

/-- Result `v25` of the reference. -/
def T_v25 : FVec Ideal S8x768x2048 .bf16 :=
  truncf .bf16 (pad S8x768x2048 ![0, 0, 0] ![0, 64, 0] ![0, 0, 0] (shapeCast _ (transpose S5632x2048 [1, 0] (transpose S2048x5632 [1, 0] (Host.dotGeneral dot_S2048x5632_S2048x2048_S5632x2048_0_0_1_1_n_n none (addf (mulf (mulf (Host.dotGeneral dot_S2048x2048_S5632x2048_S2048x5632_1_1_0_0_n_n none A4 A3) (Host.dotGeneral dot_S2048x2048_S2048x5632_S2048x5632_1_0_0_1_n_n none A0 A2)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (Host.dotGeneral dot_S2048x2048_S2048x5632_S2048x5632_1_0_0_1_n_n none A0 A1)))))) (mulf (mulf (Host.dotGeneral dot_S2048x2048_S2048x5632_S2048x5632_1_0_0_1_n_n none A0 A1) (mulf (Host.dotGeneral dot_S2048x2048_S5632x2048_S2048x5632_1_1_0_0_n_n none A4 A3) (Host.dotGeneral dot_S2048x2048_S2048x5632_S2048x5632_1_0_0_1_n_n none A0 A2))) (mulf (Host.divf (broadcastInDim S2048x5632 ![] bcast_S_S2048x5632 (constant S_ .f32 0x3F800000#32)) (addf (broadcastInDim S2048x5632 ![] bcast_S_S2048x5632 (constant S_ .f32 0x3F800000#32)) (Host.exp (Host.negf (Host.dotGeneral dot_S2048x2048_S2048x5632_S2048x5632_1_0_0_1_n_n none A0 A1))))) (subf (broadcastInDim S2048x5632 ![] bcast_S_S2048x5632 (constant S_ .f32 0x3F800000#32)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (Host.dotGeneral dot_S2048x2048_S2048x5632_S2048x5632_1_0_0_1_n_n none A0 A1))))))))) A0) transposes_S5632x2048_S2048x5632_1_0) transposes_S2048x5632_S5632x2048_1_0) shapeCasts_S5632x2048_S8x704x2048) (sitofp .f32 (constantI S_ 32 0#32)) pads_S8x704x2048_S8x768x2048_000_0640_000 h_S_) bitsLt_bf16_f32

/-- Result `v29` of the reference. -/
def T_v29 : FVec Ideal S8x768x2048 .bf16 :=
  truncf .bf16 (pad S8x768x2048 ![0, 0, 0] ![0, 64, 0] ![0, 0, 0] (shapeCast _ (transpose S5632x2048 [1, 0] (transpose S2048x5632 [1, 0] (Host.dotGeneral dot_S2048x5632_S2048x2048_S5632x2048_0_0_1_1_n_n none (mulf (mulf (Host.dotGeneral dot_S2048x2048_S2048x5632_S2048x5632_1_0_0_1_n_n none A0 A1) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (Host.dotGeneral dot_S2048x2048_S2048x5632_S2048x5632_1_0_0_1_n_n none A0 A1)))))) (Host.dotGeneral dot_S2048x2048_S5632x2048_S2048x5632_1_1_0_0_n_n none A4 A3)) A0) transposes_S5632x2048_S2048x5632_1_0) transposes_S2048x5632_S5632x2048_1_0) shapeCasts_S5632x2048_S8x704x2048) (sitofp .f32 (constantI S_ 32 0#32)) pads_S8x704x2048_S8x768x2048_000_0640_000 h_S_) bitsLt_bf16_f32

/-- Result `v17` of the reference. -/
def T_v17 : FVec Ideal S2048x2048 .f32 :=
  addf (Host.dotGeneral dot_S2048x5632_S2048x5632_S2048x2048_1_1_0_0_n_n none (mulf (mulf (Host.dotGeneral dot_S2048x2048_S2048x5632_S2048x5632_1_0_0_1_n_n none A0 A1) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (Host.dotGeneral dot_S2048x2048_S2048x5632_S2048x5632_1_0_0_1_n_n none A0 A1)))))) (Host.dotGeneral dot_S2048x2048_S5632x2048_S2048x5632_1_1_0_0_n_n none A4 A3)) A2) (Host.dotGeneral dot_S2048x5632_S2048x5632_S2048x2048_1_1_0_0_n_n none (addf (mulf (mulf (Host.dotGeneral dot_S2048x2048_S5632x2048_S2048x5632_1_1_0_0_n_n none A4 A3) (Host.dotGeneral dot_S2048x2048_S2048x5632_S2048x5632_1_0_0_1_n_n none A0 A2)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (Host.dotGeneral dot_S2048x2048_S2048x5632_S2048x5632_1_0_0_1_n_n none A0 A1)))))) (mulf (mulf (Host.dotGeneral dot_S2048x2048_S2048x5632_S2048x5632_1_0_0_1_n_n none A0 A1) (mulf (Host.dotGeneral dot_S2048x2048_S5632x2048_S2048x5632_1_1_0_0_n_n none A4 A3) (Host.dotGeneral dot_S2048x2048_S2048x5632_S2048x5632_1_0_0_1_n_n none A0 A2))) (mulf (Host.divf (broadcastInDim S2048x5632 ![] bcast_S_S2048x5632 (constant S_ .f32 0x3F800000#32)) (addf (broadcastInDim S2048x5632 ![] bcast_S_S2048x5632 (constant S_ .f32 0x3F800000#32)) (Host.exp (Host.negf (Host.dotGeneral dot_S2048x2048_S2048x5632_S2048x5632_1_0_0_1_n_n none A0 A1))))) (subf (broadcastInDim S2048x5632 ![] bcast_S_S2048x5632 (constant S_ .f32 0x3F800000#32)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (Host.dotGeneral dot_S2048x2048_S2048x5632_S2048x5632_1_0_0_1_n_n none A0 A1))))))))) A1)

/-- A row of the input against a column of a weight. -/
def RG (a : FVec Ideal S2048x2048 .f32) (w : FVec Ideal S2048x5632 .f32) (i : Fin 2048) (c : Fin 5632) : EReal := ∑ k : Fin 2048, a (ix2 i k) * w (ix2 k c)
/-- The gradient of the activation. -/
def RD (d : FVec Ideal S2048x2048 .f32) (w : FVec Ideal S5632x2048 .f32) (i : Fin 2048) (c : Fin 5632) : EReal := ∑ k : Fin 2048, d (ix2 i k) * w (ix2 c k)
/-- The logistic function. -/
def LOGI (g : EReal) : EReal := Ideal.div 1 (1 + Ideal.exp (-g))
/-- The activation's value, and the gradients of its two arguments. -/
def RACT (g u : EReal) : EReal := g * LOGI g * u
def RUP (g d : EReal) : EReal := g * LOGI g * d
def RGATE (g u d : EReal) : EReal := d * u * LOGI g + g * (d * u) * (LOGI g * (1 - LOGI g))

theorem zero_word : (FloatOps.sitofp FTy.f32 0#32 : Ideal .f32) = (0 : EReal) := by
  show (((0#32 : BitVec 32).toInt : ℝ) : EReal) = 0
  simp

set_option maxHeartbeats 1600000 in
theorem T_v21_apply (j : Fin 6144) (n : Fin 2048) : T_v21 A0 A1 A2 A4 (ix3 0 j n)
    = if h : j.val % 768 < 704 then ∑ x : Fin 2048, A4 (ix2 x n) * RACT (RG A0 A1 x ⟨j.val / 768 * 704 + j.val % 768, by omega⟩) (RG A0 A2 x ⟨j.val / 768 * 704 + j.val % 768, by omega⟩) else 0 := by
  have hj : j.val / 768 < 8 := by omega
  pointwise [T_v21, zero_word]
  by_cases h : j.val % 768 < 704
  · rw [dif_pos ⟨hj, h⟩, dif_pos h]; simp only [RACT, RUP, RGATE, RG, RD, LOGI]
  · rw [dif_neg (fun e => h e.2), dif_neg h]

set_option maxHeartbeats 1600000 in
theorem T_v25_apply (b : Fin 8) (r : Fin 768) (k : Fin 2048) : T_v25 A0 A1 A2 A3 A4 (ix3 b r k)
    = if h : r.val < 704 then ∑ x : Fin 2048, RGATE (RG A0 A1 x ⟨b.val * 704 + r.val, by omega⟩) (RG A0 A2 x ⟨b.val * 704 + r.val, by omega⟩) (RD A4 A3 x ⟨b.val * 704 + r.val, by omega⟩) * A0 (ix2 x k) else 0 := by
  pointwise [T_v25, zero_word]
  simp only [RACT, RUP, RGATE, RG, RD, LOGI]

set_option maxHeartbeats 1600000 in
theorem T_v29_apply (b : Fin 8) (r : Fin 768) (k : Fin 2048) : T_v29 A0 A1 A3 A4 (ix3 b r k)
    = if h : r.val < 704 then ∑ x : Fin 2048, RUP (RG A0 A1 x ⟨b.val * 704 + r.val, by omega⟩) (RD A4 A3 x ⟨b.val * 704 + r.val, by omega⟩) * A0 (ix2 x k) else 0 := by
  pointwise [T_v29, zero_word]
  simp only [RACT, RUP, RGATE, RG, RD, LOGI]

set_option maxHeartbeats 1600000 in
theorem T_v17_apply (i n : Fin 2048) : T_v17 A0 A1 A2 A3 A4 (ix2 i n)
    = (∑ x : Fin 5632, RUP (RG A0 A1 i x) (RD A4 A3 i x) * A2 (ix2 n x)) + ∑ x : Fin 5632, RGATE (RG A0 A1 i x) (RG A0 A2 i x) (RD A4 A3 i x) * A1 (ix2 n x) := by
  pointwise [T_v17]
  simp only [RACT, RUP, RGATE, RG, RD, LOGI]

end Cert.Reference2Ideal.FFN

end
-- ==== Proof.FFN.Terms.lean ====
module

public import proofs.«01_k».proof.Proof.Gen.Kernel2Ideal
public import Idealize.ShloMosaic.Lib.Pipeline.ValueKit

/-! What the six calls compute, element by element over the arrays they read. -/

@[expose] public section

set_option maxRecDepth 16384

noncomputable section

namespace Cert.Kernel2Ideal.FFN

open Idealize.ShloMosaic Idealize.ShloMosaic.TcCoe Idealize.SL.Sem
open Idealize.ShloMosaic.Pipeline (Dat)
open Cert.Kernel2Ideal Cert.Kernel2Ideal.Gen

/-- A row of `x` against row `(b, r)` of a padded weight, the column `j 1 = 768 b + r`. -/
def ROWS (x : FVec Ideal S2048x2048 .bf16) (w : FVec Ideal S1x8x768x2048 .bf16) (j : S2048x6144.Idx) : EReal :=
  ∑ k : Fin 2048, x (ix2 (j 0) k) * w (ix4 0 ⟨(j 1).val / 768, by have := (j 1).isLt; change (j 1).val < 6144 at this; omega⟩ ⟨(j 1).val % 768, Nat.mod_lt _ (by norm_num)⟩ k)

/-- The logistic function, the way the kernel spells it. -/
def SIG (z : EReal) : EReal := Ideal.div (Ideal.ofBits .f32 0x3F800000#32) (Ideal.ofBits .f32 0x3F800000#32 + Ideal.exp (Ideal.ofBits .f32 0x00000000#32 - z))

def DUP (g : EReal) : EReal := g * SIG g
def DGATE (g u : EReal) : EReal := u * (SIG g * (Ideal.ofBits .f32 0x3F800000#32 + g * (Ideal.ofBits .f32 0x3F800000#32 - SIG g)))
def ACT (g u : EReal) : EReal := (g * SIG g) * u

/-- The gradient of the down weight: columns of `a` against columns of `d`. -/
def DOWNW (a : FVec Ideal S2048x6144 .bf16) (d : FVec Ideal S2048x2048 .bf16) (j : S1x6144x2048.Idx) : EReal :=
  ∑ k : Fin 2048, a (ix2 k (j 1)) * d (ix2 k (j 2))

/-- The gradient of the activation, times a factor. -/
def DACT (d : FVec Ideal S2048x2048 .bf16) (w : FVec Ideal S1x1x6144x2048 .bf16) (e : FVec Ideal S2048x6144 .bf16) (j : S2048x6144.Idx) : EReal :=
  (∑ k : Fin 2048, d (ix2 (j 0) k) * w (ix4 0 0 (j 1) k)) * e (ix2 (j 0) (j 1))

/-- The gradient of the gate (or up) weight: columns of `a` against columns of `x`. -/
def GATEW (a : FVec Ideal S2048x6144 .bf16) (x : FVec Ideal S2048x2048 .bf16) (j : S8x768x2048.Idx) : EReal :=
  ∑ k : Fin 2048, a (ix2 k ⟨(j 0).val * 768 + (j 1).val, by
    have h0 := (j 0).isLt; have h1 := (j 1).isLt; change (j 0).val < 8 at h0; change (j 1).val < 768 at h1; omega⟩) * x (ix2 k (j 2))

/-- One of the two products of the input's gradient. -/
def DX1 (a : FVec Ideal S2048x6144 .bf16) (w : FVec Ideal S1x8x768x2048 .bf16) (j : S2048x2048.Idx) : EReal :=
  ∑ k : Fin 6144, a (ix2 (j 0) k) * w (ix4 0 ⟨k.val / 768, by omega⟩ ⟨k.val % 768, Nat.mod_lt _ (by norm_num)⟩ (j 1))

end Cert.Kernel2Ideal.FFN

end
-- ==== Proof.FFN.Scalar.lean ====
module

public import proofs.«01_k».proof.Proof.FFN.Reference
public import proofs.«01_k».proof.Proof.FFN.Terms

/-! The gate's gradient, spelled two ways; finite sums; and the padded sum over 6144 columns. -/

@[expose] public section

set_option maxRecDepth 16384

noncomputable section

namespace Cert.FFN

open Idealize.ShloMosaic Idealize.ShloMosaic.TcCoe Idealize.SL.Sem
open Cert.Kernel2Ideal.FFN Cert.Reference2Ideal.FFN

/-- A value that is a real number. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy
  exact ⟨a * b, (EReal.coe_mul a b).symm⟩

theorem Real'.sum {ι : Type} (s : Finset ι) (f : ι → EReal) (h : ∀ i, Real' (f i)) : Real' (∑ i ∈ s, f i) := by
  classical
  induction s using Finset.induction_on with
  | empty => exact ⟨0, by simp⟩
  | insert a s ha ih =>
    rw [Finset.sum_insert ha]
    obtain ⟨x, hx⟩ := h a; obtain ⟨y, hy⟩ := ih
    exact ⟨x + y, by rw [hx, hy, EReal.coe_add]⟩

theorem one_word : Ideal.ofBits .f32 0x3F800000#32 = (1 : EReal) := Ideal.ofBits_one_f32

theorem SIG_eq (z : EReal) : SIG z = LOGI z := by
  have h0 : Ideal.ofBits .f32 0x00000000#32 = (0 : EReal) := Ideal.ofBits_zero_f32
  unfold SIG LOGI
  rw [one_word, h0, zero_sub]

theorem LOGI_real {g : EReal} (hg : Real' g) : Real' (LOGI g) := by
  obtain ⟨a, rfl⟩ := hg
  have e : (1 : EReal) + Ideal.exp (-(a : EReal)) = ((1 + Real.exp (-a) : ℝ) : EReal) := by
    rw [← EReal.coe_neg, Ideal.exp_coe, EReal.coe_add, EReal.coe_one]
  have hne : (1 + Real.exp (-a) : ℝ) ≠ 0 := by positivity
  refine ⟨1 / (1 + Real.exp (-a)), ?_⟩
  unfold LOGI
  rw [e, Ideal.div_coe hne, one_mul]

theorem gate_eq {g u d : EReal} (hg : Real' g) (hu : Real' u) (hd : Real' d) : d * DGATE g u = RGATE g u d := by
  obtain ⟨s, hs⟩ := LOGI_real hg
  obtain ⟨a, rfl⟩ := hg; obtain ⟨b, rfl⟩ := hu; obtain ⟨e, rfl⟩ := hd
  unfold DGATE RGATE
  rw [SIG_eq, one_word, hs]
  have : (e * (b * (s * (1 + a * (1 - s)))) : ℝ) = e * b * s + a * (e * b) * (s * (1 - s)) := by ring
  exact_mod_cast congrArg (fun r : ℝ => (r : EReal)) this

theorem up_eq (g d : EReal) : d * DUP g = RUP g d := by
  unfold DUP RUP
  rw [SIG_eq, mul_comm]

theorem act_eq (g u : EReal) : ACT g u = RACT g u := by
  unfold ACT RACT
  rw [SIG_eq]

/-- A sum over the padded columns, zero off the 704 of every 768, is the sum over the columns. -/
theorem sum_padded (f : Fin 5632 → EReal) :
    (∑ k : Fin 6144, if h : k.val % 768 < 704 then f ⟨k.val / 768 * 704 + k.val % 768, by omega⟩ else 0) = ∑ c : Fin 5632, f c := by
  symm
  refine Finset.sum_of_injOn (fun c : Fin 5632 => (⟨c.val / 704 * 768 + c.val % 704, by omega⟩ : Fin 6144)) ?_ ?_ ?_ ?_
  · intro a _ b _ h
    have := congrArg Fin.val h
    simp only at this
    exact Fin.ext (by omega)
  · intro a _; exact Finset.mem_coe.2 (Finset.mem_univ _)
  · intro k _ hk
    rw [dif_neg]
    intro h
    exact hk ⟨⟨k.val / 768 * 704 + k.val % 768, by omega⟩, Finset.mem_coe.2 (Finset.mem_univ _), Fin.ext (by simp only; omega)⟩
  · intro c _
    have h : (c.val / 704 * 768 + c.val % 704) % 768 < 704 := by omega
    rw [dif_pos h]
    exact congrArg f (Fin.ext (by simp only; omega))

end Cert.FFN

end
-- ==== Proof.FFN.Host.lean ====
module

public import proofs.«01_k».proof.Proof.FFN.Terms
public import proofs.«01_k».proof.Proof.Gen.Kernel2Ideal.Frame
public import Idealize.ShloMosaic.Lib.Pointwise
public import Idealize.ShloMosaic.Lib.StableHlo.Run

/-! What the host prepares before the first call: the casts, and the weights cut in eight and padded. -/

@[expose] public section

set_option maxRecDepth 16384

noncomputable section

namespace Cert.Kernel2Ideal.FFN

open Idealize.ShloMosaic Idealize.ShloMosaic.TcCoe Idealize.SL.Sem Idealize.ShloMosaic.StableHlo
open Cert.Kernel2Ideal Cert.Kernel2Ideal.Gen

/-- A gate (or up) weight the way the calls read it: transposed, cut in eight, each part padded to 768 rows. -/
def PADW (a : FVec Ideal S2048x5632 .f32) : FVec Ideal S1x8x768x2048 .bf16 :=
  shapeCast S1x8x768x2048 (pad S8x768x2048 ![0, 0, 0] ![0, 64, 0] ![0, 0, 0]
    (shapeCast S8x704x2048 (truncf .bf16 (transpose S5632x2048 [1, 0] a transposes_S2048x5632_S5632x2048_1_0) bitsLt_bf16_f32) shapeCasts_S5632x2048_S8x704x2048)
    (sitofp .bf16 (constantI S_ 32 0#32)) pads_S8x704x2048_S8x768x2048_000_0640_000 h_S_) shapeCasts_S8x768x2048_S1x8x768x2048

/-- The down weight the way the calls read it. -/
def PADD (a : FVec Ideal S5632x2048 .f32) : FVec Ideal S1x1x6144x2048 .bf16 :=
  shapeCast S1x1x6144x2048 (pad S8x768x2048 ![0, 0, 0] ![0, 64, 0] ![0, 0, 0]
    (shapeCast S8x704x2048 (truncf .bf16 a bitsLt_bf16_f32) shapeCasts_S5632x2048_S8x704x2048)
    (sitofp .bf16 (constantI S_ 32 0#32)) pads_S8x704x2048_S8x768x2048_000_0640_000 h_S_) shapeCasts_S8x768x2048_S1x1x6144x2048

theorem zero_word : (FloatOps.sitofp FTy.bf16 0#32 : Ideal .bf16) = (0 : EReal) := by
  show (((0#32 : BitVec 32).toInt : ℝ) : EReal) = 0
  simp

theorem PADW_apply (a : FVec Ideal S2048x5632 .f32) (b : Fin 8) (r : Fin 768) (k : Fin 2048) :
    PADW a (ix4 0 b r k) = if h : r.val < 704 then a (ix2 k ⟨b.val * 704 + r.val, by omega⟩) else 0 := by
  pointwise [PADW, zero_word]

theorem PADD_apply (a : FVec Ideal S5632x2048 .f32) (j : Fin 6144) (k : Fin 2048) :
    PADD a (ix4 0 0 j k) = if h : j.val % 768 < 704 then a (ix2 ⟨j.val / 768 * 704 + j.val % 768, by omega⟩ k) else 0 := by
  have hj : j.val / 768 < 8 := by omega
  pointwise [PADD, zero_word]
  by_cases h : j.val % 768 < 704
  · rw [dif_pos ⟨hj, h⟩, dif_pos h]
  · rw [dif_neg (fun e => h e.2), dif_neg h]

/-- A cast to half precision. -/
def CASTX (a : FVec Ideal S2048x2048 .f32) : FVec Ideal S2048x2048 .bf16 := truncf .bf16 a bitsLt_bf16_f32

theorem CASTX_apply (a : FVec Ideal S2048x2048 .f32) (j : S2048x2048.Idx) : CASTX a j = a j := by
  pointwise [CASTX]

variable (m : (ℓ : Loc nD τ sig) → Buf (Elt Ideal) ℓ) (ρ : Dev nD → PrngReg)

theorem V7_v0 (c : Dev nD) : V7 m ρ c main_v0 = CASTX (m ((c : Thread nD τ).loc main_arg0)) := by
  refine (W7_of m ρ c main_v0 (by decide)).trans ((W6_of m ρ c main_v0 (by decide)).trans ((W5_of m ρ c main_v0 (by decide)).trans
    ((W4_of m ρ c main_v0 (by decide)).trans ((W3_of m ρ c main_v0 (by decide)).trans ((W2_of m ρ c main_v0 (by decide)).trans ?_)))))
  after_results_simp <;> rfl

theorem V7_v1 (c : Dev nD) : V7 m ρ c main_v1 = CASTX (m ((c : Thread nD τ).loc main_arg4)) := by
  refine (W7_of m ρ c main_v1 (by decide)).trans ((W6_of m ρ c main_v1 (by decide)).trans ((W5_of m ρ c main_v1 (by decide)).trans
    ((W4_of m ρ c main_v1 (by decide)).trans ((W3_of m ρ c main_v1 (by decide)).trans ((W2_of m ρ c main_v1 (by decide)).trans ?_)))))
  after_results_simp <;> rfl

theorem V7_v6 (c : Dev nD) : V7 m ρ c main_v6 = PADW (m ((c : Thread nD τ).loc main_arg1)) := by
  refine (W7_of m ρ c main_v6 (by decide)).trans ((W6_of m ρ c main_v6 (by decide)).trans ((W5_of m ρ c main_v6 (by decide)).trans
    ((W4_of m ρ c main_v6 (by decide)).trans ?_)))
  simp only [W3, W2, W1, W0, hostOps0, hostOps0_1, hostOps0_2, TRef.binary, TRef.nullary, TRef.unary, TRef.toBuf, TRef.ofBuf, cast_eq]
  after_results_simp <;> rfl

theorem V7_v11 (c : Dev nD) : V7 m ρ c main_v11 = PADW (m ((c : Thread nD τ).loc main_arg2)) := by
  refine (W7_of m ρ c main_v11 (by decide)).trans ((W6_of m ρ c main_v11 (by decide)).trans ?_)
  simp only [W5, W4, W3, W2, W1, W0, hostOps0, hostOps0_1, hostOps0_2, hostOps0_3, hostOps0_4, TRef.binary, TRef.nullary, TRef.unary, TRef.toBuf, TRef.ofBuf, cast_eq]
  after_results_simp <;> rfl

theorem V7_v15 (c : Dev nD) : V7 m ρ c main_v15 = PADD (m ((c : Thread nD τ).loc main_arg3)) := by
  simp only [V7, W7, W6, W5, W4, W3, W2, W1, W0, hostOps0, hostOps0_1, hostOps0_2, hostOps0_3, hostOps0_4, hostOps0_5, hostOps0_6, TRef.binary, TRef.nullary, TRef.unary, TRef.toBuf, TRef.ofBuf, cast_eq]
  after_results_simp <;> rfl

end Cert.Kernel2Ideal.FFN

end
-- ==== Proof.FFN.Value.lean ====
module

public import proofs.«01_k».proof.Proof.FFN.Scalar
public import proofs.«01_k».proof.Proof.FFN.Host

/-! The kernel's four results against the reference's, over the arguments' values. -/

@[expose] public section

set_option maxRecDepth 16384

noncomputable section

namespace Cert.FFN

open Idealize.ShloMosaic Idealize.ShloMosaic.TcCoe Idealize.SL.Sem
open Cert.Kernel2Ideal Cert.Kernel2Ideal.FFN Cert.Reference2Ideal.FFN

variable (A0 : FVec Ideal S2048x2048 .f32) (A1 A2 : FVec Ideal S2048x5632 .f32) (A3 : FVec Ideal S5632x2048 .f32) (A4 : FVec Ideal S2048x2048 .f32)

theorem rows_eq (i : Fin 2048) (j : Fin 6144) : ROWS (CASTX A0) (PADW A1) (ix2 i j)
    = if h : j.val % 768 < 704 then RG A0 A1 i ⟨j.val / 768 * 704 + j.val % 768, by omega⟩ else 0 := by
  have e : ROWS (CASTX A0) (PADW A1) (ix2 i j) = ∑ k : Fin 2048, A0 (ix2 i k) * (if h : j.val % 768 < 704 then A1 (ix2 k ⟨j.val / 768 * 704 + j.val % 768, by omega⟩) else 0) :=
    Finset.sum_congr rfl fun k _ => congrArg₂ (· * ·) (CASTX_apply A0 (ix2 i k)) (PADW_apply A1 ⟨j.val / 768, by omega⟩ ⟨j.val % 768, Nat.mod_lt _ (by norm_num)⟩ k)
  rw [e]
  by_cases h : j.val % 768 < 704
  · simp only [dif_pos h]; rfl
  · simp only [dif_neg h, mul_zero, Finset.sum_const_zero]

theorem dact_eq (x : FVec Ideal S2048x6144 .bf16) (i : Fin 2048) (j : Fin 6144) : DACT (CASTX A4) (PADD A3) x (ix2 i j)
    = if h : j.val % 768 < 704 then RD A4 A3 i ⟨j.val / 768 * 704 + j.val % 768, by omega⟩ * x (ix2 i j) else 0 := by
  have e : DACT (CASTX A4) (PADD A3) x (ix2 i j) = (∑ k : Fin 2048, A4 (ix2 i k) * (if h : j.val % 768 < 704 then A3 (ix2 ⟨j.val / 768 * 704 + j.val % 768, by omega⟩ k) else 0)) * x (ix2 i j) :=
    congrArg (· * x (ix2 i j)) (Finset.sum_congr rfl fun k _ => congrArg₂ (· * ·) (CASTX_apply A4 (ix2 i k)) (PADD_apply A3 j k))
  rw [e]
  by_cases h : j.val % 768 < 704
  · simp only [dif_pos h]; rfl
  · simp only [dif_neg h, mul_zero, Finset.sum_const_zero, zero_mul]

/-- The first call's three results. -/
def KUP : FVec Ideal S2048x6144 .bf16 := fun j => DUP (ROWS (CASTX A0) (PADW A1) j)
def KGATE : FVec Ideal S2048x6144 .bf16 := fun j => DGATE (ROWS (CASTX A0) (PADW A1) j) (ROWS (CASTX A0) (PADW A2) j)
def KACT : FVec Ideal S2048x6144 .bf16 := fun j => ACT (ROWS (CASTX A0) (PADW A1) j) (ROWS (CASTX A0) (PADW A2) j)
/-- The gradients of the gate and the up product. -/
def KDG : FVec Ideal S2048x6144 .bf16 := fun j => DACT (CASTX A4) (PADD A3) (KGATE A0 A1 A2) j
def KDU : FVec Ideal S2048x6144 .bf16 := fun j => DACT (CASTX A4) (PADD A3) (KUP A0 A1) j

theorem kact_eq (i : Fin 2048) (j : Fin 6144) : KACT A0 A1 A2 (ix2 i j)
    = if h : j.val % 768 < 704 then RACT (RG A0 A1 i ⟨j.val / 768 * 704 + j.val % 768, by omega⟩) (RG A0 A2 i ⟨j.val / 768 * 704 + j.val % 768, by omega⟩) else 0 := by
  unfold KACT
  rw [rows_eq, rows_eq, act_eq]
  by_cases h : j.val % 768 < 704
  · simp only [dif_pos h]
  · simp only [dif_neg h, RACT, mul_zero]

theorem kdu_eq (i : Fin 2048) (j : Fin 6144) : KDU A0 A1 A3 A4 (ix2 i j)
    = if h : j.val % 768 < 704 then RUP (RG A0 A1 i ⟨j.val / 768 * 704 + j.val % 768, by omega⟩) (RD A4 A3 i ⟨j.val / 768 * 704 + j.val % 768, by omega⟩) else 0 := by
  unfold KDU
  rw [dact_eq]
  by_cases h : j.val % 768 < 704
  · simp only [dif_pos h]
    unfold KUP
    rw [rows_eq, dif_pos h, up_eq]
  · simp only [dif_neg h]

/-- Every entry of an array is a real number. -/
def Fin' {s : Shape} {φ : FTy} (a : FVec Ideal s φ) : Prop := ∀ j, Real' (a j)

variable {A0 A1 A2 A3 A4}

theorem RG_real (h0 : Fin' A0) (h1 : Fin' A1) (i c) : Real' (RG A0 A1 i c) := Real'.sum _ _ fun k => (h0 _).mul (h1 _)
theorem RD_real (h4 : Fin' A4) (h3 : Fin' A3) (i c) : Real' (RD A4 A3 i c) := Real'.sum _ _ fun k => (h4 _).mul (h3 _)

theorem kdg_eq (h0 : Fin' A0) (h1 : Fin' A1) (h2 : Fin' A2) (h3 : Fin' A3) (h4 : Fin' A4) (i : Fin 2048) (j : Fin 6144) : KDG A0 A1 A2 A3 A4 (ix2 i j)
    = if h : j.val % 768 < 704 then RGATE (RG A0 A1 i ⟨j.val / 768 * 704 + j.val % 768, by omega⟩) (RG A0 A2 i ⟨j.val / 768 * 704 + j.val % 768, by omega⟩) (RD A4 A3 i ⟨j.val / 768 * 704 + j.val % 768, by omega⟩) else 0 := by
  unfold KDG
  rw [dact_eq]
  by_cases h : j.val % 768 < 704
  · simp only [dif_pos h]
    unfold KGATE
    rw [rows_eq, rows_eq, dif_pos h, dif_pos h, gate_eq (RG_real h0 h1 _ _) (RG_real h0 h2 _ _) (RD_real h4 h3 _ _)]
  · simp only [dif_neg h]

theorem down_eq : (fun j => DOWNW (KACT A0 A1 A2) (CASTX A4) j : FVec Ideal S1x6144x2048 .bf16) = T_v21 A0 A1 A2 A4 := by
  funext j
  obtain ⟨z, q, n, rfl⟩ : ∃ (z : Fin 1) (q : Fin 6144) (n : Fin 2048), j = ix3 z q n := ⟨_, _, _, eq_ix3 j⟩
  obtain rfl : z = 0 := Subsingleton.elim _ _
  rw [T_v21_apply]
  have e : DOWNW (KACT A0 A1 A2) (CASTX A4) (ix3 0 q n) = ∑ x : Fin 2048, KACT A0 A1 A2 (ix2 x q) * A4 (ix2 x n) :=
    Finset.sum_congr rfl fun x _ => congrArg (KACT A0 A1 A2 (ix2 x q) * ·) (CASTX_apply A4 (ix2 x n))
  rw [e]
  simp only [kact_eq]
  by_cases h : q.val % 768 < 704
  · simp only [dif_pos h]
    exact Finset.sum_congr rfl fun x _ => mul_comm _ _
  · simp only [dif_neg h, zero_mul, Finset.sum_const_zero]

theorem col_div (b : Fin 8) (r : Fin 768) : (b.val * 768 + r.val) / 768 = b.val := by omega
theorem col_mod (b : Fin 8) (r : Fin 768) : (b.val * 768 + r.val) % 768 = r.val := by omega

/-- A padded gradient's columns against the input: the shape of the gate's and of the up weight's gradient. -/
theorem gatew_eq (f : Fin 2048 → Fin 5632 → EReal) (K : FVec Ideal S2048x6144 .bf16)
    (hK : ∀ i j, K (ix2 i j) = if h : j.val % 768 < 704 then f i ⟨j.val / 768 * 704 + j.val % 768, by omega⟩ else 0) (b : Fin 8) (r : Fin 768) (k : Fin 2048) :
    GATEW K (CASTX A0) (ix3 b r k) = if h : r.val < 704 then ∑ x : Fin 2048, f x ⟨b.val * 704 + r.val, by omega⟩ * A0 (ix2 x k) else 0 := by
  have e : GATEW K (CASTX A0) (ix3 b r k) = ∑ x : Fin 2048, K (ix2 x ⟨b.val * 768 + r.val, by omega⟩) * A0 (ix2 x k) :=
    Finset.sum_congr rfl fun x _ => congrArg (K (ix2 x ⟨b.val * 768 + r.val, by omega⟩) * ·) (CASTX_apply A0 (ix2 x k))
  rw [e]
  simp only [hK, col_div, col_mod]
  by_cases h : r.val < 704
  · simp only [dif_pos h]
  · simp only [dif_neg h, zero_mul, Finset.sum_const_zero]

theorem gate_w_eq (h0 : Fin' A0) (h1 : Fin' A1) (h2 : Fin' A2) (h3 : Fin' A3) (h4 : Fin' A4) :
    (fun j => GATEW (KDG A0 A1 A2 A3 A4) (CASTX A0) j : FVec Ideal S8x768x2048 .bf16) = T_v25 A0 A1 A2 A3 A4 := by
  funext j
  obtain ⟨b, r, k, rfl⟩ : ∃ (b : Fin 8) (r : Fin 768) (k : Fin 2048), j = ix3 b r k := ⟨_, _, _, eq_ix3 j⟩
  rw [T_v25_apply]
  exact gatew_eq (fun x c => RGATE (RG A0 A1 x c) (RG A0 A2 x c) (RD A4 A3 x c)) _ (fun i j => kdg_eq h0 h1 h2 h3 h4 i j) b r k

theorem up_w_eq : (fun j => GATEW (KDU A0 A1 A3 A4) (CASTX A0) j : FVec Ideal S8x768x2048 .bf16) = T_v29 A0 A1 A3 A4 := by
  funext j
  obtain ⟨b, r, k, rfl⟩ : ∃ (b : Fin 8) (r : Fin 768) (k : Fin 2048), j = ix3 b r k := ⟨_, _, _, eq_ix3 j⟩
  rw [T_v29_apply]
  exact gatew_eq (fun x c => RUP (RG A0 A1 x c) (RD A4 A3 x c)) _ (fun i j => kdu_eq A0 A1 A3 A4 i j) b r k

/-- One product of the input's gradient, the padded columns dropped. -/
theorem dx1_eq (f : Fin 2048 → Fin 5632 → EReal) (K : FVec Ideal S2048x6144 .bf16)
    (hK : ∀ i j, K (ix2 i j) = if h : j.val % 768 < 704 then f i ⟨j.val / 768 * 704 + j.val % 768, by omega⟩ else 0) (i n : Fin 2048) :
    DX1 K (PADW A1) (ix2 i n) = ∑ c : Fin 5632, f i c * A1 (ix2 n c) := by
  have e : DX1 K (PADW A1) (ix2 i n) = ∑ k : Fin 6144, if h : k.val % 768 < 704 then f i ⟨k.val / 768 * 704 + k.val % 768, by omega⟩ * A1 (ix2 n ⟨k.val / 768 * 704 + k.val % 768, by omega⟩) else 0 := by
    refine Finset.sum_congr rfl fun k _ => ?_
    have e2 := PADW_apply A1 ⟨k.val / 768, by omega⟩ ⟨k.val % 768, Nat.mod_lt _ (by norm_num)⟩ n
    refine (congrArg₂ (· * ·) (hK i k) e2).trans ?_
    by_cases h : k.val % 768 < 704
    · simp only [dif_pos h]
    · simp only [dif_neg h, mul_zero]
  rw [e]
  exact sum_padded fun c => f i c * A1 (ix2 n c)

theorem dx_eq (h0 : Fin' A0) (h1 : Fin' A1) (h2 : Fin' A2) (h3 : Fin' A3) (h4 : Fin' A4) :
    (fun j => DX1 (KDG A0 A1 A2 A3 A4) (PADW A1) j + DX1 (KDU A0 A1 A3 A4) (PADW A2) j : FVec Ideal S2048x2048 .f32) = T_v17 A0 A1 A2 A3 A4 := by
  funext j
  obtain ⟨i, n, rfl⟩ : ∃ i n : Fin 2048, j = ix2 i n := ⟨_, _, eq_ix2 j⟩
  rw [T_v17_apply]
  exact (congrArg₂ (· + ·)
    (dx1_eq (fun x c => RGATE (RG A0 A1 x c) (RG A0 A2 x c) (RD A4 A3 x c)) _ (fun i j => kdg_eq h0 h1 h2 h3 h4 i j) i n)
    (dx1_eq (fun x c => RUP (RG A0 A1 x c) (RD A4 A3 x c)) _ (fun i j => kdu_eq A0 A1 A3 A4 i j) i n)).trans (add_comm _ _)

end Cert.FFN

end
-- ==== Proof.FFN.Region0.lean ====
module

public import proofs.«01_k».proof.Proof.FFN.Terms
public import proofs.«01_k».proof.Proof.Gen.Kernel2Ideal.Frame
public import Idealize.ShloMosaic.Lib.Pipeline.ValueKit

/-! The arrays the gate/up call leaves, element by element over the arrays it reads. -/

@[expose] public section

set_option maxRecDepth 16384

noncomputable section

namespace Cert.Kernel2Ideal.FFN

open Idealize.ShloMosaic Idealize.ShloMosaic.TcCoe Idealize.SL.Sem
open Idealize.ShloMosaic.Pipeline (Dat)
open Cert.Kernel2Ideal Cert.Kernel2Ideal.Gen

variable (V : (c : Dev nD) → (b : Ref sig .tc) → Buf (Elt Ideal) ((c : Thread nD τ).loc b))

theorem idx0 : ∀ t : Fin cfg0.N, win0_0.index t = ![t.val / 8, 0] ∧ win0_1.index t = ![0, t.val % 8, 0, 0] ∧ win0_2.index t = ![0, t.val % 8, 0, 0]
    ∧ win0_3.index t = ![t.val / 8, t.val % 8] ∧ win0_4.index t = ![t.val / 8, t.val % 8] ∧ win0_5.index t = ![t.val / 8, t.val % 8] ∧ t.val / 8 < 2 :=
  (by decide +kernel : ∀ t : Fin grid0.N, _)

theorem point0_3 (c : Dev nD) (t : Fin cfg0.N) (y) : k0_pay6 (iblk0 V c 0 t) (iblk0 V c 1 t) y
    = DUP (ROWS (V c main_v0) (V c main_v6) (((cfg0.win 3).blk t).view.emb y)) := by
  pointwise [k0_pay6, k0_pay5, k0_pay4, k0_pay3, k0_pay2, k0_pay1, DUP, SIG, ROWS]
  blk_point [iblk0, idx0 t]

theorem final0_3 (c : Dev nD) : (dat0 V c).arrAt 3 cfg0.N = fun j => DUP (ROWS (V c main_v0) (V c main_v6) j) := by
  refine (dat0 V c).arrAt_eq_of_covers 3 _ (by decide +kernel) fun t _ y => ?_
  blk_simp
  rw [after0_3]; frame_out
  exact point0_3 V c t y

theorem point0_4 (c : Dev nD) (t : Fin cfg0.N) (y) : k0_pay7 (iblk0 V c 0 t) (iblk0 V c 1 t) (iblk0 V c 2 t) y
    = DGATE (ROWS (V c main_v0) (V c main_v6) (((cfg0.win 4).blk t).view.emb y)) (ROWS (V c main_v0) (V c main_v11) (((cfg0.win 4).blk t).view.emb y)) := by
  pointwise [k0_pay7, k0_pay5, k0_pay4, k0_pay3, k0_pay2, k0_pay1, DGATE, SIG, ROWS]
  blk_point [iblk0, idx0 t]

theorem final0_4 (c : Dev nD) : (dat0 V c).arrAt 4 cfg0.N = fun j => DGATE (ROWS (V c main_v0) (V c main_v6) j) (ROWS (V c main_v0) (V c main_v11) j) := by
  refine (dat0 V c).arrAt_eq_of_covers 4 _ (by decide +kernel) fun t _ y => ?_
  blk_simp
  rw [after0_4]; frame_out
  exact point0_4 V c t y

theorem point0_5 (c : Dev nD) (t : Fin cfg0.N) (y) : k0_pay8 (iblk0 V c 0 t) (iblk0 V c 1 t) (iblk0 V c 2 t) y
    = ACT (ROWS (V c main_v0) (V c main_v6) (((cfg0.win 5).blk t).view.emb y)) (ROWS (V c main_v0) (V c main_v11) (((cfg0.win 5).blk t).view.emb y)) := by
  pointwise [k0_pay8, k0_pay5, k0_pay4, k0_pay3, k0_pay2, k0_pay1, ACT, SIG, ROWS]
  blk_point [iblk0, idx0 t]

theorem final0_5 (c : Dev nD) : (dat0 V c).arrAt 5 cfg0.N = fun j => ACT (ROWS (V c main_v0) (V c main_v6) j) (ROWS (V c main_v0) (V c main_v11) j) := by
  refine (dat0 V c).arrAt_eq_of_covers 5 _ (by decide +kernel) fun t _ y => ?_
  blk_simp
  rw [after0_5]; frame_out
  exact point0_5 V c t y

end Cert.Kernel2Ideal.FFN

end
-- ==== Proof.FFN.Region1.lean ====
module

public import proofs.«01_k».proof.Proof.FFN.Terms
public import proofs.«01_k».proof.Proof.Gen.Kernel2Ideal.Frame
public import Idealize.ShloMosaic.Lib.Pipeline.ValueKit

/-! The gradient of the down weight, element by element. -/

@[expose] public section

set_option maxRecDepth 16384

noncomputable section

namespace Cert.Kernel2Ideal.FFN

open Idealize.ShloMosaic Idealize.ShloMosaic.TcCoe Idealize.SL.Sem
open Idealize.ShloMosaic.Pipeline (Dat)
open Cert.Kernel2Ideal Cert.Kernel2Ideal.Gen

variable (V : (c : Dev nD) → (b : Ref sig .tc) → Buf (Elt Ideal) ((c : Thread nD τ).loc b))

theorem idx1 : ∀ t : Fin cfg1.N, win1_0.index t = ![0, t.val / 2] ∧ win1_1.index t = ![0, t.val % 2] ∧ win1_2.index t = ![0, t.val / 2, t.val % 2] ∧ t.val / 2 < 6 :=
  (by decide +kernel : ∀ t : Fin grid1.N, _)

theorem point1_2 (c : Dev nD) (t : Fin cfg1.N) (y) : k1_pay1 (iblk1 V c 0 t) (iblk1 V c 1 t) y
    = DOWNW (V c main_v16_2) (V c main_v1) (((cfg1.win 2).blk t).view.emb y) := by
  pointwise [k1_pay1, DOWNW]
  blk_point [iblk1, idx1 t]

theorem final1_2 (c : Dev nD) : (dat1 V c).arrAt 2 cfg1.N = fun j => DOWNW (V c main_v16_2) (V c main_v1) j := by
  refine (dat1 V c).arrAt_eq_of_covers 2 _ (by decide +kernel) fun t _ y => ?_
  blk_simp
  rw [after1_2]; frame_out
  exact point1_2 V c t y

end Cert.Kernel2Ideal.FFN

end
-- ==== Proof.FFN.Region2.lean ====
module

public import proofs.«01_k».proof.Proof.FFN.Terms
public import proofs.«01_k».proof.Proof.Gen.Kernel2Ideal.Frame
public import Idealize.ShloMosaic.Lib.Pipeline.ValueKit

/-! The gradients of the gate and of the up product, element by element. -/

@[expose] public section

set_option maxRecDepth 16384

noncomputable section

namespace Cert.Kernel2Ideal.FFN

open Idealize.ShloMosaic Idealize.ShloMosaic.TcCoe Idealize.SL.Sem
open Idealize.ShloMosaic.Pipeline (Dat)
open Cert.Kernel2Ideal Cert.Kernel2Ideal.Gen

variable (V : (c : Dev nD) → (b : Ref sig .tc) → Buf (Elt Ideal) ((c : Thread nD τ).loc b))

theorem idx2 : ∀ t : Fin cfg2.N, win2_0.index t = ![t.val / 6, 0] ∧ win2_1.index t = ![0, 0, t.val % 6, 0] ∧ win2_2.index t = ![t.val / 6, t.val % 6]
    ∧ win2_3.index t = ![t.val / 6, t.val % 6] ∧ win2_4.index t = ![t.val / 6, t.val % 6] ∧ win2_5.index t = ![t.val / 6, t.val % 6] ∧ t.val / 6 < 2 :=
  (by decide +kernel : ∀ t : Fin grid2.N, _)

theorem point2_4 (c : Dev nD) (t : Fin cfg2.N) (y) : k2_pay2 (iblk2 V c 0 t) (iblk2 V c 1 t) (iblk2 V c 3 t) y
    = DACT (V c main_v1) (V c main_v15) (V c main_v16_1) (((cfg2.win 4).blk t).view.emb y) := by
  pointwise [k2_pay2, k2_pay1, DACT]
  blk_point [iblk2, idx2 t]

theorem final2_4 (c : Dev nD) : (dat2 V c).arrAt 4 cfg2.N = fun j => DACT (V c main_v1) (V c main_v15) (V c main_v16_1) j := by
  refine (dat2 V c).arrAt_eq_of_covers 4 _ (by decide +kernel) fun t _ y => ?_
  blk_simp
  rw [after2_4]; frame_out
  exact point2_4 V c t y

theorem point2_5 (c : Dev nD) (t : Fin cfg2.N) (y) : k2_pay3 (iblk2 V c 0 t) (iblk2 V c 1 t) (iblk2 V c 2 t) y
    = DACT (V c main_v1) (V c main_v15) (V c main_v16_0) (((cfg2.win 5).blk t).view.emb y) := by
  pointwise [k2_pay3, k2_pay1, DACT]
  blk_point [iblk2, idx2 t]

theorem final2_5 (c : Dev nD) : (dat2 V c).arrAt 5 cfg2.N = fun j => DACT (V c main_v1) (V c main_v15) (V c main_v16_0) j := by
  refine (dat2 V c).arrAt_eq_of_covers 5 _ (by decide +kernel) fun t _ y => ?_
  blk_simp
  rw [after2_5]; frame_out
  exact point2_5 V c t y

end Cert.Kernel2Ideal.FFN

end
-- ==== Proof.FFN.Region3.lean ====
module

public import proofs.«01_k».proof.Proof.FFN.Terms
public import proofs.«01_k».proof.Proof.Gen.Kernel2Ideal.Frame
public import Idealize.ShloMosaic.Lib.Pipeline.ValueKit

/-! The gradient of the gate weight, element by element. -/

@[expose] public section

set_option maxRecDepth 16384

noncomputable section

namespace Cert.Kernel2Ideal.FFN

open Idealize.ShloMosaic Idealize.ShloMosaic.TcCoe Idealize.SL.Sem
open Idealize.ShloMosaic.Pipeline (Dat)
open Cert.Kernel2Ideal Cert.Kernel2Ideal.Gen

variable (V : (c : Dev nD) → (b : Ref sig .tc) → Buf (Elt Ideal) ((c : Thread nD τ).loc b))

theorem idx3 : ∀ t : Fin cfg3.N, win3_0.index t = ![0, t.val / 2] ∧ win3_1.index t = ![0, t.val % 2] ∧ win3_2.index t = ![t.val / 2, 0, t.val % 2] ∧ t.val / 2 < 8 :=
  (by decide +kernel : ∀ t : Fin grid3.N, _)

theorem point3_2 (c : Dev nD) (t : Fin cfg3.N) (y) : k3_pay1 (iblk3 V c 0 t) (iblk3 V c 1 t) y
    = GATEW (V c main_v18_0) (V c main_v0) (((cfg3.win 2).blk t).view.emb y) := by
  pointwise [k3_pay1, GATEW]
  blk_point [iblk3, idx3 t]

theorem final3_2 (c : Dev nD) : (dat3 V c).arrAt 2 cfg3.N = fun j => GATEW (V c main_v18_0) (V c main_v0) j := by
  refine (dat3 V c).arrAt_eq_of_covers 2 _ (by decide +kernel) fun t _ y => ?_
  blk_simp
  rw [after3_2]; frame_out
  exact point3_2 V c t y

end Cert.Kernel2Ideal.FFN

end
-- ==== Proof.FFN.Region4.lean ====
module

public import proofs.«01_k».proof.Proof.FFN.Terms
public import proofs.«01_k».proof.Proof.Gen.Kernel2Ideal.Frame
public import Idealize.ShloMosaic.Lib.Pipeline.ValueKit

/-! The gradient of the up weight, element by element. -/

@[expose] public section

set_option maxRecDepth 16384

noncomputable section

namespace Cert.Kernel2Ideal.FFN

open Idealize.ShloMosaic Idealize.ShloMosaic.TcCoe Idealize.SL.Sem
open Idealize.ShloMosaic.Pipeline (Dat)
open Cert.Kernel2Ideal Cert.Kernel2Ideal.Gen

variable (V : (c : Dev nD) → (b : Ref sig .tc) → Buf (Elt Ideal) ((c : Thread nD τ).loc b))

theorem idx4 : ∀ t : Fin cfg4.N, win4_0.index t = ![0, t.val / 2] ∧ win4_1.index t = ![0, t.val % 2] ∧ win4_2.index t = ![t.val / 2, 0, t.val % 2] ∧ t.val / 2 < 8 :=
  (by decide +kernel : ∀ t : Fin grid4.N, _)

theorem point4_2 (c : Dev nD) (t : Fin cfg4.N) (y) : k4_pay1 (iblk4 V c 0 t) (iblk4 V c 1 t) y
    = GATEW (V c main_v18_1) (V c main_v0) (((cfg4.win 2).blk t).view.emb y) := by
  pointwise [k4_pay1, GATEW]
  blk_point [iblk4, idx4 t]

theorem final4_2 (c : Dev nD) : (dat4 V c).arrAt 2 cfg4.N = fun j => GATEW (V c main_v18_1) (V c main_v0) j := by
  refine (dat4 V c).arrAt_eq_of_covers 2 _ (by decide +kernel) fun t _ y => ?_
  blk_simp
  rw [after4_2]; frame_out
  exact point4_2 V c t y

end Cert.Kernel2Ideal.FFN

end
-- ==== Proof.FFN.Region5.lean ====
module

public import proofs.«01_k».proof.Proof.FFN.Terms
public import proofs.«01_k».proof.Proof.Gen.Kernel2Ideal.Frame
public import Idealize.ShloMosaic.Lib.Pipeline.ValueKit

/-! The input's gradient, element by element. -/

@[expose] public section

set_option maxRecDepth 16384

noncomputable section

namespace Cert.Kernel2Ideal.FFN

open Idealize.ShloMosaic Idealize.ShloMosaic.TcCoe Idealize.SL.Sem
open Idealize.ShloMosaic.Pipeline (Dat)
open Cert.Kernel2Ideal Cert.Kernel2Ideal.Gen

variable (V : (c : Dev nD) → (b : Ref sig .tc) → Buf (Elt Ideal) ((c : Thread nD τ).loc b))

theorem idx5 : ∀ t : Fin cfg5.N, win5_0.index t = ![t.val / 4, 0] ∧ win5_1.index t = ![0, 0, 0, t.val % 4] ∧ win5_2.index t = ![0, 0, 0, t.val % 4]
    ∧ win5_3.index t = ![t.val / 4, 0] ∧ win5_4.index t = ![t.val / 4, t.val % 4] ∧ t.val / 4 < 4 :=
  (by decide +kernel : ∀ t : Fin grid5.N, _)

theorem point5_4 (c : Dev nD) (t : Fin cfg5.N) (y) : k5_pay1 (iblk5 V c 0 t) (iblk5 V c 1 t) (iblk5 V c 3 t) (iblk5 V c 2 t) y
    = DX1 (V c main_v18_0) (V c main_v6) (((cfg5.win 4).blk t).view.emb y) + DX1 (V c main_v18_1) (V c main_v11) (((cfg5.win 4).blk t).view.emb y) := by
  pointwise [k5_pay1, DX1]
  blk_point [iblk5, idx5 t]

theorem final5_4 (c : Dev nD) : (dat5 V c).arrAt 4 cfg5.N = fun j => DX1 (V c main_v18_0) (V c main_v6) j + DX1 (V c main_v18_1) (V c main_v11) j := by
  refine (dat5 V c).arrAt_eq_of_covers 4 _ (by decide +kernel) fun t _ y => ?_
  blk_simp
  rw [after5_4]; frame_out
  exact point5_4 V c t y

end Cert.Kernel2Ideal.FFN

end
-- ==== Proof.FFN.Regions.lean ====
module

public import proofs.«01_k».proof.Proof.FFN.Region0
public import proofs.«01_k».proof.Proof.FFN.Region1
public import proofs.«01_k».proof.Proof.FFN.Region2
public import proofs.«01_k».proof.Proof.FFN.Region3
public import proofs.«01_k».proof.Proof.FFN.Region4
public import proofs.«01_k».proof.Proof.FFN.Region5
-- ==== Proof.FFN.Run.lean ====
/- The run of the feed-forward program: every buffer ends as the fold of its segments leaves it. -/
module

public import proofs.«01_k».proof.Proof.Gen.Kernel2Ideal.Frame

@[expose] public section

noncomputable section

namespace Cert.Kernel2Ideal.FFN

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every device ends at the contents of the last boundary. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W13 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => h)

/-- The four results and the arguments. -/
theorem run : θ_run defs (onTc (τ := τ) (main (F := F))) ⟨m, fun _ => 0, ρ⟩ (fun r => ∀ c : Dev nD,
      r.2.mem ((c.tc : Thread nD τ).loc main_v17) = (dat1 (V8 m ρ) c).arrAt 2 cfg1.N
      ∧ r.2.mem ((c.tc : Thread nD τ).loc main_v19) = (dat3 (V10 m ρ) c).arrAt 2 cfg3.N
      ∧ r.2.mem ((c.tc : Thread nD τ).loc main_v20) = (dat4 (V11 m ρ) c).arrAt 2 cfg4.N
      ∧ r.2.mem ((c.tc : Thread nD τ).loc main_v21) = (dat5 (V12 m ρ) c).arrAt 4 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v17 (by decide))).trans ((W13_of m ρ c main_v17 (by decide)).trans ((W12_of m ρ c main_v17 (by decide)).trans
        ((W11_of m ρ c main_v17 (by decide)).trans ((W10_of m ρ c main_v17 (by decide)).trans (W9_arr m ρ c 2))))),
     (h c _ (mem_uc main_v19 (by decide))).trans ((W13_of m ρ c main_v19 (by decide)).trans ((W12_of m ρ c main_v19 (by decide)).trans (W11_arr m ρ c 2))),
     (h c _ (mem_uc main_v20 (by decide))).trans ((W13_of m ρ c main_v20 (by decide)).trans (W12_arr m ρ c 2)),
     (h c _ (mem_uc main_v21 (by decide))).trans (W13_arr m ρ c 4),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c)⟩) (run_all m ρ)

end Cert.Kernel2Ideal.FFN

end
-- ==== Proof.FFN.Kernel.lean ====
module

public import proofs.«01_k».proof.Proof.FFN.Value
public import proofs.«01_k».proof.Proof.FFN.Regions
public import proofs.«01_k».proof.Proof.FFN.Run

/-! The six calls one after the other: each result over the arguments. -/

@[expose] public section

set_option maxRecDepth 16384

noncomputable section

namespace Cert.Kernel2Ideal.FFN

open Idealize.ShloMosaic Idealize.ShloMosaic.TcCoe Idealize.SL.Sem
open Cert.Kernel2Ideal Cert.Kernel2Ideal.Gen Cert.FFN

variable (m : (ℓ : Loc nD τ sig) → Buf (Elt Ideal) ℓ) (ρ : Dev nD → PrngReg) (c : Dev nD)

/-- The arguments. -/
abbrev a0 : FVec Ideal S2048x2048 .f32 := m ((c : Thread nD τ).loc main_arg0)
abbrev a1 : FVec Ideal S2048x5632 .f32 := m ((c : Thread nD τ).loc main_arg1)
abbrev a2 : FVec Ideal S2048x5632 .f32 := m ((c : Thread nD τ).loc main_arg2)
abbrev a3 : FVec Ideal S5632x2048 .f32 := m ((c : Thread nD τ).loc main_arg3)
abbrev a4 : FVec Ideal S2048x2048 .f32 := m ((c : Thread nD τ).loc main_arg4)

theorem V8_up : V8 m ρ c main_v16_0 = KUP (a0 m c) (a1 m c) := by
  refine ((W8_arr m ρ c 3).trans (final0_3 (V7 m ρ) c)).trans ?_
  rw [V7_v0, V7_v6]; rfl

theorem V8_gate : V8 m ρ c main_v16_1 = KGATE (a0 m c) (a1 m c) (a2 m c) := by
  refine ((W8_arr m ρ c 4).trans (final0_4 (V7 m ρ) c)).trans ?_
  rw [V7_v0, V7_v6, V7_v11]; rfl

theorem V8_act : V8 m ρ c main_v16_2 = KACT (a0 m c) (a1 m c) (a2 m c) := by
  refine ((W8_arr m ρ c 5).trans (final0_5 (V7 m ρ) c)).trans ?_
  rw [V7_v0, V7_v6, V7_v11]; rfl

theorem V8_v1 : V8 m ρ c main_v1 = CASTX (a4 m c) := (W8_of m ρ c main_v1 (by decide)).trans (V7_v1 m ρ c)

theorem out17 : (dat1 (V8 m ρ) c).arrAt 2 cfg1.N = fun j => DOWNW (KACT (a0 m c) (a1 m c) (a2 m c)) (CASTX (a4 m c)) j := by
  refine (final1_2 (V8 m ρ) c).trans ?_
  rw [V8_act, V8_v1]

theorem V9_up : V9 m ρ c main_v16_0 = KUP (a0 m c) (a1 m c) := (W9_of m ρ c main_v16_0 (by decide)).trans (V8_up m ρ c)
theorem V9_gate : V9 m ρ c main_v16_1 = KGATE (a0 m c) (a1 m c) (a2 m c) := (W9_of m ρ c main_v16_1 (by decide)).trans (V8_gate m ρ c)
theorem V9_v1 : V9 m ρ c main_v1 = CASTX (a4 m c) := (W9_of m ρ c main_v1 (by decide)).trans (V8_v1 m ρ c)
theorem V9_v15 : V9 m ρ c main_v15 = PADD (a3 m c) := (W9_of m ρ c main_v15 (by decide)).trans ((W8_of m ρ c main_v15 (by decide)).trans (V7_v15 m ρ c))

theorem V10_dg : V10 m ρ c main_v18_0 = KDG (a0 m c) (a1 m c) (a2 m c) (a3 m c) (a4 m c) := by
  refine ((W10_arr m ρ c 4).trans (final2_4 (V9 m ρ) c)).trans ?_
  rw [V9_v1, V9_v15, V9_gate]; rfl

theorem V10_du : V10 m ρ c main_v18_1 = KDU (a0 m c) (a1 m c) (a3 m c) (a4 m c) := by
  refine ((W10_arr m ρ c 5).trans (final2_5 (V9 m ρ) c)).trans ?_
  rw [V9_v1, V9_v15, V9_up]; rfl

theorem V10_v0 : V10 m ρ c main_v0 = CASTX (a0 m c) := (W10_of m ρ c main_v0 (by decide)).trans ((W9_of m ρ c main_v0 (by decide)).trans ((W8_of m ρ c main_v0 (by decide)).trans (V7_v0 m ρ c)))
theorem V10_v6 : V10 m ρ c main_v6 = PADW (a1 m c) := (W10_of m ρ c main_v6 (by decide)).trans ((W9_of m ρ c main_v6 (by decide)).trans ((W8_of m ρ c main_v6 (by decide)).trans (V7_v6 m ρ c)))
theorem V10_v11 : V10 m ρ c main_v11 = PADW (a2 m c) := (W10_of m ρ c main_v11 (by decide)).trans ((W9_of m ρ c main_v11 (by decide)).trans ((W8_of m ρ c main_v11 (by decide)).trans (V7_v11 m ρ c)))

theorem out19 : (dat3 (V10 m ρ) c).arrAt 2 cfg3.N = fun j => GATEW (KDG (a0 m c) (a1 m c) (a2 m c) (a3 m c) (a4 m c)) (CASTX (a0 m c)) j := by
  refine (final3_2 (V10 m ρ) c).trans ?_
  rw [V10_dg, V10_v0]

theorem V11_dg : V11 m ρ c main_v18_0 = KDG (a0 m c) (a1 m c) (a2 m c) (a3 m c) (a4 m c) := (W11_of m ρ c main_v18_0 (by decide)).trans (V10_dg m ρ c)
theorem V11_du : V11 m ρ c main_v18_1 = KDU (a0 m c) (a1 m c) (a3 m c) (a4 m c) := (W11_of m ρ c main_v18_1 (by decide)).trans (V10_du m ρ c)
theorem V11_v0 : V11 m ρ c main_v0 = CASTX (a0 m c) := (W11_of m ρ c main_v0 (by decide)).trans (V10_v0 m ρ c)

theorem out20 : (dat4 (V11 m ρ) c).arrAt 2 cfg4.N = fun j => GATEW (KDU (a0 m c) (a1 m c) (a3 m c) (a4 m c)) (CASTX (a0 m c)) j := by
  refine (final4_2 (V11 m ρ) c).trans ?_
  rw [V11_du, V11_v0]

theorem V12_dg : V12 m ρ c main_v18_0 = KDG (a0 m c) (a1 m c) (a2 m c) (a3 m c) (a4 m c) := (W12_of m ρ c main_v18_0 (by decide)).trans (V11_dg m ρ c)
theorem V12_du : V12 m ρ c main_v18_1 = KDU (a0 m c) (a1 m c) (a3 m c) (a4 m c) := (W12_of m ρ c main_v18_1 (by decide)).trans (V11_du m ρ c)
theorem V12_v6 : V12 m ρ c main_v6 = PADW (a1 m c) := (W12_of m ρ c main_v6 (by decide)).trans ((W11_of m ρ c main_v6 (by decide)).trans (V10_v6 m ρ c))
theorem V12_v11 : V12 m ρ c main_v11 = PADW (a2 m c) := (W12_of m ρ c main_v11 (by decide)).trans ((W11_of m ρ c main_v11 (by decide)).trans (V10_v11 m ρ c))

theorem out21 : (dat5 (V12 m ρ) c).arrAt 4 cfg5.N = fun j => DX1 (KDG (a0 m c) (a1 m c) (a2 m c) (a3 m c) (a4 m c)) (PADW (a1 m c)) j + DX1 (KDU (a0 m c) (a1 m c) (a3 m c) (a4 m c)) (PADW (a2 m c)) j := by
  refine (final5_4 (V12 m ρ) c).trans ?_
  rw [V12_dg, V12_du, V12_v6, V12_v11]

end Cert.Kernel2Ideal.FFN

end
-- ==== Proof.FFN.Finite.lean ====
module

public import proofs.«01_k».proof.Pre_finite
public import proofs.«01_k».proof.Proof.FFN.Scalar

/-! The precondition, read: every entry of the five arguments is a real number. -/

@[expose] public section

noncomputable section

namespace Cert.FFN

open Idealize.ShloMosaic Idealize.ShloMosaic.TcCoe Idealize.SL.Sem

/-- The predicate's shape relations. -/
theorem preFacts : Cert.Pre_finite.Facts where
  bcast_S_S2048x2048 := by decide
  bcast_S_S2048x5632 := by decide
  bcast_S_S5632x2048 := by decide

theorem real_of_olt (x : Ideal .f32) (h : FloatOps.cmpf .olt (FloatOps.hostAbsf x) (FloatOps.ofBits (F := Ideal) .f32 0x7F800000#32) = 1#1) : Real' x := by
  have htop : Ideal.ofBits .f32 0x7F800000#32 = ⊤ := by simp [Ideal.ofBits, Ideal.ieee]
  have h2 : Ideal.cmp .olt (max (x : EReal) (-(x : EReal))) (Ideal.ofBits .f32 0x7F800000#32) = 1#1 := h
  rw [htop] at h2
  have h3 : max (x : EReal) (-(x : EReal)) < ⊤ := by
    by_contra hn
    simp [Ideal.cmp, hn] at h2
  rw [max_lt_iff] at h3
  induction x using EReal.rec with
  | bot => simp at h3
  | top => simp at h3
  | coe r => exact ⟨r, rfl⟩

end Cert.FFN

end
-- ==== Proof.FFN.Claims.lean ====
module

public import proofs.«01_k».proof.Defs
public import proofs.«01_k».proof.Proof.FFN.Kernel
public import proofs.«01_k».proof.Proof.FFN.Finite
public import proofs.«01_k».proof.Proof.Gen.Kernel2.Frame
public import Idealize.ShloMosaic.Lib.Claim

/-! The feed-forward program's claims: the three frames and the four gradients' equality. -/

@[expose] public section

set_option maxRecDepth 16384

noncomputable section

namespace Cert.FFN

open Idealize.ShloMosaic Idealize.ShloMosaic.TcCoe Idealize.SL.Sem
open Cert.Kernel2Ideal.FFN Cert.Reference2Ideal.FFN

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_ideal_finite : Cert.quiescent_Kernel2Ideal_pre_finite (hPre_finite := preFacts) := fun m ρ _ => Cert.Kernel2Ideal.Gen.frame m ρ

theorem frame_ref : Cert.quiescent_Reference2Ideal := fun m ρ _ =>
  (θ_run Cert.Reference2Ideal.defs _ _).mono
    (fun r h => ⟨fun c => (h c).2.2.2.2, Idealize.ShloMosaic.sem_eq_zero_of_no_sems (by decide) r.2⟩)
    (Cert.Reference2Ideal.Value.run (F := Ideal) m ρ)
theorem frame_ref_finite : Cert.quiescent_Reference2Ideal_pre_finite (hPre_finite := preFacts) := fun m ρ _ => frame_ref m ρ trivial

section Pre

open Cert.Kernel2Ideal

variable {m : (ℓ : Loc nD τ sig) → Buf (Elt Ideal) ℓ}

theorem pre0 (h : Cert.Pre_Kernel2Ideal_finite (hPre_finite := preFacts) m) (c : Dev nD) : Fin' (a0 m c) := fun j => real_of_olt _ (congrFun (h c).1 j)
theorem pre1 (h : Cert.Pre_Kernel2Ideal_finite (hPre_finite := preFacts) m) (c : Dev nD) : Fin' (a1 m c) := fun j => real_of_olt _ (congrFun (h c).2.1 j)
theorem pre2 (h : Cert.Pre_Kernel2Ideal_finite (hPre_finite := preFacts) m) (c : Dev nD) : Fin' (a2 m c) := fun j => real_of_olt _ (congrFun (h c).2.2.1 j)
theorem pre3 (h : Cert.Pre_Kernel2Ideal_finite (hPre_finite := preFacts) m) (c : Dev nD) : Fin' (a3 m c) := fun j => real_of_olt _ (congrFun (h c).2.2.2.1 j)
theorem pre4 (h : Cert.Pre_Kernel2Ideal_finite (hPre_finite := preFacts) m) (c : Dev nD) : Fin' (a4 m c) := fun j => real_of_olt _ (congrFun (h c).2.2.2.2 j)

end Pre

/-- The reference's run, its results named. -/
theorem ref_run (m : (ℓ : Loc Cert.Reference2Ideal.nD Cert.Reference2Ideal.τ Cert.Reference2Ideal.sig) → Buf (Elt Ideal) ℓ) (ρ : Dev Cert.Reference2Ideal.nD → PrngReg) :
    θ_run Cert.Reference2Ideal.defs (onTc (τ := Cert.Reference2Ideal.τ) (Cert.Reference2Ideal.main (F := Ideal))) ⟨m, fun _ => 0, ρ⟩ fun r => ∀ c : Dev Cert.Reference2Ideal.nD,
      r.2.mem ((c.tc : Thread Cert.Reference2Ideal.nD Cert.Reference2Ideal.τ).loc Cert.Reference2Ideal.main_v21) = T_v21 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_v25) = T_v25 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_v29) = T_v29 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_v17) = T_v17 (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4) :=
  Cert.Reference2Ideal.Value.run (F := Ideal) m ρ

theorem algebraic : Cert.algebraic_Kernel2Ideal_Reference2Ideal_pre_finite (hPre_finite := preFacts) := by
  intro m g m' g' hpre hagree
  refine ⟨fun c => T_v21 (a0 m c) (a1 m c) (a2 m c) (a4 m c), fun c => T_v25 (a0 m c) (a1 m c) (a2 m c) (a3 m c) (a4 m c),
    fun c => T_v29 (a0 m c) (a1 m c) (a3 m c) (a4 m c), fun c => T_v17 (a0 m c) (a1 m c) (a2 m c) (a3 m c) (a4 m c), ?_, ?_⟩
  · refine (θ_run Cert.Kernel2Ideal.defs _ _).mono (fun r h c => ?_) (Cert.Kernel2Ideal.FFN.run (F := Ideal) m g)
    obtain ⟨e0, e1, e2, e3, hargs⟩ := h c
    exact ⟨e0.trans ((out17 m g c).trans down_eq),
      e1.trans ((out19 m g c).trans (gate_w_eq (pre0 hpre c) (pre1 hpre c) (pre2 hpre c) (pre3 hpre c) (pre4 hpre c))),
      e2.trans ((out20 m g c).trans up_w_eq),
      e3.trans ((out21 m g c).trans (dx_eq (pre0 hpre c) (pre1 hpre c) (pre2 hpre c) (pre3 hpre c) (pre4 hpre c))), hargs⟩
  · refine (θ_run Cert.Reference2Ideal.defs _ _).mono (fun r h c => ?_) (ref_run m' g')
    obtain ⟨e0, e1, e2, e3, hargs⟩ := h c
    obtain ⟨g0, g1, g2, g3, g4⟩ := hagree c
    rw [g0, g1, g2, g4] at e0
    rw [g0, g1, g2, g3, g4] at e1
    rw [g0, g1, g3, g4] at e2
    rw [g0, g1, g2, g3, g4] at e3
    exact ⟨e0, e1, e2, e3, hargs⟩

end Cert.FFN

end
-- ==== Proof.INP.Product.lean ====
module

public import proofs.«01_k».proof.Proof.Gen.Kernel3Ideal.Frame
public import Idealize.ShloMosaic.Lib.Pipeline.ValueKit

/-! The in-projection, element by element over the arrays the call reads. -/

@[expose] public section

set_option maxRecDepth 16384

noncomputable section

namespace Cert.Kernel3Ideal.INP

open Idealize.ShloMosaic Idealize.ShloMosaic.TcCoe Idealize.SL.Sem
open Idealize.ShloMosaic.Pipeline (Dat)
open Cert.Kernel3Ideal Cert.Kernel3Ideal.Gen

/-- The product: rows of `x` against rows of the transposed weight. -/
def NT (x : FVec Ideal S2048x2048 .bf16) (w : FVec Ideal S1x1x7184x2048 .bf16) (j : S2048x7168.Idx) : EReal :=
  ∑ k : Fin 2048, x (ix2 (j 0) k) * w (ix4 0 0 ⟨(j 1).val, by have := (j 1).isLt; change (j 1).val < 7168 at this; omega⟩ k)

variable (m : (ℓ : Loc nD τ sig) → Buf (Elt Ideal) ℓ)

theorem idx0 : ∀ t : Fin cfg0.N, win0_0.index t = ![t.val / 7, 0] ∧ win0_1.index t = ![0, 0, t.val % 7, 0] ∧ win0_2.index t = ![t.val / 7, t.val % 7] ∧ t.val / 7 < 2 :=
  (by decide +kernel : ∀ t : Fin grid0.N, _)

theorem X_apply (c : Dev nD) (t : Fin cfg0.N) (r : Fin 1024) (k : Fin 2048) :
    X0_1 m c t (ix4 0 0 r k) = V m c main_v3 (ix4 0 0 ⟨t.val % 7 * 1024 + r.val, by omega⟩ k) := by
  unfold X0_1 Pipeline.Window.fill
  rw [dif_pos (moved0_1 t _)]
  unfold iblk
  refine congrArg (V m c main_v3) ?_
  blk_point [idx0 t]

theorem final0_2 (c : Dev nD) : (dats m 0 c).arrAt 2 cfg0.N = fun j => NT (V m c main_v0) (V m c main_v3) j := by
  refine (dats m 0 c).arrAt_eq_of_covers 2 _ (by decide +kernel) fun t _ y => ?_
  blk_simp
  rw [after0_2]; unfold outsAt0; frame_out
  pointwise [k0_pay1, NT, X_apply]
  blk_point [iblk, idx0 t]

end Cert.Kernel3Ideal.INP

end
-- ==== Proof.INP.ProductKernel.lean ====
module

public import proofs.«01_k».proof.Proof.INP.Product
public import Idealize.ShloMosaic.Lib.Pointwise
public import Idealize.ShloMosaic.Lib.StableHlo.Run
public import Idealize.ShloMosaic.Lib.Claim

/-! The in-projection over the arguments. -/

@[expose] public section

set_option maxRecDepth 16384

noncomputable section

namespace Cert.Kernel3Ideal.INP

open Idealize.ShloMosaic Idealize.ShloMosaic.TcCoe Idealize.SL.Sem
open Idealize.ShloMosaic.StableHlo
open Cert.Kernel3Ideal Cert.Kernel3Ideal.Gen

/-- A cast to half precision. -/
def CASTX (a : FVec Ideal S2048x2048 .f32) : FVec Ideal S2048x2048 .bf16 := truncf .bf16 a bitsLt_bf16_f32

theorem CASTX_apply (a : FVec Ideal S2048x2048 .f32) (j : S2048x2048.Idx) : CASTX a j = a j := by
  pointwise [CASTX]

/-- The weight the way the call reads it: transposed. -/
def TRW (a : FVec Ideal S2048x7184 .f32) : FVec Ideal S1x1x7184x2048 .bf16 :=
  shapeCast S1x1x7184x2048 (truncf .bf16 (transpose S7184x2048 [1, 0] a transposes_S2048x7184_S7184x2048_1_0) bitsLt_bf16_f32) shapeCasts_S7184x2048_S1x1x7184x2048

theorem TRW_apply (a : FVec Ideal S2048x7184 .f32) (q : Fin 7184) (k : Fin 2048) : TRW a (ix4 0 0 q k) = a (ix2 k q) := by
  pointwise [TRW]

variable (m : (ℓ : Loc nD τ sig) → Buf (Elt Ideal) ℓ) (ρ : Dev nD → PrngReg) (c : Dev nD)

/-- The arguments. -/
abbrev a0 : FVec Ideal S2048x2048 .f32 := m ((c : Thread nD τ).loc main_arg0)
abbrev a1 : FVec Ideal S2048x7184 .f32 := m ((c : Thread nD τ).loc main_arg1)

theorem V_v0 : V m c main_v0 = CASTX (a0 m c) := by
  show StableHlo.after hostOps0 (fun b => m (c, b)) (Proc.devRef .tc main_v0) = _
  after_results_simp <;> rfl

theorem V_v3 : V m c main_v3 = TRW (a1 m c) := by
  show StableHlo.after hostOps0 (fun b => m (c, b)) (Proc.devRef .tc main_v3) = _
  after_results_simp <;> rfl

theorem out : (dats m 0 c).arrAt 2 cfg0.N = fun j : S2048x7168.Idx => ∑ k : Fin 2048,
    a0 m c (ix2 (j 0) k) * a1 m c (ix2 k ⟨(j 1).val, by have := (j 1).isLt; change (j 1).val < 7168 at this; omega⟩) := by
  rw [final0_2, V_v0, V_v3]
  funext j
  simp only [NT, CASTX_apply, TRW_apply]

theorem run : θ_run defs (onTc (τ := τ) (main (F := Ideal))) ⟨m, fun _ => 0, ρ⟩ (fun r => ∀ c : Dev nD,
      r.2.mem ((c.tc : Thread nD τ).loc main_v4) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨Pipeline.FramePost.out_eq h.2 c 2, h.1 c⟩) (θ_run_and (unchanged m ρ) (run_main m ρ))

end Cert.Kernel3Ideal.INP

end
-- ==== Proof.INP.ProductReference.lean ====
module

public import proofs.«01_k».proof.Proof.Gen.Reference3Ideal.Run
public import Idealize.ShloMosaic.Lib.Pointwise

/-! The reference's result, element by element over the arguments. -/

@[expose] public section

set_option maxRecDepth 16384

noncomputable section

namespace Cert.Reference3Ideal.INP

open Idealize.ShloMosaic Idealize.ShloMosaic.TcCoe Idealize.SL.Sem
open Cert.Reference3Ideal Cert.Reference3Ideal.Gen

variable (A0 : FVec Ideal S2048x2048 .f32) (A1 : FVec Ideal S2048x7184 .f32)

/-- The product. -/
def T : FVec Ideal S2048x7168 .f32 :=
  Host.dotGeneral dot_S2048x2048_S2048x7168_S2048x7168_1_0_0_1_n_n none A0 (extractStridedSlice S2048x7168 ![0, 0] A1 slices_S2048x7184_S2048x7168_0_0)

theorem T_eq : T A0 A1 = fun j : S2048x7168.Idx => ∑ k : Fin 2048,
    A0 (ix2 (j 0) k) * A1 (ix2 k ⟨(j 1).val, by have := (j 1).isLt; change (j 1).val < 7168 at this; omega⟩) := by
  funext j
  obtain ⟨r, q, rfl⟩ : ∃ (r : Fin 2048) (q : Fin 7168), j = ix2 r q := ⟨_, _, eq_ix2 j⟩
  pointwise [T]

end Cert.Reference3Ideal.INP

end
-- ==== Proof.INP.ProductClaims.lean ====
module

public import proofs.«01_k».proof.Defs
public import proofs.«01_k».proof.Proof.INP.ProductKernel
public import proofs.«01_k».proof.Proof.INP.ProductReference
public import proofs.«01_k».proof.Proof.Gen.Kernel3.Frame
public import Idealize.ShloMosaic.Lib.Claim

/-! The frames and the equality of the result. -/

@[expose] public section

set_option maxRecDepth 16384

noncomputable section

namespace Cert.INP.Product

open Idealize.ShloMosaic Idealize.ShloMosaic.TcCoe Idealize.SL.Sem

theorem frame_kernel : Cert.quiescent_Kernel3 := fun m ρ _ => Cert.Kernel3.Gen.frame m ρ
theorem frame_ideal : Cert.quiescent_Kernel3Ideal := fun m ρ _ => Cert.Kernel3Ideal.Gen.frame m ρ

theorem frame_ref : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem algebraic : Cert.algebraic_Kernel3Ideal_Reference3Ideal := by
  intro m g m' g' _ hagree
  refine ⟨fun c => Cert.Reference3Ideal.INP.T (Cert.Kernel3Ideal.INP.a0 m c) (Cert.Kernel3Ideal.INP.a1 m c), ?_, ?_⟩
  · refine (θ_run Cert.Kernel3Ideal.defs _ _).mono (fun r h c => ?_) (Cert.Kernel3Ideal.INP.run m g)
    obtain ⟨e0, hargs⟩ := h c
    exact ⟨e0.trans ((Cert.Kernel3Ideal.INP.out m c).trans (Cert.Reference3Ideal.INP.T_eq _ _).symm), hargs⟩
  · refine (θ_run Cert.Reference3Ideal.defs _ _).mono (fun r h c => ?_) (Cert.Reference3Ideal.Value.run (F := Ideal) m' g')
    obtain ⟨e0, hargs⟩ := h c
    obtain ⟨g0, g1⟩ := hagree c
    rw [g0, g1] at e0
    exact ⟨e0, hargs⟩

end Cert.INP.Product

end
-- ==== Proof.QKV.Regions.lean ====
module

public import proofs.«01_k».proof.Proof.Gen.Kernel4Ideal.Frame
public import Idealize.ShloMosaic.Lib.Pipeline.ValueKit

/-! The first two calls of the query, key and value product, element by element over the arrays they read. -/

@[expose] public section

set_option maxRecDepth 16384

noncomputable section

namespace Cert.Kernel4Ideal.QKV

open Idealize.ShloMosaic Idealize.ShloMosaic.TcCoe Idealize.SL.Sem
open Idealize.ShloMosaic.Pipeline (Dat)
open Cert.Kernel4Ideal Cert.Kernel4Ideal.Gen

/-- The product: a row of `x` against a column of the weight, the weight's columns cut in eight. -/
def NN (x : FVec Ideal S2048x2048 .bf16) (w : FVec Ideal S1x8x2048x768 .bf16) (j : S2048x6144.Idx) : EReal :=
  ∑ k : Fin 2048, x (ix2 (j 0) k) * w (ix4 0 ⟨(j 1).val / 768, by have := (j 1).isLt; change (j 1).val < 6144 at this; omega⟩ k ⟨(j 1).val % 768, Nat.mod_lt _ (by norm_num)⟩)

/-- The gradient of the weight, its columns cut in eight. -/
def TN (x : FVec Ideal S2048x2048 .bf16) (d : FVec Ideal S2048x6144 .bf16) (j : S8x2048x768.Idx) : EReal :=
  ∑ k : Fin 2048, x (ix2 k (j 1)) * d (ix2 k ⟨(j 0).val * 768 + (j 2).val, by
    have h0 := (j 0).isLt; have h2 := (j 2).isLt; change (j 0).val < 8 at h0; change (j 2).val < 768 at h2; omega⟩)

variable (V : (c : Dev nD) → (b : Ref sig .tc) → Buf (Elt Ideal) ((c : Thread nD τ).loc b))

theorem idx0 : ∀ t : Fin cfg0.N, win0_0.index t = ![t.val / 8, 0] ∧ win0_1.index t = ![0, t.val % 8, 0, 0] ∧ win0_2.index t = ![t.val / 8, t.val % 8] ∧ t.val / 8 < 2 :=
  (by decide +kernel : ∀ t : Fin grid0.N, _)

theorem point0_2 (c : Dev nD) (t : Fin cfg0.N) (y) : k0_pay1 (iblk0 V c 0 t) (iblk0 V c 1 t) y
    = NN (V c main_v0) (V c main_v5) (((cfg0.win 2).blk t).view.emb y) := by
  pointwise [k0_pay1, NN]
  blk_point [iblk0, idx0 t]

theorem final0_2 (c : Dev nD) : (dat0 V c).arrAt 2 cfg0.N = fun j => NN (V c main_v0) (V c main_v5) j := by
  refine (dat0 V c).arrAt_eq_of_covers 2 _ (by decide +kernel) fun t _ y => ?_
  blk_simp
  rw [after0_2]; frame_out
  exact point0_2 V c t y

theorem idx1 : ∀ t : Fin cfg1.N, win1_0.index t = ![0, t.val / 8] ∧ win1_1.index t = ![0, t.val % 8] ∧ win1_2.index t = ![t.val % 8, t.val / 8, 0] ∧ t.val / 8 < 2 :=
  (by decide +kernel : ∀ t : Fin grid1.N, _)

theorem point1_2 (c : Dev nD) (t : Fin cfg1.N) (y) : k1_pay1 (iblk1 V c 0 t) (iblk1 V c 1 t) y
    = TN (V c main_v0) (V c main_v1) (((cfg1.win 2).blk t).view.emb y) := by
  pointwise [k1_pay1, TN]
  blk_point [iblk1, idx1 t]

theorem final1_2 (c : Dev nD) : (dat1 V c).arrAt 2 cfg1.N = fun j => TN (V c main_v0) (V c main_v1) j := by
  refine (dat1 V c).arrAt_eq_of_covers 2 _ (by decide +kernel) fun t _ y => ?_
  blk_simp
  rw [after1_2]; frame_out
  exact point1_2 V c t y

end Cert.Kernel4Ideal.QKV

end
-- ==== Proof.QKV.Region2.lean ====
module

public import proofs.«01_k».proof.Proof.Gen.Kernel4Ideal.Frame
public import Idealize.ShloMosaic.Lib.Pipeline.ValueKit

/-! The third call of the query, key and value product: eight products of 768 columns each, summed. -/

@[expose] public section

set_option maxRecDepth 16384

noncomputable section

namespace Cert.Kernel4Ideal.QKV

open Idealize.ShloMosaic Idealize.ShloMosaic.TcCoe Idealize.SL.Sem
open Idealize.ShloMosaic.Pipeline (Dat)
open Cert.Kernel4Ideal Cert.Kernel4Ideal.Gen

/-- One of the eight products. -/
def PART (d : FVec Ideal S2048x6144 .bf16) (w : FVec Ideal S1x8x2048x768 .bf16) (r q : Fin 2048) (b : Fin 8) : EReal :=
  ∑ k : Fin 768, d (ix2 r ⟨b.val * 768 + k.val, by omega⟩) * w (ix4 0 b q k)

/-- The gradient of the input: the eight products, added from the first to the last. -/
def EIGHT (d : FVec Ideal S2048x6144 .bf16) (w : FVec Ideal S1x8x2048x768 .bf16) (j : S2048x2048.Idx) : EReal :=
  PART d w (j 0) (j 1) 0 + PART d w (j 0) (j 1) 1 + PART d w (j 0) (j 1) 2 + PART d w (j 0) (j 1) 3
    + PART d w (j 0) (j 1) 4 + PART d w (j 0) (j 1) 5 + PART d w (j 0) (j 1) 6 + PART d w (j 0) (j 1) 7

variable (V : (c : Dev nD) → (b : Ref sig .tc) → Buf (Elt Ideal) ((c : Thread nD τ).loc b))

theorem idx2 : ∀ t : Fin cfg2.N, win2_0.index t = ![t.val / 4, 0] ∧ win2_1.index t = ![0, 0, t.val % 4, 0] ∧ win2_2.index t = ![t.val / 4, t.val % 4] ∧ t.val / 4 < 4 :=
  (by decide +kernel : ∀ t : Fin grid2.N, _)

theorem final2_2 (c : Dev nD) : (dat2 V c).arrAt 2 cfg2.N = fun j => EIGHT (V c main_v1) (V c main_v5) j := by
  refine (dat2 V c).arrAt_eq_of_covers 2 _ (by decide +kernel) fun t _ y => ?_
  blk_simp
  rw [after2_2]; frame_out
  pointwise [k2_pay1, k2_pay2, k2_pay3, EIGHT, PART]
  blk_point [iblk2, idx2 t]

end Cert.Kernel4Ideal.QKV

end
-- ==== Proof.QKV.Run.lean ====
/- The run of the query, key and value product: every buffer ends as the fold of its segments leaves it. -/
module

public import proofs.«01_k».proof.Proof.Gen.Kernel4Ideal.Frame

@[expose] public section

noncomputable section

namespace Cert.Kernel4Ideal.QKV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every device ends at the contents of the last boundary. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The three results and the arguments. -/
theorem run : θ_run defs (onTc (τ := τ) (main (F := F))) ⟨m, fun _ => 0, ρ⟩ (fun r => ∀ c : Dev nD,
      r.2.mem ((c.tc : Thread nD τ).loc main_v6) = (dat0 (V1 m ρ) c).arrAt 2 cfg0.N
      ∧ r.2.mem ((c.tc : Thread nD τ).loc main_v7) = (dat1 (V2 m ρ) c).arrAt 2 cfg1.N
      ∧ r.2.mem ((c.tc : Thread nD τ).loc main_v8) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v6 (by decide))).trans ((W4_of m ρ c main_v6 (by decide)).trans ((W3_of m ρ c main_v6 (by decide)).trans (W2_arr m ρ c 2))),
     (h c _ (mem_uc main_v7 (by decide))).trans ((W4_of m ρ c main_v7 (by decide)).trans (W3_arr m ρ c 2)),
     (h c _ (mem_uc main_v8 (by decide))).trans (W4_arr m ρ c 2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel4Ideal.QKV

end
-- ==== Proof.QKV.Kernel.lean ====
module

public import proofs.«01_k».proof.Proof.QKV.Regions
public import proofs.«01_k».proof.Proof.QKV.Region2
public import proofs.«01_k».proof.Proof.QKV.Run
public import Idealize.ShloMosaic.Lib.Pointwise
public import Idealize.ShloMosaic.Lib.StableHlo.Run

/-! The three calls one after the other: each result over the arguments. -/

@[expose] public section

set_option maxRecDepth 16384

noncomputable section

namespace Cert.Kernel4Ideal.QKV

open Idealize.ShloMosaic Idealize.ShloMosaic.TcCoe Idealize.SL.Sem
open Idealize.ShloMosaic.StableHlo
open Cert.Kernel4Ideal Cert.Kernel4Ideal.Gen

/-- A sum over 6144 columns is eight sums over 768. -/
theorem sum_eight (f : Fin 6144 → EReal) : ∑ k, f k = ∑ b : Fin 8, ∑ r : Fin 768, f ⟨b.val * 768 + r.val, by omega⟩ := by
  rw [← Fintype.sum_prod_type', ← (finProdFinEquiv (m := 8) (n := 768)).sum_comp f]
  refine Finset.sum_congr rfl fun p _ => congrArg f (Fin.ext ?_)
  simp only [finProdFinEquiv_apply_val]
  omega

variable (m : (ℓ : Loc nD τ sig) → Buf (Elt Ideal) ℓ) (ρ : Dev nD → PrngReg) (c : Dev nD)

/-- The arguments. -/
abbrev a0 : FVec Ideal S2048x2048 .f32 := m ((c : Thread nD τ).loc main_arg0)
abbrev a1 : FVec Ideal S2048x6144 .f32 := m ((c : Thread nD τ).loc main_arg1)
abbrev a2 : FVec Ideal S2048x6144 .f32 := m ((c : Thread nD τ).loc main_arg2)

/-- A cast to half precision. -/
def CASTX (a : FVec Ideal S2048x2048 .f32) : FVec Ideal S2048x2048 .bf16 := truncf .bf16 a bitsLt_bf16_f32
def CASTD (a : FVec Ideal S2048x6144 .f32) : FVec Ideal S2048x6144 .bf16 := truncf .bf16 a bitsLt_bf16_f32

/-- The weight the way the calls read it: its columns cut in eight. -/
def CUTW (a : FVec Ideal S2048x6144 .f32) : FVec Ideal S1x8x2048x768 .bf16 :=
  broadcastInDim S1x8x2048x768 ![1, 2, 3] bcast_S8x2048x768_S1x8x2048x768_1_2_3
    (transpose S8x2048x768 [1, 0, 2] (shapeCast S2048x8x768 (truncf .bf16 a bitsLt_bf16_f32) shapeCasts_S2048x6144_S2048x8x768) transposes_S2048x8x768_S8x2048x768_1_0_2)

theorem CASTX_apply (a : FVec Ideal S2048x2048 .f32) (j : S2048x2048.Idx) : CASTX a j = a j := by
  pointwise [CASTX]
theorem CASTD_apply (a : FVec Ideal S2048x6144 .f32) (j : S2048x6144.Idx) : CASTD a j = a j := by
  pointwise [CASTD]

theorem CUTW_apply (a : FVec Ideal S2048x6144 .f32) (b : Fin 8) (q : Fin 2048) (k : Fin 768) :
    CUTW a (ix4 0 b q k) = a (ix2 q ⟨b.val * 768 + k.val, by omega⟩) := by
  pointwise [CUTW]

theorem V1_v0 : V1 m ρ c main_v0 = CASTX (a0 m c) := by
  show StableHlo.after hostOps0 (W0 m ρ c) (Proc.devRef .tc main_v0) = _
  after_results_simp <;> rfl
theorem V1_v1 : V1 m ρ c main_v1 = CASTD (a2 m c) := by
  show StableHlo.after hostOps0 (W0 m ρ c) (Proc.devRef .tc main_v1) = _
  after_results_simp <;> rfl
theorem V1_v5 : V1 m ρ c main_v5 = CUTW (a1 m c) := by
  show StableHlo.after hostOps0 (W0 m ρ c) (Proc.devRef .tc main_v5) = _
  after_results_simp <;> rfl
theorem V2_v0 : V2 m ρ c main_v0 = CASTX (a0 m c) := (W2_of m ρ c main_v0 (by decide)).trans (V1_v0 m ρ c)
theorem V2_v1 : V2 m ρ c main_v1 = CASTD (a2 m c) := (W2_of m ρ c main_v1 (by decide)).trans (V1_v1 m ρ c)
theorem V3_v1 : V3 m ρ c main_v1 = CASTD (a2 m c) := (W3_of m ρ c main_v1 (by decide)).trans (V2_v1 m ρ c)
theorem V3_v5 : V3 m ρ c main_v5 = CUTW (a1 m c) :=
  (W3_of m ρ c main_v5 (by decide)).trans ((W2_of m ρ c main_v5 (by decide)).trans (V1_v5 m ρ c))

theorem out6 : (dat0 (V1 m ρ) c).arrAt 2 cfg0.N = fun j : S2048x6144.Idx => ∑ k : Fin 2048, a0 m c (ix2 (j 0) k) * a1 m c (ix2 k (j 1)) := by
  rw [final0_2, V1_v0, V1_v5]
  funext j
  obtain ⟨r, q, rfl⟩ : ∃ (r : Fin 2048) (q : Fin 6144), j = ix2 r q := ⟨_, _, eq_ix2 j⟩
  simp only [NN, CASTX_apply]
  refine Finset.sum_congr rfl fun k _ => congrArg (a0 m c (ix2 r k) * ·) ((CUTW_apply (a1 m c) _ k _).trans (congrArg (a1 m c) (congrArg (ix2 k) (Fin.ext ?_))))
  exact Nat.div_add_mod' q.val 768

theorem out7 : (dat1 (V2 m ρ) c).arrAt 2 cfg1.N = fun j : S8x2048x768.Idx => ∑ k : Fin 2048, a0 m c (ix2 k (j 1)) * a2 m c (ix2 k ⟨(j 0).val * 768 + (j 2).val, by
    have h0 := (j 0).isLt; have h2 := (j 2).isLt; change (j 0).val < 8 at h0; change (j 2).val < 768 at h2; omega⟩) := by
  rw [final1_2, V2_v0, V2_v1]
  funext j
  simp only [TN, CASTX_apply, CASTD_apply]

theorem PART_eq (r q : Fin 2048) (b : Fin 8) : PART (CASTD (a2 m c)) (CUTW (a1 m c)) r q b
    = ∑ k : Fin 768, a2 m c (ix2 r ⟨b.val * 768 + k.val, by omega⟩) * a1 m c (ix2 q ⟨b.val * 768 + k.val, by omega⟩) := by
  simp only [PART, CASTD_apply, CUTW_apply]

theorem out8 : (dat2 (V3 m ρ) c).arrAt 2 cfg2.N = fun j : S2048x2048.Idx => ∑ k : Fin 6144, a2 m c (ix2 (j 0) k) * a1 m c (ix2 (j 1) k) := by
  rw [final2_2, V3_v1, V3_v5]
  funext j
  rw [sum_eight, Fin.sum_univ_eight]
  have h := PART_eq m c (j 0) (j 1)
  exact congrArg₂ (· + ·) (congrArg₂ (· + ·) (congrArg₂ (· + ·) (congrArg₂ (· + ·) (congrArg₂ (· + ·) (congrArg₂ (· + ·) (congrArg₂ (· + ·)
    (h 0) (h 1)) (h 2)) (h 3)) (h 4)) (h 5)) (h 6)) (h 7)

end Cert.Kernel4Ideal.QKV

end
-- ==== Proof.QKV.Reference.lean ====
module

public import proofs.«01_k».proof.Proof.Gen.Reference4Ideal.Run
public import Idealize.ShloMosaic.Lib.Pointwise

/-! The reference's results, element by element over the arguments. -/

@[expose] public section

set_option maxRecDepth 16384

noncomputable section

namespace Cert.Reference4Ideal.QKV

open Idealize.ShloMosaic Idealize.ShloMosaic.TcCoe Idealize.SL.Sem
open Cert.Reference4Ideal Cert.Reference4Ideal.Gen

variable (A0 : FVec Ideal S2048x2048 .f32) (A1 A2 : FVec Ideal S2048x6144 .f32)

/-- The product. -/
def T_y : FVec Ideal S2048x6144 .bf16 :=
  truncf .bf16 (Host.dotGeneral dot_S2048x2048_S2048x6144_S2048x6144_1_0_0_1_n_n none A0 A1) bitsLt_bf16_f32

/-- The gradient of the weight, its columns cut in eight. -/
def T_w : FVec Ideal S8x2048x768 .bf16 :=
  truncf .bf16 (transpose S8x2048x768 [1, 0, 2] (shapeCast _ (transpose S2048x6144 [1, 0] (Host.dotGeneral dot_S2048x6144_S2048x2048_S6144x2048_0_0_1_1_n_n none A2 A0) transposes_S6144x2048_S2048x6144_1_0) shapeCasts_S2048x6144_S2048x8x768) transposes_S2048x8x768_S8x2048x768_1_0_2) bitsLt_bf16_f32

/-- The gradient of the input. -/
def T_x : FVec Ideal S2048x2048 .f32 :=
  Host.dotGeneral dot_S2048x6144_S2048x6144_S2048x2048_1_1_0_0_n_n none A2 A1

theorem T_y_eq : T_y A0 A1 = fun j : S2048x6144.Idx => ∑ k : Fin 2048, A0 (ix2 (j 0) k) * A1 (ix2 k (j 1)) := by
  funext j
  obtain ⟨r, k, rfl⟩ : ∃ (r : Fin 2048) (k : Fin 6144), j = ix2 r k := ⟨_, _, eq_ix2 j⟩
  pointwise [T_y]

theorem T_w_eq : T_w A0 A2 = fun j : S8x2048x768.Idx => ∑ k : Fin 2048, A0 (ix2 k (j 1)) * A2 (ix2 k ⟨(j 0).val * 768 + (j 2).val, by
    have h0 := (j 0).isLt; have h2 := (j 2).isLt; change (j 0).val < 8 at h0; change (j 2).val < 768 at h2; omega⟩) := by
  funext j
  obtain ⟨b, r, q, rfl⟩ : ∃ (b : Fin 8) (r : Fin 2048) (q : Fin 768), j = ix3 b r q := ⟨_, _, _, eq_ix3 j⟩
  pointwise [T_w]
  exact Finset.sum_congr rfl fun _ _ => mul_comm _ _

theorem T_x_eq : T_x A1 A2 = fun j : S2048x2048.Idx => ∑ k : Fin 6144, A2 (ix2 (j 0) k) * A1 (ix2 (j 1) k) := by
  funext j
  obtain ⟨r, k, rfl⟩ : ∃ (r k : Fin 2048), j = ix2 r k := ⟨_, _, eq_ix2 j⟩
  pointwise [T_x]

end Cert.Reference4Ideal.QKV

end
-- ==== Proof.QKV.Claims.lean ====
module

public import proofs.«01_k».proof.Defs
public import proofs.«01_k».proof.Proof.QKV.Kernel
public import proofs.«01_k».proof.Proof.QKV.Reference
public import proofs.«01_k».proof.Proof.Gen.Kernel4.Frame
public import Idealize.ShloMosaic.Lib.Claim

/-! The claims of the query, key and value product: the frames and the equality of the three results. -/

@[expose] public section

set_option maxRecDepth 16384

noncomputable section

namespace Cert.QKV

open Idealize.ShloMosaic Idealize.ShloMosaic.TcCoe Idealize.SL.Sem
open Cert.Kernel4Ideal.QKV Cert.Reference4Ideal.QKV

theorem frame_kernel : Cert.quiescent_Kernel4 := fun m ρ _ => Cert.Kernel4.Gen.frame m ρ
theorem frame_ideal : Cert.quiescent_Kernel4Ideal := fun m ρ _ => Cert.Kernel4Ideal.Gen.frame m ρ

theorem frame_ref : Cert.quiescent_Reference4Ideal := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

theorem algebraic : Cert.algebraic_Kernel4Ideal_Reference4Ideal := by
  intro m g m' g' _ hagree
  refine ⟨fun c => T_y (a0 m c) (a1 m c), fun c => T_w (a0 m c) (a2 m c), fun c => T_x (a1 m c) (a2 m c), ?_, ?_⟩
  · refine (θ_run Cert.Kernel4Ideal.defs _ _).mono (fun r h c => ?_) (Cert.Kernel4Ideal.QKV.run (F := Ideal) m g)
    obtain ⟨e0, e1, e2, hargs⟩ := h c
    exact ⟨e0.trans ((out6 m g c).trans (T_y_eq _ _).symm), e1.trans ((out7 m g c).trans (T_w_eq _ _).symm),
      e2.trans ((out8 m g c).trans (T_x_eq _ _).symm), hargs⟩
  · refine (θ_run Cert.Reference4Ideal.defs _ _).mono (fun r h c => ?_) (Cert.Reference4Ideal.Value.run (F := Ideal) m' g')
    obtain ⟨e0, e1, e2, hargs⟩ := h c
    obtain ⟨g0, g1, g2⟩ := hagree c
    rw [g0, g1] at e0
    rw [g0, g2] at e1
    rw [g1, g2] at e2
    exact ⟨e0, e1, e2, hargs⟩

end Cert.QKV

end
-- ==== Proof.SQR.Regions.lean ====
module

public import proofs.«01_k».proof.Proof.Gen.Kernel5Ideal.Frame
public import Idealize.ShloMosaic.Lib.Pipeline.ValueKit

/-! The three calls of the square product, element by element over the arrays they read. -/

@[expose] public section

set_option maxRecDepth 16384

noncomputable section

namespace Cert.Kernel5Ideal.SQR

open Idealize.ShloMosaic Idealize.ShloMosaic.TcCoe Idealize.SL.Sem
open Idealize.ShloMosaic.Pipeline (Dat)
open Cert.Kernel5Ideal Cert.Kernel5Ideal.Gen

/-- The gradient of the weight: columns of `a` against columns of `d`. -/
def TN (a d : FVec Ideal S2048x2048 .bf16) (j : S1x2048x2048.Idx) : EReal :=
  ∑ k : Fin 2048, a (ix2 k (j 1)) * d (ix2 k (j 2))

/-- The gradient of the input: rows of `d` against rows of the weight. -/
def NT (d : FVec Ideal S2048x2048 .bf16) (w : FVec Ideal S1x1x2048x2048 .bf16) (j : S2048x2048.Idx) : EReal :=
  ∑ k : Fin 2048, d (ix2 (j 0) k) * w (ix4 0 0 (j 1) k)

variable (V : (c : Dev nD) → (b : Ref sig .tc) → Buf (Elt Ideal) ((c : Thread nD τ).loc b))

theorem idx0 : ∀ t : Fin cfg0.N, win0_0.index t = ![0, t.val / 2] ∧ win0_1.index t = ![0, t.val % 2] ∧ win0_2.index t = ![0, t.val / 2, t.val % 2] ∧ t.val / 2 < 2 :=
  (by decide +kernel : ∀ t : Fin grid0.N, _)

theorem point0_2 (c : Dev nD) (t : Fin cfg0.N) (y) : k0_pay1 (iblk0 V c 0 t) (iblk0 V c 1 t) y
    = TN (V c main_v0) (V c main_v1) (((cfg0.win 2).blk t).view.emb y) := by
  pointwise [k0_pay1, TN]
  blk_point [iblk0, idx0 t]

theorem final0_2 (c : Dev nD) : (dat0 V c).arrAt 2 cfg0.N = fun j => TN (V c main_v0) (V c main_v1) j := by
  refine (dat0 V c).arrAt_eq_of_covers 2 _ (by decide +kernel) fun t _ y => ?_
  blk_simp
  rw [after0_2]; frame_out
  exact point0_2 V c t y

theorem idx1 : ∀ t : Fin cfg1.N, win1_0.index t = ![t.val / 2, 0] ∧ win1_1.index t = ![0, 0, t.val % 2, 0] ∧ win1_2.index t = ![t.val / 2, t.val % 2] ∧ t.val / 2 < 2 :=
  (by decide +kernel : ∀ t : Fin grid1.N, _)

theorem point1_2 (c : Dev nD) (t : Fin cfg1.N) (y) : k1_pay1 (iblk1 V c 0 t) (iblk1 V c 1 t) y
    = NT (V c main_v1) (V c main_v3) (((cfg1.win 2).blk t).view.emb y) := by
  pointwise [k1_pay1, NT]
  blk_point [iblk1, idx1 t]

theorem final1_2 (c : Dev nD) : (dat1 V c).arrAt 2 cfg1.N = fun j => NT (V c main_v1) (V c main_v3) j := by
  refine (dat1 V c).arrAt_eq_of_covers 2 _ (by decide +kernel) fun t _ y => ?_
  blk_simp
  rw [after1_2]; frame_out
  exact point1_2 V c t y

theorem idx2 : ∀ t : Fin cfg2.N, win2_0.index t = ![t.val / 2, 0] ∧ win2_1.index t = ![0, 0, t.val % 2, 0] ∧ win2_2.index t = ![t.val / 2, t.val % 2] ∧ t.val / 2 < 2 :=
  (by decide +kernel : ∀ t : Fin grid2.N, _)

theorem point2_2 (c : Dev nD) (t : Fin cfg2.N) (y) : k2_pay1 (iblk2 V c 0 t) (iblk2 V c 1 t) y
    = NT (V c main_v1) (V c main_v3) (((cfg2.win 2).blk t).view.emb y) := by
  pointwise [k2_pay1, NT]
  blk_point [iblk2, idx2 t]

theorem final2_2 (c : Dev nD) : (dat2 V c).arrAt 2 cfg2.N = fun j => NT (V c main_v1) (V c main_v3) j := by
  refine (dat2 V c).arrAt_eq_of_covers 2 _ (by decide +kernel) fun t _ y => ?_
  blk_simp
  rw [after2_2]; frame_out
  exact point2_2 V c t y

end Cert.Kernel5Ideal.SQR

end
-- ==== Proof.SQR.Run.lean ====
/- The run of the square product: every buffer ends as the fold of its segments leaves it. -/
module

public import proofs.«01_k».proof.Proof.Gen.Kernel5Ideal.Frame

@[expose] public section

noncomputable section

namespace Cert.Kernel5Ideal.SQR

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every device ends at the contents of the last boundary. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The three results and the arguments. -/
theorem run : θ_run defs (onTc (τ := τ) (main (F := F))) ⟨m, fun _ => 0, ρ⟩ (fun r => ∀ c : Dev nD,
      r.2.mem ((c.tc : Thread nD τ).loc main_v4) = (dat0 (V1 m ρ) c).arrAt 2 cfg0.N
      ∧ r.2.mem ((c.tc : Thread nD τ).loc main_v5) = (dat1 (V2 m ρ) c).arrAt 2 cfg1.N
      ∧ r.2.mem ((c.tc : Thread nD τ).loc main_v6) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v4 (by decide))).trans ((W4_of m ρ c main_v4 (by decide)).trans ((W3_of m ρ c main_v4 (by decide)).trans (W2_arr m ρ c 2))),
     (h c _ (mem_uc main_v5 (by decide))).trans ((W4_of m ρ c main_v5 (by decide)).trans (W3_arr m ρ c 2)),
     (h c _ (mem_uc main_v6 (by decide))).trans (W4_arr m ρ c 2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel5Ideal.SQR

end
-- ==== Proof.SQR.Kernel.lean ====
module

public import proofs.«01_k».proof.Proof.SQR.Regions
public import proofs.«01_k».proof.Proof.SQR.Run
public import Idealize.ShloMosaic.Lib.Pointwise
public import Idealize.ShloMosaic.Lib.StableHlo.Run

/-! The three calls one after the other: each result over the arguments. -/

@[expose] public section

set_option maxRecDepth 16384

noncomputable section

namespace Cert.Kernel5Ideal.SQR

open Idealize.ShloMosaic Idealize.ShloMosaic.TcCoe Idealize.SL.Sem
open Idealize.ShloMosaic.StableHlo
open Cert.Kernel5Ideal Cert.Kernel5Ideal.Gen

variable (m : (ℓ : Loc nD τ sig) → Buf (Elt Ideal) ℓ) (ρ : Dev nD → PrngReg) (c : Dev nD)

/-- The arguments. -/
abbrev a0 : FVec Ideal S2048x2048 .f32 := m ((c : Thread nD τ).loc main_arg0)
abbrev a1 : FVec Ideal S2048x2048 .f32 := m ((c : Thread nD τ).loc main_arg1)
abbrev a2 : FVec Ideal S2048x2048 .f32 := m ((c : Thread nD τ).loc main_arg2)

/-- A cast to half precision. -/
def CASTX (a : FVec Ideal S2048x2048 .f32) : FVec Ideal S2048x2048 .bf16 := truncf .bf16 a bitsLt_bf16_f32

/-- The weight the way the calls read it. -/
def CASTW (a : FVec Ideal S2048x2048 .f32) : FVec Ideal S1x1x2048x2048 .bf16 :=
  shapeCast S1x1x2048x2048 (truncf .bf16 a bitsLt_bf16_f32) shapeCasts_S2048x2048_S1x1x2048x2048

theorem CASTX_apply (a : FVec Ideal S2048x2048 .f32) (j : S2048x2048.Idx) : CASTX a j = a j := by
  pointwise [CASTX]

theorem CASTW_apply (a : FVec Ideal S2048x2048 .f32) (r k : Fin 2048) : CASTW a (ix4 0 0 r k) = a (ix2 r k) := by
  pointwise [CASTW]

theorem V1_v0 : V1 m ρ c main_v0 = CASTX (a0 m c) := by
  show StableHlo.after hostOps0 (W0 m ρ c) (Proc.devRef .tc main_v0) = _
  after_results_simp <;> rfl
theorem V1_v1 : V1 m ρ c main_v1 = CASTX (a2 m c) := by
  show StableHlo.after hostOps0 (W0 m ρ c) (Proc.devRef .tc main_v1) = _
  after_results_simp <;> rfl
theorem V1_v3 : V1 m ρ c main_v3 = CASTW (a1 m c) := by
  show StableHlo.after hostOps0 (W0 m ρ c) (Proc.devRef .tc main_v3) = _
  after_results_simp <;> rfl
theorem V2_v1 : V2 m ρ c main_v1 = CASTX (a2 m c) := (W2_of m ρ c main_v1 (by decide)).trans (V1_v1 m ρ c)
theorem V2_v3 : V2 m ρ c main_v3 = CASTW (a1 m c) := (W2_of m ρ c main_v3 (by decide)).trans (V1_v3 m ρ c)
theorem V3_v1 : V3 m ρ c main_v1 = CASTX (a2 m c) := (W3_of m ρ c main_v1 (by decide)).trans (V2_v1 m ρ c)
theorem V3_v3 : V3 m ρ c main_v3 = CASTW (a1 m c) := (W3_of m ρ c main_v3 (by decide)).trans (V2_v3 m ρ c)

theorem out4 : (dat0 (V1 m ρ) c).arrAt 2 cfg0.N = fun j : S1x2048x2048.Idx => ∑ k : Fin 2048, a0 m c (ix2 k (j 1)) * a2 m c (ix2 k (j 2)) := by
  rw [final0_2, V1_v0, V1_v1]
  funext j
  simp only [TN, CASTX_apply]

theorem out5 : (dat1 (V2 m ρ) c).arrAt 2 cfg1.N = fun j : S2048x2048.Idx => ∑ k : Fin 2048, a2 m c (ix2 (j 0) k) * a1 m c (ix2 (j 1) k) := by
  rw [final1_2, V2_v1, V2_v3]
  funext j
  simp only [NT, CASTX_apply]
  exact Finset.sum_congr rfl fun k _ => congrArg (a2 m c (ix2 (j 0) k) * ·) (CASTW_apply (a1 m c) (j 1) k)

theorem out6 : (dat2 (V3 m ρ) c).arrAt 2 cfg2.N = fun j : S2048x2048.Idx => ∑ k : Fin 2048, a2 m c (ix2 (j 0) k) * a1 m c (ix2 (j 1) k) := by
  rw [final2_2, V3_v1, V3_v3]
  funext j
  simp only [NT, CASTX_apply]
  exact Finset.sum_congr rfl fun k _ => congrArg (a2 m c (ix2 (j 0) k) * ·) (CASTW_apply (a1 m c) (j 1) k)

end Cert.Kernel5Ideal.SQR

end
-- ==== Proof.SQR.Reference.lean ====
module

public import proofs.«01_k».proof.Proof.Gen.Reference5Ideal.Run
public import Idealize.ShloMosaic.Lib.Pointwise

/-! The reference's results, element by element over the arguments. -/

@[expose] public section

set_option maxRecDepth 16384

noncomputable section

namespace Cert.Reference5Ideal.SQR

open Idealize.ShloMosaic Idealize.ShloMosaic.TcCoe Idealize.SL.Sem
open Cert.Reference5Ideal Cert.Reference5Ideal.Gen

variable (A0 A1 A2 : FVec Ideal S2048x2048 .f32)

/-- The gradient of the weight. -/
def T_w : FVec Ideal S1x2048x2048 .bf16 :=
  truncf .bf16 (broadcastInDim S1x2048x2048 ![1, 2] bcast_S2048x2048_S1x2048x2048_1_2 (transpose S2048x2048 [1, 0] (Host.dotGeneral dot_S2048x2048_S2048x2048_S2048x2048_0_0_1_1_n_n none A2 A0) transposes_S2048x2048_S2048x2048_1_0)) bitsLt_bf16_f32

/-- The gradient of the input. -/
def T_x : FVec Ideal S2048x2048 .f32 :=
  Host.dotGeneral dot_S2048x2048_S2048x2048_S2048x2048_1_1_0_0_n_n none A2 A1

/-- The same, cast. -/
def T_xb : FVec Ideal S2048x2048 .bf16 :=
  truncf .bf16 (Host.dotGeneral dot_S2048x2048_S2048x2048_S2048x2048_1_1_0_0_n_n none A2 A1) bitsLt_bf16_f32

theorem T_w_eq : T_w A0 A2 = fun j : S1x2048x2048.Idx => ∑ k : Fin 2048, A0 (ix2 k (j 1)) * A2 (ix2 k (j 2)) := by
  funext j
  obtain ⟨z, r, k, rfl⟩ : ∃ (z : Fin 1) (r k : Fin 2048), j = ix3 z r k := ⟨_, _, _, eq_ix3 j⟩
  pointwise [T_w]
  exact Finset.sum_congr rfl fun _ _ => mul_comm _ _

theorem T_x_eq : T_x A1 A2 = fun j : S2048x2048.Idx => ∑ k : Fin 2048, A2 (ix2 (j 0) k) * A1 (ix2 (j 1) k) := by
  funext j
  obtain ⟨r, k, rfl⟩ : ∃ (r k : Fin 2048), j = ix2 r k := ⟨_, _, eq_ix2 j⟩
  pointwise [T_x]

theorem T_xb_eq : T_xb A1 A2 = fun j : S2048x2048.Idx => ∑ k : Fin 2048, A2 (ix2 (j 0) k) * A1 (ix2 (j 1) k) := by
  funext j
  obtain ⟨r, k, rfl⟩ : ∃ (r k : Fin 2048), j = ix2 r k := ⟨_, _, eq_ix2 j⟩
  pointwise [T_xb]

end Cert.Reference5Ideal.SQR

end
-- ==== Proof.SQR.Claims.lean ====
module

public import proofs.«01_k».proof.Defs
public import proofs.«01_k».proof.Proof.SQR.Kernel
public import proofs.«01_k».proof.Proof.SQR.Reference
public import proofs.«01_k».proof.Proof.Gen.Kernel5.Frame
public import Idealize.ShloMosaic.Lib.Claim

/-! The square product's claims: the frames and the equality of the three results. -/

@[expose] public section

set_option maxRecDepth 16384

noncomputable section

namespace Cert.SQR

open Idealize.ShloMosaic Idealize.ShloMosaic.TcCoe Idealize.SL.Sem
open Cert.Kernel5Ideal.SQR Cert.Reference5Ideal.SQR

theorem frame_kernel : Cert.quiescent_Kernel5 := fun m ρ _ => Cert.Kernel5.Gen.frame m ρ
theorem frame_ideal : Cert.quiescent_Kernel5Ideal := fun m ρ _ => Cert.Kernel5Ideal.Gen.frame m ρ

theorem frame_ref : Cert.quiescent_Reference5Ideal := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run (F := Ideal) m ρ)

theorem algebraic : Cert.algebraic_Kernel5Ideal_Reference5Ideal := by
  intro m g m' g' _ hagree
  refine ⟨fun c => T_w (a0 m c) (a2 m c), fun c => T_x (a1 m c) (a2 m c), fun c => T_xb (a1 m c) (a2 m c), ?_, ?_⟩
  · refine (θ_run Cert.Kernel5Ideal.defs _ _).mono (fun r h c => ?_) (Cert.Kernel5Ideal.SQR.run (F := Ideal) m g)
    obtain ⟨e0, e1, e2, hargs⟩ := h c
    exact ⟨e0.trans ((out4 m g c).trans (T_w_eq _ _).symm), e1.trans ((out5 m g c).trans (T_x_eq _ _).symm),
      e2.trans ((out6 m g c).trans (T_xb_eq _ _).symm), hargs⟩
  · refine (θ_run Cert.Reference5Ideal.defs _ _).mono (fun r h c => ?_) (Cert.Reference5Ideal.Value.run (F := Ideal) m' g')
    obtain ⟨e0, e1, e2, hargs⟩ := h c
    obtain ⟨g0, g1, g2⟩ := hagree c
    rw [g0, g2] at e0
    rw [g1, g2] at e1 e2
    exact ⟨e0, e1, e2, hargs⟩

end Cert.SQR

end
-- ==== Proof.INP.Weight.lean ====
module

public import proofs.«01_k».proof.Proof.Gen.Kernel6Ideal.Frame
public import Idealize.ShloMosaic.Lib.Pipeline.ValueKit

/-! The gradient of the in-projection's weight: the rows the call writes, element by element over the arrays it reads. -/

@[expose] public section

set_option maxRecDepth 16384

noncomputable section

namespace Cert.Kernel6Ideal.INP

open Idealize.ShloMosaic Idealize.ShloMosaic.TcCoe Idealize.SL.Sem
open Idealize.ShloMosaic.Pipeline (Dat)
open Cert.Kernel6Ideal Cert.Kernel6Ideal.Gen

/-- The gradient of the transposed weight, row `q`, column `r`: a column of `d` against a column of `x`. -/
def TN (d : FVec Ideal S2048x7168 .bf16) (x : FVec Ideal S2048x2048 .bf16) (q : Fin 7168) (r : Fin 2048) : EReal :=
  ∑ k : Fin 2048, d (ix2 k q) * x (ix2 k r)

/-- The same over the array the call writes, whose last rows it leaves alone. -/
def TNW (d : FVec Ideal S2048x7168 .bf16) (x : FVec Ideal S2048x2048 .bf16) (j : S1x7184x2048.Idx) : EReal :=
  ∑ k : Fin 2048, d (ix2 k ⟨(j 1).val % 7168, Nat.mod_lt _ (by norm_num)⟩) * x (ix2 k (j 2))

variable (m : (ℓ : Loc nD τ sig) → Buf (Elt Ideal) ℓ)

theorem idx0 : ∀ t : Fin cfg0.N, win0_0.index t = ![0, t.val / 2] ∧ win0_1.index t = ![0, t.val % 2] ∧ win0_2.index t = ![0, t.val / 2, t.val % 2] ∧ t.val / 2 < 7 :=
  (by decide +kernel : ∀ t : Fin grid0.N, _)

theorem xs0 : ∀ t : Fin cfg0.N, (win0_2.xblock (grid0.coords t)).size 1 = 1024 :=
  (by decide +kernel : ∀ t : Fin grid0.N, _)

theorem final0_2 (c : Dev nD) : (dats m 0 c).arrAt 2 cfg0.N
    = fun j => if (j 1).val < 7168 then TNW (V m c main_v0) (V m c main_v1) j else (dats m 0 c).A 2 j := by
  refine (dats m 0 c).arrAt_eq_of_coversWhere 2 _ (fun β => β 1 < 7) (by decide +kernel) (fun t hf y => ?_) (fun j => by blk_simp [Pipeline.Window.cell_apply]; omega)
  blk_simp
  rw [after0_2]; frame_out
  have h1 : (y 1).val < 1024 := (y 1).isLt.trans_eq (xs0 t)
  have h2 := (idx0 t).2.2.2
  pointwise [k0_pay1, TNW]
  blk_point [iblk, idx0 t]

end Cert.Kernel6Ideal.INP

end
-- ==== Proof.INP.WeightKernel.lean ====
module

public import proofs.«01_k».proof.Proof.INP.Weight
public import Idealize.ShloMosaic.Lib.Pointwise
public import Idealize.ShloMosaic.Lib.StableHlo.Run
public import Idealize.ShloMosaic.Lib.Claim

/-! The gradient of the in-projection's weight over the arguments. -/

@[expose] public section

set_option maxRecDepth 16384

noncomputable section

namespace Cert.Kernel6Ideal.INP

open Idealize.ShloMosaic Idealize.ShloMosaic.TcCoe Idealize.SL.Sem
open Idealize.ShloMosaic.StableHlo
open Cert.Kernel6Ideal Cert.Kernel6Ideal.Gen

/-- A cast to half precision. -/
def CASTX (a : FVec Ideal S2048x2048 .f32) : FVec Ideal S2048x2048 .bf16 := truncf .bf16 a bitsLt_bf16_f32

theorem CASTX_apply (a : FVec Ideal S2048x2048 .f32) (j : S2048x2048.Idx) : CASTX a j = a j := by
  pointwise [CASTX]

/-- A cast to half precision. -/
def CASTD (a : FVec Ideal S2048x7168 .f32) : FVec Ideal S2048x7168 .bf16 := truncf .bf16 a bitsLt_bf16_f32

theorem CASTD_apply (a : FVec Ideal S2048x7168 .f32) (j : S2048x7168.Idx) : CASTD a j = a j := by
  pointwise [CASTD]

variable (m : (ℓ : Loc nD τ sig) → Buf (Elt Ideal) ℓ) (ρ : Dev nD → PrngReg) (c : Dev nD)

/-- The arguments. -/
abbrev a0 : FVec Ideal S2048x2048 .f32 := m ((c : Thread nD τ).loc main_arg0)
abbrev a1 : FVec Ideal S2048x7184 .f32 := m ((c : Thread nD τ).loc main_arg1)
abbrev a2 : FVec Ideal S2048x7168 .f32 := m ((c : Thread nD τ).loc main_arg2)

theorem V_v0 : V m c main_v0 = CASTD (a2 m c) := by
  show StableHlo.after hostOps0 (fun b => m (c, b)) (Proc.devRef .tc main_v0) = _
  after_results_simp <;> rfl

theorem V_v1 : V m c main_v1 = CASTX (a0 m c) := by
  show StableHlo.after hostOps0 (fun b => m (c, b)) (Proc.devRef .tc main_v1) = _
  after_results_simp <;> rfl

/-- The host keeps the rows the call writes. -/
theorem tail_v3 : Pipeline.afterTail₀ cfgs (dats m) 0 (V0 m) [hostOps1] c main_v3
    = extractStridedSlice S1x7168x2048 ![0, 0, 0] ((dats m 0 c).arrAt 2 cfg0.N) slices_S1x7184x2048_S1x7168x2048_0_0_0 := by
  show StableHlo.after hostOps1 (Pipeline.withArrays (cfgs 0).spec c (V0 m c) fun w => (dats m 0 c).arrAt w (cfgs 0).N) (Proc.devRef .tc main_v3) = _
  after_results_simp
  exact congrArg (fun a => extractStridedSlice S1x7168x2048 ![0, 0, 0] a slices_S1x7184x2048_S1x7168x2048_0_0_0)
    (Pipeline.withArrays_arr (cfgs 0).spec launch0.win.arr_inj c (V0 m c) (fun w => (dats m 0 c).arrAt w (cfgs 0).N) 2)

theorem out : Pipeline.afterTail₀ cfgs (dats m) 0 (V0 m) [hostOps1] c main_v3 = fun j : S1x7168x2048.Idx => ∑ k : Fin 2048,
    a2 m c (ix2 k (j 1)) * a0 m c (ix2 k (j 2)) := by
  rw [tail_v3, final0_2, V_v0, V_v1]
  funext j
  obtain ⟨z, q, r, rfl⟩ : ∃ (z : Fin 1) (q : Fin 7168) (r : Fin 2048), j = ix3 z q r := ⟨_, _, _, eq_ix3 j⟩
  pointwise [TNW, CASTX, CASTD]
  simp only [Nat.mod_eq_of_lt q.isLt, Fin.eta]

theorem run : θ_run defs (onTc (τ := τ) (main (F := Ideal))) ⟨m, fun _ => 0, ρ⟩ (fun r => ∀ c : Dev nD,
      r.2.mem ((c.tc : Thread nD τ).loc main_v3) = Pipeline.afterTail₀ cfgs (dats m) 0 (V0 m) [hostOps1] c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.2 c).2 main_v3 (Pipeline.mem_restRefs_of main_v3 (by decide) (by decide)), h.1 c⟩) (θ_run_and (unchanged m ρ) (run_main m ρ))

end Cert.Kernel6Ideal.INP

end
-- ==== Proof.INP.WeightReference.lean ====
module

public import proofs.«01_k».proof.Proof.Gen.Reference6Ideal.Run
public import Idealize.ShloMosaic.Lib.Pointwise

/-! The reference's result, element by element over the arguments. -/

@[expose] public section

set_option maxRecDepth 16384

noncomputable section

namespace Cert.Reference6Ideal.INP

open Idealize.ShloMosaic Idealize.ShloMosaic.TcCoe Idealize.SL.Sem
open Cert.Reference6Ideal Cert.Reference6Ideal.Gen

variable (A0 : FVec Ideal S2048x2048 .f32) (A2 : FVec Ideal S2048x7168 .f32)

/-- The gradient of the transposed weight. -/
def T : FVec Ideal S1x7168x2048 .bf16 :=
  truncf .bf16 (broadcastInDim S1x7168x2048 ![1, 2] bcast_S7168x2048_S1x7168x2048_1_2 (transpose S7168x2048 [1, 0] (transpose S2048x7168 [1, 0] (Host.dotGeneral dot_S2048x7168_S2048x2048_S7168x2048_0_0_1_1_n_n none A2 A0) transposes_S7168x2048_S2048x7168_1_0) transposes_S2048x7168_S7168x2048_1_0)) bitsLt_bf16_f32

theorem T_eq : T A0 A2 = fun j : S1x7168x2048.Idx => ∑ k : Fin 2048, A2 (ix2 k (j 1)) * A0 (ix2 k (j 2)) := by
  funext j
  obtain ⟨z, q, r, rfl⟩ : ∃ (z : Fin 1) (q : Fin 7168) (r : Fin 2048), j = ix3 z q r := ⟨_, _, _, eq_ix3 j⟩
  pointwise [T]

end Cert.Reference6Ideal.INP

end
-- ==== Proof.INP.WeightClaims.lean ====
module

public import proofs.«01_k».proof.Defs
public import proofs.«01_k».proof.Proof.INP.WeightKernel
public import proofs.«01_k».proof.Proof.INP.WeightReference
public import proofs.«01_k».proof.Proof.Gen.Kernel6.Frame
public import Idealize.ShloMosaic.Lib.Claim

/-! The frames and the equality of the result. -/

@[expose] public section

set_option maxRecDepth 16384

noncomputable section

namespace Cert.INP.Weight

open Idealize.ShloMosaic Idealize.ShloMosaic.TcCoe Idealize.SL.Sem

theorem frame_kernel : Cert.quiescent_Kernel6 := fun m ρ _ => Cert.Kernel6.Gen.frame m ρ
theorem frame_ideal : Cert.quiescent_Kernel6Ideal := fun m ρ _ => Cert.Kernel6Ideal.Gen.frame m ρ

theorem frame_ref : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem algebraic : Cert.algebraic_Kernel6Ideal_Reference6Ideal := by
  intro m g m' g' _ hagree
  refine ⟨fun c => Cert.Reference6Ideal.INP.T (Cert.Kernel6Ideal.INP.a0 m c) (Cert.Kernel6Ideal.INP.a2 m c), ?_, ?_⟩
  · refine (θ_run Cert.Kernel6Ideal.defs _ _).mono (fun r h c => ?_) (Cert.Kernel6Ideal.INP.run m g)
    obtain ⟨e0, hargs⟩ := h c
    exact ⟨e0.trans ((Cert.Kernel6Ideal.INP.out m c).trans (Cert.Reference6Ideal.INP.T_eq _ _).symm), hargs⟩
  · refine (θ_run Cert.Reference6Ideal.defs _ _).mono (fun r h c => ?_) (Cert.Reference6Ideal.Value.run (F := Ideal) m' g')
    obtain ⟨e0, hargs⟩ := h c
    obtain ⟨g0, g1, g2⟩ := hagree c
    rw [g0, g2] at e0
    exact ⟨e0, hargs⟩

end Cert.INP.Weight

end
-- ==== Proof.INP.Input.lean ====
module

public import proofs.«01_k».proof.Proof.Gen.Kernel7Ideal.Frame
public import Idealize.ShloMosaic.Lib.Pipeline.ValueKit

/-! The gradient of the in-projection's input, element by element over the arrays the call reads. -/

@[expose] public section

set_option maxRecDepth 16384

noncomputable section

namespace Cert.Kernel7Ideal.INP

open Idealize.ShloMosaic Idealize.ShloMosaic.TcCoe Idealize.SL.Sem
open Idealize.ShloMosaic.Pipeline (Dat)
open Cert.Kernel7Ideal Cert.Kernel7Ideal.Gen

/-- The product: rows of `d` against columns of the transposed weight's first 7168 rows. -/
def NN (d : FVec Ideal S2048x7168 .bf16) (w : FVec Ideal S1x1x7184x2048 .bf16) (j : S2048x2048.Idx) : EReal :=
  ∑ k : Fin 7168, d (ix2 (j 0) k) * w (ix4 0 0 ⟨k.val, by omega⟩ (j 1))

variable (m : (ℓ : Loc nD τ sig) → Buf (Elt Ideal) ℓ)

theorem idx0 : ∀ t : Fin cfg0.N, win0_0.index t = ![t.val / 4, 0] ∧ win0_1.index t = ![0, 0, 0, t.val % 4] ∧ win0_2.index t = ![t.val / 4, t.val % 4] ∧ t.val / 4 < 4 :=
  (by decide +kernel : ∀ t : Fin grid0.N, _)

theorem X_apply (c : Dev nD) (t : Fin cfg0.N) (r : Fin 7168) (k : Fin 512) :
    X0_1 m c t (ix4 0 0 r k) = V m c main_v3 (ix4 0 0 ⟨r.val, by omega⟩ ⟨t.val % 4 * 512 + k.val, by omega⟩) := by
  unfold X0_1 Pipeline.Window.fill
  rw [dif_pos (moved0_1 t _)]
  unfold iblk
  refine congrArg (V m c main_v3) ?_
  blk_point [idx0 t]

theorem final0_2 (c : Dev nD) : (dats m 0 c).arrAt 2 cfg0.N = fun j => NN (V m c main_v0) (V m c main_v3) j := by
  refine (dats m 0 c).arrAt_eq_of_covers 2 _ (by decide +kernel) fun t _ y => ?_
  blk_simp
  rw [after0_2]; unfold outsAt0; frame_out
  pointwise [k0_pay1, NN, X_apply]
  blk_point [iblk, idx0 t]

end Cert.Kernel7Ideal.INP

end
-- ==== Proof.INP.InputKernel.lean ====
module

public import proofs.«01_k».proof.Proof.INP.Input
public import Idealize.ShloMosaic.Lib.Pointwise
public import Idealize.ShloMosaic.Lib.StableHlo.Run
public import Idealize.ShloMosaic.Lib.Claim

/-! The gradient of the in-projection's input over the arguments. -/

@[expose] public section

set_option maxRecDepth 16384

noncomputable section

namespace Cert.Kernel7Ideal.INP

open Idealize.ShloMosaic Idealize.ShloMosaic.TcCoe Idealize.SL.Sem
open Idealize.ShloMosaic.StableHlo
open Cert.Kernel7Ideal Cert.Kernel7Ideal.Gen

/-- A cast to half precision. -/
def CASTD (a : FVec Ideal S2048x7168 .f32) : FVec Ideal S2048x7168 .bf16 := truncf .bf16 a bitsLt_bf16_f32

theorem CASTD_apply (a : FVec Ideal S2048x7168 .f32) (j : S2048x7168.Idx) : CASTD a j = a j := by
  pointwise [CASTD]

/-- The weight the way the call reads it: transposed. -/
def TRW (a : FVec Ideal S2048x7184 .f32) : FVec Ideal S1x1x7184x2048 .bf16 :=
  shapeCast S1x1x7184x2048 (truncf .bf16 (transpose S7184x2048 [1, 0] a transposes_S2048x7184_S7184x2048_1_0) bitsLt_bf16_f32) shapeCasts_S7184x2048_S1x1x7184x2048

theorem TRW_apply (a : FVec Ideal S2048x7184 .f32) (q : Fin 7184) (k : Fin 2048) : TRW a (ix4 0 0 q k) = a (ix2 k q) := by
  pointwise [TRW]

variable (m : (ℓ : Loc nD τ sig) → Buf (Elt Ideal) ℓ) (ρ : Dev nD → PrngReg) (c : Dev nD)

/-- The arguments. -/
abbrev a0 : FVec Ideal S2048x2048 .f32 := m ((c : Thread nD τ).loc main_arg0)
abbrev a1 : FVec Ideal S2048x7184 .f32 := m ((c : Thread nD τ).loc main_arg1)
abbrev a2 : FVec Ideal S2048x7168 .f32 := m ((c : Thread nD τ).loc main_arg2)

theorem V_v0 : V m c main_v0 = CASTD (a2 m c) := by
  show StableHlo.after hostOps0 (fun b => m (c, b)) (Proc.devRef .tc main_v0) = _
  after_results_simp <;> rfl

theorem V_v3 : V m c main_v3 = TRW (a1 m c) := by
  show StableHlo.after hostOps0 (fun b => m (c, b)) (Proc.devRef .tc main_v3) = _
  after_results_simp <;> rfl

theorem out : (dats m 0 c).arrAt 2 cfg0.N = fun j : S2048x2048.Idx => ∑ k : Fin 7168,
    a2 m c (ix2 (j 0) k) * a1 m c (ix2 (j 1) ⟨k.val, by omega⟩) := by
  rw [final0_2, V_v0, V_v3]
  funext j
  simp only [NN, CASTD_apply]
  exact Finset.sum_congr rfl fun k _ => congrArg (a2 m c (ix2 (j 0) k) * ·) (TRW_apply (a1 m c) ⟨k.val, by omega⟩ (j 1))

theorem run : θ_run defs (onTc (τ := τ) (main (F := Ideal))) ⟨m, fun _ => 0, ρ⟩ (fun r => ∀ c : Dev nD,
      r.2.mem ((c.tc : Thread nD τ).loc main_v4) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨Pipeline.FramePost.out_eq h.2 c 2, h.1 c⟩) (θ_run_and (unchanged m ρ) (run_main m ρ))

end Cert.Kernel7Ideal.INP

end
-- ==== Proof.INP.InputReference.lean ====
module

public import proofs.«01_k».proof.Proof.Gen.Reference7Ideal.Run
public import Idealize.ShloMosaic.Lib.Pointwise

/-! The reference's result, element by element over the arguments. -/

@[expose] public section

set_option maxRecDepth 16384

noncomputable section

namespace Cert.Reference7Ideal.INP

open Idealize.ShloMosaic Idealize.ShloMosaic.TcCoe Idealize.SL.Sem
open Cert.Reference7Ideal Cert.Reference7Ideal.Gen

variable (A1 : FVec Ideal S2048x7184 .f32) (A2 : FVec Ideal S2048x7168 .f32)

/-- The gradient of the input. -/
def T : FVec Ideal S2048x2048 .f32 :=
  Host.dotGeneral dot_S2048x7168_S2048x7168_S2048x2048_1_1_0_0_n_n none A2 (extractStridedSlice S2048x7168 ![0, 0] A1 slices_S2048x7184_S2048x7168_0_0)

theorem T_eq : T A1 A2 = fun j : S2048x2048.Idx => ∑ k : Fin 7168,
    A2 (ix2 (j 0) k) * A1 (ix2 (j 1) ⟨k.val, by omega⟩) := by
  funext j
  obtain ⟨r, q, rfl⟩ : ∃ (r q : Fin 2048), j = ix2 r q := ⟨_, _, eq_ix2 j⟩
  pointwise [T]

end Cert.Reference7Ideal.INP

end
-- ==== Proof.INP.InputClaims.lean ====
module

public import proofs.«01_k».proof.Defs
public import proofs.«01_k».proof.Proof.INP.InputKernel
public import proofs.«01_k».proof.Proof.INP.InputReference
public import proofs.«01_k».proof.Proof.Gen.Kernel7.Frame
public import Idealize.ShloMosaic.Lib.Claim

/-! The frames and the equality of the result. -/

@[expose] public section

set_option maxRecDepth 16384

noncomputable section

namespace Cert.INP.Input

open Idealize.ShloMosaic Idealize.ShloMosaic.TcCoe Idealize.SL.Sem

theorem frame_kernel : Cert.quiescent_Kernel7 := fun m ρ _ => Cert.Kernel7.Gen.frame m ρ
theorem frame_ideal : Cert.quiescent_Kernel7Ideal := fun m ρ _ => Cert.Kernel7Ideal.Gen.frame m ρ

theorem frame_ref : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

theorem algebraic : Cert.algebraic_Kernel7Ideal_Reference7Ideal := by
  intro m g m' g' _ hagree
  refine ⟨fun c => Cert.Reference7Ideal.INP.T (Cert.Kernel7Ideal.INP.a1 m c) (Cert.Kernel7Ideal.INP.a2 m c), ?_, ?_⟩
  · refine (θ_run Cert.Kernel7Ideal.defs _ _).mono (fun r h c => ?_) (Cert.Kernel7Ideal.INP.run m g)
    obtain ⟨e0, hargs⟩ := h c
    exact ⟨e0.trans ((Cert.Kernel7Ideal.INP.out m c).trans (Cert.Reference7Ideal.INP.T_eq _ _).symm), hargs⟩
  · refine (θ_run Cert.Reference7Ideal.defs _ _).mono (fun r h c => ?_) (Cert.Reference7Ideal.Value.run (F := Ideal) m' g')
    obtain ⟨e0, hargs⟩ := h c
    obtain ⟨g0, g1, g2⟩ := hagree c
    rw [g1, g2] at e0
    exact ⟨e0, hargs⟩

end Cert.INP.Input

end
-- ==== Proof.PLE.Regions.lean ====
module

public import proofs.«01_k».proof.Proof.Gen.Kernel8Ideal.Frame
public import Idealize.ShloMosaic.Lib.Pipeline.ValueKit

/-! The two calls of the per-layer embedding, element by element over the arrays they read. -/

@[expose] public section

set_option maxRecDepth 16384

noncomputable section

namespace Cert.Kernel8Ideal.PLE

open Idealize.ShloMosaic Idealize.ShloMosaic.TcCoe Idealize.SL.Sem
open Idealize.ShloMosaic.Pipeline (Dat)
open Cert.Kernel8Ideal Cert.Kernel8Ideal.Gen

/-- The gate's argument: a row of the normed input against a column of the gate weight. -/
def GATE (x : FVec Ideal S2048x2048 .bf16) (w : FVec Ideal S1x1x2048x2048 .bf16) (j : S2048x2048.Idx) : EReal :=
  ∑ k : Fin 2048, x (ix2 (j 0) k) * w (ix4 0 0 k (j 1))

/-- The embedding's projection, the weight's columns cut in eight. -/
def PROJ (p : FVec Ideal S2048x256 .bf16) (w : FVec Ideal S1x8x256x256 .bf16) (j : S2048x2048.Idx) : EReal :=
  ∑ k : Fin 256, p (ix2 (j 0) k) * w (ix4 0 ⟨(j 1).val / 256, by have := (j 1).isLt; change (j 1).val < 2048 at this; omega⟩ k ⟨(j 1).val % 256, Nat.mod_lt _ (by norm_num)⟩)

/-- The logistic function, as the call spells it. -/
def SIG (z : EReal) : EReal := Ideal.div (Ideal.ofBits .f32 0x3F800000#32) (Ideal.ofBits .f32 0x3F800000#32 + Ideal.exp (Ideal.ofBits .f32 0x00000000#32 - z))

/-- The next layer's input. -/
def NEXT (x : FVec Ideal S2048x2048 .bf16) (w : FVec Ideal S1x1x2048x2048 .bf16) (p : FVec Ideal S2048x256 .bf16) (u : FVec Ideal S1x8x256x256 .bf16)
    (h : FVec Ideal S2048x2048 .f32) (j : S2048x2048.Idx) : EReal :=
  h j + SIG (GATE x w j) * PROJ p u j

/-- The gradient of the projection's weight, its columns cut in eight. -/
def TN (p : FVec Ideal S2048x256 .bf16) (d : FVec Ideal S2048x2048 .bf16) (j : S8x256x256.Idx) : EReal :=
  ∑ k : Fin 2048, p (ix2 k (j 1)) * d (ix2 k ⟨(j 0).val * 256 + (j 2).val, by
    have h0 := (j 0).isLt; have h2 := (j 2).isLt; change (j 0).val < 8 at h0; change (j 2).val < 256 at h2; omega⟩)

variable (V : (c : Dev nD) → (b : Ref sig .tc) → Buf (Elt Ideal) ((c : Thread nD τ).loc b))

theorem idx0 : ∀ t : Fin cfg0.N, win0_0.index t = ![t.val / 2, 0] ∧ win0_1.index t = ![0, 0, 0, t.val % 2] ∧ win0_2.index t = ![t.val / 2, 0]
    ∧ win0_3.index t = ![0, t.val % 2, 0, 0] ∧ win0_4.index t = ![t.val / 2, t.val % 2] ∧ win0_5.index t = ![t.val / 2, t.val % 2]
    ∧ win0_6.index t = ![t.val / 2, t.val % 2] ∧ win0_7.index t = ![t.val / 2, t.val % 2] ∧ t.val / 2 < 4 :=
  (by decide +kernel : ∀ t : Fin grid0.N, _)

/-- The element of the result at row `r` and column `q` of a block. -/
def at0 (t : Fin cfg0.N) (r : Fin 512) (q : Fin 1024) : S2048x2048.Idx :=
  ix2 ⟨t.val / 2 * 512 + r.val, by have := (idx0 t).2.2.2.2.2.2.2.2; omega⟩ ⟨t.val % 2 * 1024 + q.val, by omega⟩

theorem gate_point (c : Dev nD) (t : Fin cfg0.N) (r : Fin 512) (q : Fin 1024) :
    k0_pay2 (iblk0 V c 0 t) (iblk0 V c 1 t) (ix2 r q) = GATE (V c main_v0) (V c main_v4) (at0 t r q) := by
  pointwise [k0_pay2, GATE, at0]
  blk_point [iblk0, idx0 t]

theorem proj_point (c : Dev nD) (t : Fin cfg0.N) (r : Fin 512) (q : Fin 1024) :
    k0_pay3 (iblk0 V c 2 t) (View.ld (iblk0 V c 3 t) r0_3) (View.ld (iblk0 V c 3 t) r0_4) (View.ld (iblk0 V c 3 t) r0_5) (View.ld (iblk0 V c 3 t) r0_6) (ix2 r q)
      = PROJ (V c main_v1) (V c main_v8) (at0 t r q) := by
  pointwise [k0_pay3, PROJ, at0]
  blk_point [iblk0, idx0 t]

theorem res_point (c : Dev nD) (t : Fin cfg0.N) (r : Fin 512) (q : Fin 1024) :
    iblk0 V c 4 t (ix2 r q) = V c main_arg4 (at0 t r q) := by
  unfold iblk0
  refine congrArg (V c main_arg4) ?_
  blk_point [idx0 t, at0]

theorem pay1_apply (a b h : FVec Ideal S512x1024 .f32) (j : S512x1024.Idx) : k0_pay1 (F := Ideal) a b h j = h j + SIG (a j) * b j := by
  pointwise [k0_pay1, SIG]

theorem final0_6 (c : Dev nD) : (dat0 V c).arrAt 6 cfg0.N = fun j => GATE (V c main_v0) (V c main_v4) j := by
  refine (dat0 V c).arrAt_eq_of_covers 6 _ (by decide +kernel) fun t _ y => ?_
  blk_simp
  rw [after0_6]; frame_out
  pointwise [k0_pay2, GATE]
  blk_point [iblk0, idx0 t]

theorem final0_7 (c : Dev nD) : (dat0 V c).arrAt 7 cfg0.N = fun j => PROJ (V c main_v1) (V c main_v8) j := by
  refine (dat0 V c).arrAt_eq_of_covers 7 _ (by decide +kernel) fun t _ y => ?_
  blk_simp
  rw [after0_7]; frame_out
  obtain ⟨r, q, rfl⟩ : ∃ (r : Fin 512) (q : Fin 1024), y = ix2 r q := ⟨_, _, eq_ix2 y⟩
  refine (proj_point V c t r q).trans (congrArg (PROJ (V c main_v1) (V c main_v8)) ?_)
  blk_point [idx0 t, at0]

theorem final0_5 (c : Dev nD) : (dat0 V c).arrAt 5 cfg0.N = fun j => NEXT (V c main_v0) (V c main_v4) (V c main_v1) (V c main_v8) (V c main_arg4) j := by
  refine (dat0 V c).arrAt_eq_of_covers 5 _ (by decide +kernel) fun t _ y => ?_
  blk_simp
  rw [after0_5]; frame_out
  obtain ⟨r, q, rfl⟩ : ∃ (r : Fin 512) (q : Fin 1024), y = ix2 r q := ⟨_, _, eq_ix2 y⟩
  refine (pay1_apply _ _ _ _).trans ?_
  refine (congrArg₂ (fun u v : EReal => u + v) (res_point V c t r q) (congrArg₂ (fun u v : EReal => u * v) (congrArg SIG (gate_point V c t r q)) (proj_point V c t r q))).trans ?_
  refine Eq.trans (b := NEXT (V c main_v0) (V c main_v4) (V c main_v1) (V c main_v8) (V c main_arg4) (at0 t r q)) rfl (congrArg _ ?_)
  blk_point [idx0 t, at0]

theorem idx1 : ∀ t : Fin cfg1.N, win1_0.index t = ![0, 0] ∧ win1_1.index t = ![0, t.val] ∧ win1_2.index t = ![t.val, 0, 0] ∧ t.val < 8 :=
  (by decide +kernel : ∀ t : Fin grid1.N, _)

theorem point1_2 (c : Dev nD) (t : Fin cfg1.N) (y) : k1_pay1 (iblk1 V c 0 t) (iblk1 V c 1 t) y
    = TN (V c main_v1) (V c main_v2) (((cfg1.win 2).blk t).view.emb y) := by
  pointwise [k1_pay1, TN]
  blk_point [iblk1, idx1 t]

theorem final1_2 (c : Dev nD) : (dat1 V c).arrAt 2 cfg1.N = fun j => TN (V c main_v1) (V c main_v2) j := by
  refine (dat1 V c).arrAt_eq_of_covers 2 _ (by decide +kernel) fun t _ y => ?_
  blk_simp
  rw [after1_2]; frame_out
  exact point1_2 V c t y

end Cert.Kernel8Ideal.PLE

end
-- ==== Proof.PLE.Run.lean ====
module

public import proofs.«01_k».proof.Proof.Gen.Kernel8Ideal.Frame

/-! The run of the per-layer embedding: every buffer ends as the fold of its segments leaves it. -/

@[expose] public section

set_option maxRecDepth 16384

noncomputable section

namespace Cert.Kernel8Ideal.PLE

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every device ends at the contents of the last boundary. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The four results and the arguments. -/
theorem run : θ_run defs (onTc (τ := τ) (main (F := F))) ⟨m, fun _ => 0, ρ⟩ (fun r => ∀ c : Dev nD,
      r.2.mem ((c.tc : Thread nD τ).loc main_v9_0) = (dat0 (V1 m ρ) c).arrAt 5 cfg0.N
      ∧ r.2.mem ((c.tc : Thread nD τ).loc main_v9_1) = (dat0 (V1 m ρ) c).arrAt 6 cfg0.N
      ∧ r.2.mem ((c.tc : Thread nD τ).loc main_v9_2) = (dat0 (V1 m ρ) c).arrAt 7 cfg0.N
      ∧ r.2.mem ((c.tc : Thread nD τ).loc main_v10) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v9_0 (by decide))).trans ((W3_of m ρ c main_v9_0 (by decide)).trans (W2_arr m ρ c 5)),
     (h c _ (mem_uc main_v9_1 (by decide))).trans ((W3_of m ρ c main_v9_1 (by decide)).trans (W2_arr m ρ c 6)),
     (h c _ (mem_uc main_v9_2 (by decide))).trans ((W3_of m ρ c main_v9_2 (by decide)).trans (W2_arr m ρ c 7)),
     (h c _ (mem_uc main_v10 (by decide))).trans (W3_arr m ρ c 2),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.Kernel8Ideal.PLE

end
-- ==== Proof.PLE.Kernel.lean ====
module

public import proofs.«01_k».proof.Proof.PLE.Regions
public import proofs.«01_k».proof.Proof.PLE.Run
public import Idealize.ShloMosaic.Lib.Pointwise
public import Idealize.ShloMosaic.Lib.StableHlo.Run

/-! The two calls one after the other: each result over the arguments. -/

@[expose] public section

set_option maxRecDepth 16384

noncomputable section

namespace Cert.Kernel8Ideal.PLE

open Idealize.ShloMosaic Idealize.ShloMosaic.TcCoe Idealize.SL.Sem
open Idealize.ShloMosaic.StableHlo
open Cert.Kernel8Ideal Cert.Kernel8Ideal.Gen

variable (m : (ℓ : Loc nD τ sig) → Buf (Elt Ideal) ℓ) (ρ : Dev nD → PrngReg) (c : Dev nD)

/-- The arguments. -/
abbrev a0 : FVec Ideal S2048x2048 .f32 := m ((c : Thread nD τ).loc main_arg0)
abbrev a1 : FVec Ideal S2048x2048 .f32 := m ((c : Thread nD τ).loc main_arg1)
abbrev a2 : FVec Ideal S2048x256 .f32 := m ((c : Thread nD τ).loc main_arg2)
abbrev a3 : FVec Ideal S256x2048 .f32 := m ((c : Thread nD τ).loc main_arg3)
abbrev a4 : FVec Ideal S2048x2048 .f32 := m ((c : Thread nD τ).loc main_arg4)
abbrev a5 : FVec Ideal S2048x2048 .f32 := m ((c : Thread nD τ).loc main_arg5)

/-- A cast to half precision. -/
def CASTX (a : FVec Ideal S2048x2048 .f32) : FVec Ideal S2048x2048 .bf16 := truncf .bf16 a bitsLt_bf16_f32
def CASTP (a : FVec Ideal S2048x256 .f32) : FVec Ideal S2048x256 .bf16 := truncf .bf16 a bitsLt_bf16_f32

/-- The gate weight the way the call reads it. -/
def CASTW (a : FVec Ideal S2048x2048 .f32) : FVec Ideal S1x1x2048x2048 .bf16 :=
  shapeCast S1x1x2048x2048 (truncf .bf16 a bitsLt_bf16_f32) shapeCasts_S2048x2048_S1x1x2048x2048

/-- The projection's weight the way the call reads it: its columns cut in eight. -/
def CUTW (a : FVec Ideal S256x2048 .f32) : FVec Ideal S1x8x256x256 .bf16 :=
  broadcastInDim S1x8x256x256 ![1, 2, 3] bcast_S8x256x256_S1x8x256x256_1_2_3
    (transpose S8x256x256 [1, 0, 2] (shapeCast S256x8x256 (truncf .bf16 a bitsLt_bf16_f32) shapeCasts_S256x2048_S256x8x256) transposes_S256x8x256_S8x256x256_1_0_2)

theorem CASTX_apply (a : FVec Ideal S2048x2048 .f32) (j : S2048x2048.Idx) : CASTX a j = a j := by
  pointwise [CASTX]
theorem CASTP_apply (a : FVec Ideal S2048x256 .f32) (j : S2048x256.Idx) : CASTP a j = a j := by
  pointwise [CASTP]
theorem CASTW_apply (a : FVec Ideal S2048x2048 .f32) (k q : Fin 2048) : CASTW a (ix4 0 0 k q) = a (ix2 k q) := by
  pointwise [CASTW]
theorem CUTW_apply (a : FVec Ideal S256x2048 .f32) (b : Fin 8) (q k : Fin 256) :
    CUTW a (ix4 0 b q k) = a (ix2 q ⟨b.val * 256 + k.val, by omega⟩) := by
  pointwise [CUTW]

theorem V1_v0 : V1 m ρ c main_v0 = CASTX (a0 m c) := by
  show StableHlo.after hostOps0 (W0 m ρ c) (Proc.devRef .tc main_v0) = _
  after_results_simp <;> rfl
theorem V1_v1 : V1 m ρ c main_v1 = CASTP (a2 m c) := by
  show StableHlo.after hostOps0 (W0 m ρ c) (Proc.devRef .tc main_v1) = _
  after_results_simp <;> rfl
theorem V1_v2 : V1 m ρ c main_v2 = CASTX (a5 m c) := by
  show StableHlo.after hostOps0 (W0 m ρ c) (Proc.devRef .tc main_v2) = _
  after_results_simp <;> rfl
theorem V1_v4 : V1 m ρ c main_v4 = CASTW (a1 m c) := by
  show StableHlo.after hostOps0 (W0 m ρ c) (Proc.devRef .tc main_v4) = _
  after_results_simp <;> rfl
theorem V1_v8 : V1 m ρ c main_v8 = CUTW (a3 m c) := by
  show StableHlo.after hostOps0 (W0 m ρ c) (Proc.devRef .tc main_v8) = _
  after_results_simp <;> rfl
theorem V1_arg4 : V1 m ρ c main_arg4 = a4 m c := W1_of m ρ c main_arg4 (by decide)
theorem V2_v1 : V2 m ρ c main_v1 = CASTP (a2 m c) := (W2_of m ρ c main_v1 (by decide)).trans (V1_v1 m ρ c)
theorem V2_v2 : V2 m ρ c main_v2 = CASTX (a5 m c) := (W2_of m ρ c main_v2 (by decide)).trans (V1_v2 m ρ c)

/-- The gate's argument and the projection, over the arguments. -/
def G (r q : Fin 2048) : EReal := ∑ k : Fin 2048, a0 m c (ix2 r k) * a1 m c (ix2 k q)
def E (r q : Fin 2048) : EReal := ∑ k : Fin 256, a2 m c (ix2 r k) * a3 m c (ix2 k q)

theorem GATE_eq (r q : Fin 2048) : GATE (CASTX (a0 m c)) (CASTW (a1 m c)) (ix2 r q) = G m c r q := by
  unfold GATE G
  exact Finset.sum_congr rfl fun k _ => congrArg₂ (· * ·) (CASTX_apply (a0 m c) (ix2 r k)) (CASTW_apply (a1 m c) k q)

theorem PROJ_eq (r q : Fin 2048) : PROJ (CASTP (a2 m c)) (CUTW (a3 m c)) (ix2 r q) = E m c r q := by
  unfold PROJ E
  refine Finset.sum_congr rfl fun k _ => congrArg₂ (· * ·) (CASTP_apply (a2 m c) (ix2 r k)) ((CUTW_apply (a3 m c) _ k _).trans (congrArg (a3 m c) (congrArg (ix2 k) (Fin.ext ?_))))
  exact Nat.div_add_mod' q.val 256

theorem out5 : (dat0 (V1 m ρ) c).arrAt 5 cfg0.N = fun j : S2048x2048.Idx => a4 m c (ix2 (j 0) (j 1)) + SIG (G m c (j 0) (j 1)) * E m c (j 0) (j 1) := by
  rw [final0_5, V1_v0, V1_v1, V1_v4, V1_v8, V1_arg4]
  funext j
  obtain ⟨r, q, rfl⟩ : ∃ (r q : Fin 2048), j = ix2 r q := ⟨_, _, eq_ix2 j⟩
  exact congrArg (a4 m c (ix2 r q) + ·) (congrArg₂ (· * ·) (congrArg SIG (GATE_eq m c r q)) (PROJ_eq m c r q))

theorem out6 : (dat0 (V1 m ρ) c).arrAt 6 cfg0.N = fun j : S2048x2048.Idx => G m c (j 0) (j 1) := by
  rw [final0_6, V1_v0, V1_v4]
  funext j
  obtain ⟨r, q, rfl⟩ : ∃ (r q : Fin 2048), j = ix2 r q := ⟨_, _, eq_ix2 j⟩
  exact GATE_eq m c r q

theorem out7 : (dat0 (V1 m ρ) c).arrAt 7 cfg0.N = fun j : S2048x2048.Idx => E m c (j 0) (j 1) := by
  rw [final0_7, V1_v1, V1_v8]
  funext j
  obtain ⟨r, q, rfl⟩ : ∃ (r q : Fin 2048), j = ix2 r q := ⟨_, _, eq_ix2 j⟩
  exact PROJ_eq m c r q

theorem out10 : (dat1 (V2 m ρ) c).arrAt 2 cfg1.N = fun j : S8x256x256.Idx => ∑ k : Fin 2048, a2 m c (ix2 k (j 1)) * a5 m c (ix2 k ⟨(j 0).val * 256 + (j 2).val, by
    have h0 := (j 0).isLt; have h2 := (j 2).isLt; change (j 0).val < 8 at h0; change (j 2).val < 256 at h2; omega⟩) := by
  rw [final1_2, V2_v1, V2_v2]
  funext j
  simp only [TN, CASTP_apply, CASTX_apply]

end Cert.Kernel8Ideal.PLE

end
-- ==== Proof.PLE.Reference.lean ====
module

public import proofs.«01_k».proof.Proof.Gen.Reference8Ideal.Run
public import Idealize.ShloMosaic.Lib.Pointwise

/-! The reference's results, element by element over the arguments. -/

@[expose] public section

set_option maxRecDepth 16384

noncomputable section

namespace Cert.Reference8Ideal.PLE

open Idealize.ShloMosaic Idealize.ShloMosaic.TcCoe Idealize.SL.Sem
open Cert.Reference8Ideal Cert.Reference8Ideal.Gen

variable (A0 A1 : FVec Ideal S2048x2048 .f32) (A2 : FVec Ideal S2048x256 .f32) (A3 : FVec Ideal S256x2048 .f32) (A4 A5 : FVec Ideal S2048x2048 .f32)

/-- The gate's argument. -/
def T_s : FVec Ideal S2048x2048 .f32 := Host.dotGeneral dot_S2048x2048_S2048x2048_S2048x2048_1_0_0_1_n_n none A0 A1

/-- The projection. -/
def T_e : FVec Ideal S2048x2048 .f32 := Host.dotGeneral dot_S2048x256_S256x2048_S2048x2048_1_0_0_1_n_n none A2 A3

/-- The next layer's input. -/
def T_x : FVec Ideal S2048x2048 .f32 :=
  addf A4 (mulf (Host.divf (broadcastInDim S2048x2048 ![] bcast_S_S2048x2048 (constant S_ .f32 0x3F800000#32)) (addf (broadcastInDim S2048x2048 ![] bcast_S_S2048x2048 (constant S_ .f32 0x3F800000#32)) (Host.exp (Host.negf (T_s A0 A1))))) (T_e A2 A3))

/-- The gradient of the projection's weight, its columns cut in eight. -/
def T_w : FVec Ideal S8x256x256 .bf16 :=
  truncf .bf16 (transpose S8x256x256 [1, 0, 2] (shapeCast _ (transpose S256x2048 [1, 0] (Host.dotGeneral dot_S2048x2048_S2048x256_S2048x256_0_0_1_1_n_n none A5 A2) transposes_S2048x256_S256x2048_1_0) shapeCasts_S256x2048_S256x8x256) transposes_S256x8x256_S8x256x256_1_0_2) bitsLt_bf16_f32

/-- The logistic function, as the reference spells it. -/
def LOGI (z : EReal) : EReal := Ideal.div (Ideal.ofBits .f32 0x3F800000#32) (Ideal.ofBits .f32 0x3F800000#32 + Ideal.exp (-z))

def G (r q : Fin 2048) : EReal := ∑ k : Fin 2048, A0 (ix2 r k) * A1 (ix2 k q)
def E (r q : Fin 2048) : EReal := ∑ k : Fin 256, A2 (ix2 r k) * A3 (ix2 k q)

theorem T_s_apply (r q : Fin 2048) : T_s A0 A1 (ix2 r q) = G A0 A1 r q := by
  pointwise [T_s, G]
theorem T_e_apply (r q : Fin 2048) : T_e A2 A3 (ix2 r q) = E A2 A3 r q := by
  pointwise [T_e, E]

theorem T_s_eq : T_s A0 A1 = fun j : S2048x2048.Idx => G A0 A1 (j 0) (j 1) := by
  funext j
  obtain ⟨r, q, rfl⟩ : ∃ (r q : Fin 2048), j = ix2 r q := ⟨_, _, eq_ix2 j⟩
  exact T_s_apply A0 A1 r q

theorem T_e_eq : T_e A2 A3 = fun j : S2048x2048.Idx => E A2 A3 (j 0) (j 1) := by
  funext j
  obtain ⟨r, q, rfl⟩ : ∃ (r q : Fin 2048), j = ix2 r q := ⟨_, _, eq_ix2 j⟩
  exact T_e_apply A2 A3 r q

theorem T_x_eq : T_x A0 A1 A2 A3 A4 = fun j : S2048x2048.Idx => A4 (ix2 (j 0) (j 1)) + LOGI (G A0 A1 (j 0) (j 1)) * E A2 A3 (j 0) (j 1) := by
  funext j
  obtain ⟨r, q, rfl⟩ : ∃ (r q : Fin 2048), j = ix2 r q := ⟨_, _, eq_ix2 j⟩
  pointwise [T_x, LOGI, T_s_apply, T_e_apply]

theorem T_w_eq : T_w A2 A5 = fun j : S8x256x256.Idx => ∑ k : Fin 2048, A2 (ix2 k (j 1)) * A5 (ix2 k ⟨(j 0).val * 256 + (j 2).val, by
    have h0 := (j 0).isLt; have h2 := (j 2).isLt; change (j 0).val < 8 at h0; change (j 2).val < 256 at h2; omega⟩) := by
  funext j
  obtain ⟨b, r, q, rfl⟩ : ∃ (b : Fin 8) (r q : Fin 256), j = ix3 b r q := ⟨_, _, _, eq_ix3 j⟩
  pointwise [T_w]
  exact Finset.sum_congr rfl fun _ _ => mul_comm _ _

end Cert.Reference8Ideal.PLE

end
-- ==== Proof.PLE.Claims.lean ====
module

public import proofs.«01_k».proof.Defs
public import proofs.«01_k».proof.Proof.PLE.Kernel
public import proofs.«01_k».proof.Proof.PLE.Reference
public import proofs.«01_k».proof.Proof.Gen.Kernel8.Frame
public import Idealize.ShloMosaic.Lib.Claim

/-! The claims of the per-layer embedding: the frames and the equality of the four results. -/

@[expose] public section

set_option maxRecDepth 16384

noncomputable section

namespace Cert.PLE

open Idealize.ShloMosaic Idealize.ShloMosaic.TcCoe Idealize.SL.Sem

theorem frame_kernel : Cert.quiescent_Kernel8 := fun m ρ _ => Cert.Kernel8.Gen.frame m ρ
theorem frame_ideal : Cert.quiescent_Kernel8Ideal := fun m ρ _ => Cert.Kernel8Ideal.Gen.frame m ρ

theorem frame_ref : Cert.quiescent_Reference8Ideal := fun m ρ _ =>
  (θ_run Cert.Reference8Ideal.defs _ _).mono
    (fun r h => ⟨fun c => (h c).2.2.2.2, Idealize.ShloMosaic.sem_eq_zero_of_no_sems (by decide) r.2⟩)
    (Cert.Reference8Ideal.Value.run (F := Ideal) m ρ)

/-- The two spellings of the logistic function agree. -/
theorem logistic (z : EReal) : Cert.Kernel8Ideal.PLE.SIG z = Cert.Reference8Ideal.PLE.LOGI z := by
  have h0 : Ideal.ofBits .f32 0x00000000#32 = (0 : EReal) := Ideal.ofBits_zero_f32
  unfold Cert.Kernel8Ideal.PLE.SIG Cert.Reference8Ideal.PLE.LOGI
  rw [h0, zero_sub]

theorem algebraic : Cert.algebraic_Kernel8Ideal_Reference8Ideal := by
  intro m g m' g' _ hagree
  refine ⟨fun c => Cert.Reference8Ideal.PLE.T_x (Cert.Kernel8Ideal.PLE.a0 m c) (Cert.Kernel8Ideal.PLE.a1 m c) (Cert.Kernel8Ideal.PLE.a2 m c) (Cert.Kernel8Ideal.PLE.a3 m c) (Cert.Kernel8Ideal.PLE.a4 m c), fun c => Cert.Reference8Ideal.PLE.T_s (Cert.Kernel8Ideal.PLE.a0 m c) (Cert.Kernel8Ideal.PLE.a1 m c), fun c => Cert.Reference8Ideal.PLE.T_e (Cert.Kernel8Ideal.PLE.a2 m c) (Cert.Kernel8Ideal.PLE.a3 m c), fun c => Cert.Reference8Ideal.PLE.T_w (Cert.Kernel8Ideal.PLE.a2 m c) (Cert.Kernel8Ideal.PLE.a5 m c), ?_, ?_⟩
  · refine (θ_run Cert.Kernel8Ideal.defs _ _).mono (fun r h c => ?_) (Cert.Kernel8Ideal.PLE.run (F := Ideal) m g)
    obtain ⟨e0, e1, e2, e3, hargs⟩ := h c
    have ex : (fun j : Cert.Kernel8Ideal.S2048x2048.Idx => Cert.Kernel8Ideal.PLE.a4 m c (ix2 (j 0) (j 1)) + Cert.Kernel8Ideal.PLE.SIG (Cert.Kernel8Ideal.PLE.G m c (j 0) (j 1)) * Cert.Kernel8Ideal.PLE.E m c (j 0) (j 1))
        = Cert.Reference8Ideal.PLE.T_x (Cert.Kernel8Ideal.PLE.a0 m c) (Cert.Kernel8Ideal.PLE.a1 m c) (Cert.Kernel8Ideal.PLE.a2 m c) (Cert.Kernel8Ideal.PLE.a3 m c) (Cert.Kernel8Ideal.PLE.a4 m c) := by
      rw [Cert.Reference8Ideal.PLE.T_x_eq]
      funext j
      rw [logistic]
      rfl
    exact ⟨e0.trans ((Cert.Kernel8Ideal.PLE.out5 m g c).trans ex), e1.trans ((Cert.Kernel8Ideal.PLE.out6 m g c).trans (Cert.Reference8Ideal.PLE.T_s_eq _ _).symm),
      e2.trans ((Cert.Kernel8Ideal.PLE.out7 m g c).trans (Cert.Reference8Ideal.PLE.T_e_eq _ _).symm), e3.trans ((Cert.Kernel8Ideal.PLE.out10 m g c).trans (Cert.Reference8Ideal.PLE.T_w_eq _ _).symm), hargs⟩
  · refine (θ_run Cert.Reference8Ideal.defs _ _).mono (fun r h c => ?_) (Cert.Reference8Ideal.Value.run (F := Ideal) m' g')
    obtain ⟨e0, e1, e2, e3, hargs⟩ := h c
    obtain ⟨g0, g1, g2, g3, g4, g5⟩ := hagree c
    rw [g0, g1, g2, g3, g4] at e0
    rw [g0, g1] at e1
    rw [g2, g3] at e2
    rw [g5, g2] at e3
    exact ⟨e0, e1, e2, e3, hargs⟩

end Cert.PLE

end
-- ==== Proof.NRM.Out.lean ====
module

public import proofs.«01_k».proof.Proof.Gen.Kernel9Ideal.Frame
public import Idealize.ShloMosaic.Lib.Pipeline.ValueKit

/-! The product with its residual and its norm, element by element over the arrays the call reads. -/

@[expose] public section

set_option maxRecDepth 16384

noncomputable section

namespace Cert.Kernel9Ideal.NRM

open Idealize.ShloMosaic Idealize.ShloMosaic.TcCoe Idealize.SL.Sem
open Idealize.ShloMosaic.Pipeline (Dat)
open Cert.Kernel9Ideal Cert.Kernel9Ideal.Gen

/-- One step's share of the product: 1024 of the 2048 inner positions. -/
def PART (x : FVec Ideal S2048x2048 .bf16) (w : FVec Ideal S1x1x2048x2048 .bf16) (r q : Fin 2048) (b : Fin 2) : EReal :=
  ∑ k : Fin 1024, x (ix2 r ⟨b.val * 1024 + k.val, by omega⟩) * w (ix4 0 0 ⟨b.val * 1024 + k.val, by omega⟩ q)

/-- The product plus the residual. -/
def HSUM (x : FVec Ideal S2048x2048 .bf16) (w : FVec Ideal S1x1x2048x2048 .bf16) (h : FVec Ideal S2048x2048 .f32) (j : S2048x2048.Idx) : EReal :=
  (∑ b : Fin 2, PART x w (j 0) (j 1) b) + h j

/-- A row divided by its root mean square, times the norm's weight. -/
def RMS (f : Fin 2048 → EReal) (g : EReal) (q : Fin 2048) : EReal :=
  f q * Ideal.rsqrt (Ideal.div (∑ k, f k * f k) (Ideal.ofBits .f32 0x45000000#32) + Ideal.ofBits .f32 0x358637BD#32) * g

/-- The normed result. -/
def HNORM (x : FVec Ideal S2048x2048 .bf16) (w : FVec Ideal S1x1x2048x2048 .bf16) (h : FVec Ideal S2048x2048 .f32) (g : FVec Ideal S1x2048 .f32) (j : S2048x2048.Idx) : EReal :=
  RMS (fun k => HSUM x w h (ix2 (j 0) k)) (g (ix2 0 (j 1))) (j 1)

variable (m : (ℓ : Loc nD τ sig) → Buf (Elt Ideal) ℓ)

theorem idx0 : ∀ t : Fin cfg0.N, win0_0.index t = ![t.val / 2, t.val % 2] ∧ win0_1.index t = ![0, 0, t.val % 2, 0] ∧ win0_2.index t = ![t.val / 2, 0]
    ∧ win0_3.index t = ![0, 0] ∧ win0_4.index t = ![t.val / 2, 0] ∧ win0_5.index t = ![t.val / 2, 0] ∧ t.val / 2 < 4 :=
  (by decide +kernel : ∀ t : Fin grid0.N, _)

theorem flush4 : ∀ t : Fin cfg0.N, (cfg0.win 4).flush t = true → t.val % 2 = 1 :=
  (by decide +kernel : ∀ t : Fin grid0.N, _)
theorem flush5 : ∀ t : Fin cfg0.N, (cfg0.win 5).flush t = true → t.val % 2 = 1 :=
  (by decide +kernel : ∀ t : Fin grid0.N, _)

/-- The row of the result that row `r` of a block is. -/
def row (t : ℕ) (ht : t / 2 < 4) (r : Fin 512) : Fin 2048 := ⟨t / 2 * 512 + r.val, by omega⟩

theorem lt4 (t : Fin cfg0.N) : t.val / 2 < 4 := (idx0 t).2.2.2.2.2.2

theorem pay1_point (c : Dev nD) (t : Fin cfg0.N) (r : Fin 512) (q : Fin 2048) :
    k0_pay1 (iblk m c 0 t) (iblk m c 1 t) (ix2 r q) = PART (V m c main_v0) (V m c main_v2) (row t.val (lt4 t) r) q ⟨t.val % 2, by omega⟩ := by
  pointwise [k0_pay1, PART, row]
  blk_point [iblk, idx0 t]

theorem pay2_apply (a : FVec Ideal S512x1024 .bf16) (b : FVec Ideal S1x1x1024x2048 .bf16) (v : FVec Ideal S512x2048 .f32) (j : S512x2048.Idx) :
    k0_pay2 (F := Ideal) a b v j = v j + k0_pay1 (F := Ideal) a b j := by
  pointwise [k0_pay2]

theorem pay3_apply (u v : FVec Ideal S512x2048 .f32) (j : S512x2048.Idx) : k0_pay3 (F := Ideal) u v j = u j + v j := by
  pointwise [k0_pay3]

theorem pay4_apply (u v : FVec Ideal S512x2048 .f32) (g : FVec Ideal S1x2048 .f32) (r : Fin 512) (q : Fin 2048) :
    k0_pay4 (F := Ideal) u v g (ix2 r q) = RMS (fun k => k0_pay3 (F := Ideal) u v (ix2 r k)) (g (ix2 0 q)) q := by
  pointwise [k0_pay4, RMS]

theorem res_point (c : Dev nD) (t : Fin cfg0.N) (r : Fin 512) (q : Fin 2048) :
    iblk m c 2 t (ix2 r q) = V m c main_arg2 (ix2 (row t.val (lt4 t) r) q) := by
  unfold iblk
  refine congrArg (V m c main_arg2) ?_
  blk_point [idx0 t, row]

theorem weight_point (c : Dev nD) (t : Fin cfg0.N) (q : Fin 2048) : iblk m c 3 t (ix2 0 q) = V m c main_arg3 (ix2 0 q) := by
  unfold iblk
  refine congrArg (V m c main_arg3) ?_
  blk_point [idx0 t]

/-- The running sum before the last step. -/
theorem acc (c : Dev nD) (s : ℕ) : s < 1 → ∀ (t : Fin cfg0.N), t.val % 2 = s → ∀ (r : Fin 512) (q : Fin 2048),
    (outsAt0 m c t.val t.isLt).1 (ix2 r q) = ∑ b ∈ Finset.range (s + 1), if hb : b < 2 then PART (V m c main_v0) (V m c main_v2) (row t.val (lt4 t) r) q ⟨b, hb⟩ else 0 := by
  induction s with
  | zero =>
    intro _ t h r q
    rw [outsAt0_A m c t h (by omega) (by omega)]
    frame_out
    rw [pay1_point, Finset.sum_range_one, dif_pos (by norm_num)]
    simp only [h]
  | succ s ih =>
    intro hs t h r q
    omega

/-- The last step's sum, the residual added. -/
theorem last (c : Dev nD) (t : Fin cfg0.N) (h : t.val % 2 = 1) (hp : t.val - 1 < cfg0.N) (r : Fin 512) (q : Fin 2048) :
    k0_pay3 (F := Ideal) (k0_pay2 (F := Ideal) (iblk m c 0 t) (iblk m c 1 t) (outsAt0 m c (t.val - 1) hp).1) (iblk m c 2 t) (ix2 r q)
      = HSUM (V m c main_v0) (V m c main_v2) (V m c main_arg2) (ix2 (row t.val (lt4 t) r) q) := by
  have e := acc m c 0 (by norm_num) ⟨t.val - 1, hp⟩ (by simp only; omega) r q
  have hq : (t.val - 1) / 2 = t.val / 2 := by omega
  rw [pay3_apply, pay2_apply, pay1_point, res_point]
  simp only [row, hq] at e
  rw [e]
  unfold HSUM
  rw [Finset.sum_range, Fin.sum_univ_castSucc (n := 1)]
  exact congrArg₂ (· + ·) (congrArg₂ (· + ·) (Finset.sum_congr rfl fun b _ => dif_pos (by omega)) (congrArg (PART (V m c main_v0) (V m c main_v2) _ q) (Fin.ext h))) rfl

theorem final0_4 (c : Dev nD) : (dats m 0 c).arrAt 4 cfg0.N = fun j => HSUM (V m c main_v0) (V m c main_v2) (V m c main_arg2) j := by
  refine (dats m 0 c).arrAt_eq_of_covers 4 _ (by decide +kernel) fun t hf y => ?_
  have h := flush4 t hf
  blk_simp
  rw [after0_4, outsAt0_B m c t (by omega) (by omega) (by omega)]; frame_out
  obtain ⟨r, q, rfl⟩ : ∃ (r : Fin 512) (q : Fin 2048), y = ix2 r q := ⟨_, _, eq_ix2 y⟩
  refine (last m c t h _ r q).trans (congrArg (HSUM (V m c main_v0) (V m c main_v2) (V m c main_arg2)) ?_)
  blk_point [idx0 t, row]

theorem final0_5 (c : Dev nD) : (dats m 0 c).arrAt 5 cfg0.N = fun j => HNORM (V m c main_v0) (V m c main_v2) (V m c main_arg2) (V m c main_arg3) j := by
  refine (dats m 0 c).arrAt_eq_of_covers 5 _ (by decide +kernel) fun t hf y => ?_
  have h := flush5 t hf
  blk_simp
  rw [after0_5, outsAt0_B m c t (by omega) (by omega) (by omega)]; frame_out
  obtain ⟨r, q, rfl⟩ : ∃ (r : Fin 512) (q : Fin 2048), y = ix2 r q := ⟨_, _, eq_ix2 y⟩
  refine (pay4_apply _ _ _ r q).trans ?_
  simp only [last m c t h]
  rw [weight_point]
  refine Eq.trans (b := HNORM (V m c main_v0) (V m c main_v2) (V m c main_arg2) (V m c main_arg3) (ix2 (row t.val (lt4 t) r) q)) rfl (congrArg _ ?_)
  blk_point [idx0 t, row]

end Cert.Kernel9Ideal.NRM

end
-- ==== Proof.NRM.OutKernel.lean ====
module

public import proofs.«01_k».proof.Proof.NRM.Out
public import Idealize.ShloMosaic.Lib.Pointwise
public import Idealize.ShloMosaic.Lib.StableHlo.Run
public import Idealize.ShloMosaic.Lib.Claim

/-! The product with its residual and its norm, over the arguments. -/

@[expose] public section

set_option maxRecDepth 16384

noncomputable section

namespace Cert.Kernel9Ideal.NRM

open Idealize.ShloMosaic Idealize.ShloMosaic.TcCoe Idealize.SL.Sem
open Idealize.ShloMosaic.StableHlo
open Cert.Kernel9Ideal Cert.Kernel9Ideal.Gen

/-- A sum over 2048 positions is 2 sums over 1024. -/
theorem sum_steps (f : Fin 2048 → EReal) : ∑ k, f k = ∑ b : Fin 2, ∑ r : Fin 1024, f ⟨b.val * 1024 + r.val, by omega⟩ := by
  rw [← Fintype.sum_prod_type', ← (finProdFinEquiv (m := 2) (n := 1024)).sum_comp f]
  refine Finset.sum_congr rfl fun p _ => congrArg f (Fin.ext ?_)
  simp only [finProdFinEquiv_apply_val]
  omega

/-- A cast to half precision. -/
def CASTX (a : FVec Ideal S2048x2048 .f32) : FVec Ideal S2048x2048 .bf16 := truncf .bf16 a bitsLt_bf16_f32

theorem CASTX_apply (a : FVec Ideal S2048x2048 .f32) (j : S2048x2048.Idx) : CASTX a j = a j := by
  pointwise [CASTX]

/-- The weight the way the call reads it. -/
def CASTW (a : FVec Ideal S2048x2048 .f32) : FVec Ideal S1x1x2048x2048 .bf16 :=
  shapeCast S1x1x2048x2048 (truncf .bf16 a bitsLt_bf16_f32) shapeCasts_S2048x2048_S1x1x2048x2048

theorem CASTW_apply (a : FVec Ideal S2048x2048 .f32) (k q : Fin 2048) : CASTW a (ix4 0 0 k q) = a (ix2 k q) := by
  pointwise [CASTW]

/-- The product by its steps is the product. -/
theorem product (a : FVec Ideal S2048x2048 .f32) (b : FVec Ideal S2048x2048 .f32) (r q : Fin 2048) :
    ∑ s : Fin 2, PART (CASTX a) (CASTW b) r q s = ∑ k : Fin 2048, a (ix2 r k) * b (ix2 k q) := by
  rw [sum_steps]
  refine Finset.sum_congr rfl fun s _ => ?_
  unfold PART
  refine Finset.sum_congr rfl fun k _ => ?_
  rw [CASTX_apply, CASTW_apply]

variable (m : (ℓ : Loc nD τ sig) → Buf (Elt Ideal) ℓ) (ρ : Dev nD → PrngReg) (c : Dev nD)

/-- The arguments. -/
abbrev a0 : FVec Ideal S2048x2048 .f32 := m ((c : Thread nD τ).loc main_arg0)
abbrev a1 : FVec Ideal S2048x2048 .f32 := m ((c : Thread nD τ).loc main_arg1)
abbrev a2 : FVec Ideal S2048x2048 .f32 := m ((c : Thread nD τ).loc main_arg2)
abbrev a3 : FVec Ideal S1x2048 .f32 := m ((c : Thread nD τ).loc main_arg3)

theorem V_a : V m c main_v0 = CASTX (a0 m c) := by
  show StableHlo.after hostOps0 (fun b => m (c, b)) (Proc.devRef .tc main_v0) = _
  after_results_simp <;> rfl

theorem V_w : V m c main_v2 = CASTW (a1 m c) := by
  show StableHlo.after hostOps0 (fun b => m (c, b)) (Proc.devRef .tc main_v2) = _
  after_results_simp <;> rfl

/-- The sum with the residual, over the arguments. -/
def SUM (a : FVec Ideal S2048x2048 .f32) (b : FVec Ideal S2048x2048 .f32) (h : FVec Ideal S2048x2048 .f32) (r q : Fin 2048) : EReal :=
  h (ix2 r q) + ∑ k : Fin 2048, a (ix2 r k) * b (ix2 k q)

theorem HSUM_eq (r q : Fin 2048) : HSUM (V m c main_v0) (V m c main_v2) (V m c main_arg2) (ix2 r q) = SUM (a0 m c) (a1 m c) (a2 m c) r q := by
  rw [V_a, V_w, V_main_arg2]
  unfold HSUM SUM
  rw [add_comm]
  exact congrArg (a2 m c (ix2 r q) + ·) (product (a0 m c) (a1 m c) r q)

theorem out4 : (dats m 0 c).arrAt 4 cfg0.N = fun j : S2048x2048.Idx => SUM (a0 m c) (a1 m c) (a2 m c) (j 0) (j 1) := by
  rw [final0_4]
  funext j
  obtain ⟨r, q, rfl⟩ : ∃ (r q : Fin 2048), j = ix2 r q := ⟨_, _, eq_ix2 j⟩
  exact HSUM_eq m c r q

theorem out5 : (dats m 0 c).arrAt 5 cfg0.N = fun j : S2048x2048.Idx => RMS (fun k => SUM (a0 m c) (a1 m c) (a2 m c) (j 0) k) (a3 m c (ix2 0 (j 1))) (j 1) := by
  rw [final0_5]
  funext j
  obtain ⟨r, q, rfl⟩ : ∃ (r q : Fin 2048), j = ix2 r q := ⟨_, _, eq_ix2 j⟩
  have e : (fun k => HSUM (V m c main_v0) (V m c main_v2) (V m c main_arg2) (ix2 r k)) = fun k => SUM (a0 m c) (a1 m c) (a2 m c) r k := funext fun k => HSUM_eq m c r k
  have g : V m c main_arg3 (ix2 0 q) = a3 m c (ix2 0 q) := by rw [V_main_arg3]
  exact (congrArg (fun f => RMS f (V m c main_arg3 (ix2 0 q)) q) e).trans (congrArg (fun v => RMS (fun k => SUM (a0 m c) (a1 m c) (a2 m c) r k) v q) g)

theorem run : θ_run defs (onTc (τ := τ) (main (F := Ideal))) ⟨m, fun _ => 0, ρ⟩ (fun r => ∀ c : Dev nD,
      r.2.mem ((c.tc : Thread nD τ).loc main_v3_0) = (dats m 0 c).arrAt 4 cfg0.N
      ∧ r.2.mem ((c.tc : Thread nD τ).loc main_v3_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨Pipeline.FramePost.out_eq h.2 c 4, Pipeline.FramePost.out_eq h.2 c 5, h.1 c⟩) (θ_run_and (unchanged m ρ) (run_main m ρ))

end Cert.Kernel9Ideal.NRM

end
-- ==== Proof.NRM.OutReference.lean ====
module

public import proofs.«01_k».proof.Proof.Gen.Reference9Ideal.Run
public import Idealize.ShloMosaic.Lib.Pointwise

/-! The reference's results, element by element over the arguments. -/

@[expose] public section

set_option maxRecDepth 16384

noncomputable section

namespace Cert.Reference9Ideal.NRM

open Idealize.ShloMosaic Idealize.ShloMosaic.TcCoe Idealize.SL.Sem
open Cert.Reference9Ideal Cert.Reference9Ideal.Gen

variable (A0 : FVec Ideal S2048x2048 .f32) (A1 : FVec Ideal S2048x2048 .f32) (A2 : FVec Ideal S2048x2048 .f32) (A3 : FVec Ideal S1x2048 .f32)

/-- The product plus the residual. -/
def T_h : FVec Ideal S2048x2048 .f32 := addf A2 (Host.dotGeneral dot_S2048x2048_S2048x2048_S2048x2048_1_0_0_1_n_n none A0 A1)

/-- The normed sum. -/
def T_n : FVec Ideal S2048x2048 .bf16 :=
  truncf .bf16 (mulf (mulf (T_h A0 A1 A2) (broadcastInDim S2048x2048 ![0, 1] bcast_S2048x1_S2048x2048_0_1 (Host.rsqrt (addf (Host.divf (broadcastInDim S2048x1 ![0] bcast_S2048_S2048x1_0 (Host.reduceAdd (mulf (T_h A0 A1 A2) (T_h A0 A1 A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 (shapeCast _ A3 shapeCasts_S1x2048_S2048)))) bitsLt_bf16_f32

/-- One element of the sum. -/
def SUM (r q : Fin 2048) : EReal := A2 (ix2 r q) + ∑ k : Fin 2048, A0 (ix2 r k) * A1 (ix2 k q)

/-- A row divided by its root mean square, times the norm's weight. -/
def RMS (f : Fin 2048 → EReal) (g : EReal) (q : Fin 2048) : EReal :=
  f q * Ideal.rsqrt (Ideal.div (∑ k, f k * f k) (Ideal.ofBits .f32 0x45000000#32) + Ideal.ofBits .f32 0x358637BD#32) * g

theorem T_h_apply (r q : Fin 2048) : T_h A0 A1 A2 (ix2 r q) = SUM A0 A1 A2 r q := by
  pointwise [T_h, SUM]

theorem T_h_eq : T_h A0 A1 A2 = fun j : S2048x2048.Idx => SUM A0 A1 A2 (j 0) (j 1) := by
  funext j
  obtain ⟨r, q, rfl⟩ : ∃ (r q : Fin 2048), j = ix2 r q := ⟨_, _, eq_ix2 j⟩
  exact T_h_apply A0 A1 A2 r q

theorem T_n_eq : T_n A0 A1 A2 A3 = fun j : S2048x2048.Idx => RMS (fun k => SUM A0 A1 A2 (j 0) k) (A3 (ix2 0 (j 1))) (j 1) := by
  funext j
  obtain ⟨r, q, rfl⟩ : ∃ (r q : Fin 2048), j = ix2 r q := ⟨_, _, eq_ix2 j⟩
  pointwise [T_n, RMS, T_h_apply, Ideal.ofBits_zero_f32]

end Cert.Reference9Ideal.NRM

end
-- ==== Proof.NRM.OutClaims.lean ====
module

public import proofs.«01_k».proof.Defs
public import proofs.«01_k».proof.Proof.NRM.OutKernel
public import proofs.«01_k».proof.Proof.NRM.OutReference
public import proofs.«01_k».proof.Proof.Gen.Kernel9.Frame
public import Idealize.ShloMosaic.Lib.Claim

/-! The frames and the equality of the two results. -/

@[expose] public section

set_option maxRecDepth 16384

noncomputable section

namespace Cert.NRM.Out

open Idealize.ShloMosaic Idealize.ShloMosaic.TcCoe Idealize.SL.Sem

theorem frame_kernel : Cert.quiescent_Kernel9 := fun m ρ _ => Cert.Kernel9.Gen.frame m ρ
theorem frame_ideal : Cert.quiescent_Kernel9Ideal := fun m ρ _ => Cert.Kernel9Ideal.Gen.frame m ρ

theorem frame_ref : Cert.quiescent_Reference9Ideal := fun m ρ _ =>
  (θ_run Cert.Reference9Ideal.defs _ _).mono
    (fun r h => ⟨fun c => (h c).2.2, Idealize.ShloMosaic.sem_eq_zero_of_no_sems (by decide) r.2⟩)
    (Cert.Reference9Ideal.Value.run (F := Ideal) m ρ)

theorem algebraic : Cert.algebraic_Kernel9Ideal_Reference9Ideal := by
  intro m g m' g' _ hagree
  refine ⟨fun c => Cert.Reference9Ideal.NRM.T_h (Cert.Kernel9Ideal.NRM.a0 m c) (Cert.Kernel9Ideal.NRM.a1 m c) (Cert.Kernel9Ideal.NRM.a2 m c), fun c => Cert.Reference9Ideal.NRM.T_n (Cert.Kernel9Ideal.NRM.a0 m c) (Cert.Kernel9Ideal.NRM.a1 m c) (Cert.Kernel9Ideal.NRM.a2 m c) (Cert.Kernel9Ideal.NRM.a3 m c), ?_, ?_⟩
  · refine (θ_run Cert.Kernel9Ideal.defs _ _).mono (fun r h c => ?_) (Cert.Kernel9Ideal.NRM.run m g)
    obtain ⟨e0, e1, hargs⟩ := h c
    exact ⟨e0.trans ((Cert.Kernel9Ideal.NRM.out4 m c).trans (Cert.Reference9Ideal.NRM.T_h_eq _ _ _).symm), e1.trans ((Cert.Kernel9Ideal.NRM.out5 m c).trans (Cert.Reference9Ideal.NRM.T_n_eq _ _ _ _).symm), hargs⟩
  · refine (θ_run Cert.Reference9Ideal.defs _ _).mono (fun r h c => ?_) (Cert.Reference9Ideal.Value.run (F := Ideal) m' g')
    obtain ⟨e0, e1, hargs⟩ := h c
    obtain ⟨g0, g1, g2, g3⟩ := hagree c
    rw [g0, g1, g2] at e0
    rw [g0, g1, g2, g3] at e1
    exact ⟨e0, e1, hargs⟩

end Cert.NRM.Out

end
-- ==== Proof.NRM.Down.lean ====
module

public import proofs.«01_k».proof.Proof.Gen.Kernel10Ideal.Frame
public import Idealize.ShloMosaic.Lib.Pipeline.ValueKit

/-! The product with its residual and its norm, element by element over the arrays the call reads. -/

@[expose] public section

set_option maxRecDepth 16384

noncomputable section

namespace Cert.Kernel10Ideal.NRM

open Idealize.ShloMosaic Idealize.ShloMosaic.TcCoe Idealize.SL.Sem
open Idealize.ShloMosaic.Pipeline (Dat)
open Cert.Kernel10Ideal Cert.Kernel10Ideal.Gen

/-- One step's share of the product: 1024 of the 6144 inner positions. -/
def PART (x : FVec Ideal S2048x6144 .bf16) (w : FVec Ideal S1x1x6144x2048 .bf16) (r q : Fin 2048) (b : Fin 6) : EReal :=
  ∑ k : Fin 1024, x (ix2 r ⟨b.val * 1024 + k.val, by omega⟩) * w (ix4 0 0 ⟨b.val * 1024 + k.val, by omega⟩ q)

/-- The product plus the residual. -/
def HSUM (x : FVec Ideal S2048x6144 .bf16) (w : FVec Ideal S1x1x6144x2048 .bf16) (h : FVec Ideal S2048x2048 .f32) (j : S2048x2048.Idx) : EReal :=
  (∑ b : Fin 6, PART x w (j 0) (j 1) b) + h j

/-- A row divided by its root mean square, times the norm's weight. -/
def RMS (f : Fin 2048 → EReal) (g : EReal) (q : Fin 2048) : EReal :=
  f q * Ideal.rsqrt (Ideal.div (∑ k, f k * f k) (Ideal.ofBits .f32 0x45000000#32) + Ideal.ofBits .f32 0x358637BD#32) * g

/-- The normed result. -/
def HNORM (x : FVec Ideal S2048x6144 .bf16) (w : FVec Ideal S1x1x6144x2048 .bf16) (h : FVec Ideal S2048x2048 .f32) (g : FVec Ideal S1x2048 .f32) (j : S2048x2048.Idx) : EReal :=
  RMS (fun k => HSUM x w h (ix2 (j 0) k)) (g (ix2 0 (j 1))) (j 1)

variable (m : (ℓ : Loc nD τ sig) → Buf (Elt Ideal) ℓ)

theorem idx0 : ∀ t : Fin cfg0.N, win0_0.index t = ![t.val / 6, t.val % 6] ∧ win0_1.index t = ![0, 0, t.val % 6, 0] ∧ win0_2.index t = ![t.val / 6, 0]
    ∧ win0_3.index t = ![0, 0] ∧ win0_4.index t = ![t.val / 6, 0] ∧ win0_5.index t = ![t.val / 6, 0] ∧ t.val / 6 < 4 :=
  (by decide +kernel : ∀ t : Fin grid0.N, _)

theorem flush4 : ∀ t : Fin cfg0.N, (cfg0.win 4).flush t = true → t.val % 6 = 5 :=
  (by decide +kernel : ∀ t : Fin grid0.N, _)
theorem flush5 : ∀ t : Fin cfg0.N, (cfg0.win 5).flush t = true → t.val % 6 = 5 :=
  (by decide +kernel : ∀ t : Fin grid0.N, _)

/-- The row of the result that row `r` of a block is. -/
def row (t : ℕ) (ht : t / 6 < 4) (r : Fin 512) : Fin 2048 := ⟨t / 6 * 512 + r.val, by omega⟩

theorem lt4 (t : Fin cfg0.N) : t.val / 6 < 4 := (idx0 t).2.2.2.2.2.2

theorem pay1_point (c : Dev nD) (t : Fin cfg0.N) (r : Fin 512) (q : Fin 2048) :
    k0_pay1 (iblk m c 0 t) (iblk m c 1 t) (ix2 r q) = PART (V m c main_v3) (V m c main_v7) (row t.val (lt4 t) r) q ⟨t.val % 6, by omega⟩ := by
  pointwise [k0_pay1, PART, row]
  blk_point [iblk, idx0 t]

theorem pay2_apply (a : FVec Ideal S512x1024 .bf16) (b : FVec Ideal S1x1x1024x2048 .bf16) (v : FVec Ideal S512x2048 .f32) (j : S512x2048.Idx) :
    k0_pay2 (F := Ideal) a b v j = v j + k0_pay1 (F := Ideal) a b j := by
  pointwise [k0_pay2]

theorem pay3_apply (u v : FVec Ideal S512x2048 .f32) (j : S512x2048.Idx) : k0_pay3 (F := Ideal) u v j = u j + v j := by
  pointwise [k0_pay3]

theorem pay4_apply (u v : FVec Ideal S512x2048 .f32) (g : FVec Ideal S1x2048 .f32) (r : Fin 512) (q : Fin 2048) :
    k0_pay4 (F := Ideal) u v g (ix2 r q) = RMS (fun k => k0_pay3 (F := Ideal) u v (ix2 r k)) (g (ix2 0 q)) q := by
  pointwise [k0_pay4, RMS]

theorem res_point (c : Dev nD) (t : Fin cfg0.N) (r : Fin 512) (q : Fin 2048) :
    iblk m c 2 t (ix2 r q) = V m c main_arg2 (ix2 (row t.val (lt4 t) r) q) := by
  unfold iblk
  refine congrArg (V m c main_arg2) ?_
  blk_point [idx0 t, row]

theorem weight_point (c : Dev nD) (t : Fin cfg0.N) (q : Fin 2048) : iblk m c 3 t (ix2 0 q) = V m c main_arg3 (ix2 0 q) := by
  unfold iblk
  refine congrArg (V m c main_arg3) ?_
  blk_point [idx0 t]

/-- The running sum before the last step. -/
theorem acc (c : Dev nD) (s : ℕ) : s < 5 → ∀ (t : Fin cfg0.N), t.val % 6 = s → ∀ (r : Fin 512) (q : Fin 2048),
    (outsAt0 m c t.val t.isLt).1 (ix2 r q) = ∑ b ∈ Finset.range (s + 1), if hb : b < 6 then PART (V m c main_v3) (V m c main_v7) (row t.val (lt4 t) r) q ⟨b, hb⟩ else 0 := by
  induction s with
  | zero =>
    intro _ t h r q
    rw [outsAt0_A m c t h (by omega) (by omega)]
    frame_out
    rw [pay1_point, Finset.sum_range_one, dif_pos (by norm_num)]
    simp only [h]
  | succ s ih =>
    intro hs t h r q
    have e := ih (by omega) ⟨t.val - 1, by have := t.isLt; omega⟩ (by simp only; omega) r q
    rw [Finset.sum_range_succ, outsAt0_B m c t (by omega) (by omega) (by omega)]
    frame_out
    rw [pay2_apply, pay1_point]
    have hq : (t.val - 1) / 6 = t.val / 6 := by omega
    simp only [row, hq] at e
    rw [e, dif_pos (by omega)]
    simp only [row, h]

/-- The last step's sum, the residual added. -/
theorem last (c : Dev nD) (t : Fin cfg0.N) (h : t.val % 6 = 5) (hp : t.val - 1 < cfg0.N) (r : Fin 512) (q : Fin 2048) :
    k0_pay3 (F := Ideal) (k0_pay2 (F := Ideal) (iblk m c 0 t) (iblk m c 1 t) (outsAt0 m c (t.val - 1) hp).1) (iblk m c 2 t) (ix2 r q)
      = HSUM (V m c main_v3) (V m c main_v7) (V m c main_arg2) (ix2 (row t.val (lt4 t) r) q) := by
  have e := acc m c 4 (by norm_num) ⟨t.val - 1, hp⟩ (by simp only; omega) r q
  have hq : (t.val - 1) / 6 = t.val / 6 := by omega
  rw [pay3_apply, pay2_apply, pay1_point, res_point]
  simp only [row, hq] at e
  rw [e]
  unfold HSUM
  rw [Finset.sum_range, Fin.sum_univ_castSucc (n := 5)]
  exact congrArg₂ (· + ·) (congrArg₂ (· + ·) (Finset.sum_congr rfl fun b _ => dif_pos (by omega)) (congrArg (PART (V m c main_v3) (V m c main_v7) _ q) (Fin.ext h))) rfl

theorem final0_4 (c : Dev nD) : (dats m 0 c).arrAt 4 cfg0.N = fun j => HSUM (V m c main_v3) (V m c main_v7) (V m c main_arg2) j := by
  refine (dats m 0 c).arrAt_eq_of_covers 4 _ (by decide +kernel) fun t hf y => ?_
  have h := flush4 t hf
  blk_simp
  rw [after0_4, outsAt0_C m c t (by omega) (by omega) h]; frame_out
  obtain ⟨r, q, rfl⟩ : ∃ (r : Fin 512) (q : Fin 2048), y = ix2 r q := ⟨_, _, eq_ix2 y⟩
  refine (last m c t h _ r q).trans (congrArg (HSUM (V m c main_v3) (V m c main_v7) (V m c main_arg2)) ?_)
  blk_point [idx0 t, row]

theorem final0_5 (c : Dev nD) : (dats m 0 c).arrAt 5 cfg0.N = fun j => HNORM (V m c main_v3) (V m c main_v7) (V m c main_arg2) (V m c main_arg3) j := by
  refine (dats m 0 c).arrAt_eq_of_covers 5 _ (by decide +kernel) fun t hf y => ?_
  have h := flush5 t hf
  blk_simp
  rw [after0_5, outsAt0_C m c t (by omega) (by omega) h]; frame_out
  obtain ⟨r, q, rfl⟩ : ∃ (r : Fin 512) (q : Fin 2048), y = ix2 r q := ⟨_, _, eq_ix2 y⟩
  refine (pay4_apply _ _ _ r q).trans ?_
  simp only [last m c t h]
  rw [weight_point]
  refine Eq.trans (b := HNORM (V m c main_v3) (V m c main_v7) (V m c main_arg2) (V m c main_arg3) (ix2 (row t.val (lt4 t) r) q)) rfl (congrArg _ ?_)
  blk_point [idx0 t, row]

end Cert.Kernel10Ideal.NRM

end
-- ==== Proof.NRM.DownKernel.lean ====
module

public import proofs.«01_k».proof.Proof.NRM.Down
public import proofs.«01_k».proof.Proof.FFN.Scalar
public import Idealize.ShloMosaic.Lib.Pointwise
public import Idealize.ShloMosaic.Lib.StableHlo.Run
public import Idealize.ShloMosaic.Lib.Claim

/-! The product with its residual and its norm, over the arguments. -/

@[expose] public section

set_option maxRecDepth 16384

noncomputable section

namespace Cert.Kernel10Ideal.NRM

open Idealize.ShloMosaic Idealize.ShloMosaic.TcCoe Idealize.SL.Sem
open Idealize.ShloMosaic.StableHlo
open Cert.Kernel10Ideal Cert.Kernel10Ideal.Gen

/-- A sum over 6144 positions is 6 sums over 1024. -/
theorem sum_steps (f : Fin 6144 → EReal) : ∑ k, f k = ∑ b : Fin 6, ∑ r : Fin 1024, f ⟨b.val * 1024 + r.val, by omega⟩ := by
  rw [← Fintype.sum_prod_type', ← (finProdFinEquiv (m := 6) (n := 1024)).sum_comp f]
  refine Finset.sum_congr rfl fun p _ => congrArg f (Fin.ext ?_)
  simp only [finProdFinEquiv_apply_val]
  omega

theorem zero_word : (FloatOps.sitofp FTy.bf16 0#32 : Ideal .bf16) = (0 : EReal) := by
  show (((0#32 : BitVec 32).toInt : ℝ) : EReal) = 0
  simp

/-- The activation the way the call reads it: its 5632 columns in eight parts, each padded to 768. -/
def CASTX (a : FVec Ideal S2048x5632 .f32) : FVec Ideal S2048x6144 .bf16 :=
  shapeCast S2048x6144 (pad S2048x8x768 ![0, 0, 0] ![0, 0, 64] ![0, 0, 0]
    (shapeCast S2048x8x704 (truncf .bf16 a bitsLt_bf16_f32) shapeCasts_S2048x5632_S2048x8x704)
    (sitofp .bf16 (constantI S_ 32 0#32)) pads_S2048x8x704_S2048x8x768_000_000_0640 h_S_) shapeCasts_S2048x8x768_S2048x6144

/-- The down weight the way the call reads it: its rows padded likewise. -/
def CASTW (a : FVec Ideal S5632x2048 .f32) : FVec Ideal S1x1x6144x2048 .bf16 :=
  shapeCast S1x1x6144x2048 (pad S8x768x2048 ![0, 0, 0] ![0, 64, 0] ![0, 0, 0]
    (shapeCast S8x704x2048 (truncf .bf16 a bitsLt_bf16_f32) shapeCasts_S5632x2048_S8x704x2048)
    (sitofp .bf16 (constantI S_ 32 0#32)) pads_S8x704x2048_S8x768x2048_000_0640_000 h_S_) shapeCasts_S8x768x2048_S1x1x6144x2048

theorem CASTX_apply (a : FVec Ideal S2048x5632 .f32) (k : Fin 2048) (j : Fin 6144) :
    CASTX a (ix2 k j) = if h : j.val % 768 < 704 then a (ix2 k ⟨j.val / 768 * 704 + j.val % 768, by omega⟩) else 0 := by
  have hj : j.val / 768 < 8 := by omega
  pointwise [CASTX, zero_word]
  by_cases h : j.val % 768 < 704
  · rw [dif_pos ⟨hj, h⟩, dif_pos h]
  · rw [dif_neg (fun e => h e.2), dif_neg h]

theorem CASTW_apply (a : FVec Ideal S5632x2048 .f32) (j : Fin 6144) (k : Fin 2048) :
    CASTW a (ix4 0 0 j k) = if h : j.val % 768 < 704 then a (ix2 ⟨j.val / 768 * 704 + j.val % 768, by omega⟩ k) else 0 := by
  have hj : j.val / 768 < 8 := by omega
  pointwise [CASTW, zero_word]
  by_cases h : j.val % 768 < 704
  · rw [dif_pos ⟨hj, h⟩, dif_pos h]
  · rw [dif_neg (fun e => h e.2), dif_neg h]

/-- The product by its steps is the product. -/
theorem product (a : FVec Ideal S2048x5632 .f32) (b : FVec Ideal S5632x2048 .f32) (r q : Fin 2048) :
    ∑ s : Fin 6, PART (CASTX a) (CASTW b) r q s = ∑ k : Fin 5632, a (ix2 r k) * b (ix2 k q) := by
  rw [← Cert.FFN.sum_padded, sum_steps]
  refine Finset.sum_congr rfl fun s _ => ?_
  unfold PART
  refine Finset.sum_congr rfl fun k _ => ?_
  rw [CASTX_apply, CASTW_apply]
  by_cases h : (s.val * 1024 + k.val) % 768 < 704
  · rw [dif_pos h, dif_pos h, dif_pos h]
  · rw [dif_neg h, dif_neg h, dif_neg h, zero_mul]

variable (m : (ℓ : Loc nD τ sig) → Buf (Elt Ideal) ℓ) (ρ : Dev nD → PrngReg) (c : Dev nD)

/-- The arguments. -/
abbrev a0 : FVec Ideal S2048x5632 .f32 := m ((c : Thread nD τ).loc main_arg0)
abbrev a1 : FVec Ideal S5632x2048 .f32 := m ((c : Thread nD τ).loc main_arg1)
abbrev a2 : FVec Ideal S2048x2048 .f32 := m ((c : Thread nD τ).loc main_arg2)
abbrev a3 : FVec Ideal S1x2048 .f32 := m ((c : Thread nD τ).loc main_arg3)

theorem V_a : V m c main_v3 = CASTX (a0 m c) := by
  simp only [V, hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp <;> rfl

theorem V_w : V m c main_v7 = CASTW (a1 m c) := by
  simp only [V, hostOps0, hostOps0_1, hostOps0_2, hostOps0_3, hostOps0_4, List.flatten_cons, List.flatten_nil, List.append_nil, List.cons_append, List.nil_append, TRef.binary, TRef.nullary, TRef.unary, TRef.toBuf, TRef.ofBuf, cast_eq]
  after_results_simp <;> rfl

/-- The sum with the residual, over the arguments. -/
def SUM (a : FVec Ideal S2048x5632 .f32) (b : FVec Ideal S5632x2048 .f32) (h : FVec Ideal S2048x2048 .f32) (r q : Fin 2048) : EReal :=
  h (ix2 r q) + ∑ k : Fin 5632, a (ix2 r k) * b (ix2 k q)

theorem HSUM_eq (r q : Fin 2048) : HSUM (V m c main_v3) (V m c main_v7) (V m c main_arg2) (ix2 r q) = SUM (a0 m c) (a1 m c) (a2 m c) r q := by
  rw [V_a, V_w, V_main_arg2]
  unfold HSUM SUM
  rw [add_comm]
  exact congrArg (a2 m c (ix2 r q) + ·) (product (a0 m c) (a1 m c) r q)

theorem out4 : (dats m 0 c).arrAt 4 cfg0.N = fun j : S2048x2048.Idx => SUM (a0 m c) (a1 m c) (a2 m c) (j 0) (j 1) := by
  rw [final0_4]
  funext j
  obtain ⟨r, q, rfl⟩ : ∃ (r q : Fin 2048), j = ix2 r q := ⟨_, _, eq_ix2 j⟩
  exact HSUM_eq m c r q

theorem out5 : (dats m 0 c).arrAt 5 cfg0.N = fun j : S2048x2048.Idx => RMS (fun k => SUM (a0 m c) (a1 m c) (a2 m c) (j 0) k) (a3 m c (ix2 0 (j 1))) (j 1) := by
  rw [final0_5]
  funext j
  obtain ⟨r, q, rfl⟩ : ∃ (r q : Fin 2048), j = ix2 r q := ⟨_, _, eq_ix2 j⟩
  have e : (fun k => HSUM (V m c main_v3) (V m c main_v7) (V m c main_arg2) (ix2 r k)) = fun k => SUM (a0 m c) (a1 m c) (a2 m c) r k := funext fun k => HSUM_eq m c r k
  have g : V m c main_arg3 (ix2 0 q) = a3 m c (ix2 0 q) := by rw [V_main_arg3]
  exact (congrArg (fun f => RMS f (V m c main_arg3 (ix2 0 q)) q) e).trans (congrArg (fun v => RMS (fun k => SUM (a0 m c) (a1 m c) (a2 m c) r k) v q) g)

theorem run : θ_run defs (onTc (τ := τ) (main (F := Ideal))) ⟨m, fun _ => 0, ρ⟩ (fun r => ∀ c : Dev nD,
      r.2.mem ((c.tc : Thread nD τ).loc main_v8_0) = (dats m 0 c).arrAt 4 cfg0.N
      ∧ r.2.mem ((c.tc : Thread nD τ).loc main_v8_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨Pipeline.FramePost.out_eq h.2 c 4, Pipeline.FramePost.out_eq h.2 c 5, h.1 c⟩) (θ_run_and (unchanged m ρ) (run_main m ρ))

end Cert.Kernel10Ideal.NRM

end
-- ==== Proof.NRM.DownReference.lean ====
module

public import proofs.«01_k».proof.Proof.Gen.Reference10Ideal.Run
public import Idealize.ShloMosaic.Lib.Pointwise

/-! The reference's results, element by element over the arguments. -/

@[expose] public section

set_option maxRecDepth 16384

noncomputable section

namespace Cert.Reference10Ideal.NRM

open Idealize.ShloMosaic Idealize.ShloMosaic.TcCoe Idealize.SL.Sem
open Cert.Reference10Ideal Cert.Reference10Ideal.Gen

variable (A0 : FVec Ideal S2048x5632 .f32) (A1 : FVec Ideal S5632x2048 .f32) (A2 : FVec Ideal S2048x2048 .f32) (A3 : FVec Ideal S1x2048 .f32)

/-- The product plus the residual. -/
def T_h : FVec Ideal S2048x2048 .f32 := addf A2 (Host.dotGeneral dot_S2048x5632_S5632x2048_S2048x2048_1_0_0_1_n_n none A0 A1)

/-- The normed sum. -/
def T_n : FVec Ideal S2048x2048 .bf16 :=
  truncf .bf16 (mulf (mulf (T_h A0 A1 A2) (broadcastInDim S2048x2048 ![0, 1] bcast_S2048x1_S2048x2048_0_1 (Host.rsqrt (addf (Host.divf (broadcastInDim S2048x1 ![0] bcast_S2048_S2048x1_0 (Host.reduceAdd (mulf (T_h A0 A1 A2) (T_h A0 A1 A2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 (shapeCast _ A3 shapeCasts_S1x2048_S2048)))) bitsLt_bf16_f32

/-- One element of the sum. -/
def SUM (r q : Fin 2048) : EReal := A2 (ix2 r q) + ∑ k : Fin 5632, A0 (ix2 r k) * A1 (ix2 k q)

/-- A row divided by its root mean square, times the norm's weight. -/
def RMS (f : Fin 2048 → EReal) (g : EReal) (q : Fin 2048) : EReal :=
  f q * Ideal.rsqrt (Ideal.div (∑ k, f k * f k) (Ideal.ofBits .f32 0x45000000#32) + Ideal.ofBits .f32 0x358637BD#32) * g

theorem T_h_apply (r q : Fin 2048) : T_h A0 A1 A2 (ix2 r q) = SUM A0 A1 A2 r q := by
  pointwise [T_h, SUM]

theorem T_h_eq : T_h A0 A1 A2 = fun j : S2048x2048.Idx => SUM A0 A1 A2 (j 0) (j 1) := by
  funext j
  obtain ⟨r, q, rfl⟩ : ∃ (r q : Fin 2048), j = ix2 r q := ⟨_, _, eq_ix2 j⟩
  exact T_h_apply A0 A1 A2 r q

theorem T_n_eq : T_n A0 A1 A2 A3 = fun j : S2048x2048.Idx => RMS (fun k => SUM A0 A1 A2 (j 0) k) (A3 (ix2 0 (j 1))) (j 1) := by
  funext j
  obtain ⟨r, q, rfl⟩ : ∃ (r q : Fin 2048), j = ix2 r q := ⟨_, _, eq_ix2 j⟩
  pointwise [T_n, RMS, T_h_apply, Ideal.ofBits_zero_f32]

end Cert.Reference10Ideal.NRM

end
-- ==== Proof.NRM.DownClaims.lean ====
module

public import proofs.«01_k».proof.Defs
public import proofs.«01_k».proof.Proof.NRM.DownKernel
public import proofs.«01_k».proof.Proof.NRM.DownReference
public import proofs.«01_k».proof.Proof.Gen.Kernel10.Frame
public import Idealize.ShloMosaic.Lib.Claim

/-! The frames and the equality of the two results. -/

@[expose] public section

set_option maxRecDepth 16384

noncomputable section

namespace Cert.NRM.Down

open Idealize.ShloMosaic Idealize.ShloMosaic.TcCoe Idealize.SL.Sem

theorem frame_kernel : Cert.quiescent_Kernel10 := fun m ρ _ => Cert.Kernel10.Gen.frame m ρ
theorem frame_ideal : Cert.quiescent_Kernel10Ideal := fun m ρ _ => Cert.Kernel10Ideal.Gen.frame m ρ

theorem frame_ref : Cert.quiescent_Reference10Ideal := fun m ρ _ =>
  (θ_run Cert.Reference10Ideal.defs _ _).mono
    (fun r h => ⟨fun c => (h c).2.2, Idealize.ShloMosaic.sem_eq_zero_of_no_sems (by decide) r.2⟩)
    (Cert.Reference10Ideal.Value.run (F := Ideal) m ρ)

theorem algebraic : Cert.algebraic_Kernel10Ideal_Reference10Ideal := by
  intro m g m' g' _ hagree
  refine ⟨fun c => Cert.Reference10Ideal.NRM.T_h (Cert.Kernel10Ideal.NRM.a0 m c) (Cert.Kernel10Ideal.NRM.a1 m c) (Cert.Kernel10Ideal.NRM.a2 m c), fun c => Cert.Reference10Ideal.NRM.T_n (Cert.Kernel10Ideal.NRM.a0 m c) (Cert.Kernel10Ideal.NRM.a1 m c) (Cert.Kernel10Ideal.NRM.a2 m c) (Cert.Kernel10Ideal.NRM.a3 m c), ?_, ?_⟩
  · refine (θ_run Cert.Kernel10Ideal.defs _ _).mono (fun r h c => ?_) (Cert.Kernel10Ideal.NRM.run m g)
    obtain ⟨e0, e1, hargs⟩ := h c
    exact ⟨e0.trans ((Cert.Kernel10Ideal.NRM.out4 m c).trans (Cert.Reference10Ideal.NRM.T_h_eq _ _ _).symm), e1.trans ((Cert.Kernel10Ideal.NRM.out5 m c).trans (Cert.Reference10Ideal.NRM.T_n_eq _ _ _ _).symm), hargs⟩
  · refine (θ_run Cert.Reference10Ideal.defs _ _).mono (fun r h c => ?_) (Cert.Reference10Ideal.Value.run (F := Ideal) m' g')
    obtain ⟨e0, e1, hargs⟩ := h c
    obtain ⟨g0, g1, g2, g3⟩ := hagree c
    rw [g0, g1, g2] at e0
    rw [g0, g1, g2, g3] at e1
    exact ⟨e0, e1, hargs⟩

end Cert.NRM.Down

end
-- ==== Proof.ADM.Kernel.lean ====
module

public import proofs.«01_k».proof.Proof.Gen.Kernel11Ideal.Frame
public import Idealize.ShloMosaic.Lib.Pipeline.ValueKit
public import Idealize.ShloMosaic.Lib.Pointwise
public import Idealize.ShloMosaic.Lib.Claim

/-! The optimiser step of the small weights, element by element over the arguments. -/

@[expose] public section

set_option maxRecDepth 16384

noncomputable section

namespace Cert.Kernel11Ideal.ADM

open Idealize.ShloMosaic Idealize.ShloMosaic.TcCoe Idealize.SL.Sem
open Idealize.ShloMosaic.Pipeline (Dat)
open Cert.Kernel11Ideal Cert.Kernel11Ideal.Gen

/-- The gradient: the sum of the eight devices' parts. -/
def G (p : FVec Ideal S8x25088 .f32) (q : Fin 25088) : EReal := ∑ s : Fin 8, p (ix2 s q)

/-- The new first moment. -/
def MNEW (μ g : EReal) : EReal := Ideal.ofBits .f32 0x3F666666#32 * μ + Ideal.ofBits .f32 0x3DCCCCCD#32 * g

/-- The new second moment. -/
def VNEW (ν g : EReal) : EReal := Ideal.ofBits .f32 0x3F7FBE77#32 * ν + Ideal.ofBits .f32 0x3A83126F#32 * (g * g)

/-- The step from a weight and its two new moments. -/
def STEP (w μ ν : EReal) : EReal :=
  Ideal.ofBits .f32 0xBA83126F#32 * (Ideal.div (Ideal.div μ (Ideal.ofBits .f32 0x3F26BD02#32)) (Ideal.sqrt (Ideal.div ν (Ideal.ofBits .f32 0x3C231ACC#32)) + Ideal.ofBits .f32 0x322BCC77#32) + Ideal.ofBits .f32 0x3C23D70A#32 * w)

theorem pay2_apply (g0 g1 g2 g3 g4 g5 g6 g7 : FVec Ideal S1x25088 .f32) (j : S1x25088.Idx) :
    k0_pay2 (F := Ideal) g0 g1 g2 g3 g4 g5 g6 g7 j = g0 j + g1 j + g2 j + g3 j + g4 j + g5 j + g6 j + g7 j := by
  pointwise [k0_pay2]

theorem pay3_apply (g0 g1 g2 g3 g4 g5 g6 g7 : FVec Ideal S1x25088 .f32) (μ : FVec Ideal S1x25088 .f32) (j : S1x25088.Idx) :
    k0_pay3 (F := Ideal) g0 g1 g2 g3 g4 g5 g6 g7 μ j = MNEW (μ j) (g0 j + g1 j + g2 j + g3 j + g4 j + g5 j + g6 j + g7 j) := by
  pointwise [k0_pay3, k0_pay2, MNEW]

theorem pay4_apply (g0 g1 g2 g3 g4 g5 g6 g7 : FVec Ideal S1x25088 .f32) (ν : FVec Ideal S1x25088 .f32) (j : S1x25088.Idx) :
    k0_pay4 (F := Ideal) g0 g1 g2 g3 g4 g5 g6 g7 ν j = VNEW (ν j) (g0 j + g1 j + g2 j + g3 j + g4 j + g5 j + g6 j + g7 j) := by
  pointwise [k0_pay4, k0_pay2, VNEW]

theorem pay1_apply (w ν : FVec Ideal S1x25088 .f32) (g0 g1 g2 g3 g4 g5 g6 g7 : FVec Ideal S1x25088 .f32) (μ : FVec Ideal S1x25088 .f32) (j : S1x25088.Idx) :
    k0_pay1 (F := Ideal) w ν (k0_pay5 (F := Ideal) g0 g1 g2 g3 g4 g5 g6 g7 μ) (k0_pay6 (F := Ideal)) j
      = STEP (w j) (MNEW (μ j) (g0 j + g1 j + g2 j + g3 j + g4 j + g5 j + g6 j + g7 j)) (ν j) := by
  pointwise [k0_pay1, k0_pay5, k0_pay6, k0_pay3, k0_pay2, STEP, MNEW]

variable (m : (ℓ : Loc nD τ sig) → Buf (Elt Ideal) ℓ) (ρ : Dev nD → PrngReg)

/-- The arguments: the weights, their two moments, and the devices' parts of the gradient. -/
abbrev a0 (c : Dev nD) : FVec Ideal S1x25088 .f32 := m ((c : Thread nD τ).loc main_arg0)
abbrev a1 (c : Dev nD) : FVec Ideal S1x25088 .f32 := m ((c : Thread nD τ).loc main_arg1)
abbrev a2 (c : Dev nD) : FVec Ideal S1x25088 .f32 := m ((c : Thread nD τ).loc main_arg2)
abbrev a3 (c : Dev nD) : FVec Ideal S8x25088 .f32 := m ((c : Thread nD τ).loc main_arg3)

theorem idx0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem blk0 (c : Dev nD) (t : Fin cfg0.N) : iblk m c 0 t = a0 m c := by
  funext j
  unfold iblk
  refine congrArg (a0 m c) ?_
  blk_point [idx0 t]
theorem blk1 (c : Dev nD) (t : Fin cfg0.N) : iblk m c 1 t = a1 m c := by
  funext j
  unfold iblk
  refine congrArg (a1 m c) ?_
  blk_point [idx0 t]
theorem blk2 (c : Dev nD) (t : Fin cfg0.N) : iblk m c 2 t = a2 m c := by
  funext j
  unfold iblk
  refine congrArg (a2 m c) ?_
  blk_point [idx0 t]
theorem blk3 (c : Dev nD) (t : Fin cfg0.N) : iblk m c 3 t = a3 m c := by
  funext j
  unfold iblk
  refine congrArg (a3 m c) ?_
  blk_point [idx0 t]

/-- Reading one of the eight rows. -/
theorem row_apply (x : Vec Ideal S8x25088 .f32) (s : Fin 8) (inb : ∀ a, ![s.val, 0] a + S1x25088.size a ≤ S8x25088.size a) (j : S1x25088.Idx) :
    View.ld (Val := Elt Ideal) x (Rect.unit (s := S8x25088) ![s.val, 0] S1x25088.size inb) j = x (ix2 s (j 1)) := by
  refine congrArg x (funext fun a => Fin.ext ?_)
  have h0 : (j 0).val < 1 := (j 0).isLt
  fin_cases a
  · refine (Rect.idx_unit_val _ _ _ _ _).trans ?_
    show s.val + (j 0).val = s.val
    omega
  · refine (Rect.idx_unit_val _ _ _ _ _).trans ?_
    show 0 + (j 1).val = (j 1).val
    omega

theorem rows_sum (x : Vec Ideal S8x25088 .f32) (j : S1x25088.Idx) :
    View.ld (Val := Elt Ideal) x r0_0 j + View.ld (Val := Elt Ideal) x r0_1 j + View.ld (Val := Elt Ideal) x r0_2 j + View.ld (Val := Elt Ideal) x r0_3 j
      + View.ld (Val := Elt Ideal) x r0_4 j + View.ld (Val := Elt Ideal) x r0_5 j + View.ld (Val := Elt Ideal) x r0_6 j + View.ld (Val := Elt Ideal) x r0_7 j = G x (j 1) := by
  unfold G
  rw [Fin.sum_univ_eight]
  exact congrArg₂ (· + ·) (congrArg₂ (· + ·) (congrArg₂ (· + ·) (congrArg₂ (· + ·) (congrArg₂ (· + ·) (congrArg₂ (· + ·) (congrArg₂ (· + ·)
    (row_apply x 0 _ j) (row_apply x 1 _ j)) (row_apply x 2 _ j)) (row_apply x 3 _ j)) (row_apply x 4 _ j)) (row_apply x 5 _ j)) (row_apply x 6 _ j)) (row_apply x 7 _ j)

/-- The gradient, the two moments and the step at an index. -/
def OG (p : FVec Ideal S8x25088 .f32) (j : S1x25088.Idx) : EReal := G p (j 1)
def OM (μ : FVec Ideal S1x25088 .f32) (p : FVec Ideal S8x25088 .f32) (j : S1x25088.Idx) : EReal := MNEW (μ j) (G p (j 1))
def OV (ν : FVec Ideal S1x25088 .f32) (p : FVec Ideal S8x25088 .f32) (j : S1x25088.Idx) : EReal := VNEW (ν j) (G p (j 1))
def OD (w μ ν : FVec Ideal S1x25088 .f32) (p : FVec Ideal S8x25088 .f32) (j : S1x25088.Idx) : EReal := STEP (w j) (OM μ p j) (OV ν p j)

theorem val7 (w μ ν : FVec Ideal S1x25088 .f32) (p : FVec Ideal S8x25088 .f32) (j : S1x25088.Idx) : k0_pay7 (F := Ideal) w μ ν p j = OV ν p j := by
  unfold k0_pay7 r0_8
  rw [View.ld_unit_lit, pay4_apply, rows_sum]
  · rfl
  · intro a
    fin_cases a <;> rfl

theorem val4 (p : FVec Ideal S8x25088 .f32) (j : S1x25088.Idx) :
    k0_pay2 (F := Ideal) (View.ld p r0_0) (View.ld p r0_1) (View.ld p r0_2) (View.ld p r0_3) (View.ld p r0_4) (View.ld p r0_5) (View.ld p r0_6) (View.ld p r0_7) j = OG p j :=
  (pay2_apply _ _ _ _ _ _ _ _ j).trans (rows_sum p j)

theorem val6 (μ : FVec Ideal S1x25088 .f32) (p : FVec Ideal S8x25088 .f32) (j : S1x25088.Idx) :
    k0_pay3 (F := Ideal) (View.ld p r0_0) (View.ld p r0_1) (View.ld p r0_2) (View.ld p r0_3) (View.ld p r0_4) (View.ld p r0_5) (View.ld p r0_6) (View.ld p r0_7) μ j = OM μ p j :=
  (pay3_apply _ _ _ _ _ _ _ _ μ j).trans (congrArg (MNEW (μ j)) (rows_sum p j))

theorem val5 (w μ ν : FVec Ideal S1x25088 .f32) (p : FVec Ideal S8x25088 .f32) (j : S1x25088.Idx) :
    k0_pay1 (F := Ideal) w (k0_pay7 (F := Ideal) w μ ν p)
      (k0_pay5 (F := Ideal) (View.ld p r0_0) (View.ld p r0_1) (View.ld p r0_2) (View.ld p r0_3) (View.ld p r0_4) (View.ld p r0_5) (View.ld p r0_6) (View.ld p r0_7) μ) (k0_pay6 (F := Ideal)) j = OD w μ ν p j := by
  refine (pay1_apply w _ _ _ _ _ _ _ _ _ μ j).trans ?_
  exact congrArg₂ (STEP (w j)) (congrArg (MNEW (μ j)) (rows_sum p j)) (val7 w μ ν p j)

theorem final0_4 (c : Dev nD) : (dats m 0 c).arrAt 4 cfg0.N = OG (a3 m c) := by
  refine (dats m 0 c).arrAt_eq_of_covers 4 _ (by decide +kernel) fun t hf y => ?_
  blk_simp
  rw [after0_4, blk0, blk1, blk2, blk3]; frame_out
  refine (val4 (a3 m c) y).trans (congrArg (OG (a3 m c)) ?_)
  blk_point [idx0 t]

theorem final0_5 (c : Dev nD) : (dats m 0 c).arrAt 5 cfg0.N = OD (a0 m c) (a1 m c) (a2 m c) (a3 m c) := by
  refine (dats m 0 c).arrAt_eq_of_covers 5 _ (by decide +kernel) fun t hf y => ?_
  blk_simp
  rw [after0_5, blk0, blk1, blk2, blk3]; frame_out
  refine (val5 (a0 m c) (a1 m c) (a2 m c) (a3 m c) y).trans (congrArg (OD (a0 m c) (a1 m c) (a2 m c) (a3 m c)) ?_)
  blk_point [idx0 t]

theorem final0_6 (c : Dev nD) : (dats m 0 c).arrAt 6 cfg0.N = OM (a1 m c) (a3 m c) := by
  refine (dats m 0 c).arrAt_eq_of_covers 6 _ (by decide +kernel) fun t hf y => ?_
  blk_simp
  rw [after0_6, blk0, blk1, blk2, blk3]; frame_out
  refine (val6 (a1 m c) (a3 m c) y).trans (congrArg (OM (a1 m c) (a3 m c)) ?_)
  blk_point [idx0 t]

theorem final0_7 (c : Dev nD) : (dats m 0 c).arrAt 7 cfg0.N = OV (a2 m c) (a3 m c) := by
  refine (dats m 0 c).arrAt_eq_of_covers 7 _ (by decide +kernel) fun t hf y => ?_
  blk_simp
  rw [after0_7, blk0, blk1, blk2, blk3]; frame_out
  refine (val7 (a0 m c) (a1 m c) (a2 m c) (a3 m c) y).trans (congrArg (OV (a2 m c) (a3 m c)) ?_)
  blk_point [idx0 t]

theorem run : θ_run defs (onTc (τ := τ) (main (F := Ideal))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_v0_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨Pipeline.FramePost.out_eq h.2 c 4, Pipeline.FramePost.out_eq h.2 c 5, Pipeline.FramePost.out_eq h.2 c 6, Pipeline.FramePost.out_eq h.2 c 7, h.1 c⟩) (θ_run_and (unchanged m ρ) (run_main m ρ))

end Cert.Kernel11Ideal.ADM

end
-- ==== Proof.ADM.Reference.lean ====
module

public import proofs.«01_k».proof.Proof.Gen.Reference11Ideal.Run
public import Idealize.ShloMosaic.Lib.Pointwise

/-! The reference's results, element by element over the arguments. -/

@[expose] public section

set_option maxRecDepth 16384

noncomputable section

namespace Cert.Reference11Ideal.ADM

open Idealize.ShloMosaic Idealize.ShloMosaic.TcCoe Idealize.SL.Sem
open Cert.Reference11Ideal Cert.Reference11Ideal.Gen

variable (A0 A1 A2 : FVec Ideal S1x25088 .f32) (A3 : FVec Ideal S8x25088 .f32)

/-- The summed gradient. -/
def T_g : FVec Ideal S1x25088 .f32 :=
  broadcastInDim S1x25088 ![1] bcast_S25088_S1x25088_1 (Host.reduceAdd A3 (constant S_ .f32 0x00000000#32) reducesTo_S8x25088_S25088_d0 h_S_)

/-- The first moment. -/
def T_m : FVec Ideal S1x25088 .f32 := addf (mulf (broadcastInDim S1x25088 ![] bcast_S_S1x25088 (constant S_ .f32 0x3F666666#32)) A1) (mulf (broadcastInDim S1x25088 ![] bcast_S_S1x25088 (constant S_ .f32 0x3DCCCCCD#32)) (T_g A3))

/-- The second moment. -/
def T_v : FVec Ideal S1x25088 .f32 := addf (mulf (broadcastInDim S1x25088 ![] bcast_S_S1x25088 (constant S_ .f32 0x3F7FBE77#32)) A2) (mulf (broadcastInDim S1x25088 ![] bcast_S_S1x25088 (constant S_ .f32 0x3A83126F#32)) (mulf (T_g A3) (T_g A3)))

/-- The step. -/
def T_d : FVec Ideal S1x25088 .f32 :=
  mulf (broadcastInDim S1x25088 ![] bcast_S_S1x25088 (constant S_ .f32 0xBA83126F#32)) (addf (Host.divf (Host.divf (T_m A1 A3) (broadcastInDim S1x25088 ![] bcast_S_S1x25088 (constant S_ .f32 0x3F26BD02#32))) (addf (Host.sqrt (Host.divf (T_v A2 A3) (broadcastInDim S1x25088 ![] bcast_S_S1x25088 (constant S_ .f32 0x3C231ACC#32)))) (broadcastInDim S1x25088 ![] bcast_S_S1x25088 (constant S_ .f32 0x322BCC77#32)))) (mulf (broadcastInDim S1x25088 ![] bcast_S_S1x25088 (constant S_ .f32 0x3C23D70A#32)) A0))

/-- The gradient: the sum of the eight devices' parts. -/
def G (p : FVec Ideal S8x25088 .f32) (q : Fin 25088) : EReal := ∑ s : Fin 8, p (ix2 s q)

/-- The new first moment. -/
def MNEW (μ g : EReal) : EReal := Ideal.ofBits .f32 0x3F666666#32 * μ + Ideal.ofBits .f32 0x3DCCCCCD#32 * g

/-- The new second moment. -/
def VNEW (ν g : EReal) : EReal := Ideal.ofBits .f32 0x3F7FBE77#32 * ν + Ideal.ofBits .f32 0x3A83126F#32 * (g * g)

/-- The step from a weight and its two new moments. -/
def STEP (w μ ν : EReal) : EReal :=
  Ideal.ofBits .f32 0xBA83126F#32 * (Ideal.div (Ideal.div μ (Ideal.ofBits .f32 0x3F26BD02#32)) (Ideal.sqrt (Ideal.div ν (Ideal.ofBits .f32 0x3C231ACC#32)) + Ideal.ofBits .f32 0x322BCC77#32) + Ideal.ofBits .f32 0x3C23D70A#32 * w)

theorem T_g_apply (j : S1x25088.Idx) : T_g A3 j = G A3 (j 1) := by
  obtain ⟨r, q, rfl⟩ : ∃ (r : Fin 1) (q : Fin 25088), j = ix2 r q := ⟨_, _, eq_ix2 j⟩
  pointwise [T_g, G, Ideal.ofBits_zero_f32]

theorem T_m_apply (j : S1x25088.Idx) : T_m A1 A3 j = MNEW (A1 j) (G A3 (j 1)) := by
  rw [← T_g_apply]
  pointwise [T_m, MNEW]

theorem T_v_apply (j : S1x25088.Idx) : T_v A2 A3 j = VNEW (A2 j) (G A3 (j 1)) := by
  rw [← T_g_apply]
  pointwise [T_v, VNEW]

theorem T_d_apply (j : S1x25088.Idx) : T_d A0 A1 A2 A3 j = STEP (A0 j) (MNEW (A1 j) (G A3 (j 1))) (VNEW (A2 j) (G A3 (j 1))) := by
  rw [← T_m_apply, ← T_v_apply]
  pointwise [T_d, STEP]

end Cert.Reference11Ideal.ADM

end
-- ==== Proof.ADM.Claims.lean ====
module

public import proofs.«01_k».proof.Defs
public import proofs.«01_k».proof.Proof.ADM.Kernel
public import proofs.«01_k».proof.Proof.ADM.Reference
public import proofs.«01_k».proof.Proof.Gen.Kernel11.Frame
public import Idealize.ShloMosaic.Lib.Claim

/-! The frames and the equality of the four results. -/

@[expose] public section

set_option maxRecDepth 16384

noncomputable section

namespace Cert.ADM

open Idealize.ShloMosaic Idealize.ShloMosaic.TcCoe Idealize.SL.Sem

theorem frame_kernel : Cert.quiescent_Kernel11 := fun m ρ _ => Cert.Kernel11.Gen.frame m ρ
theorem frame_ideal : Cert.quiescent_Kernel11Ideal := fun m ρ _ => Cert.Kernel11Ideal.Gen.frame m ρ

theorem frame_ref : Cert.quiescent_Reference11Ideal := fun m ρ _ =>
  (θ_run Cert.Reference11Ideal.defs _ _).mono
    (fun r h => ⟨fun c => (h c).2.2.2.2, Idealize.ShloMosaic.sem_eq_zero_of_no_sems (by decide) r.2⟩)
    (Cert.Reference11Ideal.Value.run (F := Ideal) m ρ)

theorem algebraic : Cert.algebraic_Kernel11Ideal_Reference11Ideal := by
  intro m g m' g' _ hagree
  refine ⟨fun c => Cert.Reference11Ideal.ADM.T_g (Cert.Kernel11Ideal.ADM.a3 m c), fun c => Cert.Reference11Ideal.ADM.T_d (Cert.Kernel11Ideal.ADM.a0 m c) (Cert.Kernel11Ideal.ADM.a1 m c) (Cert.Kernel11Ideal.ADM.a2 m c) (Cert.Kernel11Ideal.ADM.a3 m c),
    fun c => Cert.Reference11Ideal.ADM.T_m (Cert.Kernel11Ideal.ADM.a1 m c) (Cert.Kernel11Ideal.ADM.a3 m c), fun c => Cert.Reference11Ideal.ADM.T_v (Cert.Kernel11Ideal.ADM.a2 m c) (Cert.Kernel11Ideal.ADM.a3 m c), ?_, ?_⟩
  · refine (θ_run Cert.Kernel11Ideal.defs _ _).mono (fun r h c => ?_) (Cert.Kernel11Ideal.ADM.run m g)
    obtain ⟨e0, e1, e2, e3, hargs⟩ := h c
    exact ⟨e0.trans ((Cert.Kernel11Ideal.ADM.final0_4 m c).trans (funext fun j => (Cert.Reference11Ideal.ADM.T_g_apply _ j).symm)),
      e1.trans ((Cert.Kernel11Ideal.ADM.final0_5 m c).trans (funext fun j => (Cert.Reference11Ideal.ADM.T_d_apply _ _ _ _ j).symm)),
      e2.trans ((Cert.Kernel11Ideal.ADM.final0_6 m c).trans (funext fun j => (Cert.Reference11Ideal.ADM.T_m_apply _ _ j).symm)),
      e3.trans ((Cert.Kernel11Ideal.ADM.final0_7 m c).trans (funext fun j => (Cert.Reference11Ideal.ADM.T_v_apply _ _ j).symm)), hargs⟩
  · refine (θ_run Cert.Reference11Ideal.defs _ _).mono (fun r h c => ?_) (Cert.Reference11Ideal.Value.run (F := Ideal) m' g')
    obtain ⟨e0, e1, e2, e3, hargs⟩ := h c
    obtain ⟨g0, g1, g2, g3⟩ := hagree c
    rw [g3] at e0
    rw [g0, g1, g2, g3] at e1
    rw [g1, g3] at e2
    rw [g2, g3] at e3
    exact ⟨e0, e1, e2, e3, hargs⟩

end Cert.ADM

end
-- ==== Proof.GRD.Scalar.lean ====
module

public import Idealize.ShloMosaic.Lib.Pointwise

/-! The gradient through a norm, spelled two ways. -/

@[expose] public section

set_option maxRecDepth 16384

noncomputable section

namespace Cert.GRD

open Idealize.ShloMosaic

/-- The mean square of a row, plus the small constant. -/
def MS (f : Fin 2048 → EReal) : EReal := Ideal.div (∑ k, f k * f k) (Ideal.ofBits .f32 0x45000000#32) + Ideal.ofBits .f32 0x358637BD#32

/-- One over its root. -/
def RSQ (f : Fin 2048 → EReal) : EReal := Ideal.rsqrt (MS f)

/-- The gradient of a row through its norm, the common factor taken out. -/
def GRAD (f w d : Fin 2048 → EReal) (q : Fin 2048) : EReal :=
  RSQ f * (d q * w q - f q * (RSQ f * RSQ f) * Ideal.div (∑ k, d k * w k * f k) (Ideal.ofBits .f32 0x45000000#32))

/-- The share of every element in the mean square, as the chain rule has it. -/
def COEF (f w d : Fin 2048 → EReal) : EReal :=
  Ideal.div ((∑ k, f k * (d k * w k)) * (Ideal.ofBits .f32 0xBF000000#32 * Ideal.div (RSQ f) (MS f))) (Ideal.ofBits .f32 0x45000000#32)

/-- The gradient of a row through its norm, as the chain rule has it. -/
def CHAIN (f w d : Fin 2048 → EReal) (q : Fin 2048) : EReal :=
  d q * w q * RSQ f + f q * COEF f w d + COEF f w d * f q

theorem n_word : Ideal.ofBits .f32 0x45000000#32 = ((2048 : ℝ) : EReal) := by
  simp [Ideal.ofBits, Ideal.ieee, -EReal.coe_mul]; norm_num

theorem half_word : Ideal.ofBits .f32 0xBF000000#32 = ((-(1 / 2) : ℝ) : EReal) := by
  simp [Ideal.ofBits, Ideal.ieee, -EReal.coe_mul]; norm_num

theorem eps_word : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

theorem square_nonneg (x : EReal) : 0 ≤ x * x := by
  rcases le_total 0 x with h | h
  · exact mul_nonneg h h
  · have e := mul_nonneg (EReal.neg_nonneg.mpr h) (EReal.neg_nonneg.mpr h)
    rwa [neg_mul_neg] at e

theorem twice (y : EReal) : y + y = ((2 : ℝ) : EReal) * y := by
  induction y using EReal.rec with
  | bot => rw [EReal.coe_mul_bot_of_pos (by norm_num)]; rfl
  | coe r => rw [← EReal.coe_add, ← EReal.coe_mul, two_mul]
  | top => rw [EReal.coe_mul_top_of_pos (by norm_num)]; rfl

/-- The mean square is the positive infinity, or a positive real number. -/
theorem MS_cases (f : Fin 2048 → EReal) : MS f = ⊤ ∨ ∃ s : ℝ, 0 < s ∧ MS f = (s : EReal) := by
  obtain ⟨e, he, hw⟩ := eps_word
  have h0 : (0 : EReal) ≤ ∑ k, f k * f k := Finset.sum_nonneg fun k _ => square_nonneg (f k)
  unfold MS
  rw [hw, n_word, Ideal.div_coe (by norm_num)]
  revert h0
  generalize (∑ k, f k * f k) = Q
  intro h0
  induction Q using EReal.rec with
  | bot => exact absurd h0 (by simp)
  | coe r =>
    refine Or.inr ⟨r * (1 / 2048) + e, ?_, by rw [EReal.coe_add, EReal.coe_mul]⟩
    have hr : 0 ≤ r := by exact_mod_cast h0
    positivity
  | top => exact Or.inl (by rw [EReal.top_mul_coe_of_pos (by norm_num), EReal.top_add_coe])

/-- The two spellings agree. -/
theorem GRAD_eq (f w d : Fin 2048 → EReal) (q : Fin 2048) : GRAD f w d q = CHAIN f w d q := by
  have hs : (∑ k, f k * (d k * w k)) = ∑ k, d k * w k * f k := Finset.sum_congr rfl fun k _ => mul_comm _ _
  unfold GRAD CHAIN COEF
  rw [hs]
  generalize (∑ k, d k * w k * f k) = M
  generalize d q * w q = g
  generalize f q = x
  rcases MS_cases f with h | ⟨s, hs, h⟩
  · have hr : RSQ f = 0 := by rw [RSQ, h, Ideal.rsqrt_top]
    have hd : Ideal.div (0 : EReal) ⊤ = 0 := by
      rw [Ideal.div, if_neg (by simp), zero_mul]
    have hz : Ideal.div (0 : EReal) ((2048 : ℝ) : EReal) = 0 := by
      rw [Ideal.div_coe (by norm_num), zero_mul]
    rw [hr, h, hd, n_word]
    simp only [zero_mul, mul_zero, add_zero, hz]
  · have hne : Real.sqrt s ≠ 0 := (Real.sqrt_pos.mpr hs).ne'
    have hr : RSQ f = (((Real.sqrt s)⁻¹ : ℝ) : EReal) := by
      rw [RSQ, h, Ideal.rsqrt_coe, if_neg (not_lt.mpr hs.le), if_neg hs.ne']
    have hp : 0 ≤ (Real.sqrt s)⁻¹ := inv_nonneg.mpr (Real.sqrt_nonneg s)
    have hq : (Real.sqrt s)⁻¹ * (Real.sqrt s)⁻¹ = 1 / s := by
      rw [← mul_inv, Real.mul_self_sqrt hs.le, one_div]
    rw [hr, h, n_word, half_word, Ideal.div_coe (by norm_num), Ideal.div_coe hs.ne', Ideal.div_coe (by norm_num)]
    rw [← EReal.coe_mul, hq]
    generalize (Real.sqrt s)⁻¹ = r at *
    rw [sub_eq_add_neg, EReal.left_distrib_of_nonneg_of_ne_top (by exact_mod_cast hp) (EReal.coe_ne_top r), mul_comm (r : EReal) g, add_assoc]
    refine congrArg (g * (r : EReal) + ·) ?_
    have e1 : M * (((-(1 / 2) : ℝ) : EReal) * ((r : EReal) * ((1 / s : ℝ) : EReal))) * ((1 / 2048 : ℝ) : EReal)
        = ((-(1 / 2) * (r * (1 / s)) * (1 / 2048) : ℝ) : EReal) * M := by
      rw [EReal.coe_mul, EReal.coe_mul, EReal.coe_mul]
      ac_rfl
    rw [e1, mul_comm x (_ * M), twice]
    have e2 : x * ((1 / s : ℝ) : EReal) * (M * ((1 / 2048 : ℝ) : EReal)) = ((1 / s * (1 / 2048) : ℝ) : EReal) * (M * x) := by
      rw [EReal.coe_mul]
      ac_rfl
    rw [e2, ← EReal.neg_mul, ← EReal.coe_neg, ← mul_assoc, ← EReal.coe_mul, mul_assoc _ M x, ← mul_assoc _ _ (M * x), ← EReal.coe_mul]
    refine congrArg (fun z : ℝ => (z : EReal) * (M * x)) ?_
    ring

end Cert.GRD

end
-- ==== Proof.GRD.Kernel.lean ====
module

public import proofs.«01_k».proof.Proof.Gen.Kernel12Ideal.Frame
public import proofs.«01_k».proof.Proof.GRD.Scalar
public import Idealize.ShloMosaic.Lib.Pipeline.ValueKit
public import Idealize.ShloMosaic.Lib.Pointwise
public import Idealize.ShloMosaic.Lib.Claim

/-! The gradient through the attention norm, element by element over the arguments. -/

@[expose] public section

set_option maxRecDepth 16384

noncomputable section

namespace Cert.Kernel12Ideal.GRD

open Idealize.ShloMosaic Idealize.ShloMosaic.TcCoe Idealize.SL.Sem
open Idealize.ShloMosaic.Pipeline (Dat)
open Cert.GRD
open Cert.Kernel12Ideal Cert.Kernel12Ideal.Gen

theorem pay3_apply (x : FVec Ideal S256x2048 .f32) (r : Fin 256) :
    k0_pay3 (F := Ideal) x (ix2 r 0) = RSQ fun k => x (ix2 r k) := by
  pointwise [k0_pay3, RSQ, MS, Ideal.ofBits_zero_f32]

theorem pay4_apply (x a b : FVec Ideal S256x2048 .f32) (q : Fin 2048) :
    k0_pay4 (F := Ideal) x a b (ix2 0 q) = ∑ r : Fin 256, (a (ix2 r q) + b (ix2 r q)) * x (ix2 r q) * RSQ (fun k => x (ix2 r k)) := by
  pointwise [k0_pay4, k0_pay2, pay3_apply, Ideal.ofBits_zero_f32]

theorem pay5_apply (x : FVec Ideal S256x2048 .f32) (w : FVec Ideal S1x2048 .f32) (a b h : FVec Ideal S256x2048 .f32) (r : Fin 256) (q : Fin 2048) :
    k0_pay5 (F := Ideal) x w a b h (ix2 r q)
      = h (ix2 r q) + GRAD (fun k => x (ix2 r k)) (fun k => w (ix2 0 k)) (fun k => a (ix2 r k) + b (ix2 r k)) q := by
  pointwise [k0_pay5, k0_pay2, pay3_apply, GRAD, Ideal.ofBits_zero_f32]

theorem pay1_apply (u v : FVec Ideal S1x2048 .f32) (j : S1x2048.Idx) : k0_pay1 (F := Ideal) u v j = v j + u j := by
  pointwise [k0_pay1]

variable (m : (ℓ : Loc nD τ sig) → Buf (Elt Ideal) ℓ) (ρ : Dev nD → PrngReg)

/-- The arguments: the norm's input and weight, the two gradients that reach its result, and the residual's. -/
abbrev a0 (c : Dev nD) : FVec Ideal S2048x2048 .f32 := m ((c : Thread nD τ).loc main_arg0)
abbrev a1 (c : Dev nD) : FVec Ideal S1x2048 .f32 := m ((c : Thread nD τ).loc main_arg1)
abbrev a2 (c : Dev nD) : FVec Ideal S2048x2048 .f32 := m ((c : Thread nD τ).loc main_arg2)
abbrev a3 (c : Dev nD) : FVec Ideal S2048x2048 .f32 := m ((c : Thread nD τ).loc main_arg3)
abbrev a4 (c : Dev nD) : FVec Ideal S2048x2048 .f32 := m ((c : Thread nD τ).loc main_arg4)

theorem idx0 : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] ∧ t.val < 8 :=
  (by decide +kernel : ∀ t : Fin grid0.N, _)

theorem flush6 : ∀ t : Fin cfg0.N, (cfg0.win 6).flush t = true → t.val = 7 :=
  (by decide +kernel : ∀ t : Fin grid0.N, _)

theorem lt8 (t : Fin cfg0.N) : t.val < 8 := (idx0 t).2.2.2.2.2.2.2

/-- The row that row `r` of a block is. -/
def row (t : Fin cfg0.N) (r : Fin 256) : Fin 2048 := ⟨t.val * 256 + r.val, by have := lt8 t; omega⟩

theorem blk0_point (c : Dev nD) (t : Fin cfg0.N) (r : Fin 256) (q : Fin 2048) : iblk m c 0 t (ix2 r q) = a0 m c (ix2 (row t r) q) := by
  unfold iblk
  refine congrArg (a0 m c) ?_
  blk_point [idx0 t, row]

theorem blk2_point (c : Dev nD) (t : Fin cfg0.N) (r : Fin 256) (q : Fin 2048) : iblk m c 2 t (ix2 r q) = a2 m c (ix2 (row t r) q) := by
  unfold iblk
  refine congrArg (a2 m c) ?_
  blk_point [idx0 t, row]

theorem blk3_point (c : Dev nD) (t : Fin cfg0.N) (r : Fin 256) (q : Fin 2048) : iblk m c 3 t (ix2 r q) = a3 m c (ix2 (row t r) q) := by
  unfold iblk
  refine congrArg (a3 m c) ?_
  blk_point [idx0 t, row]

theorem blk4_point (c : Dev nD) (t : Fin cfg0.N) (r : Fin 256) (q : Fin 2048) : iblk m c 4 t (ix2 r q) = a4 m c (ix2 (row t r) q) := by
  unfold iblk
  refine congrArg (a4 m c) ?_
  blk_point [idx0 t, row]

theorem blk1_point (c : Dev nD) (t : Fin cfg0.N) (q : Fin 2048) : iblk m c 1 t (ix2 0 q) = a1 m c (ix2 0 q) := by
  unfold iblk
  refine congrArg (a1 m c) ?_
  blk_point [idx0 t]

/-- The gradient of the norm's input, the residual's added. -/
def DX (x : FVec Ideal S2048x2048 .f32) (w : FVec Ideal S1x2048 .f32) (a b h : FVec Ideal S2048x2048 .f32) (r q : Fin 2048) : EReal :=
  h (ix2 r q) + GRAD (fun k => x (ix2 r k)) (fun k => w (ix2 0 k)) (fun k => a (ix2 r k) + b (ix2 r k)) q

/-- The same at an index. -/
def DXJ (x : FVec Ideal S2048x2048 .f32) (w : FVec Ideal S1x2048 .f32) (a b h : FVec Ideal S2048x2048 .f32) (j : S2048x2048.Idx) : EReal := DX x w a b h (j 0) (j 1)

/-- One row's part of the weight's gradient. -/
def DWROW (x a b : FVec Ideal S2048x2048 .f32) (q r : Fin 2048) : EReal :=
  (a (ix2 r q) + b (ix2 r q)) * x (ix2 r q) * RSQ (fun k => x (ix2 r k))

/-- One block's part. -/
def PART (x a b : FVec Ideal S2048x2048 .f32) (q : Fin 2048) (t : Fin 8) : EReal :=
  ∑ r : Fin 256, DWROW x a b q ⟨t.val * 256 + r.val, by omega⟩

theorem dx_point (c : Dev nD) (t : Fin cfg0.N) (r : Fin 256) (q : Fin 2048) :
    k0_pay5 (F := Ideal) (iblk m c 0 t) (iblk m c 1 t) (iblk m c 2 t) (iblk m c 3 t) (iblk m c 4 t) (ix2 r q)
      = DX (a0 m c) (a1 m c) (a2 m c) (a3 m c) (a4 m c) (row t r) q := by
  rw [pay5_apply]
  simp only [blk0_point, blk1_point, blk2_point, blk3_point, blk4_point]
  rfl

theorem dw_point (c : Dev nD) (t : Fin cfg0.N) (q : Fin 2048) :
    k0_pay4 (F := Ideal) (iblk m c 0 t) (iblk m c 2 t) (iblk m c 3 t) (ix2 0 q) = PART (a0 m c) (a2 m c) (a3 m c) q ⟨t.val, lt8 t⟩ := by
  rw [pay4_apply]
  simp only [blk0_point, blk2_point, blk3_point]
  rfl

/-- The rows' sum so far. -/
theorem acc (c : Dev nD) (s : ℕ) : ∀ (t : Fin cfg0.N), t.val = s → ∀ (q : Fin 2048),
    (outsAt0 m c t.val t.isLt).2 (ix2 0 q) = ∑ b ∈ Finset.range (s + 1), if hb : b < 8 then PART (a0 m c) (a2 m c) (a3 m c) q ⟨b, hb⟩ else 0 := by
  induction s with
  | zero =>
    intro t h q
    rw [outsAt0_A m c t (by omega) (by omega)]
    frame_out
    rw [dw_point, Finset.sum_range_one, dif_pos (by norm_num)]
    simp only [h]
  | succ s ih =>
    intro t h q
    have ht := lt8 t
    have e := ih ⟨t.val - 1, by have := t.isLt; omega⟩ (by simp only; omega) q
    rw [Finset.sum_range_succ, outsAt0_B m c t (by omega) (by omega)]
    frame_out
    rw [pay1_apply, dw_point]
    simp only at e
    rw [e, dif_pos (by omega)]
    simp only [h]

theorem sum_blocks (f : Fin 2048 → EReal) : ∑ k, f k = ∑ b : Fin 8, ∑ r : Fin 256, f ⟨b.val * 256 + r.val, by omega⟩ := by
  rw [← Fintype.sum_prod_type', ← (finProdFinEquiv (m := 8) (n := 256)).sum_comp f]
  refine Finset.sum_congr rfl fun p _ => congrArg f (Fin.ext ?_)
  simp only [finProdFinEquiv_apply_val]
  omega

/-- The weight's gradient at an index. -/
def DWJ (x a b : FVec Ideal S2048x2048 .f32) (j : S1x2048.Idx) : EReal := ∑ r : Fin 2048, DWROW x a b (j 1) r

theorem outs5 (c : Dev nD) (t : Fin cfg0.N) :
    (outsAt0 m c t.val t.isLt).1 = k0_pay5 (F := Ideal) (iblk m c 0 t) (iblk m c 1 t) (iblk m c 2 t) (iblk m c 3 t) (iblk m c 4 t) := by
  have ht := lt8 t
  by_cases h : t.val % 8 = 0
  · rw [outsAt0_A m c t h (by omega)]; frame_out
  · rw [outsAt0_B m c t h (by omega)]; frame_out

theorem final0_5 (c : Dev nD) : (dats m 0 c).arrAt 5 cfg0.N = DXJ (a0 m c) (a1 m c) (a2 m c) (a3 m c) (a4 m c) := by
  refine (dats m 0 c).arrAt_eq_of_covers 5 _ (by decide +kernel) fun t hf y => ?_
  blk_simp
  rw [after0_5, outs5]
  obtain ⟨r, q, rfl⟩ : ∃ (r : Fin 256) (q : Fin 2048), y = ix2 r q := ⟨_, _, eq_ix2 y⟩
  refine (dx_point m c t r q).trans (congrArg (DXJ (a0 m c) (a1 m c) (a2 m c) (a3 m c) (a4 m c)) (a₁ := ix2 (row t r) q) ?_)
  blk_point [idx0 t, row]

theorem final0_6 (c : Dev nD) : (dats m 0 c).arrAt 6 cfg0.N = DWJ (a0 m c) (a2 m c) (a3 m c) := by
  refine (dats m 0 c).arrAt_eq_of_covers 6 _ (by decide +kernel) fun t hf y => ?_
  have h := flush6 t hf
  blk_simp
  rw [after0_6]
  obtain ⟨z, q, rfl⟩ : ∃ (z : Fin 1) (q : Fin 2048), y = ix2 z q := ⟨_, _, eq_ix2 y⟩
  obtain rfl : z = 0 := Subsingleton.elim _ _
  refine (acc m c 7 t h q).trans ?_
  refine Eq.trans (b := DWJ (a0 m c) (a2 m c) (a3 m c) (ix2 0 q)) ?_ (congrArg (DWJ (a0 m c) (a2 m c) (a3 m c)) ?_)
  · rw [Finset.sum_range]
    refine Eq.trans ?_ (sum_blocks (DWROW (a0 m c) (a2 m c) (a3 m c) q)).symm
    exact Finset.sum_congr rfl fun b _ => dif_pos b.isLt
  · blk_point [idx0 t]

theorem run : θ_run defs (onTc (τ := τ) (main (F := Ideal))) ⟨m, fun _ => 0, ρ⟩ (fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨Pipeline.FramePost.out_eq h.2 c 5, Pipeline.FramePost.out_eq h.2 c 6, h.1 c⟩) (θ_run_and (unchanged m ρ) (run_main m ρ))

end Cert.Kernel12Ideal.GRD

end
-- ==== Proof.GRD.Reference.lean ====
module

public import proofs.«01_k».proof.Proof.Gen.Reference12Ideal.Run
public import proofs.«01_k».proof.Proof.GRD.Scalar
public import Idealize.ShloMosaic.Lib.Pointwise

/-! The reference's results, element by element over the arguments. -/

@[expose] public section

set_option maxRecDepth 16384

noncomputable section

namespace Cert.Reference12Ideal.GRD

open Idealize.ShloMosaic Idealize.ShloMosaic.TcCoe Idealize.SL.Sem
open Cert.GRD
open Cert.Reference12Ideal Cert.Reference12Ideal.Gen

variable (A0 : FVec Ideal S2048x2048 .f32) (A1 : FVec Ideal S1x2048 .f32) (A2 A3 A4 : FVec Ideal S2048x2048 .f32)

/-- The rows' mean squares, plus the small constant. -/
def T_s : FVec Ideal S2048x1 .f32 :=
  addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))

/-- The gradient times the norm's weight. -/
def T_y : FVec Ideal S2048x2048 .f32 := mulf (addf A2 A3) (broadcastInDim S2048x2048 ![0, 1] bcast_S1x2048_S2048x2048_0_1 A1)

/-- The share of every element in its row's mean square. -/
def T_c : FVec Ideal S2048x2048 .f32 :=
  broadcastInDim S2048x2048 ![0] bcast_S2048_S2048x2048_0 (Host.reduceAdd (Host.divf (mulf (shapeCast _ (Host.reduceAdd (mulf A0 (T_y A1 A2 A3)) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (T_s A0)) (T_s A0)))) (broadcastInDim S2048x1 ![] bcast_S_S2048x1 (constant S_ .f32 0x45000000#32))) (constant S_ .f32 0x00000000#32) reducesTo_S2048x1_S2048_d1 h_S_)

/-- The gradient of the norm's input, the residual's added. -/
def T_x : FVec Ideal S2048x2048 .f32 :=
  addf A4 (addf (addf (mulf (T_y A1 A2 A3) (broadcastInDim S2048x2048 ![0, 1] bcast_S2048x1_S2048x2048_0_1 (Host.rsqrt (T_s A0)))) (mulf A0 (T_c A0 A1 A2 A3))) (mulf (T_c A0 A1 A2 A3) A0))

/-- The gradient of the norm's weight. -/
def T_w : FVec Ideal S1x2048 .f32 :=
  shapeCast _ (Host.reduceAdd (mulf (mulf A0 (broadcastInDim S2048x2048 ![0, 1] bcast_S2048x1_S2048x2048_0_1 (Host.rsqrt (T_s A0)))) (addf A2 A3)) (constant S_ .f32 0x00000000#32) reducesTo_S2048x2048_S2048_d0 h_S_) shapeCasts_S2048_S1x2048

theorem T_s_apply (r : Fin 2048) : T_s A0 (ix2 r 0) = MS fun k => A0 (ix2 r k) := by
  pointwise [T_s, MS, Ideal.ofBits_zero_f32]

theorem T_y_apply (r q : Fin 2048) : T_y A1 A2 A3 (ix2 r q) = (A2 (ix2 r q) + A3 (ix2 r q)) * A1 (ix2 0 q) := by
  pointwise [T_y]

theorem T_c_apply (r q : Fin 2048) :
    T_c A0 A1 A2 A3 (ix2 r q) = COEF (fun k => A0 (ix2 r k)) (fun k => A1 (ix2 0 k)) (fun k => A2 (ix2 r k) + A3 (ix2 r k)) := by
  pointwise [T_c, COEF, RSQ, T_y_apply, Ideal.ofBits_zero_f32]
  rw [Fin.sum_univ_one, T_s_apply]

theorem T_x_apply (r q : Fin 2048) :
    T_x A0 A1 A2 A3 A4 (ix2 r q) = A4 (ix2 r q) + CHAIN (fun k => A0 (ix2 r k)) (fun k => A1 (ix2 0 k)) (fun k => A2 (ix2 r k) + A3 (ix2 r k)) q := by
  pointwise [T_x, CHAIN, RSQ, T_s_apply, T_y_apply, T_c_apply]

theorem T_w_apply (q : Fin 2048) :
    T_w A0 A2 A3 (ix2 0 q) = ∑ r : Fin 2048, A0 (ix2 r q) * RSQ (fun k => A0 (ix2 r k)) * (A2 (ix2 r q) + A3 (ix2 r q)) := by
  pointwise [T_w, RSQ, T_s_apply, Ideal.ofBits_zero_f32]

end Cert.Reference12Ideal.GRD

end
-- ==== Proof.GRD.Claims.lean ====
module

public import proofs.«01_k».proof.Defs
public import proofs.«01_k».proof.Proof.GRD.Kernel
public import proofs.«01_k».proof.Proof.GRD.Reference
public import proofs.«01_k».proof.Proof.Gen.Kernel12.Frame
public import Idealize.ShloMosaic.Lib.Claim

/-! The frames and the equality of the two results. -/

@[expose] public section

set_option maxRecDepth 16384

noncomputable section

namespace Cert.GRD

open Idealize.ShloMosaic Idealize.ShloMosaic.TcCoe Idealize.SL.Sem

theorem frame_kernel : Cert.quiescent_Kernel12 := fun m ρ _ => Cert.Kernel12.Gen.frame m ρ
theorem frame_ideal : Cert.quiescent_Kernel12Ideal := fun m ρ _ => Cert.Kernel12Ideal.Gen.frame m ρ

theorem frame_ref : Cert.quiescent_Reference12Ideal := fun m ρ _ =>
  (θ_run Cert.Reference12Ideal.defs _ _).mono
    (fun r h => ⟨fun c => (h c).2.2, Idealize.ShloMosaic.sem_eq_zero_of_no_sems (by decide) r.2⟩)
    (Cert.Reference12Ideal.Value.run (F := Ideal) m ρ)

theorem dx_eq (A0 : FVec Ideal Cert.Kernel12Ideal.S2048x2048 .f32) (A1 : FVec Ideal Cert.Kernel12Ideal.S1x2048 .f32) (A2 A3 A4 : FVec Ideal Cert.Kernel12Ideal.S2048x2048 .f32) :
    Cert.Kernel12Ideal.GRD.DXJ A0 A1 A2 A3 A4 = Cert.Reference12Ideal.GRD.T_x A0 A1 A2 A3 A4 := by
  funext j
  obtain ⟨r, q, rfl⟩ : ∃ (r q : Fin 2048), j = ix2 r q := ⟨_, _, eq_ix2 j⟩
  refine Eq.trans ?_ (Cert.Reference12Ideal.GRD.T_x_apply A0 A1 A2 A3 A4 r q).symm
  exact congrArg (A4 (ix2 r q) + ·) (GRAD_eq _ _ _ q)

theorem dw_eq (A0 A2 A3 : FVec Ideal Cert.Kernel12Ideal.S2048x2048 .f32) :
    Cert.Kernel12Ideal.GRD.DWJ A0 A2 A3 = Cert.Reference12Ideal.GRD.T_w A0 A2 A3 := by
  funext j
  obtain ⟨z, q, rfl⟩ : ∃ (z : Fin 1) (q : Fin 2048), j = ix2 z q := ⟨_, _, eq_ix2 j⟩
  obtain rfl : z = 0 := Subsingleton.elim _ _
  refine Eq.trans ?_ (Cert.Reference12Ideal.GRD.T_w_apply A0 A2 A3 q).symm
  refine Finset.sum_congr rfl fun r _ => ?_
  exact (mul_assoc _ _ _).trans (mul_comm _ _)

theorem algebraic : Cert.algebraic_Kernel12Ideal_Reference12Ideal := by
  intro m g m' g' _ hagree
  refine ⟨fun c => Cert.Reference12Ideal.GRD.T_x (Cert.Kernel12Ideal.GRD.a0 m c) (Cert.Kernel12Ideal.GRD.a1 m c) (Cert.Kernel12Ideal.GRD.a2 m c) (Cert.Kernel12Ideal.GRD.a3 m c) (Cert.Kernel12Ideal.GRD.a4 m c), fun c => Cert.Reference12Ideal.GRD.T_w (Cert.Kernel12Ideal.GRD.a0 m c) (Cert.Kernel12Ideal.GRD.a2 m c) (Cert.Kernel12Ideal.GRD.a3 m c), ?_, ?_⟩
  · refine (θ_run Cert.Kernel12Ideal.defs _ _).mono (fun r h c => ?_) (Cert.Kernel12Ideal.GRD.run m g)
    obtain ⟨e0, e1, hargs⟩ := h c
    exact ⟨e0.trans ((Cert.Kernel12Ideal.GRD.final0_5 m c).trans (dx_eq _ _ _ _ _)), e1.trans ((Cert.Kernel12Ideal.GRD.final0_6 m c).trans (dw_eq _ _ _)), hargs⟩
  · refine (θ_run Cert.Reference12Ideal.defs _ _).mono (fun r h c => ?_) (Cert.Reference12Ideal.Value.run (F := Ideal) m' g')
    obtain ⟨e0, e1, hargs⟩ := h c
    obtain ⟨g0, g1, g2, g3, g4⟩ := hagree c
    rw [g0, g1, g2, g3, g4] at e0
    rw [g0, g2, g3] at e1
    exact ⟨e0, e1, hargs⟩

end Cert.GRD

end
-- ==== Proof.LSS.Scalar.lean ====
module

public import proofs.«01_k».proof.Proof.GRD.Scalar
public import Idealize.ShloMosaic.Lib.Pointwise

/-! The loss of one row and its gradient, spelled two ways. -/

@[expose] public section

set_option maxRecDepth 16384

noncomputable section

namespace Cert.LSS

open Idealize.ShloMosaic
open Cert.GRD

/-- The normed row minus the target. -/
def DIFF (f w t : Fin 2048 → EReal) (q : Fin 2048) : EReal := f q * RSQ f * w q - t q

/-- The loss's gradient by the normed row, the factors gathered. -/
def DLOSS (f w t : Fin 2048 → EReal) (q : Fin 2048) : EReal := DIFF f w t q * Ideal.ofBits .f32 0x3A000000#32

/-- The same as the chain rule has it. -/
def DLOSSC (f w t : Fin 2048 → EReal) (q : Fin 2048) : EReal :=
  Ideal.div (Ideal.ofBits .f32 0x3F000000#32 * 1) (Ideal.ofBits .f32 0x45000000#32) * (Ideal.ofBits .f32 0x40000000#32 * DIFF f w t q)

/-- The mean squared difference of a row. -/
def ERR (f w t : Fin 2048 → EReal) : EReal := Ideal.div (∑ k, DIFF f w t k * DIFF f w t k) (Ideal.ofBits .f32 0x45000000#32)

/-- The logistic function. -/
def SIG (s : EReal) : EReal := Ideal.div 1 (1 + Ideal.exp (-s))

theorem part_word : Ideal.ofBits .f32 0x3A000000#32 = ((1 / 2048 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem two_word : Ideal.ofBits .f32 0x40000000#32 = ((2 : ℝ) : EReal) := by
  simp [Ideal.ofBits, Ideal.ieee, -EReal.coe_mul]; norm_num

theorem DLOSS_eq (f w t : Fin 2048 → EReal) (q : Fin 2048) : DLOSS f w t q = DLOSSC f w t q := by
  unfold DLOSS DLOSSC
  rw [part_word, half, two_word, n_word, Ideal.div_coe (by norm_num), mul_one, ← EReal.coe_mul, ← mul_assoc, ← EReal.coe_mul, mul_comm]
  refine congrArg (fun z : ℝ => (z : EReal) * DIFF f w t q) ?_
  norm_num

/-- Half of a sum is the sum of the halves. -/
theorem half_sum {ι : Type} (s : Finset ι) (f : ι → EReal) :
    Ideal.ofBits .f32 0x3F000000#32 * ∑ i ∈ s, f i = ∑ i ∈ s, Ideal.ofBits .f32 0x3F000000#32 * f i := by
  classical
  rw [half]
  induction s using Finset.induction_on with
  | empty => simp
  | insert a s ha ih =>
    rw [Finset.sum_insert ha, Finset.sum_insert ha, EReal.left_distrib_of_nonneg_of_ne_top (by exact_mod_cast (by norm_num : (0 : ℝ) ≤ 1 / 2)) (EReal.coe_ne_top _), ih]

end Cert.LSS

end
-- ==== Proof.LSS.Kernel.lean ====
module

public import proofs.«01_k».proof.Proof.Gen.Kernel13Ideal.Frame
public import proofs.«01_k».proof.Proof.LSS.Scalar
public import Idealize.ShloMosaic.Lib.Pipeline.ValueKit
public import Idealize.ShloMosaic.Lib.Pointwise
public import Idealize.ShloMosaic.Lib.Claim

/-! The loss, its gradient through the last norm and through the gated embedding, element by element over the arguments. -/

@[expose] public section

set_option maxRecDepth 16384

noncomputable section

namespace Cert.Kernel13Ideal.LSS

open Idealize.ShloMosaic Idealize.ShloMosaic.TcCoe Idealize.SL.Sem
open Idealize.ShloMosaic.Pipeline (Dat)
open Cert.GRD Cert.LSS
open Cert.Kernel13Ideal Cert.Kernel13Ideal.Gen

theorem pay4_apply (x : FVec Ideal S256x2048 .f32) (w : FVec Ideal S1x2048 .f32) (t : FVec Ideal S256x2048 .f32) (r : Fin 256) (q : Fin 2048) :
    k0_pay4 (F := Ideal) x w t (ix2 r q) = DIFF (fun k => x (ix2 r k)) (fun k => w (ix2 0 k)) (fun k => t (ix2 r k)) q := by
  pointwise [k0_pay4, DIFF, RSQ, MS, Ideal.ofBits_zero_f32]

theorem pay5_apply (x : FVec Ideal S256x2048 .f32) (w : FVec Ideal S1x2048 .f32) (t : FVec Ideal S256x2048 .f32) (r : Fin 256) (q : Fin 2048) :
    k0_pay5 (F := Ideal) x w t (ix2 r q) = DLOSS (fun k => x (ix2 r k)) (fun k => w (ix2 0 k)) (fun k => t (ix2 r k)) q := by
  pointwise [k0_pay5, pay4_apply, DLOSS]

theorem pay6_apply (x : FVec Ideal S256x2048 .f32) (r : Fin 256) : k0_pay6 (F := Ideal) x (ix2 r 0) = RSQ fun k => x (ix2 r k) := by
  pointwise [k0_pay6, RSQ, MS, Ideal.ofBits_zero_f32]

theorem pay9_apply (x : FVec Ideal S256x2048 .f32) (w : FVec Ideal S1x2048 .f32) (t : FVec Ideal S256x2048 .f32) (r : Fin 256) (q : Fin 2048) :
    k0_pay9 (F := Ideal) (k0_pay6 (F := Ideal) x) (k0_pay7 (F := Ideal) x w t) (k0_pay8 (F := Ideal) x w t) (ix2 r q)
      = GRAD (fun k => x (ix2 r k)) (fun k => w (ix2 0 k)) (DLOSS (fun k => x (ix2 r k)) (fun k => w (ix2 0 k)) (fun k => t (ix2 r k))) q := by
  pointwise [k0_pay9, k0_pay7, k0_pay8, pay6_apply, pay5_apply, GRAD, Ideal.ofBits_zero_f32]

theorem pay10_apply (x : FVec Ideal S256x2048 .f32) (w : FVec Ideal S1x2048 .f32) (t : FVec Ideal S256x2048 .f32) (q : Fin 2048) :
    k0_pay10 (F := Ideal) x (k0_pay5 (F := Ideal) x w t) (k0_pay6 (F := Ideal) x) (ix2 0 q)
      = ∑ r : Fin 256, DLOSS (fun k => x (ix2 r k)) (fun k => w (ix2 0 k)) (fun k => t (ix2 r k)) q * x (ix2 r q) * RSQ (fun k => x (ix2 r k)) := by
  pointwise [k0_pay10, pay6_apply, pay5_apply, Ideal.ofBits_zero_f32]

theorem pay15_apply (x : FVec Ideal S256x2048 .f32) (g : FVec Ideal S256x2048 .f32) (s : FVec Ideal S256x1 .f32) (v : FVec Ideal S1x2048 .f32) (j : S1x2048.Idx) :
    k0_pay15 (F := Ideal) x g s v j = v j + k0_pay10 (F := Ideal) x g s j := by
  pointwise [k0_pay15]

theorem pay11_apply (x : FVec Ideal S256x2048 .f32) (w : FVec Ideal S1x2048 .f32) (t : FVec Ideal S256x2048 .f32) (z : Fin 128) :
    k0_pay11 (F := Ideal) (k0_pay4 (F := Ideal) x w t) (ix2 0 z) = Ideal.ofBits .f32 0x3F000000#32 * ∑ r : Fin 256, ERR (fun k => x (ix2 r k)) (fun k => w (ix2 0 k)) (fun k => t (ix2 r k)) := by
  pointwise [k0_pay11, pay4_apply, ERR, Ideal.ofBits_zero_f32]

theorem pay1_apply (u v : FVec Ideal S1x128 .f32) (j : S1x128.Idx) : k0_pay1 (F := Ideal) u v j = v j + u j := by
  pointwise [k0_pay1]

theorem pay12_apply (s : FVec Ideal S256x2048 .f32) (j : S256x2048.Idx) : k0_pay12 (F := Ideal) s j = SIG (s j) := by
  pointwise [k0_pay12, SIG, Ideal.ofBits_zero_f32, Ideal.ofBits_one_f32, zero_sub]

theorem pay13_apply (s : FVec Ideal S256x2048 .f32) (v : FVec Ideal S256x1 .f32) (g h : FVec Ideal S256x2048 .f32) (j : S256x2048.Idx) :
    k0_pay2 (F := Ideal) (k0_pay13 (F := Ideal) s v g h) j = k0_pay9 (F := Ideal) v g h j * SIG (s j) := by
  pointwise [k0_pay2, k0_pay13, pay12_apply]

theorem pay14_apply (s e : FVec Ideal S256x2048 .f32) (v : FVec Ideal S256x1 .f32) (g h : FVec Ideal S256x2048 .f32) (j : S256x2048.Idx) :
    k0_pay3 (F := Ideal) (k0_pay14 (F := Ideal) s e v g h) j = k0_pay9 (F := Ideal) v g h j * e j * SIG (s j) * (1 - SIG (s j)) := by
  pointwise [k0_pay3, k0_pay14, pay12_apply, Ideal.ofBits_one_f32]

variable (m : (ℓ : Loc nD τ sig) → Buf (Elt Ideal) ℓ) (ρ : Dev nD → PrngReg)

/-- The arguments: the last norm's input and weight, the targets, and the embedding's gate and value before the gate. -/
abbrev a0 (c : Dev nD) : FVec Ideal S2048x2048 .f32 := m ((c : Thread nD τ).loc main_arg0)
abbrev a1 (c : Dev nD) : FVec Ideal S1x2048 .f32 := m ((c : Thread nD τ).loc main_arg1)
abbrev a2 (c : Dev nD) : FVec Ideal S2048x2048 .f32 := m ((c : Thread nD τ).loc main_arg2)
abbrev a3 (c : Dev nD) : FVec Ideal S2048x2048 .f32 := m ((c : Thread nD τ).loc main_arg3)
abbrev a4 (c : Dev nD) : FVec Ideal S2048x2048 .f32 := m ((c : Thread nD τ).loc main_arg4)

theorem idx0 : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0]
    ∧ win0_8.index t = ![t.val, 0] ∧ win0_9.index t = ![t.val, 0] ∧ t.val < 8 :=
  (by decide +kernel : ∀ t : Fin grid0.N, _)

theorem flush6 : ∀ t : Fin cfg0.N, (cfg0.win 6).flush t = true → t.val = 7 :=
  (by decide +kernel : ∀ t : Fin grid0.N, _)
theorem flush7 : ∀ t : Fin cfg0.N, (cfg0.win 7).flush t = true → t.val = 7 :=
  (by decide +kernel : ∀ t : Fin grid0.N, _)

theorem lt8 (t : Fin cfg0.N) : t.val < 8 := (idx0 t).2.2.2.2.2.2.2.2.2.2

/-- The row that row `r` of a block is. -/
def row (t : Fin cfg0.N) (r : Fin 256) : Fin 2048 := ⟨t.val * 256 + r.val, by have := lt8 t; omega⟩

theorem blk0_point (c : Dev nD) (t : Fin cfg0.N) (r : Fin 256) (q : Fin 2048) : iblk m c 0 t (ix2 r q) = a0 m c (ix2 (row t r) q) := by
  unfold iblk
  refine congrArg (a0 m c) ?_
  blk_point [idx0 t, row]

theorem blk2_point (c : Dev nD) (t : Fin cfg0.N) (r : Fin 256) (q : Fin 2048) : iblk m c 2 t (ix2 r q) = a2 m c (ix2 (row t r) q) := by
  unfold iblk
  refine congrArg (a2 m c) ?_
  blk_point [idx0 t, row]

theorem blk3_point (c : Dev nD) (t : Fin cfg0.N) (r : Fin 256) (q : Fin 2048) : iblk m c 3 t (ix2 r q) = a3 m c (ix2 (row t r) q) := by
  unfold iblk
  refine congrArg (a3 m c) ?_
  blk_point [idx0 t, row]

theorem blk4_point (c : Dev nD) (t : Fin cfg0.N) (r : Fin 256) (q : Fin 2048) : iblk m c 4 t (ix2 r q) = a4 m c (ix2 (row t r) q) := by
  unfold iblk
  refine congrArg (a4 m c) ?_
  blk_point [idx0 t, row]

theorem blk1_point (c : Dev nD) (t : Fin cfg0.N) (q : Fin 2048) : iblk m c 1 t (ix2 0 q) = a1 m c (ix2 0 q) := by
  unfold iblk
  refine congrArg (a1 m c) ?_
  blk_point [idx0 t]

/-- The loss's gradient by the last norm's input. -/
def DX (x : FVec Ideal S2048x2048 .f32) (w : FVec Ideal S1x2048 .f32) (t : FVec Ideal S2048x2048 .f32) (r q : Fin 2048) : EReal :=
  GRAD (fun k => x (ix2 r k)) (fun k => w (ix2 0 k)) (DLOSS (fun k => x (ix2 r k)) (fun k => w (ix2 0 k)) (fun k => t (ix2 r k))) q
def DXJ (x : FVec Ideal S2048x2048 .f32) (w : FVec Ideal S1x2048 .f32) (t : FVec Ideal S2048x2048 .f32) (j : S2048x2048.Idx) : EReal := DX x w t (j 0) (j 1)

/-- One row's part of the weight's gradient. -/
def DWROW (x : FVec Ideal S2048x2048 .f32) (w : FVec Ideal S1x2048 .f32) (t : FVec Ideal S2048x2048 .f32) (q r : Fin 2048) : EReal :=
  DLOSS (fun k => x (ix2 r k)) (fun k => w (ix2 0 k)) (fun k => t (ix2 r k)) q * x (ix2 r q) * RSQ (fun k => x (ix2 r k))
def DWJ (x : FVec Ideal S2048x2048 .f32) (w : FVec Ideal S1x2048 .f32) (t : FVec Ideal S2048x2048 .f32) (j : S1x2048.Idx) : EReal := ∑ r : Fin 2048, DWROW x w t (j 1) r

/-- One row's error. -/
def ERROW (x : FVec Ideal S2048x2048 .f32) (w : FVec Ideal S1x2048 .f32) (t : FVec Ideal S2048x2048 .f32) (r : Fin 2048) : EReal := ERR (fun k => x (ix2 r k)) (fun k => w (ix2 0 k)) (fun k => t (ix2 r k))
/-- The loss, in every element. -/
def LJ (x : FVec Ideal S2048x2048 .f32) (w : FVec Ideal S1x2048 .f32) (t : FVec Ideal S2048x2048 .f32) (j : S1x128.Idx) : EReal :=
  Ideal.ofBits .f32 0x3F000000#32 * ∑ r : Fin 2048, ERROW x w t r

/-- The gradients of the embedding and of its gate. -/
def DEJ (x : FVec Ideal S2048x2048 .f32) (w : FVec Ideal S1x2048 .f32) (t s : FVec Ideal S2048x2048 .f32) (j : S2048x2048.Idx) : EReal :=
  DX x w t (j 0) (j 1) * SIG (s j)
def DSJ (x : FVec Ideal S2048x2048 .f32) (w : FVec Ideal S1x2048 .f32) (t s e : FVec Ideal S2048x2048 .f32) (j : S2048x2048.Idx) : EReal :=
  DX x w t (j 0) (j 1) * e j * SIG (s j) * (1 - SIG (s j))

/-- One block's parts. -/
def PART (x : FVec Ideal S2048x2048 .f32) (w : FVec Ideal S1x2048 .f32) (t : FVec Ideal S2048x2048 .f32) (q : Fin 2048) (b : Fin 8) : EReal :=
  ∑ r : Fin 256, DWROW x w t q ⟨b.val * 256 + r.val, by omega⟩
def LPART (x : FVec Ideal S2048x2048 .f32) (w : FVec Ideal S1x2048 .f32) (t : FVec Ideal S2048x2048 .f32) (b : Fin 8) : EReal :=
  Ideal.ofBits .f32 0x3F000000#32 * ∑ r : Fin 256, ERROW x w t ⟨b.val * 256 + r.val, by omega⟩

theorem dx_point (c : Dev nD) (t : Fin cfg0.N) (r : Fin 256) (q : Fin 2048) :
    k0_pay9 (F := Ideal) (k0_pay6 (F := Ideal) (iblk m c 0 t)) (k0_pay7 (F := Ideal) (iblk m c 0 t) (iblk m c 1 t) (iblk m c 2 t)) (k0_pay8 (F := Ideal) (iblk m c 0 t) (iblk m c 1 t) (iblk m c 2 t)) (ix2 r q) = DXJ (a0 m c) (a1 m c) (a2 m c) (ix2 (row t r) q) := by
  rw [pay9_apply]
  simp only [blk0_point, blk1_point, blk2_point]
  rfl

theorem dw_point (c : Dev nD) (t : Fin cfg0.N) (q : Fin 2048) :
    k0_pay10 (F := Ideal) (iblk m c 0 t) (k0_pay5 (F := Ideal) (iblk m c 0 t) (iblk m c 1 t) (iblk m c 2 t)) (k0_pay6 (F := Ideal) (iblk m c 0 t)) (ix2 0 q) = PART (a0 m c) (a1 m c) (a2 m c) q ⟨t.val, lt8 t⟩ := by
  rw [pay10_apply]
  simp only [blk0_point, blk1_point, blk2_point]
  rfl

theorem loss_point (c : Dev nD) (t : Fin cfg0.N) (q : Fin 128) :
    k0_pay11 (F := Ideal) (k0_pay4 (F := Ideal) (iblk m c 0 t) (iblk m c 1 t) (iblk m c 2 t)) (ix2 0 q) = LPART (a0 m c) (a1 m c) (a2 m c) ⟨t.val, lt8 t⟩ := by
  rw [pay11_apply]
  simp only [blk0_point, blk1_point, blk2_point]
  rfl

theorem de_point (c : Dev nD) (t : Fin cfg0.N) (r : Fin 256) (q : Fin 2048) :
    k0_pay2 (F := Ideal) (k0_pay13 (F := Ideal) (iblk m c 3 t) (k0_pay6 (F := Ideal) (iblk m c 0 t)) (k0_pay7 (F := Ideal) (iblk m c 0 t) (iblk m c 1 t) (iblk m c 2 t)) (k0_pay8 (F := Ideal) (iblk m c 0 t) (iblk m c 1 t) (iblk m c 2 t))) (ix2 r q) = DEJ (a0 m c) (a1 m c) (a2 m c) (a3 m c) (ix2 (row t r) q) := by
  rw [pay13_apply, dx_point, blk3_point]
  rfl

theorem ds_point (c : Dev nD) (t : Fin cfg0.N) (r : Fin 256) (q : Fin 2048) :
    k0_pay3 (F := Ideal) (k0_pay14 (F := Ideal) (iblk m c 3 t) (iblk m c 4 t) (k0_pay6 (F := Ideal) (iblk m c 0 t)) (k0_pay7 (F := Ideal) (iblk m c 0 t) (iblk m c 1 t) (iblk m c 2 t)) (k0_pay8 (F := Ideal) (iblk m c 0 t) (iblk m c 1 t) (iblk m c 2 t))) (ix2 r q) = DSJ (a0 m c) (a1 m c) (a2 m c) (a3 m c) (a4 m c) (ix2 (row t r) q) := by
  rw [pay14_apply, dx_point, blk3_point, blk4_point]
  rfl

/-- The blocks' sum so far. -/
theorem acc6 (c : Dev nD) (s : ℕ) : ∀ (t : Fin cfg0.N), t.val = s → ∀ (q : Fin 2048),
    (outsAt0 m c t.val t.isLt).2.1 (ix2 0 q) = ∑ b ∈ Finset.range (s + 1), if hb : b < 8 then PART (a0 m c) (a1 m c) (a2 m c) q ⟨b, hb⟩ else 0 := by
  induction s with
  | zero =>
    intro t h q
    rw [outsAt0_A m c t (by omega) (by omega) (by omega) (by omega)]
    frame_out
    rw [dw_point, Finset.sum_range_one, dif_pos (by norm_num)]
    simp only [h]
  | succ s ih =>
    intro t h q
    have ht := lt8 t
    have e := ih ⟨t.val - 1, by have := t.isLt; omega⟩ (by simp only; omega) q
    rw [Finset.sum_range_succ, outsAt0_B m c t (by omega) (by omega) (by omega) (by omega)]
    frame_out
    rw [pay15_apply, dw_point]
    simp only at e
    rw [e, dif_pos (by omega)]
    simp only [h]

/-- The blocks' sum so far. -/
theorem acc7 (c : Dev nD) (s : ℕ) : ∀ (t : Fin cfg0.N), t.val = s → ∀ (q : Fin 128),
    (outsAt0 m c t.val t.isLt).2.2.1 (ix2 0 q) = ∑ b ∈ Finset.range (s + 1), if hb : b < 8 then LPART (a0 m c) (a1 m c) (a2 m c) ⟨b, hb⟩ else 0 := by
  induction s with
  | zero =>
    intro t h q
    rw [outsAt0_A m c t (by omega) (by omega) (by omega) (by omega)]
    frame_out
    rw [loss_point, Finset.sum_range_one, dif_pos (by norm_num)]
    simp only [h]
  | succ s ih =>
    intro t h q
    have ht := lt8 t
    have e := ih ⟨t.val - 1, by have := t.isLt; omega⟩ (by simp only; omega) q
    rw [Finset.sum_range_succ, outsAt0_B m c t (by omega) (by omega) (by omega) (by omega)]
    frame_out
    rw [pay1_apply, loss_point]
    simp only at e
    rw [e, dif_pos (by omega)]
    simp only [h]

theorem sum_blocks (f : Fin 2048 → EReal) : ∑ k, f k = ∑ b : Fin 8, ∑ r : Fin 256, f ⟨b.val * 256 + r.val, by omega⟩ := by
  rw [← Fintype.sum_prod_type', ← (finProdFinEquiv (m := 8) (n := 256)).sum_comp f]
  refine Finset.sum_congr rfl fun p _ => congrArg f (Fin.ext ?_)
  simp only [finProdFinEquiv_apply_val]
  omega

theorem outs5 (c : Dev nD) (t : Fin cfg0.N) : (outsAt0 m c t.val t.isLt).1 = k0_pay9 (F := Ideal) (k0_pay6 (F := Ideal) (iblk m c 0 t)) (k0_pay7 (F := Ideal) (iblk m c 0 t) (iblk m c 1 t) (iblk m c 2 t)) (k0_pay8 (F := Ideal) (iblk m c 0 t) (iblk m c 1 t) (iblk m c 2 t)) := by
  have ht := lt8 t
  by_cases h : t.val % 8 = 0
  · rw [outsAt0_A m c t h (by omega) h (by omega)]; frame_out
  · rw [outsAt0_B m c t h (by omega) h (by omega)]; frame_out

theorem outs8 (c : Dev nD) (t : Fin cfg0.N) : (outsAt0 m c t.val t.isLt).2.2.2.1 = k0_pay2 (F := Ideal) (k0_pay13 (F := Ideal) (iblk m c 3 t) (k0_pay6 (F := Ideal) (iblk m c 0 t)) (k0_pay7 (F := Ideal) (iblk m c 0 t) (iblk m c 1 t) (iblk m c 2 t)) (k0_pay8 (F := Ideal) (iblk m c 0 t) (iblk m c 1 t) (iblk m c 2 t))) := by
  have ht := lt8 t
  by_cases h : t.val % 8 = 0
  · rw [outsAt0_A m c t h (by omega) h (by omega)]; frame_out
  · rw [outsAt0_B m c t h (by omega) h (by omega)]; frame_out

theorem outs9 (c : Dev nD) (t : Fin cfg0.N) : (outsAt0 m c t.val t.isLt).2.2.2.2 = k0_pay3 (F := Ideal) (k0_pay14 (F := Ideal) (iblk m c 3 t) (iblk m c 4 t) (k0_pay6 (F := Ideal) (iblk m c 0 t)) (k0_pay7 (F := Ideal) (iblk m c 0 t) (iblk m c 1 t) (iblk m c 2 t)) (k0_pay8 (F := Ideal) (iblk m c 0 t) (iblk m c 1 t) (iblk m c 2 t))) := by
  have ht := lt8 t
  by_cases h : t.val % 8 = 0
  · rw [outsAt0_A m c t h (by omega) h (by omega)]; frame_out
  · rw [outsAt0_B m c t h (by omega) h (by omega)]; frame_out

theorem final0_5 (c : Dev nD) : (dats m 0 c).arrAt 5 cfg0.N = DXJ (a0 m c) (a1 m c) (a2 m c) := by
  refine (dats m 0 c).arrAt_eq_of_covers 5 _ (by decide +kernel) fun t hf y => ?_
  blk_simp
  rw [after0_5, outs5]
  obtain ⟨r, q, rfl⟩ : ∃ (r : Fin 256) (q : Fin 2048), y = ix2 r q := ⟨_, _, eq_ix2 y⟩
  refine (dx_point m c t r q).trans (congrArg (DXJ (a0 m c) (a1 m c) (a2 m c)) (a₁ := ix2 (row t r) q) ?_)
  blk_point [idx0 t, row]

theorem final0_8 (c : Dev nD) : (dats m 0 c).arrAt 8 cfg0.N = DEJ (a0 m c) (a1 m c) (a2 m c) (a3 m c) := by
  refine (dats m 0 c).arrAt_eq_of_covers 8 _ (by decide +kernel) fun t hf y => ?_
  blk_simp
  rw [after0_8, outs8]
  obtain ⟨r, q, rfl⟩ : ∃ (r : Fin 256) (q : Fin 2048), y = ix2 r q := ⟨_, _, eq_ix2 y⟩
  refine (de_point m c t r q).trans (congrArg (DEJ (a0 m c) (a1 m c) (a2 m c) (a3 m c)) (a₁ := ix2 (row t r) q) ?_)
  blk_point [idx0 t, row]

theorem final0_9 (c : Dev nD) : (dats m 0 c).arrAt 9 cfg0.N = DSJ (a0 m c) (a1 m c) (a2 m c) (a3 m c) (a4 m c) := by
  refine (dats m 0 c).arrAt_eq_of_covers 9 _ (by decide +kernel) fun t hf y => ?_
  blk_simp
  rw [after0_9, outs9]
  obtain ⟨r, q, rfl⟩ : ∃ (r : Fin 256) (q : Fin 2048), y = ix2 r q := ⟨_, _, eq_ix2 y⟩
  refine (ds_point m c t r q).trans (congrArg (DSJ (a0 m c) (a1 m c) (a2 m c) (a3 m c) (a4 m c)) (a₁ := ix2 (row t r) q) ?_)
  blk_point [idx0 t, row]

theorem final0_6 (c : Dev nD) : (dats m 0 c).arrAt 6 cfg0.N = DWJ (a0 m c) (a1 m c) (a2 m c) := by
  refine (dats m 0 c).arrAt_eq_of_covers 6 _ (by decide +kernel) fun t hf y => ?_
  have h := flush6 t hf
  blk_simp
  rw [after0_6]
  obtain ⟨z, q, rfl⟩ : ∃ (z : Fin 1) (q : Fin 2048), y = ix2 z q := ⟨_, _, eq_ix2 y⟩
  obtain rfl : z = 0 := Subsingleton.elim _ _
  refine (acc6 m c 7 t h q).trans ?_
  refine Eq.trans (b := DWJ (a0 m c) (a1 m c) (a2 m c) (ix2 0 q)) ?_ (congrArg (DWJ (a0 m c) (a1 m c) (a2 m c)) ?_)
  · rw [Finset.sum_range]
    refine Eq.trans ?_ (sum_blocks (DWROW (a0 m c) (a1 m c) (a2 m c) q)).symm
    exact Finset.sum_congr rfl fun b _ => dif_pos b.isLt
  · blk_point [idx0 t]

theorem final0_7 (c : Dev nD) : (dats m 0 c).arrAt 7 cfg0.N = LJ (a0 m c) (a1 m c) (a2 m c) := by
  refine (dats m 0 c).arrAt_eq_of_covers 7 _ (by decide +kernel) fun t hf y => ?_
  have h := flush7 t hf
  blk_simp
  rw [after0_7]
  obtain ⟨z, q, rfl⟩ : ∃ (z : Fin 1) (q : Fin 128), y = ix2 z q := ⟨_, _, eq_ix2 y⟩
  obtain rfl : z = 0 := Subsingleton.elim _ _
  refine (acc7 m c 7 t h q).trans ?_
  refine Eq.trans (b := LJ (a0 m c) (a1 m c) (a2 m c) (ix2 0 q)) ?_ rfl
  unfold LJ
  rw [Finset.sum_range, sum_blocks, half_sum]
  exact Finset.sum_congr rfl fun b _ => dif_pos b.isLt

theorem run : θ_run defs (onTc (τ := τ) (main (F := Ideal))) ⟨m, fun _ => 0, ρ⟩ (fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_v0_3) = (dats m 0 c).arrAt 8 cfg0.N
      ∧ r.2.mem ((c.tc : Thread nD τ).loc main_v0_4) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨Pipeline.FramePost.out_eq h.2 c 5, Pipeline.FramePost.out_eq h.2 c 6, Pipeline.FramePost.out_eq h.2 c 7, Pipeline.FramePost.out_eq h.2 c 8, Pipeline.FramePost.out_eq h.2 c 9, h.1 c⟩) (θ_run_and (unchanged m ρ) (run_main m ρ))

end Cert.Kernel13Ideal.LSS

end
-- ==== Proof.LSS.Reference.lean ====
module

public import proofs.«01_k».proof.Proof.Gen.Reference13Ideal.Run
public import proofs.«01_k».proof.Proof.LSS.Scalar
public import Idealize.ShloMosaic.Lib.Pointwise

/-! The reference's results, element by element over the arguments. -/

@[expose] public section

set_option maxRecDepth 16384

noncomputable section

namespace Cert.Reference13Ideal.LSS

open Idealize.ShloMosaic Idealize.ShloMosaic.TcCoe Idealize.SL.Sem
open Cert.GRD Cert.LSS
open Cert.Reference13Ideal Cert.Reference13Ideal.Gen

variable (A0 : FVec Ideal S2048x2048 .f32) (A1 : FVec Ideal S1x2048 .f32) (A2 A3 A4 : FVec Ideal S2048x2048 .f32)

/-- The rows' mean squares, plus the small constant. -/
def T_s : FVec Ideal S2048x1 .f32 :=
  addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))

/-- The normed input minus the targets. -/
def T_d : FVec Ideal S2048x2048 .f32 := subf (mulf (mulf A0 (broadcastInDim S2048x2048 ![0, 1] bcast_S2048x1_S2048x2048_0_1 (Host.rsqrt (T_s A0)))) (broadcastInDim S2048x2048 ![0, 1] bcast_S1x2048_S2048x2048_0_1 A1)) A2

/-- The loss's gradient by the normed input. -/
def T_g : FVec Ideal S2048x2048 .f32 :=
  mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) (T_d A0 A1 A2))

/-- The same times the norm's weight. -/
def T_y : FVec Ideal S2048x2048 .f32 := mulf (T_g A0 A1 A2) (broadcastInDim S2048x2048 ![0, 1] bcast_S1x2048_S2048x2048_0_1 A1)

/-- The share of every element in its row's mean square. -/
def T_c : FVec Ideal S2048x2048 .f32 :=
  broadcastInDim S2048x2048 ![0] bcast_S2048_S2048x2048_0 (Host.reduceAdd (Host.divf (mulf (shapeCast _ (Host.reduceAdd (mulf A0 (T_y A0 A1 A2)) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (T_s A0)) (T_s A0)))) (broadcastInDim S2048x1 ![] bcast_S_S2048x1 (constant S_ .f32 0x45000000#32))) (constant S_ .f32 0x00000000#32) reducesTo_S2048x1_S2048_d1 h_S_)

/-- The gradient of the norm's input. -/
def T_x : FVec Ideal S2048x2048 .f32 :=
  addf (addf (mulf (T_y A0 A1 A2) (broadcastInDim S2048x2048 ![0, 1] bcast_S2048x1_S2048x2048_0_1 (Host.rsqrt (T_s A0)))) (mulf A0 (T_c A0 A1 A2))) (mulf (T_c A0 A1 A2) A0)

/-- The gradient of the norm's weight. -/
def T_w : FVec Ideal S1x2048 .f32 :=
  shapeCast _ (Host.reduceAdd (mulf (mulf A0 (broadcastInDim S2048x2048 ![0, 1] bcast_S2048x1_S2048x2048_0_1 (Host.rsqrt (T_s A0)))) (T_g A0 A1 A2)) (constant S_ .f32 0x00000000#32) reducesTo_S2048x2048_S2048_d0 h_S_) shapeCasts_S2048_S1x2048

/-- The loss, in every element. -/
def T_l : FVec Ideal S1x128 .f32 :=
  broadcastInDim S1x128 ![] bcast_S_S1x128 (mulf (constant S_ .f32 0x3F000000#32) (Host.reduceAdd (Host.divf (Host.reduceAdd (mulf (T_d A0 A1 A2) (T_d A0 A1 A2)) (constant S_ .f32 0x00000000#32) reducesTo_S2048x2048_S2048_d1 h_S_) (broadcastInDim S2048 ![] bcast_S_S2048 (constant S_ .f32 0x45000000#32))) (constant S_ .f32 0x00000000#32) reducesTo_S2048_S_d0 h_S_))

/-- The gate. -/
def T_q : FVec Ideal S2048x2048 .f32 := Host.divf (broadcastInDim S2048x2048 ![] bcast_S_S2048x2048 (constant S_ .f32 0x3F800000#32)) (addf (broadcastInDim S2048x2048 ![] bcast_S_S2048x2048 (constant S_ .f32 0x3F800000#32)) (Host.exp (Host.negf A3)))

/-- The gradients of the embedding and of its gate. -/
def T_e : FVec Ideal S2048x2048 .bf16 := truncf .bf16 (mulf (T_q A3) (T_x A0 A1 A2)) bitsLt_bf16_f32
def T_k : FVec Ideal S2048x2048 .bf16 :=
  truncf .bf16 (mulf (mulf (T_x A0 A1 A2) A4) (mulf (T_q A3) (subf (broadcastInDim S2048x2048 ![] bcast_S_S2048x2048 (constant S_ .f32 0x3F800000#32)) (T_q A3)))) bitsLt_bf16_f32

theorem T_s_apply (r : Fin 2048) : T_s A0 (ix2 r 0) = MS fun k => A0 (ix2 r k) := by
  pointwise [T_s, MS, Ideal.ofBits_zero_f32]

theorem T_d_apply (r q : Fin 2048) : T_d A0 A1 A2 (ix2 r q) = DIFF (fun k => A0 (ix2 r k)) (fun k => A1 (ix2 0 k)) (fun k => A2 (ix2 r k)) q := by
  pointwise [T_d, DIFF, RSQ, T_s_apply]

theorem T_g_apply (r q : Fin 2048) : T_g A0 A1 A2 (ix2 r q) = DLOSSC (fun k => A0 (ix2 r k)) (fun k => A1 (ix2 0 k)) (fun k => A2 (ix2 r k)) q := by
  pointwise [T_g, DLOSSC, T_d_apply, Ideal.ofBits_one_f32]

theorem T_y_apply (r q : Fin 2048) : T_y A0 A1 A2 (ix2 r q) = DLOSSC (fun k => A0 (ix2 r k)) (fun k => A1 (ix2 0 k)) (fun k => A2 (ix2 r k)) q * A1 (ix2 0 q) := by
  pointwise [T_y, T_g_apply]

theorem T_c_apply (r q : Fin 2048) : T_c A0 A1 A2 (ix2 r q) = COEF (fun k => A0 (ix2 r k)) (fun k => A1 (ix2 0 k)) (DLOSSC (fun k => A0 (ix2 r k)) (fun k => A1 (ix2 0 k)) (fun k => A2 (ix2 r k))) := by
  pointwise [T_c, COEF, RSQ, T_y_apply, Ideal.ofBits_zero_f32]
  rw [Fin.sum_univ_one, T_s_apply]

theorem T_x_apply (r q : Fin 2048) : T_x A0 A1 A2 (ix2 r q) = CHAIN (fun k => A0 (ix2 r k)) (fun k => A1 (ix2 0 k)) (DLOSSC (fun k => A0 (ix2 r k)) (fun k => A1 (ix2 0 k)) (fun k => A2 (ix2 r k))) q := by
  pointwise [T_x, CHAIN, RSQ, T_s_apply, T_y_apply, T_c_apply]

theorem T_w_apply (q : Fin 2048) : T_w A0 A1 A2 (ix2 0 q) = ∑ r : Fin 2048, A0 (ix2 r q) * RSQ (fun k => A0 (ix2 r k)) * DLOSSC (fun k => A0 (ix2 r k)) (fun k => A1 (ix2 0 k)) (fun k => A2 (ix2 r k)) q := by
  pointwise [T_w, RSQ, T_s_apply, T_g_apply, Ideal.ofBits_zero_f32]

theorem T_l_apply (j : S1x128.Idx) : T_l A0 A1 A2 j = Ideal.ofBits .f32 0x3F000000#32 * ∑ r : Fin 2048, ERR (fun k => A0 (ix2 r k)) (fun k => A1 (ix2 0 k)) (fun k => A2 (ix2 r k)) := by
  obtain ⟨z, q, rfl⟩ : ∃ (z : Fin 1) (q : Fin 128), j = ix2 z q := ⟨_, _, eq_ix2 j⟩
  pointwise [T_l, ERR, T_d_apply, Ideal.ofBits_zero_f32]

theorem T_q_apply (j : S2048x2048.Idx) : T_q A3 j = SIG (A3 j) := by
  pointwise [T_q, SIG, Ideal.ofBits_one_f32]

theorem T_e_apply (j : S2048x2048.Idx) : T_e A0 A1 A2 A3 j = SIG (A3 j) * T_x A0 A1 A2 j := by
  pointwise [T_e, T_q_apply]

theorem T_k_apply (j : S2048x2048.Idx) : T_k A0 A1 A2 A3 A4 j = T_x A0 A1 A2 j * A4 j * (SIG (A3 j) * (1 - SIG (A3 j))) := by
  pointwise [T_k, T_q_apply, Ideal.ofBits_one_f32]

variable (m : (ℓ : Loc nD τ sig) → Buf (Elt Ideal) ℓ) (c : Dev nD)

theorem res48 : Value.res_main_v48 (F := Ideal) m c = T_x (m ((c.tc : Thread nD τ).loc main_arg0)) (m ((c.tc : Thread nD τ).loc main_arg1)) (m ((c.tc : Thread nD τ).loc main_arg2)) := by
  unfold Value.res_main_v48 T_x T_c T_y T_g T_d T_s
  rfl

theorem res63 : Value.res_main_v63 (F := Ideal) m c = T_e (m ((c.tc : Thread nD τ).loc main_arg0)) (m ((c.tc : Thread nD τ).loc main_arg1)) (m ((c.tc : Thread nD τ).loc main_arg2)) (m ((c.tc : Thread nD τ).loc main_arg3)) := by
  unfold Value.res_main_v63 T_e T_q T_x T_c T_y T_g T_d T_s
  rfl

theorem res64 : Value.res_main_v64 (F := Ideal) m c = T_k (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v64 T_k T_q T_x T_c T_y T_g T_d T_s
  rfl

end Cert.Reference13Ideal.LSS

end
-- ==== Proof.LSS.Claims.lean ====
module

public import proofs.«01_k».proof.Defs
public import proofs.«01_k».proof.Proof.LSS.Kernel
public import proofs.«01_k».proof.Proof.LSS.Reference
public import proofs.«01_k».proof.Proof.Gen.Kernel13.Frame
public import Idealize.ShloMosaic.Lib.Claim

/-! The frames and the equality of the five results. -/

@[expose] public section

set_option maxRecDepth 16384

noncomputable section

namespace Cert.LSS

open Idealize.ShloMosaic Idealize.ShloMosaic.TcCoe Idealize.SL.Sem
open Cert.GRD

theorem frame_kernel : Cert.quiescent_Kernel13 := fun m ρ _ => Cert.Kernel13.Gen.frame m ρ
theorem frame_ideal : Cert.quiescent_Kernel13Ideal := fun m ρ _ => Cert.Kernel13Ideal.Gen.frame m ρ

theorem frame_ref : Cert.quiescent_Reference13Ideal := fun m ρ _ =>
  (θ_run Cert.Reference13Ideal.defs _ _).mono
    (fun r h => ⟨fun c => (h c).2.2.2.2.2, Idealize.ShloMosaic.sem_eq_zero_of_no_sems (by decide) r.2⟩)
    (Cert.Reference13Ideal.Value.run (F := Ideal) m ρ)

variable (A0 : FVec Ideal Cert.Kernel13Ideal.S2048x2048 .f32) (A1 : FVec Ideal Cert.Kernel13Ideal.S1x2048 .f32) (A2 A3 A4 : FVec Ideal Cert.Kernel13Ideal.S2048x2048 .f32)

theorem dx_eq (r q : Fin 2048) : Cert.Kernel13Ideal.LSS.DX A0 A1 A2 r q = Cert.Reference13Ideal.LSS.T_x A0 A1 A2 (ix2 r q) := by
  refine Eq.trans ?_ (Cert.Reference13Ideal.LSS.T_x_apply A0 A1 A2 r q).symm
  unfold Cert.Kernel13Ideal.LSS.DX
  rw [GRAD_eq, funext (DLOSS_eq (fun k => A0 (ix2 r k)) (fun k => A1 (ix2 0 k)) (fun k => A2 (ix2 r k)))]

theorem dxj_eq : Cert.Kernel13Ideal.LSS.DXJ A0 A1 A2 = Cert.Reference13Ideal.LSS.T_x A0 A1 A2 := by
  funext j
  obtain ⟨r, q, rfl⟩ : ∃ (r q : Fin 2048), j = ix2 r q := ⟨_, _, eq_ix2 j⟩
  exact dx_eq A0 A1 A2 r q

theorem dw_eq : Cert.Kernel13Ideal.LSS.DWJ A0 A1 A2 = Cert.Reference13Ideal.LSS.T_w A0 A1 A2 := by
  funext j
  obtain ⟨z, q, rfl⟩ : ∃ (z : Fin 1) (q : Fin 2048), j = ix2 z q := ⟨_, _, eq_ix2 j⟩
  obtain rfl : z = 0 := Subsingleton.elim _ _
  refine Eq.trans ?_ (Cert.Reference13Ideal.LSS.T_w_apply A0 A1 A2 q).symm
  refine Finset.sum_congr rfl fun r _ => ?_
  refine (mul_assoc _ _ _).trans ((mul_comm _ _).trans ?_)
  exact congrArg (A0 (ix2 r q) * RSQ (fun k => A0 (ix2 r k)) * ·) (DLOSS_eq _ _ _ q)

theorem loss_eq : Cert.Kernel13Ideal.LSS.LJ A0 A1 A2 = Cert.Reference13Ideal.LSS.T_l A0 A1 A2 := by
  funext j
  exact (Cert.Reference13Ideal.LSS.T_l_apply A0 A1 A2 j).symm

theorem de_eq : Cert.Kernel13Ideal.LSS.DEJ A0 A1 A2 A3 = Cert.Reference13Ideal.LSS.T_e A0 A1 A2 A3 := by
  funext j
  refine Eq.trans ?_ (Cert.Reference13Ideal.LSS.T_e_apply A0 A1 A2 A3 j).symm
  refine (mul_comm _ _).trans (congrArg (Cert.LSS.SIG (A3 j) * ·) ?_)
  exact congrFun (dxj_eq A0 A1 A2) j

theorem ds_eq : Cert.Kernel13Ideal.LSS.DSJ A0 A1 A2 A3 A4 = Cert.Reference13Ideal.LSS.T_k A0 A1 A2 A3 A4 := by
  funext j
  refine Eq.trans ?_ (Cert.Reference13Ideal.LSS.T_k_apply A0 A1 A2 A3 A4 j).symm
  refine (mul_assoc _ _ _).trans (congrArg (fun z : EReal => z * A4 j * (Cert.LSS.SIG (A3 j) * (1 - Cert.LSS.SIG (A3 j)))) ?_)
  exact congrFun (dxj_eq A0 A1 A2) j

theorem algebraic : Cert.algebraic_Kernel13Ideal_Reference13Ideal := by
  intro m g m' g' _ hagree
  refine ⟨fun c => Cert.Reference13Ideal.LSS.T_x (Cert.Kernel13Ideal.LSS.a0 m c) (Cert.Kernel13Ideal.LSS.a1 m c) (Cert.Kernel13Ideal.LSS.a2 m c), fun c => Cert.Reference13Ideal.LSS.T_w (Cert.Kernel13Ideal.LSS.a0 m c) (Cert.Kernel13Ideal.LSS.a1 m c) (Cert.Kernel13Ideal.LSS.a2 m c), fun c => Cert.Reference13Ideal.LSS.T_l (Cert.Kernel13Ideal.LSS.a0 m c) (Cert.Kernel13Ideal.LSS.a1 m c) (Cert.Kernel13Ideal.LSS.a2 m c), fun c => Cert.Reference13Ideal.LSS.T_e (Cert.Kernel13Ideal.LSS.a0 m c) (Cert.Kernel13Ideal.LSS.a1 m c) (Cert.Kernel13Ideal.LSS.a2 m c) (Cert.Kernel13Ideal.LSS.a3 m c), fun c => Cert.Reference13Ideal.LSS.T_k (Cert.Kernel13Ideal.LSS.a0 m c) (Cert.Kernel13Ideal.LSS.a1 m c) (Cert.Kernel13Ideal.LSS.a2 m c) (Cert.Kernel13Ideal.LSS.a3 m c) (Cert.Kernel13Ideal.LSS.a4 m c), ?_, ?_⟩
  · refine (θ_run Cert.Kernel13Ideal.defs _ _).mono (fun r h c => ?_) (Cert.Kernel13Ideal.LSS.run m g)
    obtain ⟨e0, e1, e2, e3, e4, hargs⟩ := h c
    exact ⟨e0.trans ((Cert.Kernel13Ideal.LSS.final0_5 m c).trans (dxj_eq _ _ _)), e1.trans ((Cert.Kernel13Ideal.LSS.final0_6 m c).trans (dw_eq _ _ _)), e2.trans ((Cert.Kernel13Ideal.LSS.final0_7 m c).trans (loss_eq _ _ _)),
      e3.trans ((Cert.Kernel13Ideal.LSS.final0_8 m c).trans (de_eq _ _ _ _)), e4.trans ((Cert.Kernel13Ideal.LSS.final0_9 m c).trans (ds_eq _ _ _ _ _)), hargs⟩
  · refine (θ_run Cert.Reference13Ideal.defs _ _).mono (fun r h c => ?_) (Cert.Reference13Ideal.Value.run (F := Ideal) m' g')
    obtain ⟨e0, e1, e2, e3, e4, hargs⟩ := h c
    obtain ⟨g0, g1, g2, g3, g4⟩ := hagree c
    replace e0 := e0.trans (Cert.Reference13Ideal.LSS.res48 m' c)
    replace e3 := e3.trans (Cert.Reference13Ideal.LSS.res63 m' c)
    replace e4 := e4.trans (Cert.Reference13Ideal.LSS.res64 m' c)
    rw [g0, g1, g2] at e0 e1 e2
    rw [g0, g1, g2, g3] at e3
    rw [g0, g1, g2, g3, g4] at e4
    exact ⟨e0, e1, e2, e3, e4, hargs⟩

end Cert.LSS

end
-- ==== Proof.OPT.Scalar.lean ====
module

public import Idealize.ShloMosaic.Lib.Pointwise

/-! The optimiser's step on one number. -/

@[expose] public section

set_option maxRecDepth 16384

noncomputable section

namespace Cert.OPT

open Idealize.ShloMosaic

/-- The new first moment. -/
def MNEW (μ g : EReal) : EReal := Ideal.ofBits .f32 0x3F666666#32 * μ + Ideal.ofBits .f32 0x3DCCCCCD#32 * g

/-- The new second moment. -/
def VNEW (ν g : EReal) : EReal := Ideal.ofBits .f32 0x3F7FBE77#32 * ν + Ideal.ofBits .f32 0x3A83126F#32 * (g * g)

/-- The step from a weight and its two new moments. -/
def STEP (w μ ν : EReal) : EReal :=
  Ideal.ofBits .f32 0xBA83126F#32 * (Ideal.div (Ideal.div μ (Ideal.ofBits .f32 0x3F26BD02#32)) (Ideal.sqrt (Ideal.div ν (Ideal.ofBits .f32 0x3C231ACC#32)) + Ideal.ofBits .f32 0x322BCC77#32) + Ideal.ofBits .f32 0x3C23D70A#32 * w)

end Cert.OPT

end
-- ==== Proof.OPQ.Kernel.lean ====
module

public import proofs.«01_k».proof.Proof.Gen.Kernel14Ideal.Frame
public import proofs.«01_k».proof.Proof.OPT.Scalar
public import Idealize.ShloMosaic.Lib.Pipeline.ValueKit
public import Idealize.ShloMosaic.Lib.Pointwise
public import Idealize.ShloMosaic.Lib.Claim

/-! The optimiser step of the q, k and v projection's weight, element by element over the arguments. -/

@[expose] public section

set_option maxRecDepth 16384

noncomputable section

namespace Cert.Kernel14Ideal.OPQ

open Idealize.ShloMosaic Idealize.ShloMosaic.TcCoe Idealize.SL.Sem
open Idealize.ShloMosaic.Pipeline (Dat)
open Cert.OPT
open Cert.Kernel14Ideal Cert.Kernel14Ideal.Gen

theorem sel1 {α : Type} (a b : α) : Scalar.select 1#1 a b = a := if_pos rfl

theorem sel0 {α : Type} (a b : α) : Scalar.select 0#1 a b = b := if_neg (by decide)

theorem pay2_apply (v0 v3 v7 v11 v16 v21 : FVec Ideal S1x256x768 .bf16) (r : Fin 256) (q : Fin 768) :
    k0_pay2 (F := Ideal) v0 v3 v7 v11 v16 v21 (ix2 r q) = v0 (ix3 0 r q) + v3 (ix3 0 r q) + v11 (ix3 0 r q) + v16 (ix3 0 r q) + v21 (ix3 0 r q) := by
  pointwise [k0_pay2, sel1, sel0]

theorem pay3_apply (v : FVec Ideal S1x256x768 .f32) (r : Fin 256) (q : Fin 768) : k0_pay3 (F := Ideal) v (ix2 r q) = v (ix3 0 r q) := by
  pointwise [k0_pay3]

theorem pay4_apply (v : FVec Ideal S1x256x768 .f32) (r : Fin 256) (q : Fin 768) : k0_pay4 (F := Ideal) v (ix2 r q) = v (ix3 0 r q) := by
  pointwise [k0_pay4]

theorem pay5_apply (g μ : FVec Ideal S256x768 .f32) (r : Fin 256) (q : Fin 768) : k0_pay5 (F := Ideal) g μ (ix2 r q) = MNEW (μ (ix2 r q)) (g (ix2 r q)) := by
  pointwise [k0_pay5, MNEW]

theorem pay6_apply (g : FVec Ideal S256x768 .f32) (ν : FVec Ideal S1x256x768 .f32) (r : Fin 256) (q : Fin 768) : k0_pay6 (F := Ideal) g ν (ix2 r q) = VNEW (ν (ix3 0 r q)) (g (ix2 r q)) := by
  pointwise [k0_pay6, VNEW]

theorem pay7_apply (g : FVec Ideal S256x768 .f32) (r : Fin 256) (q : Fin 768) : k0_pay7 (F := Ideal) g (ix3 0 r q) = g (ix2 r q) := by
  pointwise [k0_pay7]

theorem pay8_apply (g w μ : FVec Ideal S256x768 .f32) (ν : FVec Ideal S1x256x768 .f32) (r : Fin 256) (q : Fin 768) :
    k0_pay8 (F := Ideal) g w μ ν (ix3 0 r q) = STEP (w (ix2 r q)) (MNEW (μ (ix2 r q)) (g (ix2 r q))) (VNEW (ν (ix3 0 r q)) (g (ix2 r q))) := by
  pointwise [k0_pay8, pay5_apply, pay6_apply, STEP]

theorem pay9_apply (g μ : FVec Ideal S256x768 .f32) (r : Fin 256) (q : Fin 768) : k0_pay9 (F := Ideal) g μ (ix3 0 r q) = MNEW (μ (ix2 r q)) (g (ix2 r q)) := by
  pointwise [k0_pay9, pay5_apply]

theorem vnew_apply (g : FVec Ideal S256x768 .f32) (ν : FVec Ideal S1x256x768 .f32) (r : Fin 256) (q : Fin 768) :
    k0_pay1 (F := Ideal) (k0_pay6 (F := Ideal) g ν) (ix3 0 r q) = VNEW (ν (ix3 0 r q)) (g (ix2 r q)) := by
  pointwise [k0_pay1, pay6_apply]

/-- Reading one of the four slabs. -/
theorem slab (x : Vec Ideal S4x256x768 .bf16) (s : Fin 4) (inb : ∀ a, ![s.val, 0, 0] a + S1x256x768.size a ≤ S4x256x768.size a) (r : Fin 256) (q : Fin 768) :
    View.ld (Val := Elt Ideal) x (Rect.unit (s := S4x256x768) ![s.val, 0, 0] S1x256x768.size inb) (ix3 0 r q) = x (ix3 s r q) := by
  refine congrArg x (funext fun a => Fin.ext ?_)
  fin_cases a
  · refine (Rect.idx_unit_val _ _ _ _ _).trans ?_
    show s.val + 0 = s.val
    omega
  · refine (Rect.idx_unit_val _ _ _ _ _).trans ?_
    show 0 + r.val = r.val
    omega
  · refine (Rect.idx_unit_val _ _ _ _ _).trans ?_
    show 0 + q.val = q.val
    omega

theorem whole (x : Vec Ideal S1x256x768 .bf16) (r : Fin 256) (q : Fin 768) : View.ld (Val := Elt Ideal) x r0_0 (ix3 0 r q) = x (ix3 0 r q) := by
  unfold r0_0
  rw [View.ld_unit_lit]
  intro a
  fin_cases a <;> rfl

theorem whole32 (x : Vec Ideal S1x256x768 .f32) (r : Fin 256) (q : Fin 768) : View.ld (Val := Elt Ideal) x r0_0 (ix3 0 r q) = x (ix3 0 r q) := by
  unfold r0_0
  rw [View.ld_unit_lit]
  intro a
  fin_cases a <;> rfl

/-- The gradient of a block: this device's part, the part that its neighbour left, and three others. -/
def GB (x3 : FVec Ideal S4x256x768 .bf16) (x4 x5 : FVec Ideal S1x256x768 .bf16) (r : Fin 256) (q : Fin 768) : EReal :=
  x4 (ix3 0 r q) + x5 (ix3 0 r q) + x3 (ix3 1 r q) + x3 (ix3 2 r q) + x3 (ix3 3 r q)

theorem pay10_apply (x0 x1 x2 : FVec Ideal S1x256x768 .f32) (x3 : FVec Ideal S4x256x768 .bf16) (x4 x5 : FVec Ideal S1x256x768 .bf16) (r : Fin 256) (q : Fin 768) : k0_pay10 (F := Ideal) x0 x1 x2 x3 x4 x5 (ix2 r q) = GB x3 x4 x5 r q := by
  unfold k0_pay10
  rw [pay2_apply]
  exact congrArg₂ (· + ·) (congrArg₂ (· + ·) (congrArg₂ (· + ·) (congrArg₂ (· + ·) (whole x4 r q) (whole x5 r q)) (slab x3 1 _ r q)) (slab x3 2 _ r q)) (slab x3 3 _ r q)

theorem pay11_apply (x0 x1 x2 : FVec Ideal S1x256x768 .f32) (x3 : FVec Ideal S4x256x768 .bf16) (x4 x5 : FVec Ideal S1x256x768 .bf16) (r : Fin 256) (q : Fin 768) : k0_pay11 (F := Ideal) x0 x1 x2 x3 x4 x5 (ix2 r q) = x1 (ix3 0 r q) := by
  unfold k0_pay11
  rw [pay4_apply]
  exact whole32 x1 r q

theorem vg_block (x0 x1 x2 : FVec Ideal S1x256x768 .f32) (x3 : FVec Ideal S4x256x768 .bf16) (x4 x5 : FVec Ideal S1x256x768 .bf16) (r : Fin 256) (q : Fin 768) : k0_pay7 (F := Ideal) (k0_pay10 (F := Ideal) x0 x1 x2 x3 x4 x5) (ix3 0 r q) = GB x3 x4 x5 r q := by
  rw [pay7_apply, pay10_apply]

theorem vm_block (x0 x1 x2 : FVec Ideal S1x256x768 .f32) (x3 : FVec Ideal S4x256x768 .bf16) (x4 x5 : FVec Ideal S1x256x768 .bf16) (r : Fin 256) (q : Fin 768) : k0_pay9 (F := Ideal) (k0_pay10 (F := Ideal) x0 x1 x2 x3 x4 x5) (k0_pay11 (F := Ideal) x0 x1 x2 x3 x4 x5) (ix3 0 r q) = MNEW (x1 (ix3 0 r q)) (GB x3 x4 x5 r q) := by
  rw [pay9_apply, pay10_apply, pay11_apply]

theorem vv_block (x0 x1 x2 : FVec Ideal S1x256x768 .f32) (x3 : FVec Ideal S4x256x768 .bf16) (x4 x5 : FVec Ideal S1x256x768 .bf16) (r : Fin 256) (q : Fin 768) : k0_pay1 (F := Ideal) (k0_pay6 (F := Ideal) (k0_pay10 (F := Ideal) x0 x1 x2 x3 x4 x5) x2) (ix3 0 r q) = VNEW (x2 (ix3 0 r q)) (GB x3 x4 x5 r q) := by
  rw [vnew_apply, pay10_apply]

theorem vd_block (x0 x1 x2 : FVec Ideal S1x256x768 .f32) (x3 : FVec Ideal S4x256x768 .bf16) (x4 x5 : FVec Ideal S1x256x768 .bf16) (r : Fin 256) (q : Fin 768) : k0_pay8 (F := Ideal) (k0_pay10 (F := Ideal) x0 x1 x2 x3 x4 x5) (k0_pay3 (F := Ideal) x0) (k0_pay11 (F := Ideal) x0 x1 x2 x3 x4 x5) x2 (ix3 0 r q) = STEP (x0 (ix3 0 r q)) (MNEW (x1 (ix3 0 r q)) (GB x3 x4 x5 r q)) (VNEW (x2 (ix3 0 r q)) (GB x3 x4 x5 r q)) := by
  rw [pay8_apply, pay10_apply, pay11_apply, pay3_apply]

theorem yform (y : S1x256x768.Idx) : ∃ (r : Fin 256) (q : Fin 768), y = (ix3 0 r q) := by
  rw [eq_ix3 y]
  exact ⟨_, _, congrArg (fun z => ix3 z (y 1) (y 2)) (Subsingleton.elim _ _)⟩

variable (m : (ℓ : Loc nD τ sig) → Buf (Elt Ideal) ℓ) (ρ : Dev nD → PrngReg)

/-- The arguments: the weights, their two moments, and the parts of the gradient. -/
abbrev a0 (c : Dev nD) : FVec Ideal S1x2048x768 .f32 := m ((c : Thread nD τ).loc main_arg0)
abbrev a1 (c : Dev nD) : FVec Ideal S1x2048x768 .f32 := m ((c : Thread nD τ).loc main_arg1)
abbrev a2 (c : Dev nD) : FVec Ideal S1x2048x768 .f32 := m ((c : Thread nD τ).loc main_arg2)
abbrev a3 (c : Dev nD) : FVec Ideal S4x2048x768 .bf16 := m ((c : Thread nD τ).loc main_arg3)
abbrev a4 (c : Dev nD) : FVec Ideal S8x2048x768 .bf16 := m ((c : Thread nD τ).loc main_arg4)
abbrev a5 (c : Dev nD) : FVec Ideal S4x2048x768 .bf16 := m ((c : Thread nD τ).loc main_arg5)

theorem idx0 : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] ∧ win0_8.index t = ![0, t.val, 0] ∧ win0_9.index t = ![0, t.val, 0] ∧ t.val < 8 :=
  (by decide +kernel : ∀ t : Fin grid0.N, _)

theorem ltN (t : Fin cfg0.N) : t.val < 8 := (idx0 t).2.2.2.2.2.2.2.2.2.2

/-- The row that row `r` of a block is. -/
def row (t : Fin cfg0.N) (r : Fin 256) : Fin 2048 := ⟨t.val * 256 + r.val, by have := ltN t; omega⟩

theorem blk0_point (c : Dev nD) (t : Fin cfg0.N) (r : Fin 256) (q : Fin 768) : iblk m c 0 t (ix3 0 r q) = a0 m c (ix3 0 (row t r) q) := by
  unfold iblk
  refine congrArg (a0 m c) ?_
  blk_point [idx0 t, row]

theorem blk1_point (c : Dev nD) (t : Fin cfg0.N) (r : Fin 256) (q : Fin 768) : iblk m c 1 t (ix3 0 r q) = a1 m c (ix3 0 (row t r) q) := by
  unfold iblk
  refine congrArg (a1 m c) ?_
  blk_point [idx0 t, row]

theorem blk2_point (c : Dev nD) (t : Fin cfg0.N) (r : Fin 256) (q : Fin 768) : iblk m c 2 t (ix3 0 r q) = a2 m c (ix3 0 (row t r) q) := by
  unfold iblk
  refine congrArg (a2 m c) ?_
  blk_point [idx0 t, row]

theorem blk3_point (c : Dev nD) (t : Fin cfg0.N) (s : Fin 4) (r : Fin 256) (q : Fin 768) : iblk m c 3 t (ix3 s r q) = a3 m c (ix3 s (row t r) q) := by
  unfold iblk
  refine congrArg (a3 m c) ?_
  blk_point [idx0 t, row]

theorem blk4_point (c : Dev nD) (t : Fin cfg0.N) (r : Fin 256) (q : Fin 768) : iblk m c 4 t (ix3 0 r q) = a4 m c (ix3 0 (row t r) q) := by
  unfold iblk
  refine congrArg (a4 m c) ?_
  blk_point [idx0 t, row]

theorem blk5_point (c : Dev nD) (t : Fin cfg0.N) (r : Fin 256) (q : Fin 768) : iblk m c 5 t (ix3 0 r q) = a5 m c (ix3 0 (row t r) q) := by
  unfold iblk
  refine congrArg (a5 m c) ?_
  blk_point [idx0 t, row]

/-- The gradient, the two moments and the step at an index. -/
def OG (p : FVec Ideal S4x2048x768 .bf16) (a : FVec Ideal S8x2048x768 .bf16) (h : FVec Ideal S4x2048x768 .bf16) (j : S1x2048x768.Idx) : EReal :=
  a (ix3 0 (j 1) (j 2)) + h (ix3 0 (j 1) (j 2)) + p (ix3 1 (j 1) (j 2)) + p (ix3 2 (j 1) (j 2)) + p (ix3 3 (j 1) (j 2))
def OM (μ : FVec Ideal S1x2048x768 .f32) (p : FVec Ideal S4x2048x768 .bf16) (a : FVec Ideal S8x2048x768 .bf16) (h : FVec Ideal S4x2048x768 .bf16) (j : S1x2048x768.Idx) : EReal := MNEW (μ j) (OG p a h j)
def OV (ν : FVec Ideal S1x2048x768 .f32) (p : FVec Ideal S4x2048x768 .bf16) (a : FVec Ideal S8x2048x768 .bf16) (h : FVec Ideal S4x2048x768 .bf16) (j : S1x2048x768.Idx) : EReal := VNEW (ν j) (OG p a h j)
def OD (w μ ν : FVec Ideal S1x2048x768 .f32) (p : FVec Ideal S4x2048x768 .bf16) (a : FVec Ideal S8x2048x768 .bf16) (h : FVec Ideal S4x2048x768 .bf16) (j : S1x2048x768.Idx) : EReal := STEP (w j) (OM μ p a h j) (OV ν p a h j)

theorem vg_point (c : Dev nD) (t : Fin cfg0.N) (r : Fin 256) (q : Fin 768) : k0_pay7 (F := Ideal) (k0_pay10 (F := Ideal) (iblk m c 0 t) (iblk m c 1 t) (iblk m c 2 t) (iblk m c 3 t) (iblk m c 4 t) (iblk m c 5 t)) (ix3 0 r q) = OG (a3 m c) (a4 m c) (a5 m c) (ix3 0 (row t r) q) := by
  rw [vg_block]
  unfold GB
  simp only [blk0_point, blk1_point, blk2_point, blk3_point, blk4_point, blk5_point]
  rfl

theorem final0_6 (c : Dev nD) : (dats m 0 c).arrAt 6 cfg0.N = OG (a3 m c) (a4 m c) (a5 m c) := by
  refine (dats m 0 c).arrAt_eq_of_covers 6 _ (by decide +kernel) fun t hf y => ?_
  blk_simp
  rw [after0_6]; frame_out
  obtain ⟨r, q, rfl⟩ : ∃ (r : Fin 256) (q : Fin 768), y = (ix3 0 r q) := yform y
  refine (vg_point m c t r q).trans (congrArg (OG (a3 m c) (a4 m c) (a5 m c)) (a₁ := (ix3 0 (row t r) q)) ?_)
  blk_point [idx0 t, row]

theorem vd_point (c : Dev nD) (t : Fin cfg0.N) (r : Fin 256) (q : Fin 768) : k0_pay8 (F := Ideal) (k0_pay10 (F := Ideal) (iblk m c 0 t) (iblk m c 1 t) (iblk m c 2 t) (iblk m c 3 t) (iblk m c 4 t) (iblk m c 5 t)) (k0_pay3 (F := Ideal) (iblk m c 0 t)) (k0_pay11 (F := Ideal) (iblk m c 0 t) (iblk m c 1 t) (iblk m c 2 t) (iblk m c 3 t) (iblk m c 4 t) (iblk m c 5 t)) (iblk m c 2 t) (ix3 0 r q) = OD (a0 m c) (a1 m c) (a2 m c) (a3 m c) (a4 m c) (a5 m c) (ix3 0 (row t r) q) := by
  rw [vd_block]
  unfold GB
  simp only [blk0_point, blk1_point, blk2_point, blk3_point, blk4_point, blk5_point]
  rfl

theorem final0_7 (c : Dev nD) : (dats m 0 c).arrAt 7 cfg0.N = OD (a0 m c) (a1 m c) (a2 m c) (a3 m c) (a4 m c) (a5 m c) := by
  refine (dats m 0 c).arrAt_eq_of_covers 7 _ (by decide +kernel) fun t hf y => ?_
  blk_simp
  rw [after0_7]; frame_out
  obtain ⟨r, q, rfl⟩ : ∃ (r : Fin 256) (q : Fin 768), y = (ix3 0 r q) := yform y
  refine (vd_point m c t r q).trans (congrArg (OD (a0 m c) (a1 m c) (a2 m c) (a3 m c) (a4 m c) (a5 m c)) (a₁ := (ix3 0 (row t r) q)) ?_)
  blk_point [idx0 t, row]

theorem vm_point (c : Dev nD) (t : Fin cfg0.N) (r : Fin 256) (q : Fin 768) : k0_pay9 (F := Ideal) (k0_pay10 (F := Ideal) (iblk m c 0 t) (iblk m c 1 t) (iblk m c 2 t) (iblk m c 3 t) (iblk m c 4 t) (iblk m c 5 t)) (k0_pay11 (F := Ideal) (iblk m c 0 t) (iblk m c 1 t) (iblk m c 2 t) (iblk m c 3 t) (iblk m c 4 t) (iblk m c 5 t)) (ix3 0 r q) = OM (a1 m c) (a3 m c) (a4 m c) (a5 m c) (ix3 0 (row t r) q) := by
  rw [vm_block]
  unfold GB
  simp only [blk0_point, blk1_point, blk2_point, blk3_point, blk4_point, blk5_point]
  rfl

theorem final0_8 (c : Dev nD) : (dats m 0 c).arrAt 8 cfg0.N = OM (a1 m c) (a3 m c) (a4 m c) (a5 m c) := by
  refine (dats m 0 c).arrAt_eq_of_covers 8 _ (by decide +kernel) fun t hf y => ?_
  blk_simp
  rw [after0_8]; frame_out
  obtain ⟨r, q, rfl⟩ : ∃ (r : Fin 256) (q : Fin 768), y = (ix3 0 r q) := yform y
  refine (vm_point m c t r q).trans (congrArg (OM (a1 m c) (a3 m c) (a4 m c) (a5 m c)) (a₁ := (ix3 0 (row t r) q)) ?_)
  blk_point [idx0 t, row]

theorem vv_point (c : Dev nD) (t : Fin cfg0.N) (r : Fin 256) (q : Fin 768) : k0_pay1 (F := Ideal) (k0_pay6 (F := Ideal) (k0_pay10 (F := Ideal) (iblk m c 0 t) (iblk m c 1 t) (iblk m c 2 t) (iblk m c 3 t) (iblk m c 4 t) (iblk m c 5 t)) (iblk m c 2 t)) (ix3 0 r q) = OV (a2 m c) (a3 m c) (a4 m c) (a5 m c) (ix3 0 (row t r) q) := by
  rw [vv_block]
  unfold GB
  simp only [blk0_point, blk1_point, blk2_point, blk3_point, blk4_point, blk5_point]
  rfl

theorem final0_9 (c : Dev nD) : (dats m 0 c).arrAt 9 cfg0.N = OV (a2 m c) (a3 m c) (a4 m c) (a5 m c) := by
  refine (dats m 0 c).arrAt_eq_of_covers 9 _ (by decide +kernel) fun t hf y => ?_
  blk_simp
  rw [after0_9]; frame_out
  obtain ⟨r, q, rfl⟩ : ∃ (r : Fin 256) (q : Fin 768), y = (ix3 0 r q) := yform y
  refine (vv_point m c t r q).trans (congrArg (OV (a2 m c) (a3 m c) (a4 m c) (a5 m c)) (a₁ := (ix3 0 (row t r) q)) ?_)
  blk_point [idx0 t, row]

theorem run : θ_run defs (onTc (τ := τ) (main (F := Ideal))) ⟨m, fun _ => 0, ρ⟩ (fun r => ∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_v0_2) = (dats m 0 c).arrAt 8 cfg0.N
      ∧ r.2.mem ((c.tc : Thread nD τ).loc main_v0_3) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨Pipeline.FramePost.out_eq h.2 c 6, Pipeline.FramePost.out_eq h.2 c 7, Pipeline.FramePost.out_eq h.2 c 8, Pipeline.FramePost.out_eq h.2 c 9, h.1 c⟩) (θ_run_and (unchanged m ρ) (run_main m ρ))

end Cert.Kernel14Ideal.OPQ

end
-- ==== Proof.OPQ.Reference.lean ====
module

public import proofs.«01_k».proof.Proof.Gen.Reference14Ideal.Run
public import proofs.«01_k».proof.Proof.OPT.Scalar
public import Idealize.ShloMosaic.Lib.Pointwise

/-! The reference's results, element by element over the arguments. -/

@[expose] public section

set_option maxRecDepth 16384

noncomputable section

namespace Cert.Reference14Ideal.OPQ

open Idealize.ShloMosaic Idealize.ShloMosaic.TcCoe Idealize.SL.Sem
open Cert.OPT
open Cert.Reference14Ideal Cert.Reference14Ideal.Gen

variable (A0 A1 A2 : FVec Ideal S1x2048x768 .f32) (A3 : FVec Ideal S4x2048x768 .bf16) (A4 : FVec Ideal S8x2048x768 .bf16) (A5 : FVec Ideal S4x2048x768 .bf16)

/-- The summed gradient. -/
def T_g : FVec Ideal S1x2048x768 .f32 :=
  broadcastInDim S1x2048x768 ![1, 2] bcast_S2048x768_S1x2048x768_1_2 (addf (addf (extf .f32 (shapeCast _ (extractStridedSlice S1x2048x768 ![0, 0, 0] A4 slices_S8x2048x768_S1x2048x768_0_0_0) shapeCasts_S1x2048x768_S2048x768) bitsLt_bf16_f32) (extf .f32 (shapeCast _ (extractStridedSlice S1x2048x768 ![0, 0, 0] A5 slices_S4x2048x768_S1x2048x768_0_0_0) shapeCasts_S1x2048x768_S2048x768) bitsLt_bf16_f32)) (Host.reduceAdd (extf .f32 (extractStridedSlice S3x2048x768 ![1, 0, 0] A3 slices_S4x2048x768_S3x2048x768_1_0_0) bitsLt_bf16_f32) (constant S_ .f32 0x00000000#32) reducesTo_S3x2048x768_S2048x768_d0 h_S_))

/-- The first moment. -/
def T_m : FVec Ideal S1x2048x768 .f32 := addf (mulf (broadcastInDim S1x2048x768 ![] bcast_S_S1x2048x768 (constant S_ .f32 0x3F666666#32)) A1) (mulf (broadcastInDim S1x2048x768 ![] bcast_S_S1x2048x768 (constant S_ .f32 0x3DCCCCCD#32)) (T_g A3 A4 A5))

/-- The second moment. -/
def T_v : FVec Ideal S1x2048x768 .f32 := addf (mulf (broadcastInDim S1x2048x768 ![] bcast_S_S1x2048x768 (constant S_ .f32 0x3F7FBE77#32)) A2) (mulf (broadcastInDim S1x2048x768 ![] bcast_S_S1x2048x768 (constant S_ .f32 0x3A83126F#32)) (mulf (T_g A3 A4 A5) (T_g A3 A4 A5)))

/-- The step. -/
def T_d : FVec Ideal S1x2048x768 .f32 :=
  mulf (broadcastInDim S1x2048x768 ![] bcast_S_S1x2048x768 (constant S_ .f32 0xBA83126F#32)) (addf (Host.divf (Host.divf (T_m A1 A3 A4 A5) (broadcastInDim S1x2048x768 ![] bcast_S_S1x2048x768 (constant S_ .f32 0x3F26BD02#32))) (addf (Host.sqrt (Host.divf (T_v A2 A3 A4 A5) (broadcastInDim S1x2048x768 ![] bcast_S_S1x2048x768 (constant S_ .f32 0x3C231ACC#32)))) (broadcastInDim S1x2048x768 ![] bcast_S_S1x2048x768 (constant S_ .f32 0x322BCC77#32)))) (mulf (broadcastInDim S1x2048x768 ![] bcast_S_S1x2048x768 (constant S_ .f32 0x3C23D70A#32)) A0))

theorem T_g_apply (r : Fin 2048) (q : Fin 768) : T_g A3 A4 A5 (ix3 0 r q) = A4 (ix3 0 r q) + A5 (ix3 0 r q) + (A3 (ix3 1 r q) + A3 (ix3 2 r q) + A3 (ix3 3 r q)) := by
  pointwise [T_g, Ideal.ofBits_zero_f32]
  rw [Fin.sum_univ_three]
  rfl

theorem T_m_apply (j : S1x2048x768.Idx) : T_m A1 A3 A4 A5 j = MNEW (A1 j) (T_g A3 A4 A5 j) := by
  pointwise [T_m, MNEW]

theorem T_v_apply (j : S1x2048x768.Idx) : T_v A2 A3 A4 A5 j = VNEW (A2 j) (T_g A3 A4 A5 j) := by
  pointwise [T_v, VNEW]

theorem T_d_apply (j : S1x2048x768.Idx) : T_d A0 A1 A2 A3 A4 A5 j = STEP (A0 j) (MNEW (A1 j) (T_g A3 A4 A5 j)) (VNEW (A2 j) (T_g A3 A4 A5 j)) := by
  rw [← T_m_apply, ← T_v_apply]
  pointwise [T_d, STEP]

end Cert.Reference14Ideal.OPQ

end
-- ==== Proof.OPQ.Claims.lean ====
module

public import proofs.«01_k».proof.Defs
public import proofs.«01_k».proof.Proof.OPQ.Kernel
public import proofs.«01_k».proof.Proof.OPQ.Reference
public import proofs.«01_k».proof.Proof.Gen.Kernel14.Frame
public import Idealize.ShloMosaic.Lib.Claim

/-! The frames and the equality of the four results. -/

@[expose] public section

set_option maxRecDepth 16384

noncomputable section

namespace Cert.OPQ

open Idealize.ShloMosaic Idealize.ShloMosaic.TcCoe Idealize.SL.Sem

theorem frame_kernel : Cert.quiescent_Kernel14 := fun m ρ _ => Cert.Kernel14.Gen.frame m ρ
theorem frame_ideal : Cert.quiescent_Kernel14Ideal := fun m ρ _ => Cert.Kernel14Ideal.Gen.frame m ρ

theorem frame_ref : Cert.quiescent_Reference14Ideal := fun m ρ _ =>
  (θ_run Cert.Reference14Ideal.defs _ _).mono
    (fun r h => ⟨fun c => (h c).2.2.2.2, Idealize.ShloMosaic.sem_eq_zero_of_no_sems (by decide) r.2⟩)
    (Cert.Reference14Ideal.Value.run (F := Ideal) m ρ)

variable (A0 A1 A2 : FVec Ideal Cert.Kernel14Ideal.S1x2048x768 .f32) (A3 : FVec Ideal Cert.Kernel14Ideal.S4x2048x768 .bf16) (A4 : FVec Ideal Cert.Kernel14Ideal.S8x2048x768 .bf16) (A5 : FVec Ideal Cert.Kernel14Ideal.S4x2048x768 .bf16)

theorem g_eq : Cert.Kernel14Ideal.OPQ.OG A3 A4 A5 = Cert.Reference14Ideal.OPQ.T_g A3 A4 A5 := by
  funext j
  obtain ⟨r, q, rfl⟩ : ∃ (r : Fin 2048) (q : Fin 768), j = (ix3 0 r q) := by
    rw [eq_ix3 j]
    exact ⟨_, _, congrArg (fun z => ix3 z (j 1) (j 2)) (Subsingleton.elim _ _)⟩
  refine Eq.trans ?_ (Cert.Reference14Ideal.OPQ.T_g_apply A3 A4 A5 r q).symm
  refine Eq.trans (b := A4 (ix3 0 r q) + A5 (ix3 0 r q) + A3 (ix3 1 r q) + A3 (ix3 2 r q) + A3 (ix3 3 r q)) rfl ?_
  rw [add_assoc, add_assoc, ← add_assoc (A3 (ix3 1 r q))]

theorem m_eq : Cert.Kernel14Ideal.OPQ.OM A1 A3 A4 A5 = Cert.Reference14Ideal.OPQ.T_m A1 A3 A4 A5 := by
  funext j
  refine Eq.trans ?_ (Cert.Reference14Ideal.OPQ.T_m_apply A1 A3 A4 A5 j).symm
  exact congrArg (Cert.OPT.MNEW (A1 j)) (congrFun (g_eq A3 A4 A5) j)

theorem v_eq : Cert.Kernel14Ideal.OPQ.OV A2 A3 A4 A5 = Cert.Reference14Ideal.OPQ.T_v A2 A3 A4 A5 := by
  funext j
  refine Eq.trans ?_ (Cert.Reference14Ideal.OPQ.T_v_apply A2 A3 A4 A5 j).symm
  exact congrArg (Cert.OPT.VNEW (A2 j)) (congrFun (g_eq A3 A4 A5) j)

theorem d_eq : Cert.Kernel14Ideal.OPQ.OD A0 A1 A2 A3 A4 A5 = Cert.Reference14Ideal.OPQ.T_d A0 A1 A2 A3 A4 A5 := by
  funext j
  refine Eq.trans ?_ (Cert.Reference14Ideal.OPQ.T_d_apply A0 A1 A2 A3 A4 A5 j).symm
  exact congrArg (fun g => Cert.OPT.STEP (A0 j) (Cert.OPT.MNEW (A1 j) g) (Cert.OPT.VNEW (A2 j) g)) (congrFun (g_eq A3 A4 A5) j)

theorem algebraic : Cert.algebraic_Kernel14Ideal_Reference14Ideal := by
  intro m g m' g' _ hagree
  refine ⟨fun c => Cert.Reference14Ideal.OPQ.T_g (Cert.Kernel14Ideal.OPQ.a3 m c) (Cert.Kernel14Ideal.OPQ.a4 m c) (Cert.Kernel14Ideal.OPQ.a5 m c), fun c => Cert.Reference14Ideal.OPQ.T_d (Cert.Kernel14Ideal.OPQ.a0 m c) (Cert.Kernel14Ideal.OPQ.a1 m c) (Cert.Kernel14Ideal.OPQ.a2 m c) (Cert.Kernel14Ideal.OPQ.a3 m c) (Cert.Kernel14Ideal.OPQ.a4 m c) (Cert.Kernel14Ideal.OPQ.a5 m c), fun c => Cert.Reference14Ideal.OPQ.T_m (Cert.Kernel14Ideal.OPQ.a1 m c) (Cert.Kernel14Ideal.OPQ.a3 m c) (Cert.Kernel14Ideal.OPQ.a4 m c) (Cert.Kernel14Ideal.OPQ.a5 m c), fun c => Cert.Reference14Ideal.OPQ.T_v (Cert.Kernel14Ideal.OPQ.a2 m c) (Cert.Kernel14Ideal.OPQ.a3 m c) (Cert.Kernel14Ideal.OPQ.a4 m c) (Cert.Kernel14Ideal.OPQ.a5 m c), ?_, ?_⟩
  · refine (θ_run Cert.Kernel14Ideal.defs _ _).mono (fun r h c => ?_) (Cert.Kernel14Ideal.OPQ.run m g)
    obtain ⟨e0, e1, e2, e3, hargs⟩ := h c
    exact ⟨e0.trans ((Cert.Kernel14Ideal.OPQ.final0_6 m c).trans (g_eq _ _ _)), e1.trans ((Cert.Kernel14Ideal.OPQ.final0_7 m c).trans (d_eq _ _ _ _ _ _)),
      e2.trans ((Cert.Kernel14Ideal.OPQ.final0_8 m c).trans (m_eq _ _ _ _)), e3.trans ((Cert.Kernel14Ideal.OPQ.final0_9 m c).trans (v_eq _ _ _ _)), hargs⟩
  · refine (θ_run Cert.Reference14Ideal.defs _ _).mono (fun r h c => ?_) (Cert.Reference14Ideal.Value.run (F := Ideal) m' g')
    obtain ⟨e0, e1, e2, e3, hargs⟩ := h c
    obtain ⟨g0, g1, g2, g3, g4, g5⟩ := hagree c
    rw [g3, g4, g5] at e0
    rw [g0, g1, g2, g3, g4, g5] at e1
    rw [g1, g3, g4, g5] at e2
    rw [g2, g3, g4, g5] at e3
    exact ⟨e0, e1, e2, e3, hargs⟩

end Cert.OPQ

end
-- ==== Proof.OPO.Kernel.lean ====
module

public import proofs.«01_k».proof.Proof.Gen.Kernel15Ideal.Frame
public import proofs.«01_k».proof.Proof.OPT.Scalar
public import Idealize.ShloMosaic.Lib.Pipeline.ValueKit
public import Idealize.ShloMosaic.Lib.Pointwise
public import Idealize.ShloMosaic.Lib.Claim

/-! The optimiser step of an out-projection's weight, element by element over the arguments. -/

@[expose] public section

set_option maxRecDepth 16384

noncomputable section

namespace Cert.Kernel15Ideal.OPO

open Idealize.ShloMosaic Idealize.ShloMosaic.TcCoe Idealize.SL.Sem
open Idealize.ShloMosaic.Pipeline (Dat)
open Cert.OPT
open Cert.Kernel15Ideal Cert.Kernel15Ideal.Gen

theorem sel1 {α : Type} (a b : α) : Scalar.select 1#1 a b = a := if_pos rfl

theorem sel0 {α : Type} (a b : α) : Scalar.select 0#1 a b = b := if_neg (by decide)

theorem pay2_apply (v0 v3 v7 v11 v16 v21 : FVec Ideal S1x256x2048 .bf16) (r : Fin 256) (q : Fin 2048) :
    k0_pay2 (F := Ideal) v0 v3 v7 v11 v16 v21 (ix2 r q) = v0 (ix3 0 r q) + v3 (ix3 0 r q) + v11 (ix3 0 r q) + v16 (ix3 0 r q) + v21 (ix3 0 r q) := by
  pointwise [k0_pay2, sel1, sel0]

theorem pay3_apply (v : FVec Ideal S1x256x2048 .f32) (r : Fin 256) (q : Fin 2048) : k0_pay3 (F := Ideal) v (ix2 r q) = v (ix3 0 r q) := by
  pointwise [k0_pay3]

theorem pay4_apply (v : FVec Ideal S1x256x2048 .f32) (r : Fin 256) (q : Fin 2048) : k0_pay4 (F := Ideal) v (ix2 r q) = v (ix3 0 r q) := by
  pointwise [k0_pay4]

theorem pay5_apply (g μ : FVec Ideal S256x2048 .f32) (r : Fin 256) (q : Fin 2048) : k0_pay5 (F := Ideal) g μ (ix2 r q) = MNEW (μ (ix2 r q)) (g (ix2 r q)) := by
  pointwise [k0_pay5, MNEW]

theorem pay6_apply (g : FVec Ideal S256x2048 .f32) (ν : FVec Ideal S1x256x2048 .f32) (r : Fin 256) (q : Fin 2048) : k0_pay6 (F := Ideal) g ν (ix2 r q) = VNEW (ν (ix3 0 r q)) (g (ix2 r q)) := by
  pointwise [k0_pay6, VNEW]

theorem pay7_apply (g : FVec Ideal S256x2048 .f32) (r : Fin 256) (q : Fin 2048) : k0_pay7 (F := Ideal) g (ix3 0 r q) = g (ix2 r q) := by
  pointwise [k0_pay7]

theorem pay8_apply (g w μ : FVec Ideal S256x2048 .f32) (ν : FVec Ideal S1x256x2048 .f32) (r : Fin 256) (q : Fin 2048) :
    k0_pay8 (F := Ideal) g w μ ν (ix3 0 r q) = STEP (w (ix2 r q)) (MNEW (μ (ix2 r q)) (g (ix2 r q))) (VNEW (ν (ix3 0 r q)) (g (ix2 r q))) := by
  pointwise [k0_pay8, pay5_apply, pay6_apply, STEP]

theorem pay9_apply (g μ : FVec Ideal S256x2048 .f32) (r : Fin 256) (q : Fin 2048) : k0_pay9 (F := Ideal) g μ (ix3 0 r q) = MNEW (μ (ix2 r q)) (g (ix2 r q)) := by
  pointwise [k0_pay9, pay5_apply]

theorem vnew_apply (g : FVec Ideal S256x2048 .f32) (ν : FVec Ideal S1x256x2048 .f32) (r : Fin 256) (q : Fin 2048) :
    k0_pay1 (F := Ideal) (k0_pay6 (F := Ideal) g ν) (ix3 0 r q) = VNEW (ν (ix3 0 r q)) (g (ix2 r q)) := by
  pointwise [k0_pay1, pay6_apply]

/-- Reading one of the four slabs. -/
theorem slab (x : Vec Ideal S4x256x2048 .bf16) (s : Fin 4) (inb : ∀ a, ![s.val, 0, 0] a + S1x256x2048.size a ≤ S4x256x2048.size a) (r : Fin 256) (q : Fin 2048) :
    View.ld (Val := Elt Ideal) x (Rect.unit (s := S4x256x2048) ![s.val, 0, 0] S1x256x2048.size inb) (ix3 0 r q) = x (ix3 s r q) := by
  refine congrArg x (funext fun a => Fin.ext ?_)
  fin_cases a
  · refine (Rect.idx_unit_val _ _ _ _ _).trans ?_
    show s.val + 0 = s.val
    omega
  · refine (Rect.idx_unit_val _ _ _ _ _).trans ?_
    show 0 + r.val = r.val
    omega
  · refine (Rect.idx_unit_val _ _ _ _ _).trans ?_
    show 0 + q.val = q.val
    omega

theorem whole (x : Vec Ideal S1x256x2048 .bf16) (r : Fin 256) (q : Fin 2048) : View.ld (Val := Elt Ideal) x r0_0 (ix3 0 r q) = x (ix3 0 r q) := by
  unfold r0_0
  rw [View.ld_unit_lit]
  intro a
  fin_cases a <;> rfl

theorem whole32 (x : Vec Ideal S1x256x2048 .f32) (r : Fin 256) (q : Fin 2048) : View.ld (Val := Elt Ideal) x r0_0 (ix3 0 r q) = x (ix3 0 r q) := by
  unfold r0_0
  rw [View.ld_unit_lit]
  intro a
  fin_cases a <;> rfl

/-- The gradient of a block: this device's part, the part that its neighbour left, and three others. -/
def GB (x3 : FVec Ideal S4x256x2048 .bf16) (x4 x5 : FVec Ideal S1x256x2048 .bf16) (r : Fin 256) (q : Fin 2048) : EReal :=
  x4 (ix3 0 r q) + x5 (ix3 0 r q) + x3 (ix3 1 r q) + x3 (ix3 2 r q) + x3 (ix3 3 r q)

theorem pay10_apply (x0 x1 x2 : FVec Ideal S1x256x2048 .f32) (x3 : FVec Ideal S4x256x2048 .bf16) (x4 x5 : FVec Ideal S1x256x2048 .bf16) (r : Fin 256) (q : Fin 2048) : k0_pay10 (F := Ideal) x0 x1 x2 x3 x4 x5 (ix2 r q) = GB x3 x4 x5 r q := by
  unfold k0_pay10
  rw [pay2_apply]
  exact congrArg₂ (· + ·) (congrArg₂ (· + ·) (congrArg₂ (· + ·) (congrArg₂ (· + ·) (whole x4 r q) (whole x5 r q)) (slab x3 1 _ r q)) (slab x3 2 _ r q)) (slab x3 3 _ r q)

theorem pay11_apply (x0 x1 x2 : FVec Ideal S1x256x2048 .f32) (x3 : FVec Ideal S4x256x2048 .bf16) (x4 x5 : FVec Ideal S1x256x2048 .bf16) (r : Fin 256) (q : Fin 2048) : k0_pay11 (F := Ideal) x0 x1 x2 x3 x4 x5 (ix2 r q) = x1 (ix3 0 r q) := by
  unfold k0_pay11
  rw [pay4_apply]
  exact whole32 x1 r q

theorem vg_block (x0 x1 x2 : FVec Ideal S1x256x2048 .f32) (x3 : FVec Ideal S4x256x2048 .bf16) (x4 x5 : FVec Ideal S1x256x2048 .bf16) (r : Fin 256) (q : Fin 2048) : k0_pay7 (F := Ideal) (k0_pay10 (F := Ideal) x0 x1 x2 x3 x4 x5) (ix3 0 r q) = GB x3 x4 x5 r q := by
  rw [pay7_apply, pay10_apply]

theorem vm_block (x0 x1 x2 : FVec Ideal S1x256x2048 .f32) (x3 : FVec Ideal S4x256x2048 .bf16) (x4 x5 : FVec Ideal S1x256x2048 .bf16) (r : Fin 256) (q : Fin 2048) : k0_pay9 (F := Ideal) (k0_pay10 (F := Ideal) x0 x1 x2 x3 x4 x5) (k0_pay11 (F := Ideal) x0 x1 x2 x3 x4 x5) (ix3 0 r q) = MNEW (x1 (ix3 0 r q)) (GB x3 x4 x5 r q) := by
  rw [pay9_apply, pay10_apply, pay11_apply]

theorem vv_block (x0 x1 x2 : FVec Ideal S1x256x2048 .f32) (x3 : FVec Ideal S4x256x2048 .bf16) (x4 x5 : FVec Ideal S1x256x2048 .bf16) (r : Fin 256) (q : Fin 2048) : k0_pay1 (F := Ideal) (k0_pay6 (F := Ideal) (k0_pay10 (F := Ideal) x0 x1 x2 x3 x4 x5) x2) (ix3 0 r q) = VNEW (x2 (ix3 0 r q)) (GB x3 x4 x5 r q) := by
  rw [vnew_apply, pay10_apply]

theorem vd_block (x0 x1 x2 : FVec Ideal S1x256x2048 .f32) (x3 : FVec Ideal S4x256x2048 .bf16) (x4 x5 : FVec Ideal S1x256x2048 .bf16) (r : Fin 256) (q : Fin 2048) : k0_pay8 (F := Ideal) (k0_pay10 (F := Ideal) x0 x1 x2 x3 x4 x5) (k0_pay3 (F := Ideal) x0) (k0_pay11 (F := Ideal) x0 x1 x2 x3 x4 x5) x2 (ix3 0 r q) = STEP (x0 (ix3 0 r q)) (MNEW (x1 (ix3 0 r q)) (GB x3 x4 x5 r q)) (VNEW (x2 (ix3 0 r q)) (GB x3 x4 x5 r q)) := by
  rw [pay8_apply, pay10_apply, pay11_apply, pay3_apply]

theorem yform (y : S1x256x2048.Idx) : ∃ (r : Fin 256) (q : Fin 2048), y = (ix3 0 r q) := by
  rw [eq_ix3 y]
  exact ⟨_, _, congrArg (fun z => ix3 z (y 1) (y 2)) (Subsingleton.elim _ _)⟩

variable (m : (ℓ : Loc nD τ sig) → Buf (Elt Ideal) ℓ) (ρ : Dev nD → PrngReg)

/-- The arguments: the weights, their two moments, and the parts of the gradient. -/
abbrev a0 (c : Dev nD) : FVec Ideal S1x256x2048 .f32 := m ((c : Thread nD τ).loc main_arg0)
abbrev a1 (c : Dev nD) : FVec Ideal S1x256x2048 .f32 := m ((c : Thread nD τ).loc main_arg1)
abbrev a2 (c : Dev nD) : FVec Ideal S1x256x2048 .f32 := m ((c : Thread nD τ).loc main_arg2)
abbrev a3 (c : Dev nD) : FVec Ideal S4x256x2048 .bf16 := m ((c : Thread nD τ).loc main_arg3)
abbrev a4 (c : Dev nD) : FVec Ideal S8x256x2048 .bf16 := m ((c : Thread nD τ).loc main_arg4)
abbrev a5 (c : Dev nD) : FVec Ideal S4x256x2048 .bf16 := m ((c : Thread nD τ).loc main_arg5)

theorem idx0 : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] ∧ win0_8.index t = ![0, t.val, 0] ∧ win0_9.index t = ![0, t.val, 0] ∧ t.val < 1 :=
  (by decide +kernel : ∀ t : Fin grid0.N, _)

theorem ltN (t : Fin cfg0.N) : t.val < 1 := (idx0 t).2.2.2.2.2.2.2.2.2.2

/-- The row that row `r` of a block is. -/
def row (t : Fin cfg0.N) (r : Fin 256) : Fin 256 := ⟨t.val * 256 + r.val, by have := ltN t; omega⟩

theorem blk0_point (c : Dev nD) (t : Fin cfg0.N) (r : Fin 256) (q : Fin 2048) : iblk m c 0 t (ix3 0 r q) = a0 m c (ix3 0 (row t r) q) := by
  unfold iblk
  refine congrArg (a0 m c) ?_
  blk_point [idx0 t, row]

theorem blk1_point (c : Dev nD) (t : Fin cfg0.N) (r : Fin 256) (q : Fin 2048) : iblk m c 1 t (ix3 0 r q) = a1 m c (ix3 0 (row t r) q) := by
  unfold iblk
  refine congrArg (a1 m c) ?_
  blk_point [idx0 t, row]

theorem blk2_point (c : Dev nD) (t : Fin cfg0.N) (r : Fin 256) (q : Fin 2048) : iblk m c 2 t (ix3 0 r q) = a2 m c (ix3 0 (row t r) q) := by
  unfold iblk
  refine congrArg (a2 m c) ?_
  blk_point [idx0 t, row]

theorem blk3_point (c : Dev nD) (t : Fin cfg0.N) (s : Fin 4) (r : Fin 256) (q : Fin 2048) : iblk m c 3 t (ix3 s r q) = a3 m c (ix3 s (row t r) q) := by
  unfold iblk
  refine congrArg (a3 m c) ?_
  blk_point [idx0 t, row]

theorem blk4_point (c : Dev nD) (t : Fin cfg0.N) (r : Fin 256) (q : Fin 2048) : iblk m c 4 t (ix3 0 r q) = a4 m c (ix3 0 (row t r) q) := by
  unfold iblk
  refine congrArg (a4 m c) ?_
  blk_point [idx0 t, row]

theorem blk5_point (c : Dev nD) (t : Fin cfg0.N) (r : Fin 256) (q : Fin 2048) : iblk m c 5 t (ix3 0 r q) = a5 m c (ix3 0 (row t r) q) := by
  unfold iblk
  refine congrArg (a5 m c) ?_
  blk_point [idx0 t, row]

/-- The gradient, the two moments and the step at an index. -/
def OG (p : FVec Ideal S4x256x2048 .bf16) (a : FVec Ideal S8x256x2048 .bf16) (h : FVec Ideal S4x256x2048 .bf16) (j : S1x256x2048.Idx) : EReal :=
  a (ix3 0 (j 1) (j 2)) + h (ix3 0 (j 1) (j 2)) + p (ix3 1 (j 1) (j 2)) + p (ix3 2 (j 1) (j 2)) + p (ix3 3 (j 1) (j 2))
def OM (μ : FVec Ideal S1x256x2048 .f32) (p : FVec Ideal S4x256x2048 .bf16) (a : FVec Ideal S8x256x2048 .bf16) (h : FVec Ideal S4x256x2048 .bf16) (j : S1x256x2048.Idx) : EReal := MNEW (μ j) (OG p a h j)
def OV (ν : FVec Ideal S1x256x2048 .f32) (p : FVec Ideal S4x256x2048 .bf16) (a : FVec Ideal S8x256x2048 .bf16) (h : FVec Ideal S4x256x2048 .bf16) (j : S1x256x2048.Idx) : EReal := VNEW (ν j) (OG p a h j)
def OD (w μ ν : FVec Ideal S1x256x2048 .f32) (p : FVec Ideal S4x256x2048 .bf16) (a : FVec Ideal S8x256x2048 .bf16) (h : FVec Ideal S4x256x2048 .bf16) (j : S1x256x2048.Idx) : EReal := STEP (w j) (OM μ p a h j) (OV ν p a h j)

theorem vg_point (c : Dev nD) (t : Fin cfg0.N) (r : Fin 256) (q : Fin 2048) : k0_pay7 (F := Ideal) (k0_pay10 (F := Ideal) (iblk m c 0 t) (iblk m c 1 t) (iblk m c 2 t) (iblk m c 3 t) (iblk m c 4 t) (iblk m c 5 t)) (ix3 0 r q) = OG (a3 m c) (a4 m c) (a5 m c) (ix3 0 (row t r) q) := by
  rw [vg_block]
  unfold GB
  simp only [blk0_point, blk1_point, blk2_point, blk3_point, blk4_point, blk5_point]
  rfl

theorem final0_6 (c : Dev nD) : (dats m 0 c).arrAt 6 cfg0.N = OG (a3 m c) (a4 m c) (a5 m c) := by
  refine (dats m 0 c).arrAt_eq_of_covers 6 _ (by decide +kernel) fun t hf y => ?_
  blk_simp
  rw [after0_6]; frame_out
  obtain ⟨r, q, rfl⟩ : ∃ (r : Fin 256) (q : Fin 2048), y = (ix3 0 r q) := yform y
  refine (vg_point m c t r q).trans (congrArg (OG (a3 m c) (a4 m c) (a5 m c)) (a₁ := (ix3 0 (row t r) q)) ?_)
  blk_point [idx0 t, row]

theorem vd_point (c : Dev nD) (t : Fin cfg0.N) (r : Fin 256) (q : Fin 2048) : k0_pay8 (F := Ideal) (k0_pay10 (F := Ideal) (iblk m c 0 t) (iblk m c 1 t) (iblk m c 2 t) (iblk m c 3 t) (iblk m c 4 t) (iblk m c 5 t)) (k0_pay3 (F := Ideal) (iblk m c 0 t)) (k0_pay11 (F := Ideal) (iblk m c 0 t) (iblk m c 1 t) (iblk m c 2 t) (iblk m c 3 t) (iblk m c 4 t) (iblk m c 5 t)) (iblk m c 2 t) (ix3 0 r q) = OD (a0 m c) (a1 m c) (a2 m c) (a3 m c) (a4 m c) (a5 m c) (ix3 0 (row t r) q) := by
  rw [vd_block]
  unfold GB
  simp only [blk0_point, blk1_point, blk2_point, blk3_point, blk4_point, blk5_point]
  rfl

theorem final0_7 (c : Dev nD) : (dats m 0 c).arrAt 7 cfg0.N = OD (a0 m c) (a1 m c) (a2 m c) (a3 m c) (a4 m c) (a5 m c) := by
  refine (dats m 0 c).arrAt_eq_of_covers 7 _ (by decide +kernel) fun t hf y => ?_
  blk_simp
  rw [after0_7]; frame_out
  obtain ⟨r, q, rfl⟩ : ∃ (r : Fin 256) (q : Fin 2048), y = (ix3 0 r q) := yform y
  refine (vd_point m c t r q).trans (congrArg (OD (a0 m c) (a1 m c) (a2 m c) (a3 m c) (a4 m c) (a5 m c)) (a₁ := (ix3 0 (row t r) q)) ?_)
  blk_point [idx0 t, row]

theorem vm_point (c : Dev nD) (t : Fin cfg0.N) (r : Fin 256) (q : Fin 2048) : k0_pay9 (F := Ideal) (k0_pay10 (F := Ideal) (iblk m c 0 t) (iblk m c 1 t) (iblk m c 2 t) (iblk m c 3 t) (iblk m c 4 t) (iblk m c 5 t)) (k0_pay11 (F := Ideal) (iblk m c 0 t) (iblk m c 1 t) (iblk m c 2 t) (iblk m c 3 t) (iblk m c 4 t) (iblk m c 5 t)) (ix3 0 r q) = OM (a1 m c) (a3 m c) (a4 m c) (a5 m c) (ix3 0 (row t r) q) := by
  rw [vm_block]
  unfold GB
  simp only [blk0_point, blk1_point, blk2_point, blk3_point, blk4_point, blk5_point]
  rfl

theorem final0_8 (c : Dev nD) : (dats m 0 c).arrAt 8 cfg0.N = OM (a1 m c) (a3 m c) (a4 m c) (a5 m c) := by
  refine (dats m 0 c).arrAt_eq_of_covers 8 _ (by decide +kernel) fun t hf y => ?_
  blk_simp
  rw [after0_8]; frame_out
  obtain ⟨r, q, rfl⟩ : ∃ (r : Fin 256) (q : Fin 2048), y = (ix3 0 r q) := yform y
  refine (vm_point m c t r q).trans (congrArg (OM (a1 m c) (a3 m c) (a4 m c) (a5 m c)) (a₁ := (ix3 0 (row t r) q)) ?_)
  blk_point [idx0 t, row]

theorem vv_point (c : Dev nD) (t : Fin cfg0.N) (r : Fin 256) (q : Fin 2048) : k0_pay1 (F := Ideal) (k0_pay6 (F := Ideal) (k0_pay10 (F := Ideal) (iblk m c 0 t) (iblk m c 1 t) (iblk m c 2 t) (iblk m c 3 t) (iblk m c 4 t) (iblk m c 5 t)) (iblk m c 2 t)) (ix3 0 r q) = OV (a2 m c) (a3 m c) (a4 m c) (a5 m c) (ix3 0 (row t r) q) := by
  rw [vv_block]
  unfold GB
  simp only [blk0_point, blk1_point, blk2_point, blk3_point, blk4_point, blk5_point]
  rfl

theorem final0_9 (c : Dev nD) : (dats m 0 c).arrAt 9 cfg0.N = OV (a2 m c) (a3 m c) (a4 m c) (a5 m c) := by
  refine (dats m 0 c).arrAt_eq_of_covers 9 _ (by decide +kernel) fun t hf y => ?_
  blk_simp
  rw [after0_9]; frame_out
  obtain ⟨r, q, rfl⟩ : ∃ (r : Fin 256) (q : Fin 2048), y = (ix3 0 r q) := yform y
  refine (vv_point m c t r q).trans (congrArg (OV (a2 m c) (a3 m c) (a4 m c) (a5 m c)) (a₁ := (ix3 0 (row t r) q)) ?_)
  blk_point [idx0 t, row]

theorem run : θ_run defs (onTc (τ := τ) (main (F := Ideal))) ⟨m, fun _ => 0, ρ⟩ (fun r => ∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_v0_2) = (dats m 0 c).arrAt 8 cfg0.N
      ∧ r.2.mem ((c.tc : Thread nD τ).loc main_v0_3) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨Pipeline.FramePost.out_eq h.2 c 6, Pipeline.FramePost.out_eq h.2 c 7, Pipeline.FramePost.out_eq h.2 c 8, Pipeline.FramePost.out_eq h.2 c 9, h.1 c⟩) (θ_run_and (unchanged m ρ) (run_main m ρ))

end Cert.Kernel15Ideal.OPO

end
-- ==== Proof.OPO.Reference.lean ====
module

public import proofs.«01_k».proof.Proof.Gen.Reference15Ideal.Run
public import proofs.«01_k».proof.Proof.OPT.Scalar
public import Idealize.ShloMosaic.Lib.Pointwise

/-! The reference's results, element by element over the arguments. -/

@[expose] public section

set_option maxRecDepth 16384

noncomputable section

namespace Cert.Reference15Ideal.OPO

open Idealize.ShloMosaic Idealize.ShloMosaic.TcCoe Idealize.SL.Sem
open Cert.OPT
open Cert.Reference15Ideal Cert.Reference15Ideal.Gen

variable (A0 A1 A2 : FVec Ideal S1x256x2048 .f32) (A3 : FVec Ideal S4x256x2048 .bf16) (A4 : FVec Ideal S8x256x2048 .bf16) (A5 : FVec Ideal S4x256x2048 .bf16)

/-- The summed gradient. -/
def T_g : FVec Ideal S1x256x2048 .f32 :=
  broadcastInDim S1x256x2048 ![1, 2] bcast_S256x2048_S1x256x2048_1_2 (addf (addf (extf .f32 (shapeCast _ (extractStridedSlice S1x256x2048 ![0, 0, 0] A4 slices_S8x256x2048_S1x256x2048_0_0_0) shapeCasts_S1x256x2048_S256x2048) bitsLt_bf16_f32) (extf .f32 (shapeCast _ (extractStridedSlice S1x256x2048 ![0, 0, 0] A5 slices_S4x256x2048_S1x256x2048_0_0_0) shapeCasts_S1x256x2048_S256x2048) bitsLt_bf16_f32)) (Host.reduceAdd (extf .f32 (extractStridedSlice S3x256x2048 ![1, 0, 0] A3 slices_S4x256x2048_S3x256x2048_1_0_0) bitsLt_bf16_f32) (constant S_ .f32 0x00000000#32) reducesTo_S3x256x2048_S256x2048_d0 h_S_))

/-- The first moment. -/
def T_m : FVec Ideal S1x256x2048 .f32 := addf (mulf (broadcastInDim S1x256x2048 ![] bcast_S_S1x256x2048 (constant S_ .f32 0x3F666666#32)) A1) (mulf (broadcastInDim S1x256x2048 ![] bcast_S_S1x256x2048 (constant S_ .f32 0x3DCCCCCD#32)) (T_g A3 A4 A5))

/-- The second moment. -/
def T_v : FVec Ideal S1x256x2048 .f32 := addf (mulf (broadcastInDim S1x256x2048 ![] bcast_S_S1x256x2048 (constant S_ .f32 0x3F7FBE77#32)) A2) (mulf (broadcastInDim S1x256x2048 ![] bcast_S_S1x256x2048 (constant S_ .f32 0x3A83126F#32)) (mulf (T_g A3 A4 A5) (T_g A3 A4 A5)))

/-- The step. -/
def T_d : FVec Ideal S1x256x2048 .f32 :=
  mulf (broadcastInDim S1x256x2048 ![] bcast_S_S1x256x2048 (constant S_ .f32 0xBA83126F#32)) (addf (Host.divf (Host.divf (T_m A1 A3 A4 A5) (broadcastInDim S1x256x2048 ![] bcast_S_S1x256x2048 (constant S_ .f32 0x3F26BD02#32))) (addf (Host.sqrt (Host.divf (T_v A2 A3 A4 A5) (broadcastInDim S1x256x2048 ![] bcast_S_S1x256x2048 (constant S_ .f32 0x3C231ACC#32)))) (broadcastInDim S1x256x2048 ![] bcast_S_S1x256x2048 (constant S_ .f32 0x322BCC77#32)))) (mulf (broadcastInDim S1x256x2048 ![] bcast_S_S1x256x2048 (constant S_ .f32 0x3C23D70A#32)) A0))

theorem T_g_apply (r : Fin 256) (q : Fin 2048) : T_g A3 A4 A5 (ix3 0 r q) = A4 (ix3 0 r q) + A5 (ix3 0 r q) + (A3 (ix3 1 r q) + A3 (ix3 2 r q) + A3 (ix3 3 r q)) := by
  pointwise [T_g, Ideal.ofBits_zero_f32]
  rw [Fin.sum_univ_three]
  rfl

theorem T_m_apply (j : S1x256x2048.Idx) : T_m A1 A3 A4 A5 j = MNEW (A1 j) (T_g A3 A4 A5 j) := by
  pointwise [T_m, MNEW]

theorem T_v_apply (j : S1x256x2048.Idx) : T_v A2 A3 A4 A5 j = VNEW (A2 j) (T_g A3 A4 A5 j) := by
  pointwise [T_v, VNEW]

theorem T_d_apply (j : S1x256x2048.Idx) : T_d A0 A1 A2 A3 A4 A5 j = STEP (A0 j) (MNEW (A1 j) (T_g A3 A4 A5 j)) (VNEW (A2 j) (T_g A3 A4 A5 j)) := by
  rw [← T_m_apply, ← T_v_apply]
  pointwise [T_d, STEP]

end Cert.Reference15Ideal.OPO

end
-- ==== Proof.OPO.Claims.lean ====
module

public import proofs.«01_k».proof.Defs
public import proofs.«01_k».proof.Proof.OPO.Kernel
public import proofs.«01_k».proof.Proof.OPO.Reference
public import proofs.«01_k».proof.Proof.Gen.Kernel15.Frame
public import Idealize.ShloMosaic.Lib.Claim

/-! The frames and the equality of the four results. -/

@[expose] public section

set_option maxRecDepth 16384

noncomputable section

namespace Cert.OPO

open Idealize.ShloMosaic Idealize.ShloMosaic.TcCoe Idealize.SL.Sem

theorem frame_kernel : Cert.quiescent_Kernel15 := fun m ρ _ => Cert.Kernel15.Gen.frame m ρ
theorem frame_ideal : Cert.quiescent_Kernel15Ideal := fun m ρ _ => Cert.Kernel15Ideal.Gen.frame m ρ

theorem frame_ref : Cert.quiescent_Reference15Ideal := fun m ρ _ =>
  (θ_run Cert.Reference15Ideal.defs _ _).mono
    (fun r h => ⟨fun c => (h c).2.2.2.2, Idealize.ShloMosaic.sem_eq_zero_of_no_sems (by decide) r.2⟩)
    (Cert.Reference15Ideal.Value.run (F := Ideal) m ρ)

variable (A0 A1 A2 : FVec Ideal Cert.Kernel15Ideal.S1x256x2048 .f32) (A3 : FVec Ideal Cert.Kernel15Ideal.S4x256x2048 .bf16) (A4 : FVec Ideal Cert.Kernel15Ideal.S8x256x2048 .bf16) (A5 : FVec Ideal Cert.Kernel15Ideal.S4x256x2048 .bf16)

theorem g_eq : Cert.Kernel15Ideal.OPO.OG A3 A4 A5 = Cert.Reference15Ideal.OPO.T_g A3 A4 A5 := by
  funext j
  obtain ⟨r, q, rfl⟩ : ∃ (r : Fin 256) (q : Fin 2048), j = (ix3 0 r q) := by
    rw [eq_ix3 j]
    exact ⟨_, _, congrArg (fun z => ix3 z (j 1) (j 2)) (Subsingleton.elim _ _)⟩
  refine Eq.trans ?_ (Cert.Reference15Ideal.OPO.T_g_apply A3 A4 A5 r q).symm
  refine Eq.trans (b := A4 (ix3 0 r q) + A5 (ix3 0 r q) + A3 (ix3 1 r q) + A3 (ix3 2 r q) + A3 (ix3 3 r q)) rfl ?_
  rw [add_assoc, add_assoc, ← add_assoc (A3 (ix3 1 r q))]

theorem m_eq : Cert.Kernel15Ideal.OPO.OM A1 A3 A4 A5 = Cert.Reference15Ideal.OPO.T_m A1 A3 A4 A5 := by
  funext j
  refine Eq.trans ?_ (Cert.Reference15Ideal.OPO.T_m_apply A1 A3 A4 A5 j).symm
  exact congrArg (Cert.OPT.MNEW (A1 j)) (congrFun (g_eq A3 A4 A5) j)

theorem v_eq : Cert.Kernel15Ideal.OPO.OV A2 A3 A4 A5 = Cert.Reference15Ideal.OPO.T_v A2 A3 A4 A5 := by
  funext j
  refine Eq.trans ?_ (Cert.Reference15Ideal.OPO.T_v_apply A2 A3 A4 A5 j).symm
  exact congrArg (Cert.OPT.VNEW (A2 j)) (congrFun (g_eq A3 A4 A5) j)

theorem d_eq : Cert.Kernel15Ideal.OPO.OD A0 A1 A2 A3 A4 A5 = Cert.Reference15Ideal.OPO.T_d A0 A1 A2 A3 A4 A5 := by
  funext j
  refine Eq.trans ?_ (Cert.Reference15Ideal.OPO.T_d_apply A0 A1 A2 A3 A4 A5 j).symm
  exact congrArg (fun g => Cert.OPT.STEP (A0 j) (Cert.OPT.MNEW (A1 j) g) (Cert.OPT.VNEW (A2 j) g)) (congrFun (g_eq A3 A4 A5) j)

theorem algebraic : Cert.algebraic_Kernel15Ideal_Reference15Ideal := by
  intro m g m' g' _ hagree
  refine ⟨fun c => Cert.Reference15Ideal.OPO.T_g (Cert.Kernel15Ideal.OPO.a3 m c) (Cert.Kernel15Ideal.OPO.a4 m c) (Cert.Kernel15Ideal.OPO.a5 m c), fun c => Cert.Reference15Ideal.OPO.T_d (Cert.Kernel15Ideal.OPO.a0 m c) (Cert.Kernel15Ideal.OPO.a1 m c) (Cert.Kernel15Ideal.OPO.a2 m c) (Cert.Kernel15Ideal.OPO.a3 m c) (Cert.Kernel15Ideal.OPO.a4 m c) (Cert.Kernel15Ideal.OPO.a5 m c), fun c => Cert.Reference15Ideal.OPO.T_m (Cert.Kernel15Ideal.OPO.a1 m c) (Cert.Kernel15Ideal.OPO.a3 m c) (Cert.Kernel15Ideal.OPO.a4 m c) (Cert.Kernel15Ideal.OPO.a5 m c), fun c => Cert.Reference15Ideal.OPO.T_v (Cert.Kernel15Ideal.OPO.a2 m c) (Cert.Kernel15Ideal.OPO.a3 m c) (Cert.Kernel15Ideal.OPO.a4 m c) (Cert.Kernel15Ideal.OPO.a5 m c), ?_, ?_⟩
  · refine (θ_run Cert.Kernel15Ideal.defs _ _).mono (fun r h c => ?_) (Cert.Kernel15Ideal.OPO.run m g)
    obtain ⟨e0, e1, e2, e3, hargs⟩ := h c
    exact ⟨e0.trans ((Cert.Kernel15Ideal.OPO.final0_6 m c).trans (g_eq _ _ _)), e1.trans ((Cert.Kernel15Ideal.OPO.final0_7 m c).trans (d_eq _ _ _ _ _ _)),
      e2.trans ((Cert.Kernel15Ideal.OPO.final0_8 m c).trans (m_eq _ _ _ _)), e3.trans ((Cert.Kernel15Ideal.OPO.final0_9 m c).trans (v_eq _ _ _ _)), hargs⟩
  · refine (θ_run Cert.Reference15Ideal.defs _ _).mono (fun r h c => ?_) (Cert.Reference15Ideal.Value.run (F := Ideal) m' g')
    obtain ⟨e0, e1, e2, e3, hargs⟩ := h c
    obtain ⟨g0, g1, g2, g3, g4, g5⟩ := hagree c
    rw [g3, g4, g5] at e0
    rw [g0, g1, g2, g3, g4, g5] at e1
    rw [g1, g3, g4, g5] at e2
    rw [g2, g3, g4, g5] at e3
    exact ⟨e0, e1, e2, e3, hargs⟩

end Cert.OPO

end
-- ==== Proof.OPI.Kernel.lean ====
module

public import proofs.«01_k».proof.Proof.Gen.Kernel16Ideal.Frame
public import proofs.«01_k».proof.Proof.OPT.Scalar
public import Idealize.ShloMosaic.Lib.Pipeline.ValueKit
public import Idealize.ShloMosaic.Lib.Pointwise
public import Idealize.ShloMosaic.Lib.Claim

/-! The optimiser step of the in-projection's weight, element by element over the arguments. -/

@[expose] public section

set_option maxRecDepth 16384

noncomputable section

namespace Cert.Kernel16Ideal.OPI

open Idealize.ShloMosaic Idealize.ShloMosaic.TcCoe Idealize.SL.Sem
open Idealize.ShloMosaic.Pipeline (Dat)
open Cert.OPT
open Cert.Kernel16Ideal Cert.Kernel16Ideal.Gen

theorem sel1 {α : Type} (a b : α) : Scalar.select 1#1 a b = a := if_pos rfl

theorem sel0 {α : Type} (a b : α) : Scalar.select 0#1 a b = b := if_neg (by decide)

theorem pay1_apply (v0 v3 v7 v11 v16 v21 : FVec Ideal S1x898x256 .bf16) (r : Fin 898) (q : Fin 256) :
    k0_pay1 (F := Ideal) v0 v3 v7 v11 v16 v21 (ix2 r q) = v0 (ix3 0 r q) + v3 (ix3 0 r q) + v11 (ix3 0 r q) + v16 (ix3 0 r q) + v21 (ix3 0 r q) := by
  pointwise [k0_pay1, sel1, sel0]

theorem pay2_apply (v : FVec Ideal S898x1x256 .f32) (r : Fin 898) (q : Fin 256) : k0_pay2 (F := Ideal) v (ix2 r q) = v (ix3 r 0 q) := by
  pointwise [k0_pay2]

theorem pay3_apply (v : FVec Ideal S898x1x256 .f32) (r : Fin 898) (q : Fin 256) : k0_pay3 (F := Ideal) v (ix2 r q) = v (ix3 r 0 q) := by
  pointwise [k0_pay3]

theorem pay4_apply (g μ : FVec Ideal S898x256 .f32) (r : Fin 898) (q : Fin 256) : k0_pay4 (F := Ideal) g μ (ix2 r q) = MNEW (μ (ix2 r q)) (g (ix2 r q)) := by
  pointwise [k0_pay4, MNEW]

theorem pay5_apply (g : FVec Ideal S898x256 .f32) (ν : FVec Ideal S898x1x256 .f32) (r : Fin 898) (q : Fin 256) : k0_pay5 (F := Ideal) g ν (ix2 r q) = VNEW (ν (ix3 r 0 q)) (g (ix2 r q)) := by
  pointwise [k0_pay5, VNEW]

theorem pay6_apply (g : FVec Ideal S898x256 .f32) (r : Fin 898) (q : Fin 256) : k0_pay6 (F := Ideal) g (ix3 r 0 q) = g (ix2 r q) := by
  pointwise [k0_pay6]

theorem pay7_apply (g w μ : FVec Ideal S898x256 .f32) (ν : FVec Ideal S898x1x256 .f32) (r : Fin 898) (q : Fin 256) :
    k0_pay7 (F := Ideal) g w μ ν (ix3 r 0 q) = STEP (w (ix2 r q)) (MNEW (μ (ix2 r q)) (g (ix2 r q))) (VNEW (ν (ix3 r 0 q)) (g (ix2 r q))) := by
  pointwise [k0_pay7, pay4_apply, pay5_apply, STEP]

theorem pay8_apply (g μ : FVec Ideal S898x256 .f32) (r : Fin 898) (q : Fin 256) : k0_pay8 (F := Ideal) g μ (ix3 r 0 q) = MNEW (μ (ix2 r q)) (g (ix2 r q)) := by
  pointwise [k0_pay8, pay4_apply]

theorem vnew_apply (g : FVec Ideal S898x256 .f32) (ν : FVec Ideal S898x1x256 .f32) (r : Fin 898) (q : Fin 256) :
    k0_pay9 (F := Ideal) g ν (ix3 r 0 q) = VNEW (ν (ix3 r 0 q)) (g (ix2 r q)) := by
  pointwise [k0_pay9, pay5_apply]

/-- Reading one of the four slabs. -/
theorem slab (x : Vec Ideal S4x898x256 .bf16) (s : Fin 4) (inb : ∀ a, ![s.val, 0, 0] a + S1x898x256.size a ≤ S4x898x256.size a) (r : Fin 898) (q : Fin 256) :
    View.ld (Val := Elt Ideal) x (Rect.unit (s := S4x898x256) ![s.val, 0, 0] S1x898x256.size inb) (ix3 0 r q) = x (ix3 s r q) := by
  refine congrArg x (funext fun a => Fin.ext ?_)
  fin_cases a
  · refine (Rect.idx_unit_val _ _ _ _ _).trans ?_
    show s.val + 0 = s.val
    omega
  · refine (Rect.idx_unit_val _ _ _ _ _).trans ?_
    show 0 + r.val = r.val
    omega
  · refine (Rect.idx_unit_val _ _ _ _ _).trans ?_
    show 0 + q.val = q.val
    omega

theorem whole (x : Vec Ideal S1x898x256 .bf16) (r : Fin 898) (q : Fin 256) : View.ld (Val := Elt Ideal) x r0_0 (ix3 0 r q) = x (ix3 0 r q) := by
  unfold r0_0
  rw [View.ld_unit_lit]
  intro a
  fin_cases a <;> rfl

theorem wholeW (x : Vec Ideal S898x1x256 .f32) (r : Fin 898) (q : Fin 256) : View.ld (Val := Elt Ideal) x r0_5 (ix3 r 0 q) = x (ix3 r 0 q) := by
  unfold r0_5
  rw [View.ld_unit_lit]
  intro a
  fin_cases a <;> rfl

/-- The gradient of a block: this device's part, the part that its neighbour left, and three others. -/
def GB (x3 : FVec Ideal S4x898x256 .bf16) (x4 x5 : FVec Ideal S1x898x256 .bf16) (r : Fin 898) (q : Fin 256) : EReal :=
  x4 (ix3 0 r q) + x5 (ix3 0 r q) + x3 (ix3 1 r q) + x3 (ix3 2 r q) + x3 (ix3 3 r q)

theorem pay10_apply (x0 x1 x2 : FVec Ideal S898x1x256 .f32) (x3 : FVec Ideal S4x898x256 .bf16) (x4 x5 : FVec Ideal S1x898x256 .bf16) (r : Fin 898) (q : Fin 256) : k0_pay10 (F := Ideal) x0 x1 x2 x3 x4 x5 (ix2 r q) = GB x3 x4 x5 r q := by
  unfold k0_pay10
  rw [pay1_apply]
  exact congrArg₂ (· + ·) (congrArg₂ (· + ·) (congrArg₂ (· + ·) (congrArg₂ (· + ·) (whole x4 r q) (whole x5 r q)) (slab x3 1 _ r q)) (slab x3 2 _ r q)) (slab x3 3 _ r q)

theorem pay11_apply (x0 x1 x2 : FVec Ideal S898x1x256 .f32) (x3 : FVec Ideal S4x898x256 .bf16) (x4 x5 : FVec Ideal S1x898x256 .bf16) (r : Fin 898) (q : Fin 256) : k0_pay11 (F := Ideal) x0 x1 x2 x3 x4 x5 (ix2 r q) = x1 (ix3 r 0 q) := by
  unfold k0_pay11
  rw [pay3_apply]
  exact wholeW x1 r q

theorem vg_block (x0 x1 x2 : FVec Ideal S898x1x256 .f32) (x3 : FVec Ideal S4x898x256 .bf16) (x4 x5 : FVec Ideal S1x898x256 .bf16) (r : Fin 898) (q : Fin 256) : k0_pay6 (F := Ideal) (k0_pay10 (F := Ideal) x0 x1 x2 x3 x4 x5) (ix3 r 0 q) = GB x3 x4 x5 r q := by
  rw [pay6_apply, pay10_apply]

theorem vm_block (x0 x1 x2 : FVec Ideal S898x1x256 .f32) (x3 : FVec Ideal S4x898x256 .bf16) (x4 x5 : FVec Ideal S1x898x256 .bf16) (r : Fin 898) (q : Fin 256) : k0_pay8 (F := Ideal) (k0_pay10 (F := Ideal) x0 x1 x2 x3 x4 x5) (k0_pay11 (F := Ideal) x0 x1 x2 x3 x4 x5) (ix3 r 0 q) = MNEW (x1 (ix3 r 0 q)) (GB x3 x4 x5 r q) := by
  rw [pay8_apply, pay10_apply, pay11_apply]

theorem vv_block (x0 x1 x2 : FVec Ideal S898x1x256 .f32) (x3 : FVec Ideal S4x898x256 .bf16) (x4 x5 : FVec Ideal S1x898x256 .bf16) (r : Fin 898) (q : Fin 256) : k0_pay9 (F := Ideal) (k0_pay10 (F := Ideal) x0 x1 x2 x3 x4 x5) x2 (ix3 r 0 q) = VNEW (x2 (ix3 r 0 q)) (GB x3 x4 x5 r q) := by
  rw [vnew_apply, pay10_apply]

theorem vd_block (x0 x1 x2 : FVec Ideal S898x1x256 .f32) (x3 : FVec Ideal S4x898x256 .bf16) (x4 x5 : FVec Ideal S1x898x256 .bf16) (r : Fin 898) (q : Fin 256) : k0_pay7 (F := Ideal) (k0_pay10 (F := Ideal) x0 x1 x2 x3 x4 x5) (k0_pay2 (F := Ideal) x0) (k0_pay11 (F := Ideal) x0 x1 x2 x3 x4 x5) x2 (ix3 r 0 q) = STEP (x0 (ix3 r 0 q)) (MNEW (x1 (ix3 r 0 q)) (GB x3 x4 x5 r q)) (VNEW (x2 (ix3 r 0 q)) (GB x3 x4 x5 r q)) := by
  rw [pay7_apply, pay10_apply, pay11_apply, pay2_apply]

theorem yform (y : S898x1x256.Idx) : ∃ (r : Fin 898) (q : Fin 256), y = (ix3 r 0 q) := by
  rw [eq_ix3 y]
  exact ⟨_, _, congrArg (fun z => ix3 (y 0) z (y 2)) (Subsingleton.elim _ _)⟩

variable (m : (ℓ : Loc nD τ sig) → Buf (Elt Ideal) ℓ) (ρ : Dev nD → PrngReg)

/-- The arguments: the weights, their two moments, and the parts of the gradient. -/
abbrev a0 (c : Dev nD) : FVec Ideal S898x1x2048 .f32 := m ((c : Thread nD τ).loc main_arg0)
abbrev a1 (c : Dev nD) : FVec Ideal S898x1x2048 .f32 := m ((c : Thread nD τ).loc main_arg1)
abbrev a2 (c : Dev nD) : FVec Ideal S898x1x2048 .f32 := m ((c : Thread nD τ).loc main_arg2)
abbrev a3 (c : Dev nD) : FVec Ideal S4x898x2048 .bf16 := m ((c : Thread nD τ).loc main_arg3)
abbrev a4 (c : Dev nD) : FVec Ideal S8x898x2048 .bf16 := m ((c : Thread nD τ).loc main_arg4)
abbrev a5 (c : Dev nD) : FVec Ideal S4x898x2048 .bf16 := m ((c : Thread nD τ).loc main_arg5)

theorem idx0 : ∀ t : Fin cfg0.N, win0_0.index t = ![0, 0, t.val] ∧ win0_1.index t = ![0, 0, t.val] ∧ win0_2.index t = ![0, 0, t.val] ∧ win0_3.index t = ![0, 0, t.val] ∧ win0_4.index t = ![0, 0, t.val] ∧ win0_5.index t = ![0, 0, t.val] ∧ win0_6.index t = ![0, 0, t.val] ∧ win0_7.index t = ![0, 0, t.val] ∧ win0_8.index t = ![0, 0, t.val] ∧ win0_9.index t = ![0, 0, t.val] ∧ t.val < 8 :=
  (by decide +kernel : ∀ t : Fin grid0.N, _)

theorem ltN (t : Fin cfg0.N) : t.val < 8 := (idx0 t).2.2.2.2.2.2.2.2.2.2

/-- The column that column `q` of a block is. -/
def col (t : Fin cfg0.N) (q : Fin 256) : Fin 2048 := ⟨t.val * 256 + q.val, by have := ltN t; omega⟩

theorem blk0_point (c : Dev nD) (t : Fin cfg0.N) (r : Fin 898) (q : Fin 256) : iblk m c 0 t (ix3 r 0 q) = a0 m c (ix3 r 0 (col t q)) := by
  unfold iblk
  refine congrArg (a0 m c) ?_
  blk_point [idx0 t, col]

theorem blk1_point (c : Dev nD) (t : Fin cfg0.N) (r : Fin 898) (q : Fin 256) : iblk m c 1 t (ix3 r 0 q) = a1 m c (ix3 r 0 (col t q)) := by
  unfold iblk
  refine congrArg (a1 m c) ?_
  blk_point [idx0 t, col]

theorem blk2_point (c : Dev nD) (t : Fin cfg0.N) (r : Fin 898) (q : Fin 256) : iblk m c 2 t (ix3 r 0 q) = a2 m c (ix3 r 0 (col t q)) := by
  unfold iblk
  refine congrArg (a2 m c) ?_
  blk_point [idx0 t, col]

theorem blk3_point (c : Dev nD) (t : Fin cfg0.N) (s : Fin 4) (r : Fin 898) (q : Fin 256) : iblk m c 3 t (ix3 s r q) = a3 m c (ix3 s r (col t q)) := by
  unfold iblk
  refine congrArg (a3 m c) ?_
  blk_point [idx0 t, col]

theorem blk4_point (c : Dev nD) (t : Fin cfg0.N) (r : Fin 898) (q : Fin 256) : iblk m c 4 t (ix3 0 r q) = a4 m c (ix3 0 r (col t q)) := by
  unfold iblk
  refine congrArg (a4 m c) ?_
  blk_point [idx0 t, col]

theorem blk5_point (c : Dev nD) (t : Fin cfg0.N) (r : Fin 898) (q : Fin 256) : iblk m c 5 t (ix3 0 r q) = a5 m c (ix3 0 r (col t q)) := by
  unfold iblk
  refine congrArg (a5 m c) ?_
  blk_point [idx0 t, col]

/-- The gradient, the two moments and the step at an index. -/
def OG (p : FVec Ideal S4x898x2048 .bf16) (a : FVec Ideal S8x898x2048 .bf16) (h : FVec Ideal S4x898x2048 .bf16) (j : S898x1x2048.Idx) : EReal :=
  a (ix3 0 (j 0) (j 2)) + h (ix3 0 (j 0) (j 2)) + p (ix3 1 (j 0) (j 2)) + p (ix3 2 (j 0) (j 2)) + p (ix3 3 (j 0) (j 2))
def OM (μ : FVec Ideal S898x1x2048 .f32) (p : FVec Ideal S4x898x2048 .bf16) (a : FVec Ideal S8x898x2048 .bf16) (h : FVec Ideal S4x898x2048 .bf16) (j : S898x1x2048.Idx) : EReal := MNEW (μ j) (OG p a h j)
def OV (ν : FVec Ideal S898x1x2048 .f32) (p : FVec Ideal S4x898x2048 .bf16) (a : FVec Ideal S8x898x2048 .bf16) (h : FVec Ideal S4x898x2048 .bf16) (j : S898x1x2048.Idx) : EReal := VNEW (ν j) (OG p a h j)
def OD (w μ ν : FVec Ideal S898x1x2048 .f32) (p : FVec Ideal S4x898x2048 .bf16) (a : FVec Ideal S8x898x2048 .bf16) (h : FVec Ideal S4x898x2048 .bf16) (j : S898x1x2048.Idx) : EReal := STEP (w j) (OM μ p a h j) (OV ν p a h j)

theorem vg_point (c : Dev nD) (t : Fin cfg0.N) (r : Fin 898) (q : Fin 256) : k0_pay6 (F := Ideal) (k0_pay10 (F := Ideal) (iblk m c 0 t) (iblk m c 1 t) (iblk m c 2 t) (iblk m c 3 t) (iblk m c 4 t) (iblk m c 5 t)) (ix3 r 0 q) = OG (a3 m c) (a4 m c) (a5 m c) (ix3 r 0 (col t q)) := by
  rw [vg_block]
  unfold GB
  simp only [blk0_point, blk1_point, blk2_point, blk3_point, blk4_point, blk5_point]
  rfl

theorem final0_6 (c : Dev nD) : (dats m 0 c).arrAt 6 cfg0.N = OG (a3 m c) (a4 m c) (a5 m c) := by
  refine (dats m 0 c).arrAt_eq_of_covers 6 _ (by decide +kernel) fun t hf y => ?_
  blk_simp
  rw [after0_6]; frame_out
  obtain ⟨r, q, rfl⟩ : ∃ (r : Fin 898) (q : Fin 256), y = (ix3 r 0 q) := yform y
  refine (vg_point m c t r q).trans (congrArg (OG (a3 m c) (a4 m c) (a5 m c)) (a₁ := (ix3 r 0 (col t q))) ?_)
  blk_point [idx0 t, col]

theorem vd_point (c : Dev nD) (t : Fin cfg0.N) (r : Fin 898) (q : Fin 256) : k0_pay7 (F := Ideal) (k0_pay10 (F := Ideal) (iblk m c 0 t) (iblk m c 1 t) (iblk m c 2 t) (iblk m c 3 t) (iblk m c 4 t) (iblk m c 5 t)) (k0_pay2 (F := Ideal) (iblk m c 0 t)) (k0_pay11 (F := Ideal) (iblk m c 0 t) (iblk m c 1 t) (iblk m c 2 t) (iblk m c 3 t) (iblk m c 4 t) (iblk m c 5 t)) (iblk m c 2 t) (ix3 r 0 q) = OD (a0 m c) (a1 m c) (a2 m c) (a3 m c) (a4 m c) (a5 m c) (ix3 r 0 (col t q)) := by
  rw [vd_block]
  unfold GB
  simp only [blk0_point, blk1_point, blk2_point, blk3_point, blk4_point, blk5_point]
  rfl

theorem final0_7 (c : Dev nD) : (dats m 0 c).arrAt 7 cfg0.N = OD (a0 m c) (a1 m c) (a2 m c) (a3 m c) (a4 m c) (a5 m c) := by
  refine (dats m 0 c).arrAt_eq_of_covers 7 _ (by decide +kernel) fun t hf y => ?_
  blk_simp
  rw [after0_7]; frame_out
  obtain ⟨r, q, rfl⟩ : ∃ (r : Fin 898) (q : Fin 256), y = (ix3 r 0 q) := yform y
  refine (vd_point m c t r q).trans (congrArg (OD (a0 m c) (a1 m c) (a2 m c) (a3 m c) (a4 m c) (a5 m c)) (a₁ := (ix3 r 0 (col t q))) ?_)
  blk_point [idx0 t, col]

theorem vm_point (c : Dev nD) (t : Fin cfg0.N) (r : Fin 898) (q : Fin 256) : k0_pay8 (F := Ideal) (k0_pay10 (F := Ideal) (iblk m c 0 t) (iblk m c 1 t) (iblk m c 2 t) (iblk m c 3 t) (iblk m c 4 t) (iblk m c 5 t)) (k0_pay11 (F := Ideal) (iblk m c 0 t) (iblk m c 1 t) (iblk m c 2 t) (iblk m c 3 t) (iblk m c 4 t) (iblk m c 5 t)) (ix3 r 0 q) = OM (a1 m c) (a3 m c) (a4 m c) (a5 m c) (ix3 r 0 (col t q)) := by
  rw [vm_block]
  unfold GB
  simp only [blk0_point, blk1_point, blk2_point, blk3_point, blk4_point, blk5_point]
  rfl

theorem final0_8 (c : Dev nD) : (dats m 0 c).arrAt 8 cfg0.N = OM (a1 m c) (a3 m c) (a4 m c) (a5 m c) := by
  refine (dats m 0 c).arrAt_eq_of_covers 8 _ (by decide +kernel) fun t hf y => ?_
  blk_simp
  rw [after0_8]; frame_out
  obtain ⟨r, q, rfl⟩ : ∃ (r : Fin 898) (q : Fin 256), y = (ix3 r 0 q) := yform y
  refine (vm_point m c t r q).trans (congrArg (OM (a1 m c) (a3 m c) (a4 m c) (a5 m c)) (a₁ := (ix3 r 0 (col t q))) ?_)
  blk_point [idx0 t, col]

theorem vv_point (c : Dev nD) (t : Fin cfg0.N) (r : Fin 898) (q : Fin 256) : k0_pay9 (F := Ideal) (k0_pay10 (F := Ideal) (iblk m c 0 t) (iblk m c 1 t) (iblk m c 2 t) (iblk m c 3 t) (iblk m c 4 t) (iblk m c 5 t)) (iblk m c 2 t) (ix3 r 0 q) = OV (a2 m c) (a3 m c) (a4 m c) (a5 m c) (ix3 r 0 (col t q)) := by
  rw [vv_block]
  unfold GB
  simp only [blk0_point, blk1_point, blk2_point, blk3_point, blk4_point, blk5_point]
  rfl

theorem final0_9 (c : Dev nD) : (dats m 0 c).arrAt 9 cfg0.N = OV (a2 m c) (a3 m c) (a4 m c) (a5 m c) := by
  refine (dats m 0 c).arrAt_eq_of_covers 9 _ (by decide +kernel) fun t hf y => ?_
  blk_simp
  rw [after0_9]; frame_out
  obtain ⟨r, q, rfl⟩ : ∃ (r : Fin 898) (q : Fin 256), y = (ix3 r 0 q) := yform y
  refine (vv_point m c t r q).trans (congrArg (OV (a2 m c) (a3 m c) (a4 m c) (a5 m c)) (a₁ := (ix3 r 0 (col t q))) ?_)
  blk_point [idx0 t, col]

theorem run : θ_run defs (onTc (τ := τ) (main (F := Ideal))) ⟨m, fun _ => 0, ρ⟩ (fun r => ∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_v0_2) = (dats m 0 c).arrAt 8 cfg0.N
      ∧ r.2.mem ((c.tc : Thread nD τ).loc main_v0_3) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨Pipeline.FramePost.out_eq h.2 c 6, Pipeline.FramePost.out_eq h.2 c 7, Pipeline.FramePost.out_eq h.2 c 8, Pipeline.FramePost.out_eq h.2 c 9, h.1 c⟩) (θ_run_and (unchanged m ρ) (run_main m ρ))

end Cert.Kernel16Ideal.OPI

end
-- ==== Proof.OPI.Reference.lean ====
module

public import proofs.«01_k».proof.Proof.Gen.Reference16Ideal.Run
public import proofs.«01_k».proof.Proof.OPT.Scalar
public import Idealize.ShloMosaic.Lib.Pointwise

/-! The reference's results, element by element over the arguments. -/

@[expose] public section

set_option maxRecDepth 16384

noncomputable section

namespace Cert.Reference16Ideal.OPI

open Idealize.ShloMosaic Idealize.ShloMosaic.TcCoe Idealize.SL.Sem
open Cert.OPT
open Cert.Reference16Ideal Cert.Reference16Ideal.Gen

variable (A0 A1 A2 : FVec Ideal S898x1x2048 .f32) (A3 : FVec Ideal S4x898x2048 .bf16) (A4 : FVec Ideal S8x898x2048 .bf16) (A5 : FVec Ideal S4x898x2048 .bf16)

/-- The summed gradient. -/
def T_g : FVec Ideal S898x1x2048 .f32 :=
  broadcastInDim S898x1x2048 ![0, 2] bcast_S898x2048_S898x1x2048_0_2 (addf (addf (extf .f32 (shapeCast _ (extractStridedSlice S1x898x2048 ![0, 0, 0] A4 slices_S8x898x2048_S1x898x2048_0_0_0) shapeCasts_S1x898x2048_S898x2048) bitsLt_bf16_f32) (extf .f32 (shapeCast _ (extractStridedSlice S1x898x2048 ![0, 0, 0] A5 slices_S4x898x2048_S1x898x2048_0_0_0) shapeCasts_S1x898x2048_S898x2048) bitsLt_bf16_f32)) (Host.reduceAdd (extf .f32 (extractStridedSlice S3x898x2048 ![1, 0, 0] A3 slices_S4x898x2048_S3x898x2048_1_0_0) bitsLt_bf16_f32) (constant S_ .f32 0x00000000#32) reducesTo_S3x898x2048_S898x2048_d0 h_S_))

/-- The first moment. -/
def T_m : FVec Ideal S898x1x2048 .f32 := addf (mulf (broadcastInDim S898x1x2048 ![] bcast_S_S898x1x2048 (constant S_ .f32 0x3F666666#32)) A1) (mulf (broadcastInDim S898x1x2048 ![] bcast_S_S898x1x2048 (constant S_ .f32 0x3DCCCCCD#32)) (T_g A3 A4 A5))

/-- The second moment. -/
def T_v : FVec Ideal S898x1x2048 .f32 := addf (mulf (broadcastInDim S898x1x2048 ![] bcast_S_S898x1x2048 (constant S_ .f32 0x3F7FBE77#32)) A2) (mulf (broadcastInDim S898x1x2048 ![] bcast_S_S898x1x2048 (constant S_ .f32 0x3A83126F#32)) (mulf (T_g A3 A4 A5) (T_g A3 A4 A5)))

/-- The step. -/
def T_d : FVec Ideal S898x1x2048 .f32 :=
  mulf (broadcastInDim S898x1x2048 ![] bcast_S_S898x1x2048 (constant S_ .f32 0xBA83126F#32)) (addf (Host.divf (Host.divf (T_m A1 A3 A4 A5) (broadcastInDim S898x1x2048 ![] bcast_S_S898x1x2048 (constant S_ .f32 0x3F26BD02#32))) (addf (Host.sqrt (Host.divf (T_v A2 A3 A4 A5) (broadcastInDim S898x1x2048 ![] bcast_S_S898x1x2048 (constant S_ .f32 0x3C231ACC#32)))) (broadcastInDim S898x1x2048 ![] bcast_S_S898x1x2048 (constant S_ .f32 0x322BCC77#32)))) (mulf (broadcastInDim S898x1x2048 ![] bcast_S_S898x1x2048 (constant S_ .f32 0x3C23D70A#32)) A0))

theorem T_g_apply (r : Fin 898) (q : Fin 2048) : T_g A3 A4 A5 (ix3 r 0 q) = A4 (ix3 0 r q) + A5 (ix3 0 r q) + (A3 (ix3 1 r q) + A3 (ix3 2 r q) + A3 (ix3 3 r q)) := by
  pointwise [T_g, Ideal.ofBits_zero_f32]
  rw [Fin.sum_univ_three]
  rfl

theorem T_m_apply (j : S898x1x2048.Idx) : T_m A1 A3 A4 A5 j = MNEW (A1 j) (T_g A3 A4 A5 j) := by
  pointwise [T_m, MNEW]

theorem T_v_apply (j : S898x1x2048.Idx) : T_v A2 A3 A4 A5 j = VNEW (A2 j) (T_g A3 A4 A5 j) := by
  pointwise [T_v, VNEW]

theorem T_d_apply (j : S898x1x2048.Idx) : T_d A0 A1 A2 A3 A4 A5 j = STEP (A0 j) (MNEW (A1 j) (T_g A3 A4 A5 j)) (VNEW (A2 j) (T_g A3 A4 A5 j)) := by
  rw [← T_m_apply, ← T_v_apply]
  pointwise [T_d, STEP]

end Cert.Reference16Ideal.OPI

end
-- ==== Proof.OPI.Claims.lean ====
module

public import proofs.«01_k».proof.Defs
public import proofs.«01_k».proof.Proof.OPI.Kernel
public import proofs.«01_k».proof.Proof.OPI.Reference
public import proofs.«01_k».proof.Proof.Gen.Kernel16.Frame
public import Idealize.ShloMosaic.Lib.Claim

/-! The frames and the equality of the four results. -/

@[expose] public section

set_option maxRecDepth 16384

noncomputable section

namespace Cert.OPI

open Idealize.ShloMosaic Idealize.ShloMosaic.TcCoe Idealize.SL.Sem

theorem frame_kernel : Cert.quiescent_Kernel16 := fun m ρ _ => Cert.Kernel16.Gen.frame m ρ
theorem frame_ideal : Cert.quiescent_Kernel16Ideal := fun m ρ _ => Cert.Kernel16Ideal.Gen.frame m ρ

theorem frame_ref : Cert.quiescent_Reference16Ideal := fun m ρ _ =>
  (θ_run Cert.Reference16Ideal.defs _ _).mono
    (fun r h => ⟨fun c => (h c).2.2.2.2, Idealize.ShloMosaic.sem_eq_zero_of_no_sems (by decide) r.2⟩)
    (Cert.Reference16Ideal.Value.run (F := Ideal) m ρ)

variable (A0 A1 A2 : FVec Ideal Cert.Kernel16Ideal.S898x1x2048 .f32) (A3 : FVec Ideal Cert.Kernel16Ideal.S4x898x2048 .bf16) (A4 : FVec Ideal Cert.Kernel16Ideal.S8x898x2048 .bf16) (A5 : FVec Ideal Cert.Kernel16Ideal.S4x898x2048 .bf16)

theorem g_eq : Cert.Kernel16Ideal.OPI.OG A3 A4 A5 = Cert.Reference16Ideal.OPI.T_g A3 A4 A5 := by
  funext j
  obtain ⟨r, q, rfl⟩ : ∃ (r : Fin 898) (q : Fin 2048), j = (ix3 r 0 q) := by
    rw [eq_ix3 j]
    exact ⟨_, _, congrArg (fun z => ix3 (j 0) z (j 2)) (Subsingleton.elim _ _)⟩
  refine Eq.trans ?_ (Cert.Reference16Ideal.OPI.T_g_apply A3 A4 A5 r q).symm
  refine Eq.trans (b := A4 (ix3 0 r q) + A5 (ix3 0 r q) + A3 (ix3 1 r q) + A3 (ix3 2 r q) + A3 (ix3 3 r q)) rfl ?_
  rw [add_assoc, add_assoc, ← add_assoc (A3 (ix3 1 r q))]

theorem m_eq : Cert.Kernel16Ideal.OPI.OM A1 A3 A4 A5 = Cert.Reference16Ideal.OPI.T_m A1 A3 A4 A5 := by
  funext j
  refine Eq.trans ?_ (Cert.Reference16Ideal.OPI.T_m_apply A1 A3 A4 A5 j).symm
  exact congrArg (Cert.OPT.MNEW (A1 j)) (congrFun (g_eq A3 A4 A5) j)

theorem v_eq : Cert.Kernel16Ideal.OPI.OV A2 A3 A4 A5 = Cert.Reference16Ideal.OPI.T_v A2 A3 A4 A5 := by
  funext j
  refine Eq.trans ?_ (Cert.Reference16Ideal.OPI.T_v_apply A2 A3 A4 A5 j).symm
  exact congrArg (Cert.OPT.VNEW (A2 j)) (congrFun (g_eq A3 A4 A5) j)

theorem d_eq : Cert.Kernel16Ideal.OPI.OD A0 A1 A2 A3 A4 A5 = Cert.Reference16Ideal.OPI.T_d A0 A1 A2 A3 A4 A5 := by
  funext j
  refine Eq.trans ?_ (Cert.Reference16Ideal.OPI.T_d_apply A0 A1 A2 A3 A4 A5 j).symm
  exact congrArg (fun g => Cert.OPT.STEP (A0 j) (Cert.OPT.MNEW (A1 j) g) (Cert.OPT.VNEW (A2 j) g)) (congrFun (g_eq A3 A4 A5) j)

theorem algebraic : Cert.algebraic_Kernel16Ideal_Reference16Ideal := by
  intro m g m' g' _ hagree
  refine ⟨fun c => Cert.Reference16Ideal.OPI.T_g (Cert.Kernel16Ideal.OPI.a3 m c) (Cert.Kernel16Ideal.OPI.a4 m c) (Cert.Kernel16Ideal.OPI.a5 m c), fun c => Cert.Reference16Ideal.OPI.T_d (Cert.Kernel16Ideal.OPI.a0 m c) (Cert.Kernel16Ideal.OPI.a1 m c) (Cert.Kernel16Ideal.OPI.a2 m c) (Cert.Kernel16Ideal.OPI.a3 m c) (Cert.Kernel16Ideal.OPI.a4 m c) (Cert.Kernel16Ideal.OPI.a5 m c), fun c => Cert.Reference16Ideal.OPI.T_m (Cert.Kernel16Ideal.OPI.a1 m c) (Cert.Kernel16Ideal.OPI.a3 m c) (Cert.Kernel16Ideal.OPI.a4 m c) (Cert.Kernel16Ideal.OPI.a5 m c), fun c => Cert.Reference16Ideal.OPI.T_v (Cert.Kernel16Ideal.OPI.a2 m c) (Cert.Kernel16Ideal.OPI.a3 m c) (Cert.Kernel16Ideal.OPI.a4 m c) (Cert.Kernel16Ideal.OPI.a5 m c), ?_, ?_⟩
  · refine (θ_run Cert.Kernel16Ideal.defs _ _).mono (fun r h c => ?_) (Cert.Kernel16Ideal.OPI.run m g)
    obtain ⟨e0, e1, e2, e3, hargs⟩ := h c
    exact ⟨e0.trans ((Cert.Kernel16Ideal.OPI.final0_6 m c).trans (g_eq _ _ _)), e1.trans ((Cert.Kernel16Ideal.OPI.final0_7 m c).trans (d_eq _ _ _ _ _ _)),
      e2.trans ((Cert.Kernel16Ideal.OPI.final0_8 m c).trans (m_eq _ _ _ _)), e3.trans ((Cert.Kernel16Ideal.OPI.final0_9 m c).trans (v_eq _ _ _ _)), hargs⟩
  · refine (θ_run Cert.Reference16Ideal.defs _ _).mono (fun r h c => ?_) (Cert.Reference16Ideal.Value.run (F := Ideal) m' g')
    obtain ⟨e0, e1, e2, e3, hargs⟩ := h c
    obtain ⟨g0, g1, g2, g3, g4, g5⟩ := hagree c
    rw [g3, g4, g5] at e0
    rw [g0, g1, g2, g3, g4, g5] at e1
    rw [g1, g3, g4, g5] at e2
    rw [g2, g3, g4, g5] at e3
    exact ⟨e0, e1, e2, e3, hargs⟩

end Cert.OPI

end
-- ==== Proof.NRB.Kernel.lean ====
module

public import proofs.«01_k».proof.Proof.Gen.Kernel17Ideal.Frame
public import proofs.«01_k».proof.Proof.GRD.Scalar
public import Idealize.ShloMosaic.Lib.Pipeline.ValueKit
public import Idealize.ShloMosaic.Lib.Pointwise
public import Idealize.ShloMosaic.Lib.Claim

/-! The gradient through a norm of the token rows, element by element over the arguments. -/

@[expose] public section

set_option maxRecDepth 16384

noncomputable section

namespace Cert.Kernel17Ideal.NRB

open Idealize.ShloMosaic Idealize.ShloMosaic.TcCoe Idealize.SL.Sem
open Idealize.ShloMosaic.Pipeline (Dat)
open Cert.GRD
open Cert.Kernel17Ideal Cert.Kernel17Ideal.Gen

theorem pay2_apply (x : FVec Ideal S256x2048 .f32) (r : Fin 256) :
    k0_pay2 (F := Ideal) x (ix2 r 0) = RSQ fun k => x (ix2 r k) := by
  pointwise [k0_pay2, RSQ, MS, Ideal.ofBits_zero_f32]

theorem pay3_apply (x a : FVec Ideal S256x2048 .f32) (q : Fin 2048) :
    k0_pay3 (F := Ideal) x a (ix2 0 q) = ∑ r : Fin 256, a (ix2 r q) * x (ix2 r q) * RSQ (fun k => x (ix2 r k)) := by
  pointwise [k0_pay3, pay2_apply, Ideal.ofBits_zero_f32]

theorem pay4_apply (x : FVec Ideal S256x2048 .f32) (w : FVec Ideal S1x2048 .f32) (a h : FVec Ideal S256x2048 .f32) (r : Fin 256) (q : Fin 2048) :
    k0_pay4 (F := Ideal) x w a h (ix2 r q)
      = h (ix2 r q) + GRAD (fun k => x (ix2 r k)) (fun k => w (ix2 0 k)) (fun k => a (ix2 r k)) q := by
  pointwise [k0_pay4, pay2_apply, GRAD, Ideal.ofBits_zero_f32]

theorem pay5_apply (x : FVec Ideal S256x2048 .f32) (w : FVec Ideal S1x2048 .f32) (a h : FVec Ideal S256x2048 .f32) (r : Fin 256) (q : Fin 2048) :
    k0_pay5 (F := Ideal) x w a h (ix2 r q) = k0_pay4 (F := Ideal) x w a h (ix2 r q) := by
  pointwise [k0_pay5]

theorem pay1_apply (u v : FVec Ideal S1x2048 .f32) (j : S1x2048.Idx) : k0_pay1 (F := Ideal) u v j = v j + u j := by
  pointwise [k0_pay1]

variable (m : (ℓ : Loc nD τ sig) → Buf (Elt Ideal) ℓ) (ρ : Dev nD → PrngReg)

/-- The arguments: the norm's input and weight, the gradient that reaches its result, and the residual's. -/
abbrev a0 (c : Dev nD) : FVec Ideal S2048x2048 .f32 := m ((c : Thread nD τ).loc main_arg0)
abbrev a1 (c : Dev nD) : FVec Ideal S1x2048 .f32 := m ((c : Thread nD τ).loc main_arg1)
abbrev a2 (c : Dev nD) : FVec Ideal S2048x2048 .f32 := m ((c : Thread nD τ).loc main_arg2)
abbrev a3 (c : Dev nD) : FVec Ideal S2048x2048 .f32 := m ((c : Thread nD τ).loc main_arg3)

theorem idx0 : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] ∧ t.val < 8 :=
  (by decide +kernel : ∀ t : Fin grid0.N, _)

theorem flush6 : ∀ t : Fin cfg0.N, (cfg0.win 6).flush t = true → t.val = 7 :=
  (by decide +kernel : ∀ t : Fin grid0.N, _)

theorem lt8 (t : Fin cfg0.N) : t.val < 8 := (idx0 t).2.2.2.2.2.2.2

/-- The row that row `r` of a block is. -/
def row (t : Fin cfg0.N) (r : Fin 256) : Fin 2048 := ⟨t.val * 256 + r.val, by have := lt8 t; omega⟩

theorem blk0_point (c : Dev nD) (t : Fin cfg0.N) (r : Fin 256) (q : Fin 2048) : iblk m c 0 t (ix2 r q) = a0 m c (ix2 (row t r) q) := by
  unfold iblk
  refine congrArg (a0 m c) ?_
  blk_point [idx0 t, row]

theorem blk2_point (c : Dev nD) (t : Fin cfg0.N) (r : Fin 256) (q : Fin 2048) : iblk m c 2 t (ix2 r q) = a2 m c (ix2 (row t r) q) := by
  unfold iblk
  refine congrArg (a2 m c) ?_
  blk_point [idx0 t, row]

theorem blk3_point (c : Dev nD) (t : Fin cfg0.N) (r : Fin 256) (q : Fin 2048) : iblk m c 3 t (ix2 r q) = a3 m c (ix2 (row t r) q) := by
  unfold iblk
  refine congrArg (a3 m c) ?_
  blk_point [idx0 t, row]

theorem blk1_point (c : Dev nD) (t : Fin cfg0.N) (q : Fin 2048) : iblk m c 1 t (ix2 0 q) = a1 m c (ix2 0 q) := by
  unfold iblk
  refine congrArg (a1 m c) ?_
  blk_point [idx0 t]

/-- The gradient of the norm's input, the residual's added. -/
def DX (x : FVec Ideal S2048x2048 .f32) (w : FVec Ideal S1x2048 .f32) (a h : FVec Ideal S2048x2048 .f32) (r q : Fin 2048) : EReal :=
  h (ix2 r q) + GRAD (fun k => x (ix2 r k)) (fun k => w (ix2 0 k)) (fun k => a (ix2 r k)) q

/-- The same at an index. -/
def DXJ (x : FVec Ideal S2048x2048 .f32) (w : FVec Ideal S1x2048 .f32) (a h : FVec Ideal S2048x2048 .f32) (j : S2048x2048.Idx) : EReal := DX x w a h (j 0) (j 1)

/-- One row's part of the weight's gradient. -/
def DWROW (x a : FVec Ideal S2048x2048 .f32) (q r : Fin 2048) : EReal :=
  a (ix2 r q) * x (ix2 r q) * RSQ (fun k => x (ix2 r k))

/-- One block's part. -/
def PART (x a : FVec Ideal S2048x2048 .f32) (q : Fin 2048) (t : Fin 8) : EReal :=
  ∑ r : Fin 256, DWROW x a q ⟨t.val * 256 + r.val, by omega⟩

theorem dx_point (c : Dev nD) (t : Fin cfg0.N) (r : Fin 256) (q : Fin 2048) :
    k0_pay4 (F := Ideal) (iblk m c 0 t) (iblk m c 1 t) (iblk m c 2 t) (iblk m c 3 t) (ix2 r q)
      = DX (a0 m c) (a1 m c) (a2 m c) (a3 m c) (row t r) q := by
  rw [pay4_apply]
  simp only [blk0_point, blk1_point, blk2_point, blk3_point]
  rfl

theorem dw_point (c : Dev nD) (t : Fin cfg0.N) (q : Fin 2048) :
    k0_pay3 (F := Ideal) (iblk m c 0 t) (iblk m c 2 t) (ix2 0 q) = PART (a0 m c) (a2 m c) q ⟨t.val, lt8 t⟩ := by
  rw [pay3_apply]
  simp only [blk0_point, blk2_point]
  rfl

/-- The rows' sum so far. -/
theorem acc (c : Dev nD) (s : ℕ) : ∀ (t : Fin cfg0.N), t.val = s → ∀ (q : Fin 2048),
    (outsAt0 m c t.val t.isLt).2.2 (ix2 0 q) = ∑ b ∈ Finset.range (s + 1), if hb : b < 8 then PART (a0 m c) (a2 m c) q ⟨b, hb⟩ else 0 := by
  induction s with
  | zero =>
    intro t h q
    rw [outsAt0_A m c t (by omega) (by omega)]
    frame_out
    rw [dw_point, Finset.sum_range_one, dif_pos (by norm_num)]
    simp only [h]
  | succ s ih =>
    intro t h q
    have ht := lt8 t
    have e := ih ⟨t.val - 1, by have := t.isLt; omega⟩ (by simp only; omega) q
    rw [Finset.sum_range_succ, outsAt0_B m c t (by omega) (by omega)]
    frame_out
    rw [pay1_apply, dw_point]
    simp only at e
    rw [e, dif_pos (by omega)]
    simp only [h]

theorem sum_blocks (f : Fin 2048 → EReal) : ∑ k, f k = ∑ b : Fin 8, ∑ r : Fin 256, f ⟨b.val * 256 + r.val, by omega⟩ := by
  rw [← Fintype.sum_prod_type', ← (finProdFinEquiv (m := 8) (n := 256)).sum_comp f]
  refine Finset.sum_congr rfl fun p _ => congrArg f (Fin.ext ?_)
  simp only [finProdFinEquiv_apply_val]
  omega

/-- The weight's gradient at an index. -/
def DWJ (x a : FVec Ideal S2048x2048 .f32) (j : S1x2048.Idx) : EReal := ∑ r : Fin 2048, DWROW x a (j 1) r

theorem outs4 (c : Dev nD) (t : Fin cfg0.N) :
    (outsAt0 m c t.val t.isLt).1 = k0_pay4 (F := Ideal) (iblk m c 0 t) (iblk m c 1 t) (iblk m c 2 t) (iblk m c 3 t) := by
  have ht := lt8 t
  by_cases h : t.val % 8 = 0
  · rw [outsAt0_A m c t h (by omega)]; frame_out
  · rw [outsAt0_B m c t h (by omega)]; frame_out

theorem final0_4 (c : Dev nD) : (dats m 0 c).arrAt 4 cfg0.N = DXJ (a0 m c) (a1 m c) (a2 m c) (a3 m c) := by
  refine (dats m 0 c).arrAt_eq_of_covers 4 _ (by decide +kernel) fun t hf y => ?_
  blk_simp
  rw [after0_4, outs4]
  obtain ⟨r, q, rfl⟩ : ∃ (r : Fin 256) (q : Fin 2048), y = ix2 r q := ⟨_, _, eq_ix2 y⟩
  refine (dx_point m c t r q).trans (congrArg (DXJ (a0 m c) (a1 m c) (a2 m c) (a3 m c)) (a₁ := ix2 (row t r) q) ?_)
  blk_point [idx0 t, row]

theorem outs5 (c : Dev nD) (t : Fin cfg0.N) :
    (outsAt0 m c t.val t.isLt).2.1 = k0_pay5 (F := Ideal) (iblk m c 0 t) (iblk m c 1 t) (iblk m c 2 t) (iblk m c 3 t) := by
  have ht := lt8 t
  by_cases h : t.val % 8 = 0
  · rw [outsAt0_A m c t h (by omega)]; frame_out
  · rw [outsAt0_B m c t h (by omega)]; frame_out

theorem final0_5 (c : Dev nD) : (dats m 0 c).arrAt 5 cfg0.N = DXJ (a0 m c) (a1 m c) (a2 m c) (a3 m c) := by
  refine (dats m 0 c).arrAt_eq_of_covers 5 _ (by decide +kernel) fun t hf y => ?_
  blk_simp
  rw [after0_5, outs5]
  obtain ⟨r, q, rfl⟩ : ∃ (r : Fin 256) (q : Fin 2048), y = ix2 r q := ⟨_, _, eq_ix2 y⟩
  refine ((pay5_apply _ _ _ _ r q).trans (dx_point m c t r q)).trans (congrArg (DXJ (a0 m c) (a1 m c) (a2 m c) (a3 m c)) (a₁ := ix2 (row t r) q) ?_)
  blk_point [idx0 t, row]

theorem final0_6 (c : Dev nD) : (dats m 0 c).arrAt 6 cfg0.N = DWJ (a0 m c) (a2 m c) := by
  refine (dats m 0 c).arrAt_eq_of_covers 6 _ (by decide +kernel) fun t hf y => ?_
  have h := flush6 t hf
  blk_simp
  rw [after0_6]
  obtain ⟨z, q, rfl⟩ : ∃ (z : Fin 1) (q : Fin 2048), y = ix2 z q := ⟨_, _, eq_ix2 y⟩
  obtain rfl : z = 0 := Subsingleton.elim _ _
  refine (acc m c 7 t h q).trans ?_
  refine Eq.trans (b := DWJ (a0 m c) (a2 m c) (ix2 0 q)) ?_ (congrArg (DWJ (a0 m c) (a2 m c)) ?_)
  · rw [Finset.sum_range]
    refine Eq.trans ?_ (sum_blocks (DWROW (a0 m c) (a2 m c) q)).symm
    exact Finset.sum_congr rfl fun b _ => dif_pos b.isLt
  · blk_point [idx0 t]

theorem run : θ_run defs (onTc (τ := τ) (main (F := Ideal))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨Pipeline.FramePost.out_eq h.2 c 4, Pipeline.FramePost.out_eq h.2 c 5, Pipeline.FramePost.out_eq h.2 c 6, h.1 c⟩) (θ_run_and (unchanged m ρ) (run_main m ρ))

end Cert.Kernel17Ideal.NRB

end
-- ==== Proof.NRB.Reference.lean ====
module

public import proofs.«01_k».proof.Proof.Gen.Reference17Ideal.Run
public import proofs.«01_k».proof.Proof.GRD.Scalar
public import Idealize.ShloMosaic.Lib.Pointwise

/-! The reference's results, element by element over the arguments. -/

@[expose] public section

set_option maxRecDepth 16384

noncomputable section

namespace Cert.Reference17Ideal.NRB

open Idealize.ShloMosaic Idealize.ShloMosaic.TcCoe Idealize.SL.Sem
open Cert.GRD
open Cert.Reference17Ideal Cert.Reference17Ideal.Gen

variable (A0 : FVec Ideal S2048x2048 .f32) (A1 : FVec Ideal S1x2048 .f32) (A2 A3 : FVec Ideal S2048x2048 .f32)

/-- The rows' mean squares, plus the small constant. -/
def T_s : FVec Ideal S2048x1 .f32 :=
  addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))

/-- The gradient times the norm's weight. -/
def T_y : FVec Ideal S2048x2048 .f32 := mulf A2 (broadcastInDim S2048x2048 ![0, 1] bcast_S1x2048_S2048x2048_0_1 A1)

/-- The share of every element in its row's mean square. -/
def T_c : FVec Ideal S2048x2048 .f32 :=
  broadcastInDim S2048x2048 ![0] bcast_S2048_S2048x2048_0 (Host.reduceAdd (Host.divf (mulf (shapeCast _ (Host.reduceAdd (mulf A0 (T_y A1 A2)) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (T_s A0)) (T_s A0)))) (broadcastInDim S2048x1 ![] bcast_S_S2048x1 (constant S_ .f32 0x45000000#32))) (constant S_ .f32 0x00000000#32) reducesTo_S2048x1_S2048_d1 h_S_)

/-- The gradient of the norm's input, the residual's added. -/
def T_x : FVec Ideal S2048x2048 .f32 :=
  addf A3 (addf (addf (mulf (T_y A1 A2) (broadcastInDim S2048x2048 ![0, 1] bcast_S2048x1_S2048x2048_0_1 (Host.rsqrt (T_s A0)))) (mulf A0 (T_c A0 A1 A2))) (mulf (T_c A0 A1 A2) A0))

/-- The same in half precision. -/
def T_b : FVec Ideal S2048x2048 .bf16 := truncf .bf16 (T_x A0 A1 A2 A3) bitsLt_bf16_f32

/-- The gradient of the norm's weight. -/
def T_w : FVec Ideal S1x2048 .f32 :=
  shapeCast _ (Host.reduceAdd (mulf (mulf A0 (broadcastInDim S2048x2048 ![0, 1] bcast_S2048x1_S2048x2048_0_1 (Host.rsqrt (T_s A0)))) A2) (constant S_ .f32 0x00000000#32) reducesTo_S2048x2048_S2048_d0 h_S_) shapeCasts_S2048_S1x2048

theorem T_s_apply (r : Fin 2048) : T_s A0 (ix2 r 0) = MS fun k => A0 (ix2 r k) := by
  pointwise [T_s, MS, Ideal.ofBits_zero_f32]

theorem T_y_apply (r q : Fin 2048) : T_y A1 A2 (ix2 r q) = A2 (ix2 r q) * A1 (ix2 0 q) := by
  pointwise [T_y]

theorem T_c_apply (r q : Fin 2048) :
    T_c A0 A1 A2 (ix2 r q) = COEF (fun k => A0 (ix2 r k)) (fun k => A1 (ix2 0 k)) (fun k => A2 (ix2 r k)) := by
  pointwise [T_c, COEF, RSQ, T_y_apply, Ideal.ofBits_zero_f32]
  rw [Fin.sum_univ_one, T_s_apply]

theorem T_x_apply (r q : Fin 2048) :
    T_x A0 A1 A2 A3 (ix2 r q) = A3 (ix2 r q) + CHAIN (fun k => A0 (ix2 r k)) (fun k => A1 (ix2 0 k)) (fun k => A2 (ix2 r k)) q := by
  pointwise [T_x, CHAIN, RSQ, T_s_apply, T_y_apply, T_c_apply]

theorem T_w_apply (q : Fin 2048) :
    T_w A0 A2 (ix2 0 q) = ∑ r : Fin 2048, A0 (ix2 r q) * RSQ (fun k => A0 (ix2 r k)) * A2 (ix2 r q) := by
  pointwise [T_w, RSQ, T_s_apply, Ideal.ofBits_zero_f32]

end Cert.Reference17Ideal.NRB

end
-- ==== Proof.NRB.Claims.lean ====
module

public import proofs.«01_k».proof.Defs
public import proofs.«01_k».proof.Proof.NRB.Kernel
public import proofs.«01_k».proof.Proof.NRB.Reference
public import proofs.«01_k».proof.Proof.Gen.Kernel17.Frame
public import Idealize.ShloMosaic.Lib.Claim

/-! The frames and the equality of the three results. -/

@[expose] public section

set_option maxRecDepth 16384

noncomputable section

namespace Cert.NRB

open Idealize.ShloMosaic Idealize.ShloMosaic.TcCoe Idealize.SL.Sem
open Cert.GRD

theorem frame_kernel : Cert.quiescent_Kernel17 := fun m ρ _ => Cert.Kernel17.Gen.frame m ρ
theorem frame_ideal : Cert.quiescent_Kernel17Ideal := fun m ρ _ => Cert.Kernel17Ideal.Gen.frame m ρ

theorem frame_ref : Cert.quiescent_Reference17Ideal := fun m ρ _ =>
  (θ_run Cert.Reference17Ideal.defs _ _).mono
    (fun r h => ⟨fun c => (h c).2.2.2, Idealize.ShloMosaic.sem_eq_zero_of_no_sems (by decide) r.2⟩)
    (Cert.Reference17Ideal.Value.run (F := Ideal) m ρ)

theorem dx_eq (A0 : FVec Ideal Cert.Kernel17Ideal.S2048x2048 .f32) (A1 : FVec Ideal Cert.Kernel17Ideal.S1x2048 .f32) (A2 A3 : FVec Ideal Cert.Kernel17Ideal.S2048x2048 .f32) :
    Cert.Kernel17Ideal.NRB.DXJ A0 A1 A2 A3 = Cert.Reference17Ideal.NRB.T_x A0 A1 A2 A3 := by
  funext j
  obtain ⟨r, q, rfl⟩ : ∃ (r q : Fin 2048), j = ix2 r q := ⟨_, _, eq_ix2 j⟩
  refine Eq.trans ?_ (Cert.Reference17Ideal.NRB.T_x_apply A0 A1 A2 A3 r q).symm
  exact congrArg (A3 (ix2 r q) + ·) (GRAD_eq _ _ _ q)

theorem dw_eq (A0 A2 : FVec Ideal Cert.Kernel17Ideal.S2048x2048 .f32) :
    Cert.Kernel17Ideal.NRB.DWJ A0 A2 = Cert.Reference17Ideal.NRB.T_w A0 A2 := by
  funext j
  obtain ⟨z, q, rfl⟩ : ∃ (z : Fin 1) (q : Fin 2048), j = ix2 z q := ⟨_, _, eq_ix2 j⟩
  obtain rfl : z = 0 := Subsingleton.elim _ _
  refine Eq.trans ?_ (Cert.Reference17Ideal.NRB.T_w_apply A0 A2 q).symm
  refine Finset.sum_congr rfl fun r _ => ?_
  exact (mul_assoc _ _ _).trans (mul_comm _ _)

theorem algebraic : Cert.algebraic_Kernel17Ideal_Reference17Ideal := by
  intro m g m' g' _ hagree
  refine ⟨fun c => Cert.Reference17Ideal.NRB.T_x (Cert.Kernel17Ideal.NRB.a0 m c) (Cert.Kernel17Ideal.NRB.a1 m c) (Cert.Kernel17Ideal.NRB.a2 m c) (Cert.Kernel17Ideal.NRB.a3 m c), fun c => Cert.Reference17Ideal.NRB.T_b (Cert.Kernel17Ideal.NRB.a0 m c) (Cert.Kernel17Ideal.NRB.a1 m c) (Cert.Kernel17Ideal.NRB.a2 m c) (Cert.Kernel17Ideal.NRB.a3 m c), fun c => Cert.Reference17Ideal.NRB.T_w (Cert.Kernel17Ideal.NRB.a0 m c) (Cert.Kernel17Ideal.NRB.a2 m c), ?_, ?_⟩
  · refine (θ_run Cert.Kernel17Ideal.defs _ _).mono (fun r h c => ?_) (Cert.Kernel17Ideal.NRB.run m g)
    obtain ⟨e0, e1, e2, hargs⟩ := h c
    exact ⟨e0.trans ((Cert.Kernel17Ideal.NRB.final0_4 m c).trans (dx_eq _ _ _ _)), e1.trans ((Cert.Kernel17Ideal.NRB.final0_5 m c).trans (dx_eq _ _ _ _)), e2.trans ((Cert.Kernel17Ideal.NRB.final0_6 m c).trans (dw_eq _ _)), hargs⟩
  · refine (θ_run Cert.Reference17Ideal.defs _ _).mono (fun r h c => ?_) (Cert.Reference17Ideal.Value.run (F := Ideal) m' g')
    obtain ⟨e0, e1, e2, hargs⟩ := h c
    obtain ⟨g0, g1, g2, g3⟩ := hagree c
    rw [g0, g1, g2, g3] at e0 e1
    rw [g0, g2] at e2
    exact ⟨e0, e1, e2, hargs⟩

end Cert.NRB

end
-- ==== Proof.lean ====
/- The certificate: the frames of the gated linear attention's two calls; the frames and the four gradients of the
   feed-forward block's six calls; the frames and the values of the projections' products, forward and backward,
   of the per-layer embedding and of the two products that add a residual and normalise; the frames and the values
   of the optimiser's calls, of a norm's backward pass and of the loss with its gradient. -/
module

public import proofs.«01_k».proof.Defs
public import proofs.«01_k».proof.Proof.GLA.Frames
public import proofs.«01_k».proof.Proof.FFN.Claims
public import proofs.«01_k».proof.Proof.INP.ProductClaims
public import proofs.«01_k».proof.Proof.QKV.Claims
public import proofs.«01_k».proof.Proof.SQR.Claims
public import proofs.«01_k».proof.Proof.INP.WeightClaims
public import proofs.«01_k».proof.Proof.INP.InputClaims
public import proofs.«01_k».proof.Proof.PLE.Claims
public import proofs.«01_k».proof.Proof.NRM.OutClaims
public import proofs.«01_k».proof.Proof.NRM.DownClaims
public import proofs.«01_k».proof.Proof.ADM.Claims
public import proofs.«01_k».proof.Proof.GRD.Claims
public import proofs.«01_k».proof.Proof.LSS.Claims
public import proofs.«01_k».proof.Proof.OPQ.Claims
public import proofs.«01_k».proof.Proof.OPO.Claims
public import proofs.«01_k».proof.Proof.OPI.Claims
public import proofs.«01_k».proof.Proof.NRB.Claims

@[expose] public section

noncomputable section

namespace Cert.Proof

open Idealize.ShloMosaic Idealize.SL.Sem

theorem claim : Cert.Claim :=
  ⟨Cert.Kernel.Gen.facts, Cert.KernelIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.FFN.preFacts,
    Cert.KernelIdeal.GLA.frame_kernel, Cert.KernelIdeal.GLA.frame_ideal,
    Cert.FFN.frame_kernel, Cert.FFN.frame_ideal, Cert.FFN.frame_ideal_finite, Cert.FFN.frame_ref, Cert.FFN.frame_ref_finite,
    Cert.INP.Product.frame_kernel, Cert.INP.Product.frame_ideal, Cert.INP.Product.frame_ref,
    Cert.QKV.frame_kernel, Cert.QKV.frame_ideal, Cert.QKV.frame_ref,
    Cert.SQR.frame_kernel, Cert.SQR.frame_ideal, Cert.SQR.frame_ref,
    Cert.INP.Weight.frame_kernel, Cert.INP.Weight.frame_ideal, Cert.INP.Weight.frame_ref,
    Cert.INP.Input.frame_kernel, Cert.INP.Input.frame_ideal, Cert.INP.Input.frame_ref,
    Cert.PLE.frame_kernel, Cert.PLE.frame_ideal, Cert.PLE.frame_ref,
    Cert.NRM.Out.frame_kernel, Cert.NRM.Out.frame_ideal, Cert.NRM.Out.frame_ref,
    Cert.NRM.Down.frame_kernel, Cert.NRM.Down.frame_ideal, Cert.NRM.Down.frame_ref,
    Cert.ADM.frame_kernel, Cert.ADM.frame_ideal, Cert.ADM.frame_ref,
    Cert.GRD.frame_kernel, Cert.GRD.frame_ideal, Cert.GRD.frame_ref,
    Cert.LSS.frame_kernel, Cert.LSS.frame_ideal, Cert.LSS.frame_ref,
    Cert.OPQ.frame_kernel, Cert.OPQ.frame_ideal, Cert.OPQ.frame_ref,
    Cert.OPO.frame_kernel, Cert.OPO.frame_ideal, Cert.OPO.frame_ref,
    Cert.OPI.frame_kernel, Cert.OPI.frame_ideal, Cert.OPI.frame_ref,
    Cert.NRB.frame_kernel, Cert.NRB.frame_ideal, Cert.NRB.frame_ref,
    trivial, trivial, Cert.FFN.algebraic,
    trivial, Cert.INP.Product.algebraic,
    trivial, Cert.QKV.algebraic,
    trivial, Cert.SQR.algebraic,
    trivial, Cert.INP.Weight.algebraic,
    trivial, Cert.INP.Input.algebraic,
    trivial, Cert.PLE.algebraic,
    trivial, Cert.NRM.Out.algebraic,
    trivial, Cert.NRM.Down.algebraic,
    trivial, Cert.ADM.algebraic,
    trivial, Cert.GRD.algebraic,
    trivial, Cert.LSS.algebraic,
    trivial, Cert.OPQ.algebraic,
    trivial, Cert.OPO.algebraic,
    trivial, Cert.OPI.algebraic,
    trivial, Cert.NRB.algebraic⟩

end Cert.Proof

end
